-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_win_pre [hPre_win_pre : Cert.Pre_win_pre.Facts] (m : (ℓ : Loc Cert.KernelIdeal.nD Cert.KernelIdeal.τ Cert.KernelIdeal.sig) → Buf (Elt Ideal) ℓ) : Prop :=
  ∀ c : Dev Cert.KernelIdeal.nD,
    (Cert.Pre_win_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_win_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_win_pre [hPre_win_pre : Cert.Pre_win_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_win_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_win_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_SmpKernel (m : (ℓ : Loc Cert.SmpKernel.nD Cert.SmpKernel.τ Cert.SmpKernel.sig) → Buf (Elt Bits) ℓ) : Prop :=
  True

def Pre_SmpKernelIdeal (m : (ℓ : Loc Cert.SmpKernelIdeal.nD Cert.SmpKernelIdeal.τ Cert.SmpKernelIdeal.sig) → Buf (Elt Ideal) ℓ) : Prop :=
  True

def Pre_SmpReferenceIdeal (m : (ℓ : Loc Cert.SmpReferenceIdeal.nD Cert.SmpReferenceIdeal.τ Cert.SmpReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MrgKernel (m : (ℓ : Loc Cert.MrgKernel.nD Cert.MrgKernel.τ Cert.MrgKernel.sig) → Buf (Elt Bits) ℓ) : Prop :=
  True

def Pre_MrgKernelIdeal (m : (ℓ : Loc Cert.MrgKernelIdeal.nD Cert.MrgKernelIdeal.τ Cert.MrgKernelIdeal.sig) → Buf (Elt Ideal) ℓ) : Prop :=
  True

def Pre_MrgReferenceIdeal (m : (ℓ : Loc Cert.MrgReferenceIdeal.nD Cert.MrgReferenceIdeal.τ Cert.MrgReferenceIdeal.sig) → Buf (Elt Ideal) ℓ) : Prop :=
  True

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_FisKernel (m : (ℓ : Loc Cert.FisKernel.nD Cert.FisKernel.τ Cert.FisKernel.sig) → Buf (Elt Bits) ℓ) : Prop :=
  True

def Pre_FisKernelIdeal (m : (ℓ : Loc Cert.FisKernelIdeal.nD Cert.FisKernelIdeal.τ Cert.FisKernelIdeal.sig) → Buf (Elt Ideal) ℓ) : Prop :=
  True

def Pre_FisReferenceIdeal (m : (ℓ : Loc Cert.FisReferenceIdeal.nD Cert.FisReferenceIdeal.τ Cert.FisReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ScrKernel (m : (ℓ : Loc Cert.ScrKernel.nD Cert.ScrKernel.τ Cert.ScrKernel.sig) → Buf (Elt Bits) ℓ) : Prop :=
  True

def Pre_ScrKernelIdeal (m : (ℓ : Loc Cert.ScrKernelIdeal.nD Cert.ScrKernelIdeal.τ Cert.ScrKernelIdeal.sig) → Buf (Elt Ideal) ℓ) : Prop :=
  True

def Pre_ScrReferenceIdeal (m : (ℓ : Loc Cert.ScrReferenceIdeal.nD Cert.ScrReferenceIdeal.τ Cert.ScrReferenceIdeal.sig) → Buf (Elt Ideal) ℓ) : Prop :=
  True

def Pre_MxsKernel (m : (ℓ : Loc Cert.MxsKernel.nD Cert.MxsKernel.τ Cert.MxsKernel.sig) → Buf (Elt Bits) ℓ) : Prop :=
  True

def Pre_MxsKernelIdeal (m : (ℓ : Loc Cert.MxsKernelIdeal.nD Cert.MxsKernelIdeal.τ Cert.MxsKernelIdeal.sig) → Buf (Elt Ideal) ℓ) : Prop :=
  True

def Pre_MxsReferenceIdeal (m : (ℓ : Loc Cert.MxsReferenceIdeal.nD Cert.MxsReferenceIdeal.τ Cert.MxsReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_win_pre [hKernelIdeal : Cert.KernelIdeal.Facts] [hPre_win_pre : Cert.Pre_win_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_win_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_win_pre [hReferenceIdeal : Cert.ReferenceIdeal.Facts] [hPre_win_pre : Cert.Pre_win_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_win_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5))
      ∧ r.2.sem = fun _ => 0)

def quiescent_SmpKernel [hSmpKernel : Cert.SmpKernel.Facts] : Prop :=
  ∀ (m : (ℓ : Loc Cert.SmpKernel.nD Cert.SmpKernel.τ Cert.SmpKernel.sig) → Buf (Elt Bits) ℓ) (g : Dev Cert.SmpKernel.nD → PrngReg), Pre_SmpKernel m →
    θ_run (Cert.SmpKernel.defs (F := Bits)) (onTc (τ := Cert.SmpKernel.τ) (Cert.SmpKernel.main (F := Bits))) ⟨m, fun _ => 0, g⟩ (fun r => (∀ c : Dev Cert.SmpKernel.nD,
      r.2.mem ((c.tc : Thread Cert.SmpKernel.nD Cert.SmpKernel.τ).loc Cert.SmpKernel.main_arg0) = m ((c.tc : Thread Cert.SmpKernel.nD Cert.SmpKernel.τ).loc Cert.SmpKernel.main_arg0)
      ∧ r.2.mem ((c.tc : Thread Cert.SmpKernel.nD Cert.SmpKernel.τ).loc Cert.SmpKernel.main_arg1) = m ((c.tc : Thread Cert.SmpKernel.nD Cert.SmpKernel.τ).loc Cert.SmpKernel.main_arg1)
      ∧ r.2.mem ((c.tc : Thread Cert.SmpKernel.nD Cert.SmpKernel.τ).loc Cert.SmpKernel.main_arg2) = m ((c.tc : Thread Cert.SmpKernel.nD Cert.SmpKernel.τ).loc Cert.SmpKernel.main_arg2)
      ∧ r.2.mem ((c.tc : Thread Cert.SmpKernel.nD Cert.SmpKernel.τ).loc Cert.SmpKernel.main_arg3) = m ((c.tc : Thread Cert.SmpKernel.nD Cert.SmpKernel.τ).loc Cert.SmpKernel.main_arg3)
      ∧ r.2.mem ((c.tc : Thread Cert.SmpKernel.nD Cert.SmpKernel.τ).loc Cert.SmpKernel.main_arg4) = m ((c.tc : Thread Cert.SmpKernel.nD Cert.SmpKernel.τ).loc Cert.SmpKernel.main_arg4)
      ∧ r.2.mem ((c.tc : Thread Cert.SmpKernel.nD Cert.SmpKernel.τ).loc Cert.SmpKernel.main_arg5) = m ((c.tc : Thread Cert.SmpKernel.nD Cert.SmpKernel.τ).loc Cert.SmpKernel.main_arg5))
      ∧ r.2.sem = fun _ => 0)

def quiescent_SmpKernelIdeal [hSmpKernelIdeal : Cert.SmpKernelIdeal.Facts] : Prop :=
  ∀ (m : (ℓ : Loc Cert.SmpKernelIdeal.nD Cert.SmpKernelIdeal.τ Cert.SmpKernelIdeal.sig) → Buf (Elt Ideal) ℓ) (g : Dev Cert.SmpKernelIdeal.nD → PrngReg), Pre_SmpKernelIdeal m →
    θ_run (Cert.SmpKernelIdeal.defs (F := Ideal)) (onTc (τ := Cert.SmpKernelIdeal.τ) (Cert.SmpKernelIdeal.main (F := Ideal))) ⟨m, fun _ => 0, g⟩ (fun r => (∀ c : Dev Cert.SmpKernelIdeal.nD,
      r.2.mem ((c.tc : Thread Cert.SmpKernelIdeal.nD Cert.SmpKernelIdeal.τ).loc Cert.SmpKernelIdeal.main_arg0) = m ((c.tc : Thread Cert.SmpKernelIdeal.nD Cert.SmpKernelIdeal.τ).loc Cert.SmpKernelIdeal.main_arg0)
      ∧ r.2.mem ((c.tc : Thread Cert.SmpKernelIdeal.nD Cert.SmpKernelIdeal.τ).loc Cert.SmpKernelIdeal.main_arg1) = m ((c.tc : Thread Cert.SmpKernelIdeal.nD Cert.SmpKernelIdeal.τ).loc Cert.SmpKernelIdeal.main_arg1)
      ∧ r.2.mem ((c.tc : Thread Cert.SmpKernelIdeal.nD Cert.SmpKernelIdeal.τ).loc Cert.SmpKernelIdeal.main_arg2) = m ((c.tc : Thread Cert.SmpKernelIdeal.nD Cert.SmpKernelIdeal.τ).loc Cert.SmpKernelIdeal.main_arg2)
      ∧ r.2.mem ((c.tc : Thread Cert.SmpKernelIdeal.nD Cert.SmpKernelIdeal.τ).loc Cert.SmpKernelIdeal.main_arg3) = m ((c.tc : Thread Cert.SmpKernelIdeal.nD Cert.SmpKernelIdeal.τ).loc Cert.SmpKernelIdeal.main_arg3)
      ∧ r.2.mem ((c.tc : Thread Cert.SmpKernelIdeal.nD Cert.SmpKernelIdeal.τ).loc Cert.SmpKernelIdeal.main_arg4) = m ((c.tc : Thread Cert.SmpKernelIdeal.nD Cert.SmpKernelIdeal.τ).loc Cert.SmpKernelIdeal.main_arg4)
      ∧ r.2.mem ((c.tc : Thread Cert.SmpKernelIdeal.nD Cert.SmpKernelIdeal.τ).loc Cert.SmpKernelIdeal.main_arg5) = m ((c.tc : Thread Cert.SmpKernelIdeal.nD Cert.SmpKernelIdeal.τ).loc Cert.SmpKernelIdeal.main_arg5))
      ∧ r.2.sem = fun _ => 0)

def quiescent_SmpReferenceIdeal [hSmpReferenceIdeal : Cert.SmpReferenceIdeal.Facts] : Prop :=
  ∀ (m : (ℓ : Loc Cert.SmpReferenceIdeal.nD Cert.SmpReferenceIdeal.τ Cert.SmpReferenceIdeal.sig) → Buf (Elt Ideal) ℓ) (g : Dev Cert.SmpReferenceIdeal.nD → PrngReg), Pre_SmpReferenceIdeal m →
    θ_run (Cert.SmpReferenceIdeal.defs (F := Ideal)) (onTc (τ := Cert.SmpReferenceIdeal.τ) (Cert.SmpReferenceIdeal.main (F := Ideal))) ⟨m, fun _ => 0, g⟩ (fun r => (∀ c : Dev Cert.SmpReferenceIdeal.nD,
      r.2.mem ((c.tc : Thread Cert.SmpReferenceIdeal.nD Cert.SmpReferenceIdeal.τ).loc Cert.SmpReferenceIdeal.main_arg0) = m ((c.tc : Thread Cert.SmpReferenceIdeal.nD Cert.SmpReferenceIdeal.τ).loc Cert.SmpReferenceIdeal.main_arg0)
      ∧ r.2.mem ((c.tc : Thread Cert.SmpReferenceIdeal.nD Cert.SmpReferenceIdeal.τ).loc Cert.SmpReferenceIdeal.main_arg1) = m ((c.tc : Thread Cert.SmpReferenceIdeal.nD Cert.SmpReferenceIdeal.τ).loc Cert.SmpReferenceIdeal.main_arg1)
      ∧ r.2.mem ((c.tc : Thread Cert.SmpReferenceIdeal.nD Cert.SmpReferenceIdeal.τ).loc Cert.SmpReferenceIdeal.main_arg2) = m ((c.tc : Thread Cert.SmpReferenceIdeal.nD Cert.SmpReferenceIdeal.τ).loc Cert.SmpReferenceIdeal.main_arg2)
      ∧ r.2.mem ((c.tc : Thread Cert.SmpReferenceIdeal.nD Cert.SmpReferenceIdeal.τ).loc Cert.SmpReferenceIdeal.main_arg3) = m ((c.tc : Thread Cert.SmpReferenceIdeal.nD Cert.SmpReferenceIdeal.τ).loc Cert.SmpReferenceIdeal.main_arg3)
      ∧ r.2.mem ((c.tc : Thread Cert.SmpReferenceIdeal.nD Cert.SmpReferenceIdeal.τ).loc Cert.SmpReferenceIdeal.main_arg4) = m ((c.tc : Thread Cert.SmpReferenceIdeal.nD Cert.SmpReferenceIdeal.τ).loc Cert.SmpReferenceIdeal.main_arg4)
      ∧ r.2.mem ((c.tc : Thread Cert.SmpReferenceIdeal.nD Cert.SmpReferenceIdeal.τ).loc Cert.SmpReferenceIdeal.main_arg5) = m ((c.tc : Thread Cert.SmpReferenceIdeal.nD Cert.SmpReferenceIdeal.τ).loc Cert.SmpReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MrgKernel [hMrgKernel : Cert.MrgKernel.Facts] : Prop :=
  ∀ (m : (ℓ : Loc Cert.MrgKernel.nD Cert.MrgKernel.τ Cert.MrgKernel.sig) → Buf (Elt Bits) ℓ) (g : Dev Cert.MrgKernel.nD → PrngReg), Pre_MrgKernel m →
    θ_run (Cert.MrgKernel.defs (F := Bits)) (onTc (τ := Cert.MrgKernel.τ) (Cert.MrgKernel.main (F := Bits))) ⟨m, fun _ => 0, g⟩ (fun r => (∀ c : Dev Cert.MrgKernel.nD,
      r.2.mem ((c.tc : Thread Cert.MrgKernel.nD Cert.MrgKernel.τ).loc Cert.MrgKernel.main_arg0) = m ((c.tc : Thread Cert.MrgKernel.nD Cert.MrgKernel.τ).loc Cert.MrgKernel.main_arg0)
      ∧ r.2.mem ((c.tc : Thread Cert.MrgKernel.nD Cert.MrgKernel.τ).loc Cert.MrgKernel.main_arg1) = m ((c.tc : Thread Cert.MrgKernel.nD Cert.MrgKernel.τ).loc Cert.MrgKernel.main_arg1)
      ∧ r.2.mem ((c.tc : Thread Cert.MrgKernel.nD Cert.MrgKernel.τ).loc Cert.MrgKernel.main_arg2) = m ((c.tc : Thread Cert.MrgKernel.nD Cert.MrgKernel.τ).loc Cert.MrgKernel.main_arg2)
      ∧ r.2.mem ((c.tc : Thread Cert.MrgKernel.nD Cert.MrgKernel.τ).loc Cert.MrgKernel.main_arg3) = m ((c.tc : Thread Cert.MrgKernel.nD Cert.MrgKernel.τ).loc Cert.MrgKernel.main_arg3)
      ∧ r.2.mem ((c.tc : Thread Cert.MrgKernel.nD Cert.MrgKernel.τ).loc Cert.MrgKernel.main_arg4) = m ((c.tc : Thread Cert.MrgKernel.nD Cert.MrgKernel.τ).loc Cert.MrgKernel.main_arg4))
      ∧ r.2.sem = fun _ => 0)

def quiescent_MrgKernelIdeal [hMrgKernelIdeal : Cert.MrgKernelIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg), Pre_MrgKernelIdeal m →
    θ_run (Cert.MrgKernelIdeal.defs (F := Ideal)) (onTc (τ := Cert.MrgKernelIdeal.τ) (Cert.MrgKernelIdeal.main (F := Ideal))) ⟨m, fun _ => 0, g⟩ (fun r => (∀ c : Dev Cert.MrgKernelIdeal.nD,
      r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
      ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
      ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
      ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
      ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4))
      ∧ r.2.sem = fun _ => 0)

def quiescent_MrgReferenceIdeal [hMrgReferenceIdeal : Cert.MrgReferenceIdeal.Facts] : Prop :=
  ∀ (m : (ℓ : Loc Cert.MrgReferenceIdeal.nD Cert.MrgReferenceIdeal.τ Cert.MrgReferenceIdeal.sig) → Buf (Elt Ideal) ℓ) (g : Dev Cert.MrgReferenceIdeal.nD → PrngReg), Pre_MrgReferenceIdeal m →
    θ_run (Cert.MrgReferenceIdeal.defs (F := Ideal)) (onTc (τ := Cert.MrgReferenceIdeal.τ) (Cert.MrgReferenceIdeal.main (F := Ideal))) ⟨m, fun _ => 0, g⟩ (fun r => (∀ c : Dev Cert.MrgReferenceIdeal.nD,
      r.2.mem ((c.tc : Thread Cert.MrgReferenceIdeal.nD Cert.MrgReferenceIdeal.τ).loc Cert.MrgReferenceIdeal.main_arg0) = m ((c.tc : Thread Cert.MrgReferenceIdeal.nD Cert.MrgReferenceIdeal.τ).loc Cert.MrgReferenceIdeal.main_arg0)
      ∧ r.2.mem ((c.tc : Thread Cert.MrgReferenceIdeal.nD Cert.MrgReferenceIdeal.τ).loc Cert.MrgReferenceIdeal.main_arg1) = m ((c.tc : Thread Cert.MrgReferenceIdeal.nD Cert.MrgReferenceIdeal.τ).loc Cert.MrgReferenceIdeal.main_arg1)
      ∧ r.2.mem ((c.tc : Thread Cert.MrgReferenceIdeal.nD Cert.MrgReferenceIdeal.τ).loc Cert.MrgReferenceIdeal.main_arg2) = m ((c.tc : Thread Cert.MrgReferenceIdeal.nD Cert.MrgReferenceIdeal.τ).loc Cert.MrgReferenceIdeal.main_arg2)
      ∧ r.2.mem ((c.tc : Thread Cert.MrgReferenceIdeal.nD Cert.MrgReferenceIdeal.τ).loc Cert.MrgReferenceIdeal.main_arg3) = m ((c.tc : Thread Cert.MrgReferenceIdeal.nD Cert.MrgReferenceIdeal.τ).loc Cert.MrgReferenceIdeal.main_arg3)
      ∧ r.2.mem ((c.tc : Thread Cert.MrgReferenceIdeal.nD Cert.MrgReferenceIdeal.τ).loc Cert.MrgReferenceIdeal.main_arg4) = m ((c.tc : Thread Cert.MrgReferenceIdeal.nD Cert.MrgReferenceIdeal.τ).loc Cert.MrgReferenceIdeal.main_arg4))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1)
      ∧ r.2.mem ((c.tc : Thread Cert.FinKernel.nD Cert.FinKernel.τ).loc Cert.FinKernel.main_arg2) = m ((c.tc : Thread Cert.FinKernel.nD Cert.FinKernel.τ).loc Cert.FinKernel.main_arg2))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2))
      ∧ r.2.sem = fun _ => 0)

def quiescent_FisKernel [hFisKernel : Cert.FisKernel.Facts] : Prop :=
  ∀ (m : (ℓ : Loc Cert.FisKernel.nD Cert.FisKernel.τ Cert.FisKernel.sig) → Buf (Elt Bits) ℓ) (g : Dev Cert.FisKernel.nD → PrngReg), Pre_FisKernel m →
    θ_run (Cert.FisKernel.defs (F := Bits)) (onTc (τ := Cert.FisKernel.τ) (Cert.FisKernel.main (F := Bits))) ⟨m, fun _ => 0, g⟩ (fun r => (∀ c : Dev Cert.FisKernel.nD,
      r.2.mem ((c.tc : Thread Cert.FisKernel.nD Cert.FisKernel.τ).loc Cert.FisKernel.main_arg0) = m ((c.tc : Thread Cert.FisKernel.nD Cert.FisKernel.τ).loc Cert.FisKernel.main_arg0)
      ∧ r.2.mem ((c.tc : Thread Cert.FisKernel.nD Cert.FisKernel.τ).loc Cert.FisKernel.main_arg1) = m ((c.tc : Thread Cert.FisKernel.nD Cert.FisKernel.τ).loc Cert.FisKernel.main_arg1)
      ∧ r.2.mem ((c.tc : Thread Cert.FisKernel.nD Cert.FisKernel.τ).loc Cert.FisKernel.main_arg2) = m ((c.tc : Thread Cert.FisKernel.nD Cert.FisKernel.τ).loc Cert.FisKernel.main_arg2))
      ∧ r.2.sem = fun _ => 0)

def quiescent_FisKernelIdeal [hFisKernelIdeal : Cert.FisKernelIdeal.Facts] : Prop :=
  ∀ (m : (ℓ : Loc Cert.FisKernelIdeal.nD Cert.FisKernelIdeal.τ Cert.FisKernelIdeal.sig) → Buf (Elt Ideal) ℓ) (g : Dev Cert.FisKernelIdeal.nD → PrngReg), Pre_FisKernelIdeal m →
    θ_run (Cert.FisKernelIdeal.defs (F := Ideal)) (onTc (τ := Cert.FisKernelIdeal.τ) (Cert.FisKernelIdeal.main (F := Ideal))) ⟨m, fun _ => 0, g⟩ (fun r => (∀ c : Dev Cert.FisKernelIdeal.nD,
      r.2.mem ((c.tc : Thread Cert.FisKernelIdeal.nD Cert.FisKernelIdeal.τ).loc Cert.FisKernelIdeal.main_arg0) = m ((c.tc : Thread Cert.FisKernelIdeal.nD Cert.FisKernelIdeal.τ).loc Cert.FisKernelIdeal.main_arg0)
      ∧ r.2.mem ((c.tc : Thread Cert.FisKernelIdeal.nD Cert.FisKernelIdeal.τ).loc Cert.FisKernelIdeal.main_arg1) = m ((c.tc : Thread Cert.FisKernelIdeal.nD Cert.FisKernelIdeal.τ).loc Cert.FisKernelIdeal.main_arg1)
      ∧ r.2.mem ((c.tc : Thread Cert.FisKernelIdeal.nD Cert.FisKernelIdeal.τ).loc Cert.FisKernelIdeal.main_arg2) = m ((c.tc : Thread Cert.FisKernelIdeal.nD Cert.FisKernelIdeal.τ).loc Cert.FisKernelIdeal.main_arg2))
      ∧ r.2.sem = fun _ => 0)

def quiescent_FisReferenceIdeal [hFisReferenceIdeal : Cert.FisReferenceIdeal.Facts] : Prop :=
  ∀ (m : (ℓ : Loc Cert.FisReferenceIdeal.nD Cert.FisReferenceIdeal.τ Cert.FisReferenceIdeal.sig) → Buf (Elt Ideal) ℓ) (g : Dev Cert.FisReferenceIdeal.nD → PrngReg), Pre_FisReferenceIdeal m →
    θ_run (Cert.FisReferenceIdeal.defs (F := Ideal)) (onTc (τ := Cert.FisReferenceIdeal.τ) (Cert.FisReferenceIdeal.main (F := Ideal))) ⟨m, fun _ => 0, g⟩ (fun r => (∀ c : Dev Cert.FisReferenceIdeal.nD,
      r.2.mem ((c.tc : Thread Cert.FisReferenceIdeal.nD Cert.FisReferenceIdeal.τ).loc Cert.FisReferenceIdeal.main_arg0) = m ((c.tc : Thread Cert.FisReferenceIdeal.nD Cert.FisReferenceIdeal.τ).loc Cert.FisReferenceIdeal.main_arg0)
      ∧ r.2.mem ((c.tc : Thread Cert.FisReferenceIdeal.nD Cert.FisReferenceIdeal.τ).loc Cert.FisReferenceIdeal.main_arg1) = m ((c.tc : Thread Cert.FisReferenceIdeal.nD Cert.FisReferenceIdeal.τ).loc Cert.FisReferenceIdeal.main_arg1)
      ∧ r.2.mem ((c.tc : Thread Cert.FisReferenceIdeal.nD Cert.FisReferenceIdeal.τ).loc Cert.FisReferenceIdeal.main_arg2) = m ((c.tc : Thread Cert.FisReferenceIdeal.nD Cert.FisReferenceIdeal.τ).loc Cert.FisReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_ScrKernel [hScrKernel : Cert.ScrKernel.Facts] : Prop :=
  ∀ (m : (ℓ : Loc Cert.ScrKernel.nD Cert.ScrKernel.τ Cert.ScrKernel.sig) → Buf (Elt Bits) ℓ) (g : Dev Cert.ScrKernel.nD → PrngReg), Pre_ScrKernel m →
    θ_run (Cert.ScrKernel.defs (F := Bits)) (onTc (τ := Cert.ScrKernel.τ) (Cert.ScrKernel.main (F := Bits))) ⟨m, fun _ => 0, g⟩ (fun r => (∀ c : Dev Cert.ScrKernel.nD,
      r.2.mem ((c.tc : Thread Cert.ScrKernel.nD Cert.ScrKernel.τ).loc Cert.ScrKernel.main_arg0) = m ((c.tc : Thread Cert.ScrKernel.nD Cert.ScrKernel.τ).loc Cert.ScrKernel.main_arg0)
      ∧ r.2.mem ((c.tc : Thread Cert.ScrKernel.nD Cert.ScrKernel.τ).loc Cert.ScrKernel.main_arg1) = m ((c.tc : Thread Cert.ScrKernel.nD Cert.ScrKernel.τ).loc Cert.ScrKernel.main_arg1)
      ∧ r.2.mem ((c.tc : Thread Cert.ScrKernel.nD Cert.ScrKernel.τ).loc Cert.ScrKernel.main_arg2) = m ((c.tc : Thread Cert.ScrKernel.nD Cert.ScrKernel.τ).loc Cert.ScrKernel.main_arg2)
      ∧ r.2.mem ((c.tc : Thread Cert.ScrKernel.nD Cert.ScrKernel.τ).loc Cert.ScrKernel.main_arg3) = m ((c.tc : Thread Cert.ScrKernel.nD Cert.ScrKernel.τ).loc Cert.ScrKernel.main_arg3))
      ∧ r.2.sem = fun _ => 0)

def quiescent_ScrKernelIdeal [hScrKernelIdeal : Cert.ScrKernelIdeal.Facts] : Prop :=
  ∀ (m : (ℓ : Loc Cert.ScrKernelIdeal.nD Cert.ScrKernelIdeal.τ Cert.ScrKernelIdeal.sig) → Buf (Elt Ideal) ℓ) (g : Dev Cert.ScrKernelIdeal.nD → PrngReg), Pre_ScrKernelIdeal m →
    θ_run (Cert.ScrKernelIdeal.defs (F := Ideal)) (onTc (τ := Cert.ScrKernelIdeal.τ) (Cert.ScrKernelIdeal.main (F := Ideal))) ⟨m, fun _ => 0, g⟩ (fun r => (∀ c : Dev Cert.ScrKernelIdeal.nD,
      r.2.mem ((c.tc : Thread Cert.ScrKernelIdeal.nD Cert.ScrKernelIdeal.τ).loc Cert.ScrKernelIdeal.main_arg0) = m ((c.tc : Thread Cert.ScrKernelIdeal.nD Cert.ScrKernelIdeal.τ).loc Cert.ScrKernelIdeal.main_arg0)
      ∧ r.2.mem ((c.tc : Thread Cert.ScrKernelIdeal.nD Cert.ScrKernelIdeal.τ).loc Cert.ScrKernelIdeal.main_arg1) = m ((c.tc : Thread Cert.ScrKernelIdeal.nD Cert.ScrKernelIdeal.τ).loc Cert.ScrKernelIdeal.main_arg1)
      ∧ r.2.mem ((c.tc : Thread Cert.ScrKernelIdeal.nD Cert.ScrKernelIdeal.τ).loc Cert.ScrKernelIdeal.main_arg2) = m ((c.tc : Thread Cert.ScrKernelIdeal.nD Cert.ScrKernelIdeal.τ).loc Cert.ScrKernelIdeal.main_arg2)
      ∧ r.2.mem ((c.tc : Thread Cert.ScrKernelIdeal.nD Cert.ScrKernelIdeal.τ).loc Cert.ScrKernelIdeal.main_arg3) = m ((c.tc : Thread Cert.ScrKernelIdeal.nD Cert.ScrKernelIdeal.τ).loc Cert.ScrKernelIdeal.main_arg3))
      ∧ r.2.sem = fun _ => 0)

def quiescent_ScrReferenceIdeal [hScrReferenceIdeal : Cert.ScrReferenceIdeal.Facts] : Prop :=
  ∀ (m : (ℓ : Loc Cert.ScrReferenceIdeal.nD Cert.ScrReferenceIdeal.τ Cert.ScrReferenceIdeal.sig) → Buf (Elt Ideal) ℓ) (g : Dev Cert.ScrReferenceIdeal.nD → PrngReg), Pre_ScrReferenceIdeal m →
    θ_run (Cert.ScrReferenceIdeal.defs (F := Ideal)) (onTc (τ := Cert.ScrReferenceIdeal.τ) (Cert.ScrReferenceIdeal.main (F := Ideal))) ⟨m, fun _ => 0, g⟩ (fun r => (∀ c : Dev Cert.ScrReferenceIdeal.nD,
      r.2.mem ((c.tc : Thread Cert.ScrReferenceIdeal.nD Cert.ScrReferenceIdeal.τ).loc Cert.ScrReferenceIdeal.main_arg0) = m ((c.tc : Thread Cert.ScrReferenceIdeal.nD Cert.ScrReferenceIdeal.τ).loc Cert.ScrReferenceIdeal.main_arg0)
      ∧ r.2.mem ((c.tc : Thread Cert.ScrReferenceIdeal.nD Cert.ScrReferenceIdeal.τ).loc Cert.ScrReferenceIdeal.main_arg1) = m ((c.tc : Thread Cert.ScrReferenceIdeal.nD Cert.ScrReferenceIdeal.τ).loc Cert.ScrReferenceIdeal.main_arg1)
      ∧ r.2.mem ((c.tc : Thread Cert.ScrReferenceIdeal.nD Cert.ScrReferenceIdeal.τ).loc Cert.ScrReferenceIdeal.main_arg2) = m ((c.tc : Thread Cert.ScrReferenceIdeal.nD Cert.ScrReferenceIdeal.τ).loc Cert.ScrReferenceIdeal.main_arg2)
      ∧ r.2.mem ((c.tc : Thread Cert.ScrReferenceIdeal.nD Cert.ScrReferenceIdeal.τ).loc Cert.ScrReferenceIdeal.main_arg3) = m ((c.tc : Thread Cert.ScrReferenceIdeal.nD Cert.ScrReferenceIdeal.τ).loc Cert.ScrReferenceIdeal.main_arg3))
      ∧ r.2.sem = fun _ => 0)

def quiescent_MxsKernel [hMxsKernel : Cert.MxsKernel.Facts] : Prop :=
  ∀ (m : (ℓ : Loc Cert.MxsKernel.nD Cert.MxsKernel.τ Cert.MxsKernel.sig) → Buf (Elt Bits) ℓ) (g : Dev Cert.MxsKernel.nD → PrngReg), Pre_MxsKernel m →
    θ_run (Cert.MxsKernel.defs (F := Bits)) (onTc (τ := Cert.MxsKernel.τ) (Cert.MxsKernel.main (F := Bits))) ⟨m, fun _ => 0, g⟩ (fun r => (∀ c : Dev Cert.MxsKernel.nD,
      r.2.mem ((c.tc : Thread Cert.MxsKernel.nD Cert.MxsKernel.τ).loc Cert.MxsKernel.main_arg0) = m ((c.tc : Thread Cert.MxsKernel.nD Cert.MxsKernel.τ).loc Cert.MxsKernel.main_arg0)
      ∧ r.2.mem ((c.tc : Thread Cert.MxsKernel.nD Cert.MxsKernel.τ).loc Cert.MxsKernel.main_arg1) = m ((c.tc : Thread Cert.MxsKernel.nD Cert.MxsKernel.τ).loc Cert.MxsKernel.main_arg1)
      ∧ r.2.mem ((c.tc : Thread Cert.MxsKernel.nD Cert.MxsKernel.τ).loc Cert.MxsKernel.main_arg2) = m ((c.tc : Thread Cert.MxsKernel.nD Cert.MxsKernel.τ).loc Cert.MxsKernel.main_arg2)
      ∧ r.2.mem ((c.tc : Thread Cert.MxsKernel.nD Cert.MxsKernel.τ).loc Cert.MxsKernel.main_arg3) = m ((c.tc : Thread Cert.MxsKernel.nD Cert.MxsKernel.τ).loc Cert.MxsKernel.main_arg3)
      ∧ r.2.mem ((c.tc : Thread Cert.MxsKernel.nD Cert.MxsKernel.τ).loc Cert.MxsKernel.main_arg4) = m ((c.tc : Thread Cert.MxsKernel.nD Cert.MxsKernel.τ).loc Cert.MxsKernel.main_arg4))
      ∧ r.2.sem = fun _ => 0)

def quiescent_MxsKernelIdeal [hMxsKernelIdeal : Cert.MxsKernelIdeal.Facts] : Prop :=
  ∀ (m : (ℓ : Loc Cert.MxsKernelIdeal.nD Cert.MxsKernelIdeal.τ Cert.MxsKernelIdeal.sig) → Buf (Elt Ideal) ℓ) (g : Dev Cert.MxsKernelIdeal.nD → PrngReg), Pre_MxsKernelIdeal m →
    θ_run (Cert.MxsKernelIdeal.defs (F := Ideal)) (onTc (τ := Cert.MxsKernelIdeal.τ) (Cert.MxsKernelIdeal.main (F := Ideal))) ⟨m, fun _ => 0, g⟩ (fun r => (∀ c : Dev Cert.MxsKernelIdeal.nD,
      r.2.mem ((c.tc : Thread Cert.MxsKernelIdeal.nD Cert.MxsKernelIdeal.τ).loc Cert.MxsKernelIdeal.main_arg0) = m ((c.tc : Thread Cert.MxsKernelIdeal.nD Cert.MxsKernelIdeal.τ).loc Cert.MxsKernelIdeal.main_arg0)
      ∧ r.2.mem ((c.tc : Thread Cert.MxsKernelIdeal.nD Cert.MxsKernelIdeal.τ).loc Cert.MxsKernelIdeal.main_arg1) = m ((c.tc : Thread Cert.MxsKernelIdeal.nD Cert.MxsKernelIdeal.τ).loc Cert.MxsKernelIdeal.main_arg1)
      ∧ r.2.mem ((c.tc : Thread Cert.MxsKernelIdeal.nD Cert.MxsKernelIdeal.τ).loc Cert.MxsKernelIdeal.main_arg2) = m ((c.tc : Thread Cert.MxsKernelIdeal.nD Cert.MxsKernelIdeal.τ).loc Cert.MxsKernelIdeal.main_arg2)
      ∧ r.2.mem ((c.tc : Thread Cert.MxsKernelIdeal.nD Cert.MxsKernelIdeal.τ).loc Cert.MxsKernelIdeal.main_arg3) = m ((c.tc : Thread Cert.MxsKernelIdeal.nD Cert.MxsKernelIdeal.τ).loc Cert.MxsKernelIdeal.main_arg3)
      ∧ r.2.mem ((c.tc : Thread Cert.MxsKernelIdeal.nD Cert.MxsKernelIdeal.τ).loc Cert.MxsKernelIdeal.main_arg4) = m ((c.tc : Thread Cert.MxsKernelIdeal.nD Cert.MxsKernelIdeal.τ).loc Cert.MxsKernelIdeal.main_arg4))
      ∧ r.2.sem = fun _ => 0)

def quiescent_MxsReferenceIdeal [hMxsReferenceIdeal : Cert.MxsReferenceIdeal.Facts] : Prop :=
  ∀ (m : (ℓ : Loc Cert.MxsReferenceIdeal.nD Cert.MxsReferenceIdeal.τ Cert.MxsReferenceIdeal.sig) → Buf (Elt Ideal) ℓ) (g : Dev Cert.MxsReferenceIdeal.nD → PrngReg), Pre_MxsReferenceIdeal m →
    θ_run (Cert.MxsReferenceIdeal.defs (F := Ideal)) (onTc (τ := Cert.MxsReferenceIdeal.τ) (Cert.MxsReferenceIdeal.main (F := Ideal))) ⟨m, fun _ => 0, g⟩ (fun r => (∀ c : Dev Cert.MxsReferenceIdeal.nD,
      r.2.mem ((c.tc : Thread Cert.MxsReferenceIdeal.nD Cert.MxsReferenceIdeal.τ).loc Cert.MxsReferenceIdeal.main_arg0) = m ((c.tc : Thread Cert.MxsReferenceIdeal.nD Cert.MxsReferenceIdeal.τ).loc Cert.MxsReferenceIdeal.main_arg0)
      ∧ r.2.mem ((c.tc : Thread Cert.MxsReferenceIdeal.nD Cert.MxsReferenceIdeal.τ).loc Cert.MxsReferenceIdeal.main_arg1) = m ((c.tc : Thread Cert.MxsReferenceIdeal.nD Cert.MxsReferenceIdeal.τ).loc Cert.MxsReferenceIdeal.main_arg1)
      ∧ r.2.mem ((c.tc : Thread Cert.MxsReferenceIdeal.nD Cert.MxsReferenceIdeal.τ).loc Cert.MxsReferenceIdeal.main_arg2) = m ((c.tc : Thread Cert.MxsReferenceIdeal.nD Cert.MxsReferenceIdeal.τ).loc Cert.MxsReferenceIdeal.main_arg2)
      ∧ r.2.mem ((c.tc : Thread Cert.MxsReferenceIdeal.nD Cert.MxsReferenceIdeal.τ).loc Cert.MxsReferenceIdeal.main_arg3) = m ((c.tc : Thread Cert.MxsReferenceIdeal.nD Cert.MxsReferenceIdeal.τ).loc Cert.MxsReferenceIdeal.main_arg3)
      ∧ r.2.mem ((c.tc : Thread Cert.MxsReferenceIdeal.nD Cert.MxsReferenceIdeal.τ).loc Cert.MxsReferenceIdeal.main_arg4) = m ((c.tc : Thread Cert.MxsReferenceIdeal.nD Cert.MxsReferenceIdeal.τ).loc Cert.MxsReferenceIdeal.main_arg4))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_win_pre [hKernelIdeal : Cert.KernelIdeal.Facts] [hReferenceIdeal : Cert.ReferenceIdeal.Facts] [hPre_win_pre : Cert.Pre_win_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_win_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  IdealRules.named_const.Statement Cert.InKernelIdeal.κ "gelu" .f32 0xBD922279#32 ((-80338380498831 / 1125899906842624 : ℝ) : EReal)

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)) →
    ∃ (v0 : (c : Dev Cert.InKernelIdeal.nD) → Buf (Elt Ideal) ((c.tc : Thread Cert.InKernelIdeal.nD Cert.InKernelIdeal.τ).loc Cert.InKernelIdeal.main_v88)) (v1 : (c : Dev Cert.InKernelIdeal.nD) → Buf (Elt Ideal) ((c.tc : Thread Cert.InKernelIdeal.nD Cert.InKernelIdeal.τ).loc Cert.InKernelIdeal.main_v91)) (v2 : (c : Dev Cert.InKernelIdeal.nD) → Buf (Elt Ideal) ((c.tc : Thread Cert.InKernelIdeal.nD Cert.InKernelIdeal.τ).loc Cert.InKernelIdeal.main_v94)) (v3 : (c : Dev Cert.InKernelIdeal.nD) → Buf (Elt Ideal) ((c.tc : Thread Cert.InKernelIdeal.nD Cert.InKernelIdeal.τ).loc Cert.InKernelIdeal.main_v97)) (v4 : (c : Dev Cert.InKernelIdeal.nD) → Buf (Elt Ideal) ((c.tc : Thread Cert.InKernelIdeal.nD Cert.InKernelIdeal.τ).loc Cert.InKernelIdeal.main_v101)) (v5 : (c : Dev Cert.InKernelIdeal.nD) → Buf (Elt Ideal) ((c.tc : Thread Cert.InKernelIdeal.nD Cert.InKernelIdeal.τ).loc Cert.InKernelIdeal.main_v105)) (v6 : (c : Dev Cert.InKernelIdeal.nD) → Buf (Elt Ideal) ((c.tc : Thread Cert.InKernelIdeal.nD Cert.InKernelIdeal.τ).loc Cert.InKernelIdeal.main_v106)) (v7 : (c : Dev Cert.InKernelIdeal.nD) → Buf (Elt Ideal) ((c.tc : Thread Cert.InKernelIdeal.nD Cert.InKernelIdeal.τ).loc Cert.InKernelIdeal.main_v107)) (v8 : (c : Dev Cert.InKernelIdeal.nD) → Buf (Elt Ideal) ((c.tc : Thread Cert.InKernelIdeal.nD Cert.InKernelIdeal.τ).loc Cert.InKernelIdeal.main_v110)) (v9 : (c : Dev Cert.InKernelIdeal.nD) → Buf (Elt Ideal) ((c.tc : Thread Cert.InKernelIdeal.nD Cert.InKernelIdeal.τ).loc Cert.InKernelIdeal.main_v111)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v88) = v0 c
          ∧ r.2.mem ((c.tc : Thread Cert.InKernelIdeal.nD Cert.InKernelIdeal.τ).loc Cert.InKernelIdeal.main_v91) = v1 c
          ∧ r.2.mem ((c.tc : Thread Cert.InKernelIdeal.nD Cert.InKernelIdeal.τ).loc Cert.InKernelIdeal.main_v94) = v2 c
          ∧ r.2.mem ((c.tc : Thread Cert.InKernelIdeal.nD Cert.InKernelIdeal.τ).loc Cert.InKernelIdeal.main_v97) = v3 c
          ∧ r.2.mem ((c.tc : Thread Cert.InKernelIdeal.nD Cert.InKernelIdeal.τ).loc Cert.InKernelIdeal.main_v101) = v4 c
          ∧ r.2.mem ((c.tc : Thread Cert.InKernelIdeal.nD Cert.InKernelIdeal.τ).loc Cert.InKernelIdeal.main_v105) = v5 c
          ∧ r.2.mem ((c.tc : Thread Cert.InKernelIdeal.nD Cert.InKernelIdeal.τ).loc Cert.InKernelIdeal.main_v106) = v6 c
          ∧ r.2.mem ((c.tc : Thread Cert.InKernelIdeal.nD Cert.InKernelIdeal.τ).loc Cert.InKernelIdeal.main_v107) = v7 c
          ∧ r.2.mem ((c.tc : Thread Cert.InKernelIdeal.nD Cert.InKernelIdeal.τ).loc Cert.InKernelIdeal.main_v110) = v8 c
          ∧ r.2.mem ((c.tc : Thread Cert.InKernelIdeal.nD Cert.InKernelIdeal.τ).loc Cert.InKernelIdeal.main_v111) = v9 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v61) = v0 c
          ∧ r.2.mem ((c.tc : Thread Cert.InReferenceIdeal.nD Cert.InReferenceIdeal.τ).loc Cert.InReferenceIdeal.main_v62) = v1 c
          ∧ r.2.mem ((c.tc : Thread Cert.InReferenceIdeal.nD Cert.InReferenceIdeal.τ).loc Cert.InReferenceIdeal.main_v80) = v2 c
          ∧ r.2.mem ((c.tc : Thread Cert.InReferenceIdeal.nD Cert.InReferenceIdeal.τ).loc Cert.InReferenceIdeal.main_v63) = v3 c
          ∧ r.2.mem ((c.tc : Thread Cert.InReferenceIdeal.nD Cert.InReferenceIdeal.τ).loc Cert.InReferenceIdeal.main_v116) = v4 c
          ∧ r.2.mem ((c.tc : Thread Cert.InReferenceIdeal.nD Cert.InReferenceIdeal.τ).loc Cert.InReferenceIdeal.main_v117) = v5 c
          ∧ r.2.mem ((c.tc : Thread Cert.InReferenceIdeal.nD Cert.InReferenceIdeal.τ).loc Cert.InReferenceIdeal.main_v110) = v6 c
          ∧ r.2.mem ((c.tc : Thread Cert.InReferenceIdeal.nD Cert.InReferenceIdeal.τ).loc Cert.InReferenceIdeal.main_v112) = v7 c
          ∧ r.2.mem ((c.tc : Thread Cert.InReferenceIdeal.nD Cert.InReferenceIdeal.τ).loc Cert.InReferenceIdeal.main_v113) = v8 c
          ∧ r.2.mem ((c.tc : Thread Cert.InReferenceIdeal.nD Cert.InReferenceIdeal.τ).loc Cert.InReferenceIdeal.main_v115) = v9 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5))

def preserves_SmpKernel_SmpKernelIdeal : Prop :=
  IdealRules.named_const.Statement Cert.SmpKernelIdeal.κ "gelu" .f32 0xBD922279#32 ((-80338380498831 / 1125899906842624 : ℝ) : EReal)

def algebraic_SmpKernelIdeal_SmpReferenceIdeal [hSmpKernelIdeal : Cert.SmpKernelIdeal.Facts] [hSmpReferenceIdeal : Cert.SmpReferenceIdeal.Facts] : Prop :=
  ∀ (m : (ℓ : Loc Cert.SmpKernelIdeal.nD Cert.SmpKernelIdeal.τ Cert.SmpKernelIdeal.sig) → Buf (Elt Ideal) ℓ) (g : Dev Cert.SmpKernelIdeal.nD → PrngReg)
    (m' : (ℓ : Loc Cert.SmpReferenceIdeal.nD Cert.SmpReferenceIdeal.τ Cert.SmpReferenceIdeal.sig) → Buf (Elt Ideal) ℓ) (g' : Dev Cert.SmpReferenceIdeal.nD → PrngReg), Pre_SmpKernelIdeal m →
    (∀ c : Dev Cert.SmpKernelIdeal.nD,
      m' ((c.tc : Thread Cert.SmpReferenceIdeal.nD Cert.SmpReferenceIdeal.τ).loc Cert.SmpReferenceIdeal.main_arg0) = m ((c.tc : Thread Cert.SmpKernelIdeal.nD Cert.SmpKernelIdeal.τ).loc Cert.SmpKernelIdeal.main_arg0)
      ∧ m' ((c.tc : Thread Cert.SmpReferenceIdeal.nD Cert.SmpReferenceIdeal.τ).loc Cert.SmpReferenceIdeal.main_arg1) = m ((c.tc : Thread Cert.SmpKernelIdeal.nD Cert.SmpKernelIdeal.τ).loc Cert.SmpKernelIdeal.main_arg1)
      ∧ m' ((c.tc : Thread Cert.SmpReferenceIdeal.nD Cert.SmpReferenceIdeal.τ).loc Cert.SmpReferenceIdeal.main_arg2) = m ((c.tc : Thread Cert.SmpKernelIdeal.nD Cert.SmpKernelIdeal.τ).loc Cert.SmpKernelIdeal.main_arg2)
      ∧ m' ((c.tc : Thread Cert.SmpReferenceIdeal.nD Cert.SmpReferenceIdeal.τ).loc Cert.SmpReferenceIdeal.main_arg3) = m ((c.tc : Thread Cert.SmpKernelIdeal.nD Cert.SmpKernelIdeal.τ).loc Cert.SmpKernelIdeal.main_arg3)
      ∧ m' ((c.tc : Thread Cert.SmpReferenceIdeal.nD Cert.SmpReferenceIdeal.τ).loc Cert.SmpReferenceIdeal.main_arg4) = m ((c.tc : Thread Cert.SmpKernelIdeal.nD Cert.SmpKernelIdeal.τ).loc Cert.SmpKernelIdeal.main_arg4)
      ∧ m' ((c.tc : Thread Cert.SmpReferenceIdeal.nD Cert.SmpReferenceIdeal.τ).loc Cert.SmpReferenceIdeal.main_arg5) = m ((c.tc : Thread Cert.SmpKernelIdeal.nD Cert.SmpKernelIdeal.τ).loc Cert.SmpKernelIdeal.main_arg5)) →
    ∃ (v0 : (c : Dev Cert.SmpKernelIdeal.nD) → Buf (Elt Ideal) ((c.tc : Thread Cert.SmpKernelIdeal.nD Cert.SmpKernelIdeal.τ).loc Cert.SmpKernelIdeal.main_v88)) (v1 : (c : Dev Cert.SmpKernelIdeal.nD) → Buf (Elt Ideal) ((c.tc : Thread Cert.SmpKernelIdeal.nD Cert.SmpKernelIdeal.τ).loc Cert.SmpKernelIdeal.main_v91)) (v2 : (c : Dev Cert.SmpKernelIdeal.nD) → Buf (Elt Ideal) ((c.tc : Thread Cert.SmpKernelIdeal.nD Cert.SmpKernelIdeal.τ).loc Cert.SmpKernelIdeal.main_v94)) (v3 : (c : Dev Cert.SmpKernelIdeal.nD) → Buf (Elt Ideal) ((c.tc : Thread Cert.SmpKernelIdeal.nD Cert.SmpKernelIdeal.τ).loc Cert.SmpKernelIdeal.main_v97)) (v4 : (c : Dev Cert.SmpKernelIdeal.nD) → Buf (Elt Ideal) ((c.tc : Thread Cert.SmpKernelIdeal.nD Cert.SmpKernelIdeal.τ).loc Cert.SmpKernelIdeal.main_v100)) (v5 : (c : Dev Cert.SmpKernelIdeal.nD) → Buf (Elt Ideal) ((c.tc : Thread Cert.SmpKernelIdeal.nD Cert.SmpKernelIdeal.τ).loc Cert.SmpKernelIdeal.main_v103)) (v6 : (c : Dev Cert.SmpKernelIdeal.nD) → Buf (Elt Ideal) ((c.tc : Thread Cert.SmpKernelIdeal.nD Cert.SmpKernelIdeal.τ).loc Cert.SmpKernelIdeal.main_v104)) (v7 : (c : Dev Cert.SmpKernelIdeal.nD) → Buf (Elt Ideal) ((c.tc : Thread Cert.SmpKernelIdeal.nD Cert.SmpKernelIdeal.τ).loc Cert.SmpKernelIdeal.main_v105)) (v8 : (c : Dev Cert.SmpKernelIdeal.nD) → Buf (Elt Ideal) ((c.tc : Thread Cert.SmpKernelIdeal.nD Cert.SmpKernelIdeal.τ).loc Cert.SmpKernelIdeal.main_v108)) (v9 : (c : Dev Cert.SmpKernelIdeal.nD) → Buf (Elt Ideal) ((c.tc : Thread Cert.SmpKernelIdeal.nD Cert.SmpKernelIdeal.τ).loc Cert.SmpKernelIdeal.main_v109)),
      θ_run (Cert.SmpKernelIdeal.defs (F := Ideal)) (onTc (τ := Cert.SmpKernelIdeal.τ) (Cert.SmpKernelIdeal.main (F := Ideal))) ⟨m, fun _ => 0, g⟩ (fun r => ∀ c : Dev Cert.SmpKernelIdeal.nD,
          r.2.mem ((c.tc : Thread Cert.SmpKernelIdeal.nD Cert.SmpKernelIdeal.τ).loc Cert.SmpKernelIdeal.main_v88) = v0 c
          ∧ r.2.mem ((c.tc : Thread Cert.SmpKernelIdeal.nD Cert.SmpKernelIdeal.τ).loc Cert.SmpKernelIdeal.main_v91) = v1 c
          ∧ r.2.mem ((c.tc : Thread Cert.SmpKernelIdeal.nD Cert.SmpKernelIdeal.τ).loc Cert.SmpKernelIdeal.main_v94) = v2 c
          ∧ r.2.mem ((c.tc : Thread Cert.SmpKernelIdeal.nD Cert.SmpKernelIdeal.τ).loc Cert.SmpKernelIdeal.main_v97) = v3 c
          ∧ r.2.mem ((c.tc : Thread Cert.SmpKernelIdeal.nD Cert.SmpKernelIdeal.τ).loc Cert.SmpKernelIdeal.main_v100) = v4 c
          ∧ r.2.mem ((c.tc : Thread Cert.SmpKernelIdeal.nD Cert.SmpKernelIdeal.τ).loc Cert.SmpKernelIdeal.main_v103) = v5 c
          ∧ r.2.mem ((c.tc : Thread Cert.SmpKernelIdeal.nD Cert.SmpKernelIdeal.τ).loc Cert.SmpKernelIdeal.main_v104) = v6 c
          ∧ r.2.mem ((c.tc : Thread Cert.SmpKernelIdeal.nD Cert.SmpKernelIdeal.τ).loc Cert.SmpKernelIdeal.main_v105) = v7 c
          ∧ r.2.mem ((c.tc : Thread Cert.SmpKernelIdeal.nD Cert.SmpKernelIdeal.τ).loc Cert.SmpKernelIdeal.main_v108) = v8 c
          ∧ r.2.mem ((c.tc : Thread Cert.SmpKernelIdeal.nD Cert.SmpKernelIdeal.τ).loc Cert.SmpKernelIdeal.main_v109) = v9 c
          ∧ r.2.mem ((c.tc : Thread Cert.SmpKernelIdeal.nD Cert.SmpKernelIdeal.τ).loc Cert.SmpKernelIdeal.main_arg0) = m ((c.tc : Thread Cert.SmpKernelIdeal.nD Cert.SmpKernelIdeal.τ).loc Cert.SmpKernelIdeal.main_arg0)
          ∧ r.2.mem ((c.tc : Thread Cert.SmpKernelIdeal.nD Cert.SmpKernelIdeal.τ).loc Cert.SmpKernelIdeal.main_arg1) = m ((c.tc : Thread Cert.SmpKernelIdeal.nD Cert.SmpKernelIdeal.τ).loc Cert.SmpKernelIdeal.main_arg1)
          ∧ r.2.mem ((c.tc : Thread Cert.SmpKernelIdeal.nD Cert.SmpKernelIdeal.τ).loc Cert.SmpKernelIdeal.main_arg2) = m ((c.tc : Thread Cert.SmpKernelIdeal.nD Cert.SmpKernelIdeal.τ).loc Cert.SmpKernelIdeal.main_arg2)
          ∧ r.2.mem ((c.tc : Thread Cert.SmpKernelIdeal.nD Cert.SmpKernelIdeal.τ).loc Cert.SmpKernelIdeal.main_arg3) = m ((c.tc : Thread Cert.SmpKernelIdeal.nD Cert.SmpKernelIdeal.τ).loc Cert.SmpKernelIdeal.main_arg3)
          ∧ r.2.mem ((c.tc : Thread Cert.SmpKernelIdeal.nD Cert.SmpKernelIdeal.τ).loc Cert.SmpKernelIdeal.main_arg4) = m ((c.tc : Thread Cert.SmpKernelIdeal.nD Cert.SmpKernelIdeal.τ).loc Cert.SmpKernelIdeal.main_arg4)
          ∧ r.2.mem ((c.tc : Thread Cert.SmpKernelIdeal.nD Cert.SmpKernelIdeal.τ).loc Cert.SmpKernelIdeal.main_arg5) = m ((c.tc : Thread Cert.SmpKernelIdeal.nD Cert.SmpKernelIdeal.τ).loc Cert.SmpKernelIdeal.main_arg5))
      ∧ θ_run (Cert.SmpReferenceIdeal.defs (F := Ideal)) (onTc (τ := Cert.SmpReferenceIdeal.τ) (Cert.SmpReferenceIdeal.main (F := Ideal))) ⟨m', fun _ => 0, g'⟩ (fun r => ∀ c : Dev Cert.SmpReferenceIdeal.nD,
          r.2.mem ((c.tc : Thread Cert.SmpReferenceIdeal.nD Cert.SmpReferenceIdeal.τ).loc Cert.SmpReferenceIdeal.main_v61) = v0 c
          ∧ r.2.mem ((c.tc : Thread Cert.SmpReferenceIdeal.nD Cert.SmpReferenceIdeal.τ).loc Cert.SmpReferenceIdeal.main_v62) = v1 c
          ∧ r.2.mem ((c.tc : Thread Cert.SmpReferenceIdeal.nD Cert.SmpReferenceIdeal.τ).loc Cert.SmpReferenceIdeal.main_v80) = v2 c
          ∧ r.2.mem ((c.tc : Thread Cert.SmpReferenceIdeal.nD Cert.SmpReferenceIdeal.τ).loc Cert.SmpReferenceIdeal.main_v63) = v3 c
          ∧ r.2.mem ((c.tc : Thread Cert.SmpReferenceIdeal.nD Cert.SmpReferenceIdeal.τ).loc Cert.SmpReferenceIdeal.main_v96) = v4 c
          ∧ r.2.mem ((c.tc : Thread Cert.SmpReferenceIdeal.nD Cert.SmpReferenceIdeal.τ).loc Cert.SmpReferenceIdeal.main_v64) = v5 c
          ∧ r.2.mem ((c.tc : Thread Cert.SmpReferenceIdeal.nD Cert.SmpReferenceIdeal.τ).loc Cert.SmpReferenceIdeal.main_v110) = v6 c
          ∧ r.2.mem ((c.tc : Thread Cert.SmpReferenceIdeal.nD Cert.SmpReferenceIdeal.τ).loc Cert.SmpReferenceIdeal.main_v112) = v7 c
          ∧ r.2.mem ((c.tc : Thread Cert.SmpReferenceIdeal.nD Cert.SmpReferenceIdeal.τ).loc Cert.SmpReferenceIdeal.main_v113) = v8 c
          ∧ r.2.mem ((c.tc : Thread Cert.SmpReferenceIdeal.nD Cert.SmpReferenceIdeal.τ).loc Cert.SmpReferenceIdeal.main_v115) = v9 c
          ∧ r.2.mem ((c.tc : Thread Cert.SmpReferenceIdeal.nD Cert.SmpReferenceIdeal.τ).loc Cert.SmpReferenceIdeal.main_arg0) = m' ((c.tc : Thread Cert.SmpReferenceIdeal.nD Cert.SmpReferenceIdeal.τ).loc Cert.SmpReferenceIdeal.main_arg0)
          ∧ r.2.mem ((c.tc : Thread Cert.SmpReferenceIdeal.nD Cert.SmpReferenceIdeal.τ).loc Cert.SmpReferenceIdeal.main_arg1) = m' ((c.tc : Thread Cert.SmpReferenceIdeal.nD Cert.SmpReferenceIdeal.τ).loc Cert.SmpReferenceIdeal.main_arg1)
          ∧ r.2.mem ((c.tc : Thread Cert.SmpReferenceIdeal.nD Cert.SmpReferenceIdeal.τ).loc Cert.SmpReferenceIdeal.main_arg2) = m' ((c.tc : Thread Cert.SmpReferenceIdeal.nD Cert.SmpReferenceIdeal.τ).loc Cert.SmpReferenceIdeal.main_arg2)
          ∧ r.2.mem ((c.tc : Thread Cert.SmpReferenceIdeal.nD Cert.SmpReferenceIdeal.τ).loc Cert.SmpReferenceIdeal.main_arg3) = m' ((c.tc : Thread Cert.SmpReferenceIdeal.nD Cert.SmpReferenceIdeal.τ).loc Cert.SmpReferenceIdeal.main_arg3)
          ∧ r.2.mem ((c.tc : Thread Cert.SmpReferenceIdeal.nD Cert.SmpReferenceIdeal.τ).loc Cert.SmpReferenceIdeal.main_arg4) = m' ((c.tc : Thread Cert.SmpReferenceIdeal.nD Cert.SmpReferenceIdeal.τ).loc Cert.SmpReferenceIdeal.main_arg4)
          ∧ r.2.mem ((c.tc : Thread Cert.SmpReferenceIdeal.nD Cert.SmpReferenceIdeal.τ).loc Cert.SmpReferenceIdeal.main_arg5) = m' ((c.tc : Thread Cert.SmpReferenceIdeal.nD Cert.SmpReferenceIdeal.τ).loc Cert.SmpReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v6_0)) (v1 : (c : Dev Cert.MixKernelIdeal.nD) → Buf (Elt Ideal) ((c.tc : Thread Cert.MixKernelIdeal.nD Cert.MixKernelIdeal.τ).loc Cert.MixKernelIdeal.main_v6_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v6_0) = v0 c
          ∧ r.2.mem ((c.tc : Thread Cert.MixKernelIdeal.nD Cert.MixKernelIdeal.τ).loc Cert.MixKernelIdeal.main_v6_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v42) = v0 c
          ∧ r.2.mem ((c.tc : Thread Cert.MixReferenceIdeal.nD Cert.MixReferenceIdeal.τ).loc Cert.MixReferenceIdeal.main_v44) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_MrgKernel_MrgKernelIdeal : Prop :=
  True

def algebraic_MrgKernelIdeal_MrgReferenceIdeal [hMrgKernelIdeal : Cert.MrgKernelIdeal.Facts] [hMrgReferenceIdeal : Cert.MrgReferenceIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg)
    (m' : (ℓ : Loc Cert.MrgReferenceIdeal.nD Cert.MrgReferenceIdeal.τ Cert.MrgReferenceIdeal.sig) → Buf (Elt Ideal) ℓ) (g' : Dev Cert.MrgReferenceIdeal.nD → PrngReg), Pre_MrgKernelIdeal m →
    (∀ c : Dev Cert.MrgKernelIdeal.nD,
      m' ((c.tc : Thread Cert.MrgReferenceIdeal.nD Cert.MrgReferenceIdeal.τ).loc Cert.MrgReferenceIdeal.main_arg0) = m ((c.tc : Thread Cert.MrgKernelIdeal.nD Cert.MrgKernelIdeal.τ).loc Cert.MrgKernelIdeal.main_arg0)
      ∧ m' ((c.tc : Thread Cert.MrgReferenceIdeal.nD Cert.MrgReferenceIdeal.τ).loc Cert.MrgReferenceIdeal.main_arg1) = m ((c.tc : Thread Cert.MrgKernelIdeal.nD Cert.MrgKernelIdeal.τ).loc Cert.MrgKernelIdeal.main_arg1)
      ∧ m' ((c.tc : Thread Cert.MrgReferenceIdeal.nD Cert.MrgReferenceIdeal.τ).loc Cert.MrgReferenceIdeal.main_arg2) = m ((c.tc : Thread Cert.MrgKernelIdeal.nD Cert.MrgKernelIdeal.τ).loc Cert.MrgKernelIdeal.main_arg2)
      ∧ m' ((c.tc : Thread Cert.MrgReferenceIdeal.nD Cert.MrgReferenceIdeal.τ).loc Cert.MrgReferenceIdeal.main_arg3) = m ((c.tc : Thread Cert.MrgKernelIdeal.nD Cert.MrgKernelIdeal.τ).loc Cert.MrgKernelIdeal.main_arg3)
      ∧ m' ((c.tc : Thread Cert.MrgReferenceIdeal.nD Cert.MrgReferenceIdeal.τ).loc Cert.MrgReferenceIdeal.main_arg4) = m ((c.tc : Thread Cert.MrgKernelIdeal.nD Cert.MrgKernelIdeal.τ).loc Cert.MrgKernelIdeal.main_arg4)) →
    ∃ (v0 : (c : Dev Cert.MrgKernelIdeal.nD) → Buf (Elt Ideal) ((c.tc : Thread Cert.MrgKernelIdeal.nD Cert.MrgKernelIdeal.τ).loc Cert.MrgKernelIdeal.main_v2)),
      θ_run (Cert.MrgKernelIdeal.defs (F := Ideal)) (onTc (τ := Cert.MrgKernelIdeal.τ) (Cert.MrgKernelIdeal.main (F := Ideal))) ⟨m, fun _ => 0, g⟩ (fun r => ∀ c : Dev Cert.MrgKernelIdeal.nD,
          r.2.mem ((c.tc : Thread Cert.MrgKernelIdeal.nD Cert.MrgKernelIdeal.τ).loc Cert.MrgKernelIdeal.main_v2) = v0 c
          ∧ r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
          ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
          ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
          ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
          ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4))
      ∧ θ_run (Cert.MrgReferenceIdeal.defs (F := Ideal)) (onTc (τ := Cert.MrgReferenceIdeal.τ) (Cert.MrgReferenceIdeal.main (F := Ideal))) ⟨m', fun _ => 0, g'⟩ (fun r => ∀ c : Dev Cert.MrgReferenceIdeal.nD,
          r.2.mem ((c.tc : Thread Cert.MrgReferenceIdeal.nD Cert.MrgReferenceIdeal.τ).loc Cert.MrgReferenceIdeal.main_v12) = v0 c
          ∧ r.2.mem ((c.tc : Thread Cert.MrgReferenceIdeal.nD Cert.MrgReferenceIdeal.τ).loc Cert.MrgReferenceIdeal.main_arg0) = m' ((c.tc : Thread Cert.MrgReferenceIdeal.nD Cert.MrgReferenceIdeal.τ).loc Cert.MrgReferenceIdeal.main_arg0)
          ∧ r.2.mem ((c.tc : Thread Cert.MrgReferenceIdeal.nD Cert.MrgReferenceIdeal.τ).loc Cert.MrgReferenceIdeal.main_arg1) = m' ((c.tc : Thread Cert.MrgReferenceIdeal.nD Cert.MrgReferenceIdeal.τ).loc Cert.MrgReferenceIdeal.main_arg1)
          ∧ r.2.mem ((c.tc : Thread Cert.MrgReferenceIdeal.nD Cert.MrgReferenceIdeal.τ).loc Cert.MrgReferenceIdeal.main_arg2) = m' ((c.tc : Thread Cert.MrgReferenceIdeal.nD Cert.MrgReferenceIdeal.τ).loc Cert.MrgReferenceIdeal.main_arg2)
          ∧ r.2.mem ((c.tc : Thread Cert.MrgReferenceIdeal.nD Cert.MrgReferenceIdeal.τ).loc Cert.MrgReferenceIdeal.main_arg3) = m' ((c.tc : Thread Cert.MrgReferenceIdeal.nD Cert.MrgReferenceIdeal.τ).loc Cert.MrgReferenceIdeal.main_arg3)
          ∧ r.2.mem ((c.tc : Thread Cert.MrgReferenceIdeal.nD Cert.MrgReferenceIdeal.τ).loc Cert.MrgReferenceIdeal.main_arg4) = m' ((c.tc : Thread Cert.MrgReferenceIdeal.nD Cert.MrgReferenceIdeal.τ).loc Cert.MrgReferenceIdeal.main_arg4))

def preserves_FinKernel_FinKernelIdeal : Prop :=
  True

def algebraic_FinKernelIdeal_FinReferenceIdeal [hFinKernelIdeal : Cert.FinKernelIdeal.Facts] [hFinReferenceIdeal : Cert.FinReferenceIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinKernelIdeal m →
    (∀ c : Dev Cert.FinKernelIdeal.nD,
      m' ((c.tc : Thread Cert.FinReferenceIdeal.nD Cert.FinReferenceIdeal.τ).loc Cert.FinReferenceIdeal.main_arg0) = m ((c.tc : Thread Cert.FinKernelIdeal.nD Cert.FinKernelIdeal.τ).loc Cert.FinKernelIdeal.main_arg0)
      ∧ m' ((c.tc : Thread Cert.FinReferenceIdeal.nD Cert.FinReferenceIdeal.τ).loc Cert.FinReferenceIdeal.main_arg1) = m ((c.tc : Thread Cert.FinKernelIdeal.nD Cert.FinKernelIdeal.τ).loc Cert.FinKernelIdeal.main_arg1)
      ∧ m' ((c.tc : Thread Cert.FinReferenceIdeal.nD Cert.FinReferenceIdeal.τ).loc Cert.FinReferenceIdeal.main_arg2) = m ((c.tc : Thread Cert.FinKernelIdeal.nD Cert.FinKernelIdeal.τ).loc Cert.FinKernelIdeal.main_arg2)) →
    ∃ (v0 : (c : Dev Cert.FinKernelIdeal.nD) → Buf (Elt Ideal) ((c.tc : Thread Cert.FinKernelIdeal.nD Cert.FinKernelIdeal.τ).loc Cert.FinKernelIdeal.main_v0)),
      θ_run (Cert.FinKernelIdeal.defs (F := Ideal)) (onTc (τ := Cert.FinKernelIdeal.τ) (Cert.FinKernelIdeal.main (F := Ideal))) ⟨m, fun _ => 0, g⟩ (fun r => ∀ c : Dev Cert.FinKernelIdeal.nD,
          r.2.mem ((c.tc : Thread Cert.FinKernelIdeal.nD Cert.FinKernelIdeal.τ).loc Cert.FinKernelIdeal.main_v0) = v0 c
          ∧ r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
          ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
          ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v6) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1)
          ∧ r.2.mem ((c.tc : Thread Cert.FinReferenceIdeal.nD Cert.FinReferenceIdeal.τ).loc Cert.FinReferenceIdeal.main_arg2) = m' ((c.tc : Thread Cert.FinReferenceIdeal.nD Cert.FinReferenceIdeal.τ).loc Cert.FinReferenceIdeal.main_arg2))

def preserves_FisKernel_FisKernelIdeal : Prop :=
  True

def algebraic_FisKernelIdeal_FisReferenceIdeal [hFisKernelIdeal : Cert.FisKernelIdeal.Facts] [hFisReferenceIdeal : Cert.FisReferenceIdeal.Facts] : Prop :=
  ∀ (m : (ℓ : Loc Cert.FisKernelIdeal.nD Cert.FisKernelIdeal.τ Cert.FisKernelIdeal.sig) → Buf (Elt Ideal) ℓ) (g : Dev Cert.FisKernelIdeal.nD → PrngReg)
    (m' : (ℓ : Loc Cert.FisReferenceIdeal.nD Cert.FisReferenceIdeal.τ Cert.FisReferenceIdeal.sig) → Buf (Elt Ideal) ℓ) (g' : Dev Cert.FisReferenceIdeal.nD → PrngReg), Pre_FisKernelIdeal m →
    (∀ c : Dev Cert.FisKernelIdeal.nD,
      m' ((c.tc : Thread Cert.FisReferenceIdeal.nD Cert.FisReferenceIdeal.τ).loc Cert.FisReferenceIdeal.main_arg0) = m ((c.tc : Thread Cert.FisKernelIdeal.nD Cert.FisKernelIdeal.τ).loc Cert.FisKernelIdeal.main_arg0)
      ∧ m' ((c.tc : Thread Cert.FisReferenceIdeal.nD Cert.FisReferenceIdeal.τ).loc Cert.FisReferenceIdeal.main_arg1) = m ((c.tc : Thread Cert.FisKernelIdeal.nD Cert.FisKernelIdeal.τ).loc Cert.FisKernelIdeal.main_arg1)
      ∧ m' ((c.tc : Thread Cert.FisReferenceIdeal.nD Cert.FisReferenceIdeal.τ).loc Cert.FisReferenceIdeal.main_arg2) = m ((c.tc : Thread Cert.FisKernelIdeal.nD Cert.FisKernelIdeal.τ).loc Cert.FisKernelIdeal.main_arg2)) →
    ∃ (v0 : (c : Dev Cert.FisKernelIdeal.nD) → Buf (Elt Ideal) ((c.tc : Thread Cert.FisKernelIdeal.nD Cert.FisKernelIdeal.τ).loc Cert.FisKernelIdeal.main_v0)),
      θ_run (Cert.FisKernelIdeal.defs (F := Ideal)) (onTc (τ := Cert.FisKernelIdeal.τ) (Cert.FisKernelIdeal.main (F := Ideal))) ⟨m, fun _ => 0, g⟩ (fun r => ∀ c : Dev Cert.FisKernelIdeal.nD,
          r.2.mem ((c.tc : Thread Cert.FisKernelIdeal.nD Cert.FisKernelIdeal.τ).loc Cert.FisKernelIdeal.main_v0) = v0 c
          ∧ r.2.mem ((c.tc : Thread Cert.FisKernelIdeal.nD Cert.FisKernelIdeal.τ).loc Cert.FisKernelIdeal.main_arg0) = m ((c.tc : Thread Cert.FisKernelIdeal.nD Cert.FisKernelIdeal.τ).loc Cert.FisKernelIdeal.main_arg0)
          ∧ r.2.mem ((c.tc : Thread Cert.FisKernelIdeal.nD Cert.FisKernelIdeal.τ).loc Cert.FisKernelIdeal.main_arg1) = m ((c.tc : Thread Cert.FisKernelIdeal.nD Cert.FisKernelIdeal.τ).loc Cert.FisKernelIdeal.main_arg1)
          ∧ r.2.mem ((c.tc : Thread Cert.FisKernelIdeal.nD Cert.FisKernelIdeal.τ).loc Cert.FisKernelIdeal.main_arg2) = m ((c.tc : Thread Cert.FisKernelIdeal.nD Cert.FisKernelIdeal.τ).loc Cert.FisKernelIdeal.main_arg2))
      ∧ θ_run (Cert.FisReferenceIdeal.defs (F := Ideal)) (onTc (τ := Cert.FisReferenceIdeal.τ) (Cert.FisReferenceIdeal.main (F := Ideal))) ⟨m', fun _ => 0, g'⟩ (fun r => ∀ c : Dev Cert.FisReferenceIdeal.nD,
          r.2.mem ((c.tc : Thread Cert.FisReferenceIdeal.nD Cert.FisReferenceIdeal.τ).loc Cert.FisReferenceIdeal.main_v6) = v0 c
          ∧ r.2.mem ((c.tc : Thread Cert.FisReferenceIdeal.nD Cert.FisReferenceIdeal.τ).loc Cert.FisReferenceIdeal.main_arg0) = m' ((c.tc : Thread Cert.FisReferenceIdeal.nD Cert.FisReferenceIdeal.τ).loc Cert.FisReferenceIdeal.main_arg0)
          ∧ r.2.mem ((c.tc : Thread Cert.FisReferenceIdeal.nD Cert.FisReferenceIdeal.τ).loc Cert.FisReferenceIdeal.main_arg1) = m' ((c.tc : Thread Cert.FisReferenceIdeal.nD Cert.FisReferenceIdeal.τ).loc Cert.FisReferenceIdeal.main_arg1)
          ∧ r.2.mem ((c.tc : Thread Cert.FisReferenceIdeal.nD Cert.FisReferenceIdeal.τ).loc Cert.FisReferenceIdeal.main_arg2) = m' ((c.tc : Thread Cert.FisReferenceIdeal.nD Cert.FisReferenceIdeal.τ).loc Cert.FisReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v2_0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_ScrKernel_ScrKernelIdeal : Prop :=
  True

def algebraic_ScrKernelIdeal_ScrReferenceIdeal [hScrKernelIdeal : Cert.ScrKernelIdeal.Facts] [hScrReferenceIdeal : Cert.ScrReferenceIdeal.Facts] : Prop :=
  ∀ (m : (ℓ : Loc Cert.ScrKernelIdeal.nD Cert.ScrKernelIdeal.τ Cert.ScrKernelIdeal.sig) → Buf (Elt Ideal) ℓ) (g : Dev Cert.ScrKernelIdeal.nD → PrngReg)
    (m' : (ℓ : Loc Cert.ScrReferenceIdeal.nD Cert.ScrReferenceIdeal.τ Cert.ScrReferenceIdeal.sig) → Buf (Elt Ideal) ℓ) (g' : Dev Cert.ScrReferenceIdeal.nD → PrngReg), Pre_ScrKernelIdeal m →
    (∀ c : Dev Cert.ScrKernelIdeal.nD,
      m' ((c.tc : Thread Cert.ScrReferenceIdeal.nD Cert.ScrReferenceIdeal.τ).loc Cert.ScrReferenceIdeal.main_arg0) = m ((c.tc : Thread Cert.ScrKernelIdeal.nD Cert.ScrKernelIdeal.τ).loc Cert.ScrKernelIdeal.main_arg0)
      ∧ m' ((c.tc : Thread Cert.ScrReferenceIdeal.nD Cert.ScrReferenceIdeal.τ).loc Cert.ScrReferenceIdeal.main_arg1) = m ((c.tc : Thread Cert.ScrKernelIdeal.nD Cert.ScrKernelIdeal.τ).loc Cert.ScrKernelIdeal.main_arg1)
      ∧ m' ((c.tc : Thread Cert.ScrReferenceIdeal.nD Cert.ScrReferenceIdeal.τ).loc Cert.ScrReferenceIdeal.main_arg2) = m ((c.tc : Thread Cert.ScrKernelIdeal.nD Cert.ScrKernelIdeal.τ).loc Cert.ScrKernelIdeal.main_arg2)
      ∧ m' ((c.tc : Thread Cert.ScrReferenceIdeal.nD Cert.ScrReferenceIdeal.τ).loc Cert.ScrReferenceIdeal.main_arg3) = m ((c.tc : Thread Cert.ScrKernelIdeal.nD Cert.ScrKernelIdeal.τ).loc Cert.ScrKernelIdeal.main_arg3)) →
    ∃ (v0 : (c : Dev Cert.ScrKernelIdeal.nD) → Buf (Elt Ideal) ((c.tc : Thread Cert.ScrKernelIdeal.nD Cert.ScrKernelIdeal.τ).loc Cert.ScrKernelIdeal.main_v3_0)) (v1 : (c : Dev Cert.ScrKernelIdeal.nD) → Buf (Elt Ideal) ((c.tc : Thread Cert.ScrKernelIdeal.nD Cert.ScrKernelIdeal.τ).loc Cert.ScrKernelIdeal.main_v3_1)),
      θ_run (Cert.ScrKernelIdeal.defs (F := Ideal)) (onTc (τ := Cert.ScrKernelIdeal.τ) (Cert.ScrKernelIdeal.main (F := Ideal))) ⟨m, fun _ => 0, g⟩ (fun r => ∀ c : Dev Cert.ScrKernelIdeal.nD,
          r.2.mem ((c.tc : Thread Cert.ScrKernelIdeal.nD Cert.ScrKernelIdeal.τ).loc Cert.ScrKernelIdeal.main_v3_0) = v0 c
          ∧ r.2.mem ((c.tc : Thread Cert.ScrKernelIdeal.nD Cert.ScrKernelIdeal.τ).loc Cert.ScrKernelIdeal.main_v3_1) = v1 c
          ∧ r.2.mem ((c.tc : Thread Cert.ScrKernelIdeal.nD Cert.ScrKernelIdeal.τ).loc Cert.ScrKernelIdeal.main_arg0) = m ((c.tc : Thread Cert.ScrKernelIdeal.nD Cert.ScrKernelIdeal.τ).loc Cert.ScrKernelIdeal.main_arg0)
          ∧ r.2.mem ((c.tc : Thread Cert.ScrKernelIdeal.nD Cert.ScrKernelIdeal.τ).loc Cert.ScrKernelIdeal.main_arg1) = m ((c.tc : Thread Cert.ScrKernelIdeal.nD Cert.ScrKernelIdeal.τ).loc Cert.ScrKernelIdeal.main_arg1)
          ∧ r.2.mem ((c.tc : Thread Cert.ScrKernelIdeal.nD Cert.ScrKernelIdeal.τ).loc Cert.ScrKernelIdeal.main_arg2) = m ((c.tc : Thread Cert.ScrKernelIdeal.nD Cert.ScrKernelIdeal.τ).loc Cert.ScrKernelIdeal.main_arg2)
          ∧ r.2.mem ((c.tc : Thread Cert.ScrKernelIdeal.nD Cert.ScrKernelIdeal.τ).loc Cert.ScrKernelIdeal.main_arg3) = m ((c.tc : Thread Cert.ScrKernelIdeal.nD Cert.ScrKernelIdeal.τ).loc Cert.ScrKernelIdeal.main_arg3))
      ∧ θ_run (Cert.ScrReferenceIdeal.defs (F := Ideal)) (onTc (τ := Cert.ScrReferenceIdeal.τ) (Cert.ScrReferenceIdeal.main (F := Ideal))) ⟨m', fun _ => 0, g'⟩ (fun r => ∀ c : Dev Cert.ScrReferenceIdeal.nD,
          r.2.mem ((c.tc : Thread Cert.ScrReferenceIdeal.nD Cert.ScrReferenceIdeal.τ).loc Cert.ScrReferenceIdeal.main_v9) = v0 c
          ∧ r.2.mem ((c.tc : Thread Cert.ScrReferenceIdeal.nD Cert.ScrReferenceIdeal.τ).loc Cert.ScrReferenceIdeal.main_v10) = v1 c
          ∧ r.2.mem ((c.tc : Thread Cert.ScrReferenceIdeal.nD Cert.ScrReferenceIdeal.τ).loc Cert.ScrReferenceIdeal.main_arg0) = m' ((c.tc : Thread Cert.ScrReferenceIdeal.nD Cert.ScrReferenceIdeal.τ).loc Cert.ScrReferenceIdeal.main_arg0)
          ∧ r.2.mem ((c.tc : Thread Cert.ScrReferenceIdeal.nD Cert.ScrReferenceIdeal.τ).loc Cert.ScrReferenceIdeal.main_arg1) = m' ((c.tc : Thread Cert.ScrReferenceIdeal.nD Cert.ScrReferenceIdeal.τ).loc Cert.ScrReferenceIdeal.main_arg1)
          ∧ r.2.mem ((c.tc : Thread Cert.ScrReferenceIdeal.nD Cert.ScrReferenceIdeal.τ).loc Cert.ScrReferenceIdeal.main_arg2) = m' ((c.tc : Thread Cert.ScrReferenceIdeal.nD Cert.ScrReferenceIdeal.τ).loc Cert.ScrReferenceIdeal.main_arg2)
          ∧ r.2.mem ((c.tc : Thread Cert.ScrReferenceIdeal.nD Cert.ScrReferenceIdeal.τ).loc Cert.ScrReferenceIdeal.main_arg3) = m' ((c.tc : Thread Cert.ScrReferenceIdeal.nD Cert.ScrReferenceIdeal.τ).loc Cert.ScrReferenceIdeal.main_arg3))

def preserves_MxsKernel_MxsKernelIdeal : Prop :=
  True

def algebraic_MxsKernelIdeal_MxsReferenceIdeal [hMxsKernelIdeal : Cert.MxsKernelIdeal.Facts] [hMxsReferenceIdeal : Cert.MxsReferenceIdeal.Facts] : Prop :=
  ∀ (m : (ℓ : Loc Cert.MxsKernelIdeal.nD Cert.MxsKernelIdeal.τ Cert.MxsKernelIdeal.sig) → Buf (Elt Ideal) ℓ) (g : Dev Cert.MxsKernelIdeal.nD → PrngReg)
    (m' : (ℓ : Loc Cert.MxsReferenceIdeal.nD Cert.MxsReferenceIdeal.τ Cert.MxsReferenceIdeal.sig) → Buf (Elt Ideal) ℓ) (g' : Dev Cert.MxsReferenceIdeal.nD → PrngReg), Pre_MxsKernelIdeal m →
    (∀ c : Dev Cert.MxsKernelIdeal.nD,
      m' ((c.tc : Thread Cert.MxsReferenceIdeal.nD Cert.MxsReferenceIdeal.τ).loc Cert.MxsReferenceIdeal.main_arg0) = m ((c.tc : Thread Cert.MxsKernelIdeal.nD Cert.MxsKernelIdeal.τ).loc Cert.MxsKernelIdeal.main_arg0)
      ∧ m' ((c.tc : Thread Cert.MxsReferenceIdeal.nD Cert.MxsReferenceIdeal.τ).loc Cert.MxsReferenceIdeal.main_arg1) = m ((c.tc : Thread Cert.MxsKernelIdeal.nD Cert.MxsKernelIdeal.τ).loc Cert.MxsKernelIdeal.main_arg1)
      ∧ m' ((c.tc : Thread Cert.MxsReferenceIdeal.nD Cert.MxsReferenceIdeal.τ).loc Cert.MxsReferenceIdeal.main_arg2) = m ((c.tc : Thread Cert.MxsKernelIdeal.nD Cert.MxsKernelIdeal.τ).loc Cert.MxsKernelIdeal.main_arg2)
      ∧ m' ((c.tc : Thread Cert.MxsReferenceIdeal.nD Cert.MxsReferenceIdeal.τ).loc Cert.MxsReferenceIdeal.main_arg3) = m ((c.tc : Thread Cert.MxsKernelIdeal.nD Cert.MxsKernelIdeal.τ).loc Cert.MxsKernelIdeal.main_arg3)
      ∧ m' ((c.tc : Thread Cert.MxsReferenceIdeal.nD Cert.MxsReferenceIdeal.τ).loc Cert.MxsReferenceIdeal.main_arg4) = m ((c.tc : Thread Cert.MxsKernelIdeal.nD Cert.MxsKernelIdeal.τ).loc Cert.MxsKernelIdeal.main_arg4)) →
    ∃ (v0 : (c : Dev Cert.MxsKernelIdeal.nD) → Buf (Elt Ideal) ((c.tc : Thread Cert.MxsKernelIdeal.nD Cert.MxsKernelIdeal.τ).loc Cert.MxsKernelIdeal.main_v20_1)),
      θ_run (Cert.MxsKernelIdeal.defs (F := Ideal)) (onTc (τ := Cert.MxsKernelIdeal.τ) (Cert.MxsKernelIdeal.main (F := Ideal))) ⟨m, fun _ => 0, g⟩ (fun r => ∀ c : Dev Cert.MxsKernelIdeal.nD,
          r.2.mem ((c.tc : Thread Cert.MxsKernelIdeal.nD Cert.MxsKernelIdeal.τ).loc Cert.MxsKernelIdeal.main_v20_1) = v0 c
          ∧ r.2.mem ((c.tc : Thread Cert.MxsKernelIdeal.nD Cert.MxsKernelIdeal.τ).loc Cert.MxsKernelIdeal.main_arg0) = m ((c.tc : Thread Cert.MxsKernelIdeal.nD Cert.MxsKernelIdeal.τ).loc Cert.MxsKernelIdeal.main_arg0)
          ∧ r.2.mem ((c.tc : Thread Cert.MxsKernelIdeal.nD Cert.MxsKernelIdeal.τ).loc Cert.MxsKernelIdeal.main_arg1) = m ((c.tc : Thread Cert.MxsKernelIdeal.nD Cert.MxsKernelIdeal.τ).loc Cert.MxsKernelIdeal.main_arg1)
          ∧ r.2.mem ((c.tc : Thread Cert.MxsKernelIdeal.nD Cert.MxsKernelIdeal.τ).loc Cert.MxsKernelIdeal.main_arg2) = m ((c.tc : Thread Cert.MxsKernelIdeal.nD Cert.MxsKernelIdeal.τ).loc Cert.MxsKernelIdeal.main_arg2)
          ∧ r.2.mem ((c.tc : Thread Cert.MxsKernelIdeal.nD Cert.MxsKernelIdeal.τ).loc Cert.MxsKernelIdeal.main_arg3) = m ((c.tc : Thread Cert.MxsKernelIdeal.nD Cert.MxsKernelIdeal.τ).loc Cert.MxsKernelIdeal.main_arg3)
          ∧ r.2.mem ((c.tc : Thread Cert.MxsKernelIdeal.nD Cert.MxsKernelIdeal.τ).loc Cert.MxsKernelIdeal.main_arg4) = m ((c.tc : Thread Cert.MxsKernelIdeal.nD Cert.MxsKernelIdeal.τ).loc Cert.MxsKernelIdeal.main_arg4))
      ∧ θ_run (Cert.MxsReferenceIdeal.defs (F := Ideal)) (onTc (τ := Cert.MxsReferenceIdeal.τ) (Cert.MxsReferenceIdeal.main (F := Ideal))) ⟨m', fun _ => 0, g'⟩ (fun r => ∀ c : Dev Cert.MxsReferenceIdeal.nD,
          r.2.mem ((c.tc : Thread Cert.MxsReferenceIdeal.nD Cert.MxsReferenceIdeal.τ).loc Cert.MxsReferenceIdeal.main_v27) = v0 c
          ∧ r.2.mem ((c.tc : Thread Cert.MxsReferenceIdeal.nD Cert.MxsReferenceIdeal.τ).loc Cert.MxsReferenceIdeal.main_arg0) = m' ((c.tc : Thread Cert.MxsReferenceIdeal.nD Cert.MxsReferenceIdeal.τ).loc Cert.MxsReferenceIdeal.main_arg0)
          ∧ r.2.mem ((c.tc : Thread Cert.MxsReferenceIdeal.nD Cert.MxsReferenceIdeal.τ).loc Cert.MxsReferenceIdeal.main_arg1) = m' ((c.tc : Thread Cert.MxsReferenceIdeal.nD Cert.MxsReferenceIdeal.τ).loc Cert.MxsReferenceIdeal.main_arg1)
          ∧ r.2.mem ((c.tc : Thread Cert.MxsReferenceIdeal.nD Cert.MxsReferenceIdeal.τ).loc Cert.MxsReferenceIdeal.main_arg2) = m' ((c.tc : Thread Cert.MxsReferenceIdeal.nD Cert.MxsReferenceIdeal.τ).loc Cert.MxsReferenceIdeal.main_arg2)
          ∧ r.2.mem ((c.tc : Thread Cert.MxsReferenceIdeal.nD Cert.MxsReferenceIdeal.τ).loc Cert.MxsReferenceIdeal.main_arg3) = m' ((c.tc : Thread Cert.MxsReferenceIdeal.nD Cert.MxsReferenceIdeal.τ).loc Cert.MxsReferenceIdeal.main_arg3)
          ∧ r.2.mem ((c.tc : Thread Cert.MxsReferenceIdeal.nD Cert.MxsReferenceIdeal.τ).loc Cert.MxsReferenceIdeal.main_arg4) = m' ((c.tc : Thread Cert.MxsReferenceIdeal.nD Cert.MxsReferenceIdeal.τ).loc Cert.MxsReferenceIdeal.main_arg4))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v1)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v1) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v10) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hSmpKernel : Cert.SmpKernel.Facts) (hSmpKernelIdeal : Cert.SmpKernelIdeal.Facts) (hSmpReferenceIdeal : Cert.SmpReferenceIdeal.Facts) (hMixKernel : Cert.MixKernel.Facts) (hMixKernelIdeal : Cert.MixKernelIdeal.Facts) (hMixReferenceIdeal : Cert.MixReferenceIdeal.Facts) (hMrgKernel : Cert.MrgKernel.Facts) (hMrgKernelIdeal : Cert.MrgKernelIdeal.Facts) (hMrgReferenceIdeal : Cert.MrgReferenceIdeal.Facts) (hFinKernel : Cert.FinKernel.Facts) (hFinKernelIdeal : Cert.FinKernelIdeal.Facts) (hFinReferenceIdeal : Cert.FinReferenceIdeal.Facts) (hFisKernel : Cert.FisKernel.Facts) (hFisKernelIdeal : Cert.FisKernelIdeal.Facts) (hFisReferenceIdeal : Cert.FisReferenceIdeal.Facts) (hOutKernel : Cert.OutKernel.Facts) (hOutKernelIdeal : Cert.OutKernelIdeal.Facts) (hOutReferenceIdeal : Cert.OutReferenceIdeal.Facts) (hScrKernel : Cert.ScrKernel.Facts) (hScrKernelIdeal : Cert.ScrKernelIdeal.Facts) (hScrReferenceIdeal : Cert.ScrReferenceIdeal.Facts) (hMxsKernel : Cert.MxsKernel.Facts) (hMxsKernelIdeal : Cert.MxsKernelIdeal.Facts) (hMxsReferenceIdeal : Cert.MxsReferenceIdeal.Facts) (hAdaKernel : Cert.AdaKernel.Facts) (hAdaKernelIdeal : Cert.AdaKernelIdeal.Facts) (hAdaReferenceIdeal : Cert.AdaReferenceIdeal.Facts) (hPre_win_pre : Cert.Pre_win_pre.Facts),
    quiescent_Kernel (hKernel := hKernel)
    ∧ quiescent_KernelIdeal (hKernelIdeal := hKernelIdeal)
    ∧ quiescent_KernelIdeal_pre_win_pre (hKernelIdeal := hKernelIdeal) (hPre_win_pre := hPre_win_pre)
    ∧ quiescent_ReferenceIdeal (hReferenceIdeal := hReferenceIdeal)
    ∧ quiescent_ReferenceIdeal_pre_win_pre (hReferenceIdeal := hReferenceIdeal) (hPre_win_pre := hPre_win_pre)
    ∧ quiescent_InKernel (hInKernel := hInKernel)
    ∧ quiescent_InKernelIdeal (hInKernelIdeal := hInKernelIdeal)
    ∧ quiescent_InReferenceIdeal (hInReferenceIdeal := hInReferenceIdeal)
    ∧ quiescent_SmpKernel (hSmpKernel := hSmpKernel)
    ∧ quiescent_SmpKernelIdeal (hSmpKernelIdeal := hSmpKernelIdeal)
    ∧ quiescent_SmpReferenceIdeal (hSmpReferenceIdeal := hSmpReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_MrgKernel (hMrgKernel := hMrgKernel)
    ∧ quiescent_MrgKernelIdeal (hMrgKernelIdeal := hMrgKernelIdeal)
    ∧ quiescent_MrgReferenceIdeal (hMrgReferenceIdeal := hMrgReferenceIdeal)
    ∧ quiescent_FinKernel (hFinKernel := hFinKernel)
    ∧ quiescent_FinKernelIdeal (hFinKernelIdeal := hFinKernelIdeal)
    ∧ quiescent_FinReferenceIdeal (hFinReferenceIdeal := hFinReferenceIdeal)
    ∧ quiescent_FisKernel (hFisKernel := hFisKernel)
    ∧ quiescent_FisKernelIdeal (hFisKernelIdeal := hFisKernelIdeal)
    ∧ quiescent_FisReferenceIdeal (hFisReferenceIdeal := hFisReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ScrKernel (hScrKernel := hScrKernel)
    ∧ quiescent_ScrKernelIdeal (hScrKernelIdeal := hScrKernelIdeal)
    ∧ quiescent_ScrReferenceIdeal (hScrReferenceIdeal := hScrReferenceIdeal)
    ∧ quiescent_MxsKernel (hMxsKernel := hMxsKernel)
    ∧ quiescent_MxsKernelIdeal (hMxsKernelIdeal := hMxsKernelIdeal)
    ∧ quiescent_MxsReferenceIdeal (hMxsReferenceIdeal := hMxsReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ preserves_Kernel_KernelIdeal
    ∧ algebraic_KernelIdeal_ReferenceIdeal_pre_win_pre (hKernelIdeal := hKernelIdeal) (hReferenceIdeal := hReferenceIdeal) (hPre_win_pre := hPre_win_pre)
    ∧ preserves_InKernel_InKernelIdeal
    ∧ algebraic_InKernelIdeal_InReferenceIdeal (hInKernelIdeal := hInKernelIdeal) (hInReferenceIdeal := hInReferenceIdeal)
    ∧ preserves_SmpKernel_SmpKernelIdeal
    ∧ algebraic_SmpKernelIdeal_SmpReferenceIdeal (hSmpKernelIdeal := hSmpKernelIdeal) (hSmpReferenceIdeal := hSmpReferenceIdeal)
    ∧ preserves_MixKernel_MixKernelIdeal
    ∧ algebraic_MixKernelIdeal_MixReferenceIdeal (hMixKernelIdeal := hMixKernelIdeal) (hMixReferenceIdeal := hMixReferenceIdeal)
    ∧ preserves_MrgKernel_MrgKernelIdeal
    ∧ algebraic_MrgKernelIdeal_MrgReferenceIdeal (hMrgKernelIdeal := hMrgKernelIdeal) (hMrgReferenceIdeal := hMrgReferenceIdeal)
    ∧ preserves_FinKernel_FinKernelIdeal
    ∧ algebraic_FinKernelIdeal_FinReferenceIdeal (hFinKernelIdeal := hFinKernelIdeal) (hFinReferenceIdeal := hFinReferenceIdeal)
    ∧ preserves_FisKernel_FisKernelIdeal
    ∧ algebraic_FisKernelIdeal_FisReferenceIdeal (hFisKernelIdeal := hFisKernelIdeal) (hFisReferenceIdeal := hFisReferenceIdeal)
    ∧ preserves_OutKernel_OutKernelIdeal
    ∧ algebraic_OutKernelIdeal_OutReferenceIdeal (hOutKernelIdeal := hOutKernelIdeal) (hOutReferenceIdeal := hOutReferenceIdeal)
    ∧ preserves_ScrKernel_ScrKernelIdeal
    ∧ algebraic_ScrKernelIdeal_ScrReferenceIdeal (hScrKernelIdeal := hScrKernelIdeal) (hScrReferenceIdeal := hScrReferenceIdeal)
    ∧ preserves_MxsKernel_MxsKernelIdeal
    ∧ algebraic_MxsKernelIdeal_MxsReferenceIdeal (hMxsKernelIdeal := hMxsKernelIdeal) (hMxsReferenceIdeal := hMxsReferenceIdeal)
    ∧ preserves_AdaKernel_AdaKernelIdeal
    ∧ algebraic_AdaKernelIdeal_AdaReferenceIdeal (hAdaKernelIdeal := hAdaKernelIdeal) (hAdaReferenceIdeal := hAdaReferenceIdeal)
-- ==== Pre_win_pre.lean ====
abbrev S32x16 : Shape := ⟨2, ![32, 16]⟩
abbrev S23x8192x512 : Shape := ⟨3, ![23, 8192, 512]⟩
abbrev S4x2x1024x256 : Shape := ⟨4, ![4, 2, 1024, 256]⟩
abbrev S8192x2048 : Shape := ⟨2, ![8192, 2048]⟩
abbrev S2 : Shape := ⟨1, ![2]⟩
abbrev S2x1x1 : Shape := ⟨3, ![2, 1, 1]⟩
abbrev S_ : Shape := ⟨0, ![]⟩
abbrev S256 : Shape := ⟨1, ![256]⟩
abbrev S1x256x1 : Shape := ⟨3, ![1, 256, 1]⟩
abbrev S2x256x1 : Shape := ⟨3, ![2, 256, 1]⟩
abbrev S1x1x256 : Shape := ⟨3, ![1, 1, 256]⟩
abbrev S2x256x256 : Shape := ⟨3, ![2, 256, 256]⟩
abbrev S2x256x256x1 : Shape := ⟨4, ![2, 256, 256, 1]⟩
abbrev S2x256x256x16 : Shape := ⟨4, ![2, 256, 256, 16]⟩
abbrev S1x16 : Shape := ⟨2, ![1, 16]⟩
abbrev S16 : Shape := ⟨1, ![16]⟩
abbrev S1x1x1x16 : Shape := ⟨4, ![1, 1, 1, 16]⟩
abbrev S2x256x256x4x4 : Shape := ⟨5, ![2, 256, 256, 4, 4]⟩
abbrev S4x2x4x256x256 : Shape := ⟨5, ![4, 2, 4, 256, 256]⟩
abbrev S1x2x1x256x256 : Shape := ⟨5, ![1, 2, 1, 256, 256]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S256_S1x256x1_1 : S256.BroadcastsInDim S1x256x1 (![1] : Fin 1 → Fin S1x256x1.rank)
  bcast_S2x1x1_S2x256x1_0_1_2 : S2x1x1.BroadcastsInDim S2x256x1 (![0, 1, 2] : Fin 3 → Fin S2x256x1.rank)
  bcast_S1x256x1_S2x256x1_0_1_2 : S1x256x1.BroadcastsInDim S2x256x1 (![0, 1, 2] : Fin 3 → Fin S2x256x1.rank)
  bcast_S256_S1x1x256_2 : S256.BroadcastsInDim S1x1x256 (![2] : Fin 1 → Fin S1x1x256.rank)
  bcast_S2x256x1_S2x256x256_0_1_2 : S2x256x1.BroadcastsInDim S2x256x256 (![0, 1, 2] : Fin 3 → Fin S2x256x256.rank)
  bcast_S1x1x256_S2x256x256_0_1_2 : S1x1x256.BroadcastsInDim S2x256x256 (![0, 1, 2] : Fin 3 → Fin S2x256x256.rank)
  bcast_S_S2x256x256 : S_.BroadcastsInDim S2x256x256 (![] : Fin 0 → Fin S2x256x256.rank)
  bcast_S2x256x256_S2x256x256x1_0_1_2 : S2x256x256.BroadcastsInDim S2x256x256x1 (![0, 1, 2] : Fin 3 → Fin S2x256x256x1.rank)
  slices_S32x16_S1x16_31_0 : S32x16.Slices ![31, 0] S1x16
  shapeCasts_S1x16_S16 : S1x16.ShapeCasts S16
  bcast_S16_S1x1x1x16_3 : S16.BroadcastsInDim S1x1x1x16 (![3] : Fin 1 → Fin S1x1x1x16.rank)
  bcast_S1x1x1x16_S2x256x256x16_0_1_2_3 : S1x1x1x16.BroadcastsInDim S2x256x256x16 (![0, 1, 2, 3] : Fin 4 → Fin S2x256x256x16.rank)
  shapeCasts_S2x256x256x16_S2x256x256x4x4 : S2x256x256x16.ShapeCasts S2x256x256x4x4
  transposes_S2x256x256x4x4_S4x2x4x256x256_3_0_4_1_2 : S2x256x256x4x4.Transposes [3, 0, 4, 1, 2] S4x2x4x256x256
  shapeCasts_S4x2x4x256x256_S4x2x1024x256 : S4x2x4x256x256.ShapeCasts S4x2x1024x256
  bcast_S2x256x256_S1x2x1x256x256_1_3_4 : S2x256x256.BroadcastsInDim S1x2x1x256x256 (![1, 3, 4] : Fin 3 → Fin S1x2x1x256x256.rank)
  bcast_S1x2x1x256x256_S4x2x4x256x256_0_1_2_3_4 : S1x2x1x256x256.BroadcastsInDim S4x2x4x256x256 (![0, 1, 2, 3, 4] : Fin 5 → Fin S4x2x4x256x256.rank)
  bcast_S_S16 : S_.BroadcastsInDim S16 (![] : Fin 0 → Fin S16.rank)
  gather_S32x16_S2x256x256x1_S2x256x256x16_3_0_n_n_0_3_116_wf : GatherDims.WF S32x16 S2x256x256x1 S2x256x256x16 [3] [0] [] [0] [] 3 ![1, 16]

variable [Facts]

def gather_S32x16_S2x256x256x1_S2x256x256x16_3_0_n_n_0_3_116 : GatherDims S32x16 S2x256x256x1 S2x256x256x16 where
  offsetDims := [3]
  collapsedSliceDims := [0]
  operandBatchingDims := []
  startIndicesBatchingDims := []
  startIndexMap := [0]
  indexVectorDim := 3
  sliceSizes := ![1, 16]
  wf := gather_S32x16_S2x256x256x1_S2x256x256x16_3_0_n_n_0_3_116_wf
def fn_where {F : FTy → Type} [FloatOps F] (arg0 : IVec S2x256x256 1) (arg1 : IVec S2x256x256 32) (arg2 : IVec S2x256x256 32) : IVec S2x256x256 32 :=
  let v0 : IVec S2x256x256 32 := select arg0 arg1 arg2
  v0

def fn_part3 {F : FTy → Type} [FloatOps F] (main_v55 : IVec S4x2x1024x256 1) (main_v58 : FVec F S16 .f32) (main_cst_10 : FVec F S_ .f32) : IVec S4x2x1024x256 1 × IVec S16 1 :=
  let main_v59 : FVec F S16 .f32 := broadcastInDim S16 ![] bcast_S_S16 main_cst_10
  let main_v60 : IVec S16 1 := cmpf .olt main_v58 main_v59
  (main_v55, main_v60)

def fn_part2 {F : FTy → Type} [FloatOps F] (main_arg0 : FVec F S32x16 .f32) (main_arg2 : FVec F S4x2x1024x256 .f32) (main_v13 : IVec S2x256x256 32) (main_v33 : IVec S2x256x256 32) (main_v35 : IVec S2x256x256 1) (main_v36 : IVec S2x256x256 32) : IVec S4x2x1024x256 1 × IVec S16 1 :=
  let main_v37 : IVec S2x256x256 32 := addi main_v33 main_v36
  let main_v38 : IVec S2x256x256 32 := select main_v35 main_v37 main_v33
  let main_v39 : IVec S2x256x256x1 32 := broadcastInDim S2x256x256x1 ![0, 1, 2] bcast_S2x256x256_S2x256x256x1_0_1_2 main_v38
  let main_v40 : FVec F S2x256x256x16 .f32 := (fun x i => Host.gather gather_S32x16_S2x256x256x1_S2x256x256x16_3_0_n_n_0_3_116 x i) main_arg0 main_v39
  let main_v41 : FVec F S1x16 .f32 := (extractStridedSlice S1x16 ![31, 0] · slices_S32x16_S1x16_31_0) main_arg0
  let main_v42 : FVec F S16 .f32 := shapeCast S16 main_v41 shapeCasts_S1x16_S16
  let main_v43 : FVec F S1x1x1x16 .f32 := broadcastInDim S1x1x1x16 ![3] bcast_S16_S1x1x1x16_3 main_v42
  let main_v44 : FVec F S2x256x256x16 .f32 := broadcastInDim S2x256x256x16 ![0, 1, 2, 3] bcast_S1x1x1x16_S2x256x256x16_0_1_2_3 main_v43
  let main_v45 : FVec F S2x256x256x16 .f32 := subf main_v40 main_v44
  let main_v46 : FVec F S2x256x256x4x4 .f32 := shapeCast S2x256x256x4x4 main_v45 shapeCasts_S2x256x256x16_S2x256x256x4x4
  let main_v47 : FVec F S4x2x4x256x256 .f32 := (transpose S4x2x4x256x256 [3, 0, 4, 1, 2] · transposes_S2x256x256x4x4_S4x2x4x256x256_3_0_4_1_2) main_v46
  let main_v48 : FVec F S4x2x1024x256 .f32 := shapeCast S4x2x1024x256 main_v47 shapeCasts_S4x2x4x256x256_S4x2x1024x256
  let main_c_9 : IVec S_ 32 := constantI S_ 32 0#32
  let main_v49 : IVec S2x256x256 32 := broadcastInDim S2x256x256 ![] bcast_S_S2x256x256 main_c_9
  let main_v50 : IVec S2x256x256 1 := cmpi .slt main_v13 main_v49
  let main_v51 : IVec S1x2x1x256x256 1 := broadcastInDim S1x2x1x256x256 ![1, 3, 4] bcast_S2x256x256_S1x2x1x256x256_1_3_4 main_v50
  let main_v52 : IVec S4x2x4x256x256 1 := broadcastInDim S4x2x4x256x256 ![0, 1, 2, 3, 4] bcast_S1x2x1x256x256_S4x2x4x256x256_0_1_2_3_4 main_v51
  let main_v53 : IVec S4x2x1024x256 1 := shapeCast S4x2x1024x256 main_v52 shapeCasts_S4x2x4x256x256_S4x2x1024x256
  let main_v54 : IVec S4x2x1024x256 1 := cmpf .oeq main_arg2 main_v48
  let main_v55 : IVec S4x2x1024x256 1 := ori main_v54 main_v53
  let main_v56 : FVec F S1x16 .f32 := (extractStridedSlice S1x16 ![31, 0] · slices_S32x16_S1x16_31_0) main_arg0
  let main_v57 : FVec F S16 .f32 := shapeCast S16 main_v56 shapeCasts_S1x16_S16
  let main_v58 : FVec F S16 .f32 := Host.absf main_v57
  let main_cst_10 : FVec F S_ .f32 := constant S_ .f32 0x7F800000#32
  fn_part3 (F := F) main_v55 main_v58 main_cst_10

def fn_part1 {F : FTy → Type} [FloatOps F] (main_arg0 : FVec F S32x16 .f32) (main_arg2 : FVec F S4x2x1024x256 .f32) (main_v13 : IVec S2x256x256 32) (main_v15 : IVec S2x256x256 32) (main_v18 : FVec F S2x256x256 .f32) (main_v19 : FVec F S2x256x256 .f32) : IVec S4x2x1024x256 1 × IVec S16 1 :=
  let main_v20 : FVec F S2x256x256 .f32 := Host.divf main_v18 main_v19
  let main_v21 : FVec F S2x256x256 .f32 := Host.log main_v20
  let main_cst_2 : FVec F S_ .f32 := constant S_ .f32 0x40051592#32
  let main_v22 : FVec F S2x256x256 .f32 := broadcastInDim S2x256x256 ![] bcast_S_S2x256x256 main_cst_2
  let main_v23 : FVec F S2x256x256 .f32 := Host.divf main_v21 main_v22
  let main_cst_3 : FVec F S_ .f32 := constant S_ .f32 0x41800000#32
  let main_v24 : FVec F S2x256x256 .f32 := broadcastInDim S2x256x256 ![] bcast_S_S2x256x256 main_cst_3
  let main_v25 : FVec F S2x256x256 .f32 := mulf main_v23 main_v24
  let main_v26 : IVec S2x256x256 32 := fptosi 32 main_v25
  let main_c_4 : IVec S_ 32 := constantI S_ 32 16#32
  let main_v27 : IVec S2x256x256 32 := broadcastInDim S2x256x256 ![] bcast_S_S2x256x256 main_c_4
  let main_v28 : IVec S2x256x256 32 := addi main_v27 main_v26
  let main_c_5 : IVec S_ 32 := constantI S_ 32 31#32
  let main_v29 : IVec S2x256x256 32 := broadcastInDim S2x256x256 ![] bcast_S_S2x256x256 main_c_5
  let main_v30 : IVec S2x256x256 32 := minsi main_v28 main_v29
  let main_c_6 : IVec S_ 32 := constantI S_ 32 16#32
  let main_v31 : IVec S2x256x256 32 := broadcastInDim S2x256x256 ![] bcast_S_S2x256x256 main_c_6
  let main_v32 : IVec S2x256x256 1 := cmpi .slt main_v15 main_v31
  let main_v33 : IVec S2x256x256 32 := fn_where (F := F) main_v32 main_v15 main_v30
  let main_c_7 : IVec S_ 32 := constantI S_ 32 0#32
  let main_v34 : IVec S2x256x256 32 := broadcastInDim S2x256x256 ![] bcast_S_S2x256x256 main_c_7
  let main_v35 : IVec S2x256x256 1 := cmpi .slt main_v33 main_v34
  let main_c_8 : IVec S_ 32 := constantI S_ 32 32#32
  let main_v36 : IVec S2x256x256 32 := broadcastInDim S2x256x256 ![] bcast_S_S2x256x256 main_c_8
  fn_part2 (F := F) main_arg0 main_arg2 main_v13 main_v33 main_v35 main_v36

def fn {F : FTy → Type} [FloatOps F] (main_arg0 : FVec F S32x16 .f32) (main_arg1 : FVec F S23x8192x512 .f32) (main_arg2 : FVec F S4x2x1024x256 .f32) (main_arg3 : FVec F S8192x2048 .f32) : IVec S4x2x1024x256 1 × IVec S16 1 :=
  let main_v0 : IVec S2 32 := iotaInDim S2 32 0
  let main_v1 : IVec S2x1x1 32 := broadcastInDim S2x1x1 ![0] bcast_S2_S2x1x1_0 main_v0
  let main_c : IVec S_ 32 := constantI S_ 32 256#32
  let main_v2 : IVec S2x1x1 32 := broadcastInDim S2x1x1 ![] bcast_S_S2x1x1 main_c
  let main_v3 : IVec S2x1x1 32 := muli main_v2 main_v1
  let main_v4 : IVec S256 32 := iotaInDim S256 32 0
  let main_v5 : IVec S1x256x1 32 := broadcastInDim S1x256x1 ![1] bcast_S256_S1x256x1_1 main_v4
  let main_v6 : IVec S2x256x1 32 := broadcastInDim S2x256x1 ![0, 1, 2] bcast_S2x1x1_S2x256x1_0_1_2 main_v3
  let main_v7 : IVec S2x256x1 32 := broadcastInDim S2x256x1 ![0, 1, 2] bcast_S1x256x1_S2x256x1_0_1_2 main_v5
  let main_v8 : IVec S2x256x1 32 := addi main_v6 main_v7
  let main_v9 : IVec S256 32 := iotaInDim S256 32 0
  let main_v10 : IVec S1x1x256 32 := broadcastInDim S1x1x256 ![2] bcast_S256_S1x1x256_2 main_v9
  let main_v11 : IVec S2x256x256 32 := broadcastInDim S2x256x256 ![0, 1, 2] bcast_S2x256x1_S2x256x256_0_1_2 main_v8
  let main_v12 : IVec S2x256x256 32 := broadcastInDim S2x256x256 ![0, 1, 2] bcast_S1x1x256_S2x256x256_0_1_2 main_v10
  let main_v13 : IVec S2x256x256 32 := subi main_v11 main_v12
  let main_c_0 : IVec S_ 32 := constantI S_ 32 0#32
  let main_v14 : IVec S2x256x256 32 := broadcastInDim S2x256x256 ![] bcast_S_S2x256x256 main_c_0
  let main_v15 : IVec S2x256x256 32 := maxsi main_v13 main_v14
  let main_c_1 : IVec S_ 32 := constantI S_ 32 1#32
  let main_v16 : IVec S2x256x256 32 := broadcastInDim S2x256x256 ![] bcast_S_S2x256x256 main_c_1
  let main_v17 : IVec S2x256x256 32 := maxsi main_v15 main_v16
  let main_v18 : FVec F S2x256x256 .f32 := sitofp .f32 main_v17
  let main_cst : FVec F S_ .f32 := constant S_ .f32 0x41800000#32
  let main_v19 : FVec F S2x256x256 .f32 := broadcastInDim S2x256x256 ![] bcast_S_S2x256x256 main_cst
  fn_part1 (F := F) main_arg0 main_arg2 main_v13 main_v15 main_v18 main_v19
-- ==== Kernel.lean ====
abbrev S32x16 : Shape := ⟨2, ![32, 16]⟩
abbrev S23x8192x512 : Shape := ⟨3, ![23, 8192, 512]⟩
abbrev S4x2x1024x256 : Shape := ⟨4, ![4, 2, 1024, 256]⟩
abbrev S8192x2048 : Shape := ⟨2, ![8192, 2048]⟩
abbrev S1x256x512 : Shape := ⟨3, ![1, 256, 512]⟩
abbrev S1x4096x128 : Shape := ⟨3, ![1, 4096, 128]⟩
abbrev S1x2x1024x256 : Shape := ⟨4, ![1, 2, 1024, 256]⟩
abbrev S256x512 : Shape := ⟨2, ![256, 512]⟩
abbrev S4096x256 : Shape := ⟨2, ![4096, 256]⟩
abbrev S1024x256 : Shape := ⟨2, ![1024, 256]⟩
abbrev S1024x128 : Shape := ⟨2, ![1024, 128]⟩
abbrev S4096x128 : Shape := ⟨2, ![4096, 128]⟩
abbrev S256x128 : Shape := ⟨2, ![256, 128]⟩
abbrev S1x1 : Shape := ⟨2, ![1, 1]⟩
abbrev S128x256 : Shape := ⟨2, ![128, 256]⟩
abbrev S256x256 : Shape := ⟨2, ![256, 256]⟩
abbrev S1x1x128x256 : Shape := ⟨4, ![1, 1, 128, 256]⟩
abbrev S128x128 : Shape := ⟨2, ![128, 128]⟩
abbrev S128 : Shape := ⟨1, ![128]⟩
abbrev S128x1 : Shape := ⟨2, ![128, 1]⟩
abbrev S1024x1 : Shape := ⟨2, ![1024, 1]⟩
abbrev S256 : Shape := ⟨1, ![256]⟩
abbrev S256x1 : Shape := ⟨2, ![256, 1]⟩

abbrev nBuf : Space → Nat
  | .hbm => 5
  | .vmem => 22
  | .smem => 1
  | _ => 0

abbrev bufTy : (tb : Table) → Fin (tcTables nBuf tb) → BufTy
  | .hbm, ⟨0, _⟩ => ⟨S32x16, .f32⟩
  | .hbm, ⟨1, _⟩ => ⟨S23x8192x512, .f32⟩
  | .hbm, ⟨2, _⟩ => ⟨S4x2x1024x256, .f32⟩
  | .hbm, ⟨3, _⟩ => ⟨S8192x2048, .f32⟩
  | .hbm, ⟨4, _⟩ => ⟨S8192x2048, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x2x1024x256, .f32⟩
  | .local _ .vmem, ⟨9, _⟩ => ⟨S1x2x1024x256, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S4096x256, .bf16⟩
  | .local _ .vmem, ⟨15, _⟩ => ⟨S4096x256, .bf16⟩
  | .local _ .vmem, ⟨16, _⟩ => ⟨S1024x256, .bf16⟩
  | .local _ .vmem, ⟨17, _⟩ => ⟨S1024x256, .f32⟩
  | .local _ .vmem, ⟨18, _⟩ => ⟨S1024x256, .bf16⟩
  | .local _ .vmem, ⟨19, _⟩ => ⟨S1024x128, .f32⟩
  | .local _ .vmem, ⟨20, _⟩ => ⟨S1024x128, .f32⟩
  | .local _ .vmem, ⟨21, _⟩ => ⟨S1024x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 4, 16], ![false, false, false]⟩

def k0_off1 (i : grid0.Coords) (c0_i32_3 : BitVec 32) : Fin 2 → Nat :=
  let c31 : Index := 31#32
  let arg1 : BitVec 32 := BitVec.ofNat 32 (i 1).val
  let c4_i32 : BitVec 32 := 4#32
  let v7 : BitVec 32 := Scalar.muli arg1 c4_i32
  let v8 : BitVec 32 := Scalar.addi v7 c0_i32_3
  let v9 : Index := Scalar.indexCast v8
  ![31, v9.toNat]
def k0_mult1 (i : grid0.Coords) : BitVec 32 :=
  let arg2 : BitVec 32 := BitVec.ofNat 32 (i 2).val
  let c256_i32 : BitVec 32 := 256#32
  let v117 : BitVec 32 := Scalar.muli arg2 c256_i32
  v117
def k0_off2 (i : grid0.Coords) : Fin 2 → Nat :=
  let arg2 : BitVec 32 := BitVec.ofNat 32 (i 2).val
  let c256_i32 : BitVec 32 := 256#32
  let v117 : BitVec 32 := Scalar.muli arg2 c256_i32
  let v118 : BitVec 32 := v117
  let v120 : Index := Scalar.indexCast v118
  let c0_40 : Index := 0#32
  ![v120.toNat, 0]
def k0_cond2 (i : grid0.Coords) : BitVec 1 :=
  let arg2 : BitVec 32 := BitVec.ofNat 32 (i 2).val
  let c1_i32_186 : BitVec 32 := 1#32
  let v370 : BitVec 1 := Scalar.cmpi .sge arg2 c1_i32_186
  let v371 : BitVec 32 := Scalar.extui v370
  let c0_i32_187 : BitVec 32 := 0#32
  let v372 : BitVec 1 := Scalar.cmpi .ne v371 c0_i32_187
  v372

def k0_mult2 (i : grid0.Coords) : BitVec 32 :=
  let arg2 : BitVec 32 := BitVec.ofNat 32 (i 2).val
  let c1_i32_237 : BitVec 32 := 1#32
  let v452 : BitVec 32 := Scalar.subi arg2 c1_i32_237
  let c256_i32_238 : BitVec 32 := 256#32
  let v453 : BitVec 32 := Scalar.muli v452 c256_i32_238
  v453
def k0_off3 (i : grid0.Coords) : Fin 2 → Nat :=
  let arg2 : BitVec 32 := BitVec.ofNat 32 (i 2).val
  let c1_i32_237 : BitVec 32 := 1#32
  let v452 : BitVec 32 := Scalar.subi arg2 c1_i32_237
  let c256_i32_238 : BitVec 32 := 256#32
  let v453 : BitVec 32 := Scalar.muli v452 c256_i32_238
  let v454 : BitVec 32 := v453
  let v456 : Index := Scalar.indexCast v454
  let c0_241 : Index := 0#32
  ![v456.toNat, 0]
def k0_cond3 (i : grid0.Coords) : BitVec 1 :=
  let arg2 : BitVec 32 := BitVec.ofNat 32 (i 2).val
  let c2_i32_188 : BitVec 32 := 2#32
  let v373 : BitVec 1 := Scalar.cmpi .sge arg2 c2_i32_188
  let v374 : BitVec 32 := Scalar.extui v373
  let c0_i32_189 : BitVec 32 := 0#32
  let v375 : BitVec 1 := Scalar.cmpi .ne v374 c0_i32_189
  v375

def k0_mult3 (i : grid0.Coords) : BitVec 32 :=
  let arg2 : BitVec 32 := BitVec.ofNat 32 (i 2).val
  let c2_i32_237 : BitVec 32 := 2#32
  let v452 : BitVec 32 := Scalar.subi arg2 c2_i32_237
  let c256_i32_238 : BitVec 32 := 256#32
  let v453 : BitVec 32 := Scalar.muli v452 c256_i32_238
  v453
def k0_off4 (i : grid0.Coords) : Fin 2 → Nat :=
  let arg2 : BitVec 32 := BitVec.ofNat 32 (i 2).val
  let c2_i32_237 : BitVec 32 := 2#32
  let v452 : BitVec 32 := Scalar.subi arg2 c2_i32_237
  let c256_i32_238 : BitVec 32 := 256#32
  let v453 : BitVec 32 := Scalar.muli v452 c256_i32_238
  let v454 : BitVec 32 := v453
  let v456 : Index := Scalar.indexCast v454
  let c0_241 : Index := 0#32
  ![v456.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c16_i32 : BitVec 32 := 16#32
  let v1 : BitVec 32 := Scalar.muli arg0 c16_i32
  let v2 : BitVec 32 := Scalar.addi v1 arg2
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c14_i32 : BitVec 32 := 14#32
  let c0_i32 : BitVec 32 := 0#32
  let c0_i32_0 : BitVec 32 := 0#32
  ![c14_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![c12_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let c0_i32 : BitVec 32 := 0#32
  ![c13_i32.toNat, arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32x16 : Shape := ⟨2, ![32, 16]⟩
abbrev S23x8192x512 : Shape := ⟨3, ![23, 8192, 512]⟩
abbrev S4x2x1024x256 : Shape := ⟨4, ![4, 2, 1024, 256]⟩
abbrev S8192x2048 : Shape := ⟨2, ![8192, 2048]⟩
abbrev S4x8192x512 : Shape := ⟨3, ![4, 8192, 512]⟩
abbrev S4x2x4096x4x128 : Shape := ⟨5, ![4, 2, 4096, 4, 128]⟩
abbrev S2x4096x4x4x128 : Shape := ⟨5, ![2, 4096, 4, 4, 128]⟩
abbrev S1x8192x512 : Shape := ⟨3, ![1, 8192, 512]⟩
abbrev S8192x512 : Shape := ⟨2, ![8192, 512]⟩
abbrev S2x4096x4x128 : Shape := ⟨4, ![2, 4096, 4, 128]⟩
abbrev S8192x48 : Shape := ⟨2, ![8192, 48]⟩
abbrev S2x4096x4x4x3 : Shape := ⟨5, ![2, 4096, 4, 4, 3]⟩
abbrev S2x4096x4x4x1 : Shape := ⟨5, ![2, 4096, 4, 4, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S4096x4096x16 : Shape := ⟨3, ![4096, 4096, 16]⟩
abbrev S4096x4096x4x4 : Shape := ⟨4, ![4096, 4096, 4, 4]⟩
abbrev S4096x4x4x4096 : Shape := ⟨4, ![4096, 4, 4, 4096]⟩
abbrev S2x4x4096x4096x4 : Shape := ⟨5, ![2, 4, 4096, 4096, 4]⟩
abbrev S2x4096x4x4x4096 : Shape := ⟨5, ![2, 4096, 4, 4, 4096]⟩
abbrev S1x4096x1x1x4096 : Shape := ⟨5, ![1, 4096, 1, 1, 4096]⟩
abbrev S1x4096x4x4x4096 : Shape := ⟨5, ![1, 4096, 4, 4, 4096]⟩
abbrev S2x4096x4x4 : Shape := ⟨4, ![2, 4096, 4, 4]⟩
abbrev S2x4x128x4096x4 : Shape := ⟨5, ![2, 4, 128, 4096, 4]⟩

abbrev nBuf : Space → Nat
  | .hbm => 111
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S23x8192x512, .f32⟩
  | .hbm, ⟨2, _⟩ => ⟨S4x2x1024x256, .f32⟩
  | .hbm, ⟨3, _⟩ => ⟨S8192x2048, .f32⟩
  | .hbm, ⟨4, _⟩ => ⟨S4x8192x512, .f32⟩
  | .hbm, ⟨5, _⟩ => ⟨S4x2x4096x4x128, .f32⟩
  | .hbm, ⟨6, _⟩ => ⟨S2x4096x4x4x128, .f32⟩
  | .hbm, ⟨7, _⟩ => ⟨S1x8192x512, .f32⟩
  | .hbm, ⟨8, _⟩ => ⟨S8192x512, .f32⟩
  | .hbm, ⟨9, _⟩ => ⟨S2x4096x4x128, .f32⟩
  | .hbm, ⟨10, _⟩ => ⟨S1x8192x512, .f32⟩
  | .hbm, ⟨11, _⟩ => ⟨S8192x512, .f32⟩
  | .hbm, ⟨12, _⟩ => ⟨S2x4096x4x128, .f32⟩
  | .hbm, ⟨13, _⟩ => ⟨S1x8192x512, .f32⟩
  | .hbm, ⟨14, _⟩ => ⟨S8192x512, .f32⟩
  | .hbm, ⟨15, _⟩ => ⟨S8192x48, .f32⟩
  | .hbm, ⟨16, _⟩ => ⟨S2x4096x4x4x3, .f32⟩
  | .hbm, ⟨17, _⟩ => ⟨S2x4096x4x4x1, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S4096x4096, .i32⟩
  | .hbm, ⟨53, _⟩ => ⟨S_, .i32⟩
  | .hbm, ⟨54, _⟩ => ⟨S4096x4096, .i32⟩
  | .hbm, ⟨55, _⟩ => ⟨S4096x4096, .i1⟩
  | .hbm, ⟨56, _⟩ => ⟨S_, .i32⟩
  | .hbm, ⟨57, _⟩ => ⟨S4096x4096, .i32⟩
  | .hbm, ⟨58, _⟩ => ⟨S4096x4096, .i32⟩
  | .hbm, ⟨59, _⟩ => ⟨S4096x4096, .i32⟩
  | .hbm, ⟨60, _⟩ => ⟨S4096x4096x1, .i32⟩
  | .hbm, ⟨61, _⟩ => ⟨S4096x4096x16, .f32⟩
  | .hbm, ⟨62, _⟩ => ⟨S4096x4096x4x4, .f32⟩
  | .hbm, ⟨63, _⟩ => ⟨S4096x4x4x4096, .f32⟩
  | .hbm, ⟨64, _⟩ => ⟨S2x4x4096x4096x4, .f32⟩
  | .hbm, ⟨65, _⟩ => ⟨S2x4096x4x4x4096, .f32⟩
  | .hbm, ⟨66, _⟩ => ⟨S_, .f32⟩
  | .hbm, ⟨67, _⟩ => ⟨S2x4096x4x4x4096, .f32⟩
  | .hbm, ⟨68, _⟩ => ⟨S2x4096x4x4x4096, .f32⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S_, .i32⟩
  | .hbm, ⟨73, _⟩ => ⟨S4096x4096, .i32⟩
  | .hbm, ⟨74, _⟩ => ⟨S4096x4096, .i1⟩
  | .hbm, ⟨75, _⟩ => ⟨S4096x4096, .i1⟩
  | .hbm, ⟨76, _⟩ => ⟨S1x4096x1x1x4096, .i1⟩
  | .hbm, ⟨77, _⟩ => ⟨S1x4096x4x4x4096, .f32⟩
  | .hbm, ⟨78, _⟩ => ⟨S2x4096x4x4x4096, .f32⟩
  | .hbm, ⟨79, _⟩ => ⟨S2x4096x4x4x4096, .f32⟩
  | .hbm, ⟨80, _⟩ => ⟨S_, .f32⟩
  | .hbm, ⟨81, _⟩ => ⟨S_, .f32⟩
  | .hbm, ⟨82, _⟩ => ⟨S2x4096x4x4x4096, .i1⟩
  | .hbm, ⟨83, _⟩ => ⟨S2x4096x4x4x4096, .f32⟩
  | .hbm, ⟨84, _⟩ => ⟨S2x4096x4x4x4096, .f32⟩
  | .hbm, ⟨85, _⟩ => ⟨S_, .f32⟩
  | .hbm, ⟨86, _⟩ => ⟨S2x4096x4x4, .f32⟩
  | .hbm, ⟨87, _⟩ => ⟨S2x4096x4x4x1, .f32⟩
  | .hbm, ⟨88, _⟩ => ⟨S2x4096x4x4x4096, .f32⟩
  | .hbm, ⟨89, _⟩ => ⟨S2x4096x4x4x4096, .f32⟩
  | .hbm, ⟨90, _⟩ => ⟨S2x4096x4x4x4096, .f32⟩
  | .hbm, ⟨91, _⟩ => ⟨S_, .f32⟩
  | .hbm, ⟨92, _⟩ => ⟨S_, .f32⟩
  | .hbm, ⟨93, _⟩ => ⟨S2x4096x4x4x4096, .i1⟩
  | .hbm, ⟨94, _⟩ => ⟨S2x4096x4x4x4096, .f32⟩
  | .hbm, ⟨95, _⟩ => ⟨S2x4096x4x4x4096, .f32⟩
  | .hbm, ⟨96, _⟩ => ⟨S_, .f32⟩
  | .hbm, ⟨97, _⟩ => ⟨S2x4096x4x4, .f32⟩
  | .hbm, ⟨98, _⟩ => ⟨S2x4096x4x4x1, .f32⟩
  | .hbm, ⟨99, _⟩ => ⟨S_, .f32⟩
  | .hbm, ⟨100, _⟩ => ⟨S2x4096x4x4x1, .f32⟩
  | .hbm, ⟨101, _⟩ => ⟨S2x4096x4x4x1, .f32⟩
  | .hbm, ⟨102, _⟩ => ⟨S2x4096x4x4x4096, .f32⟩
  | .hbm, ⟨103, _⟩ => ⟨S2x4096x4x4x4096, .f32⟩
  | .hbm, ⟨104, _⟩ => ⟨S2x4x128x4096x4, .f32⟩
  | .hbm, ⟨105, _⟩ => ⟨S2x4096x4x4x128, .f32⟩
  | .hbm, ⟨106, _⟩ => ⟨S2x4096x4x4x128, .f32⟩
  | .hbm, ⟨107, _⟩ => ⟨S2x4096x4x4x128, .f32⟩
  | .hbm, ⟨108, _⟩ => ⟨S2x4096x4x4x128, .f32⟩
  | .hbm, ⟨109, _⟩ => ⟨S2x4096x4x4x128, .f32⟩
  | .hbm, ⟨110, _⟩ => ⟨S8192x2048, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== InKernel.lean ====
abbrev S2x4096x2048 : Shape := ⟨3, ![2, 4096, 2048]⟩
abbrev S2x6x1x2048 : Shape := ⟨4, ![2, 6, 1, 2048]⟩
abbrev S2048 : Shape := ⟨1, ![2048]⟩
abbrev S2048x11312 : Shape := ⟨2, ![2048, 11312]⟩
abbrev S128 : Shape := ⟨1, ![128]⟩
abbrev S3x128 : Shape := ⟨2, ![3, 128]⟩
abbrev S2048x7168 : Shape := ⟨2, ![2048, 7168]⟩
abbrev S2048x48 : Shape := ⟨2, ![2048, 48]⟩
abbrev S_ : Shape := ⟨0, ![]⟩
abbrev S2048x512 : Shape := ⟨2, ![2048, 512]⟩
abbrev S2048x4096 : Shape := ⟨2, ![2048, 4096]⟩
abbrev S2048x11776 : Shape := ⟨2, ![2048, 11776]⟩
abbrev S512 : Shape := ⟨1, ![512]⟩
abbrev S1x128 : Shape := ⟨2, ![1, 128]⟩
abbrev S4x128 : Shape := ⟨2, ![4, 128]⟩
abbrev S1x512 : Shape := ⟨2, ![1, 512]⟩
abbrev S16x512 : Shape := ⟨2, ![16, 512]⟩
abbrev S7x512 : Shape := ⟨2, ![7, 512]⟩
abbrev S23x512 : Shape := ⟨2, ![23, 512]⟩
abbrev S23x1x512 : Shape := ⟨3, ![23, 1, 512]⟩
abbrev S1x1x2048 : Shape := ⟨3, ![1, 1, 2048]⟩
abbrev S23x8192x512 : Shape := ⟨3, ![23, 8192, 512]⟩
abbrev S1x1024x2048 : Shape := ⟨3, ![1, 1024, 2048]⟩
abbrev S1x1x1x2048 : Shape := ⟨4, ![1, 1, 1, 2048]⟩
abbrev S1x1x512 : Shape := ⟨3, ![1, 1, 512]⟩
abbrev S1x1024x512 : Shape := ⟨3, ![1, 1024, 512]⟩
abbrev S1024x2048 : Shape := ⟨2, ![1024, 2048]⟩
abbrev S1x1024 : Shape := ⟨2, ![1, 1024]⟩
abbrev S1x1024x1 : Shape := ⟨3, ![1, 1024, 1]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x8192x512 : Shape := ⟨3, ![1, 8192, 512]⟩
abbrev S8192x512 : Shape := ⟨2, ![8192, 512]⟩
abbrev S2x4096x4x128 : Shape := ⟨4, ![2, 4096, 4, 128]⟩
abbrev S2x512x4x128 : Shape := ⟨4, ![2, 512, 4, 128]⟩
abbrev S4x8192x512 : Shape := ⟨3, ![4, 8192, 512]⟩
abbrev S8192x48 : Shape := ⟨2, ![8192, 48]⟩
abbrev S8x8192x512 : Shape := ⟨3, ![8, 8192, 512]⟩

abbrev nBuf : Space → Nat
  | .hbm => 122
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x6x1x2048, .f32⟩
  | .hbm, ⟨2, _⟩ => ⟨S2048, .f32⟩
  | .hbm, ⟨3, _⟩ => ⟨S2048x11312, .f32⟩
  | .hbm, ⟨4, _⟩ => ⟨S128, .f32⟩
  | .hbm, ⟨5, _⟩ => ⟨S3x128, .f32⟩
  | .hbm, ⟨6, _⟩ => ⟨S2048x7168, .f32⟩
  | .hbm, ⟨7, _⟩ => ⟨S2048x48, .f32⟩
  | .hbm, ⟨8, _⟩ => ⟨S_, .i32⟩
  | .hbm, ⟨9, _⟩ => ⟨S_, .f32⟩
  | .hbm, ⟨10, _⟩ => ⟨S2048x512, .f32⟩
  | .hbm, ⟨11, _⟩ => ⟨S2048x4096, .f32⟩
  | .hbm, ⟨12, _⟩ => ⟨S2048x11776, .f32⟩
  | .hbm, ⟨13, _⟩ => ⟨S2048x11776, .bf16⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S1x128, .f32⟩
  | .hbm, ⟨19, _⟩ => ⟨S4x128, .f32⟩
  | .hbm, ⟨20, _⟩ => ⟨S512, .f32⟩
  | .hbm, ⟨21, _⟩ => ⟨S1x128, .f32⟩
  | .hbm, ⟨22, _⟩ => ⟨S4x128, .f32⟩
  | .hbm, ⟨23, _⟩ => ⟨S512, .f32⟩
  | .hbm, ⟨24, _⟩ => ⟨S1x128, .f32⟩
  | .hbm, ⟨25, _⟩ => ⟨S4x128, .f32⟩
  | .hbm, ⟨26, _⟩ => ⟨S512, .f32⟩
  | .hbm, ⟨27, _⟩ => ⟨S1x128, .f32⟩
  | .hbm, ⟨28, _⟩ => ⟨S4x128, .f32⟩
  | .hbm, ⟨29, _⟩ => ⟨S512, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S4x128, .f32⟩
  | .hbm, ⟨34, _⟩ => ⟨S512, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S4x128, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S16x512, .f32⟩
  | .hbm, ⟨64, _⟩ => ⟨S7x512, .f32⟩
  | .hbm, ⟨65, _⟩ => ⟨S23x512, .f32⟩
  | .hbm, ⟨66, _⟩ => ⟨S23x1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S16x512, .f32⟩
  | .hbm, ⟨91, _⟩ => ⟨S7x512, .f32⟩
  | .hbm, ⟨92, _⟩ => ⟨S23x512, .f32⟩
  | .hbm, ⟨93, _⟩ => ⟨S23x1x512, .f32⟩
  | .hbm, ⟨94, _⟩ => ⟨S1x1x2048, .f32⟩
  | .hbm, ⟨95, _⟩ => ⟨S23x8192x512, .f32⟩
  | .hbm, ⟨96, _⟩ => ⟨S1x8192x512, .f32⟩
  | .hbm, ⟨97, _⟩ => ⟨S8192x512, .f32⟩
  | .hbm, ⟨98, _⟩ => ⟨S2x4096x4x128, .f32⟩
  | .hbm, ⟨99, _⟩ => ⟨S1x8192x512, .f32⟩
  | .hbm, ⟨100, _⟩ => ⟨S8192x512, .f32⟩
  | .hbm, ⟨101, _⟩ => ⟨S2x4096x4x128, .f32⟩
  | .hbm, ⟨102, _⟩ => ⟨S1x8192x512, .f32⟩
  | .hbm, ⟨103, _⟩ => ⟨S8192x512, .f32⟩
  | .hbm, ⟨104, _⟩ => ⟨S2x4096x4x128, .f32⟩
  | .hbm, ⟨105, _⟩ => ⟨S1x8192x512, .f32⟩
  | .hbm, ⟨106, _⟩ => ⟨S8192x512, .f32⟩
  | .hbm, ⟨107, _⟩ => ⟨S2x4096x4x128, .f32⟩
  | .hbm, ⟨108, _⟩ => ⟨S1x8192x512, .f32⟩
  | .hbm, ⟨109, _⟩ => ⟨S8192x512, .f32⟩
  | .hbm, ⟨110, _⟩ => ⟨S2x4096x4x128, .f32⟩
  | .hbm, ⟨111, _⟩ => ⟨S2x512x4x128, .f32⟩
  | .hbm, ⟨112, _⟩ => ⟨S1x8192x512, .f32⟩
  | .hbm, ⟨113, _⟩ => ⟨S8192x512, .f32⟩
  | .hbm, ⟨114, _⟩ => ⟨S2x4096x4x128, .f32⟩
  | .hbm, ⟨115, _⟩ => ⟨S2x512x4x128, .f32⟩
  | .hbm, ⟨116, _⟩ => ⟨S4x8192x512, .f32⟩
  | .hbm, ⟨117, _⟩ => ⟨S4x8192x512, .f32⟩
  | .hbm, ⟨118, _⟩ => ⟨S1x8192x512, .f32⟩
  | .hbm, ⟨119, _⟩ => ⟨S8192x512, .f32⟩
  | .hbm, ⟨120, _⟩ => ⟨S8192x48, .f32⟩
  | .hbm, ⟨121, _⟩ => ⟨S8x8192x512, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1024x512, .f32⟩
  | .local _ .vmem, ⟨14, _⟩ => ⟨S1x1024x512, .f32⟩
  | .local _ .vmem, ⟨15, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 23], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let c14_i32 : BitVec 32 := 14#32
  let v11 : BitVec 1 := Scalar.cmpi .slt arg1 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c14_i32_7 : BitVec 32 := 14#32
  let v15 : BitVec 1 := Scalar.cmpi .sge arg1 c14_i32_7
  let v16 : BitVec 32 := Scalar.extui v15
  let c0_i32_8 : BitVec 32 := 0#32
  let v17 : BitVec 1 := Scalar.cmpi .ne v16 c0_i32_8
  v17

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InKernelIdeal.lean ====
variable {F : FTy → Type} [FloatOps F] [Named F]
def κ : String → Option EReal := fun
  | "gelu" => some ((-80338380498831 / 1125899906842624 : ℝ) : EReal)
  | _ => none
-- ==== InReferenceIdeal.lean ====
abbrev S2x4096x2048 : Shape := ⟨3, ![2, 4096, 2048]⟩
abbrev S2x6x1x2048 : Shape := ⟨4, ![2, 6, 1, 2048]⟩
abbrev S2048 : Shape := ⟨1, ![2048]⟩
abbrev S2048x11312 : Shape := ⟨2, ![2048, 11312]⟩
abbrev S128 : Shape := ⟨1, ![128]⟩
abbrev S3x128 : Shape := ⟨2, ![3, 128]⟩
abbrev S2x1x1x2048 : Shape := ⟨4, ![2, 1, 1, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11312 : Shape := ⟨3, ![2, 4096, 11312]⟩
abbrev S2x4096x512 : Shape := ⟨3, ![2, 4096, 512]⟩
abbrev S2x4096x48 : Shape := ⟨3, ![2, 4096, 48]⟩
abbrev S2x4096x4096 : Shape := ⟨3, ![2, 4096, 4096]⟩
abbrev S2x4096x4x4x128 : Shape := ⟨5, ![2, 4096, 4, 4, 128]⟩
abbrev S2x4096x4x4 : Shape := ⟨4, ![2, 4096, 4, 4]⟩
abbrev S2x4096x4x4x1 : Shape := ⟨5, ![2, 4096, 4, 4, 1]⟩
abbrev S1x1x1x1x128 : Shape := ⟨5, ![1, 1, 1, 1, 128]⟩
abbrev S2x4096x4x128 : Shape := ⟨4, ![2, 4096, 4, 128]⟩
abbrev S1x128 : Shape := ⟨2, ![1, 128]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S8192x4x512 : Shape := ⟨3, ![8192, 4, 512]⟩
abbrev S4x8192x512 : Shape := ⟨3, ![4, 8192, 512]⟩
abbrev S8192x48 : Shape := ⟨2, ![8192, 48]⟩
abbrev S8192x8x512 : Shape := ⟨3, ![8192, 8, 512]⟩
abbrev S8x8192x512 : Shape := ⟨3, ![8, 8192, 512]⟩
abbrev S2x512x4x128 : Shape := ⟨4, ![2, 512, 4, 128]⟩

abbrev nBuf : Space → Nat
  | .hbm => 145
  | .vmem => 0
  | .smem => 0
  | _ => 0

abbrev hbmTy0_0 (i : Nat) : BufTy := match i % 128 with
  | 0 => ⟨S2x4096x2048, .f32⟩
  | 1 => ⟨S2x6x1x2048, .f32⟩
  | 2 => ⟨S2048, .f32⟩
  | 3 => ⟨S2048x11312, .f32⟩
  | 4 => ⟨S128, .f32⟩
  | 5 => ⟨S3x128, .f32⟩
  | 6 => ⟨S2x1x1x2048, .f32⟩
  | 7 => ⟨S2x1x2048, .f32⟩
  | 8 => ⟨S2x1x1x2048, .f32⟩
  | 9 => ⟨S2x1x2048, .f32⟩
  | 10 => ⟨S2x4096x2048, .f32⟩
  | 11 => ⟨S_, .f32⟩
  | 12 => ⟨S2x4096, .f32⟩
  | 13 => ⟨S2x4096x1, .f32⟩
  | 14 => ⟨S_, .f32⟩
  | 15 => ⟨S2x4096x1, .f32⟩
  | 16 => ⟨S2x4096x1, .f32⟩
  | 17 => ⟨S_, .f32⟩
  | 18 => ⟨S2x4096x1, .f32⟩
  | 19 => ⟨S2x4096x1, .f32⟩
  | 20 => ⟨S2x4096x1, .f32⟩
  | 21 => ⟨S2x4096x2048, .f32⟩
  | 22 => ⟨S2x4096x2048, .f32⟩
  | 23 => ⟨S1x1x2048, .f32⟩
  | 24 => ⟨S2x4096x2048, .f32⟩
  | 25 => ⟨S2x4096x2048, .f32⟩
  | 26 => ⟨S_, .f32⟩
  | 27 => ⟨S2x1x2048, .f32⟩
  | 28 => ⟨S2x1x2048, .f32⟩
  | 29 => ⟨S2x4096x2048, .f32⟩
  | 30 => ⟨S2x4096x2048, .f32⟩
  | 31 => ⟨S2x4096x2048, .f32⟩
  | 32 => ⟨S2x4096x2048, .f32⟩
  | 33 => ⟨S2x4096x11312, .f32⟩
  | 34 => ⟨S2x4096x2048, .f32⟩
  | 35 => ⟨S2x4096x2048, .f32⟩
  | 36 => ⟨S2x4096x512, .f32⟩
  | 37 => ⟨S2x4096x512, .f32⟩
  | 38 => ⟨S2x4096x512, .f32⟩
  | 39 => ⟨S2x4096x512, .f32⟩
  | 40 => ⟨S2x4096x512, .f32⟩
  | 41 => ⟨S2x4096x512, .f32⟩
  | 42 => ⟨S2x4096x48, .f32⟩
  | 43 => ⟨S2x4096x4096, .f32⟩
  | 44 => ⟨S2x4096x2048, .f32⟩
  | 45 => ⟨S2x4096x2048, .f32⟩
  | 46 => ⟨S_, .f32⟩
  | 47 => ⟨S2x4096x2048, .f32⟩
  | 48 => ⟨S2x4096x2048, .f32⟩
  | 49 => ⟨S2x4096x2048, .f32⟩
  | 50 => ⟨S_, .f32⟩
  | 51 => ⟨S2x4096x2048, .f32⟩
  | 52 => ⟨S2x4096x2048, .f32⟩
  | 53 => ⟨S2x4096x2048, .f32⟩
  | 54 => ⟨S_, .f32⟩
  | 55 => ⟨S2x4096x2048, .f32⟩
  | 56 => ⟨S2x4096x2048, .f32⟩
  | 57 => ⟨S_, .f32⟩
  | 58 => ⟨S2x4096x2048, .f32⟩
  | 59 => ⟨S2x4096x2048, .f32⟩
  | 60 => ⟨S2x4096x2048, .f32⟩
  | 61 => ⟨S2x4096x4x4x128, .f32⟩
  | 62 => ⟨S2x4096x4x4x128, .f32⟩
  | 63 => ⟨S_, .f32⟩
  | 64 => ⟨S2x4096x4x4, .f32⟩
  | 65 => ⟨S2x4096x4x4x1, .f32⟩
  | 66 => ⟨S_, .f32⟩
  | 67 => ⟨S2x4096x4x4x1, .f32⟩
  | 68 => ⟨S2x4096x4x4x1, .f32⟩
  | 69 => ⟨S_, .f32⟩
  | 70 => ⟨S2x4096x4x4x1, .f32⟩
  | 71 => ⟨S2x4096x4x4x1, .f32⟩
  | 72 => ⟨S2x4096x4x4x1, .f32⟩
  | 73 => ⟨S2x4096x4x4x128, .f32⟩
  | 74 => ⟨S2x4096x4x4x128, .f32⟩
  | 75 => ⟨S1x1x1x1x128, .f32⟩
  | 76 => ⟨S2x4096x4x4x128, .f32⟩
  | 77 => ⟨S2x4096x4x4x128, .f32⟩
  | 78 => ⟨S2x4096x4x128, .f32⟩
  | 79 => ⟨S2x4096x4x128, .f32⟩
  | 80 => ⟨S2x4096x4x128, .f32⟩
  | 81 => ⟨S2x4096x4x128, .f32⟩
  | 82 => ⟨S2x4096x4x128, .f32⟩
  | 83 => ⟨S1x128, .f32⟩
  | 84 => ⟨S128, .f32⟩
  | 85 => ⟨S2x4096x4x128, .f32⟩
  | 86 => ⟨S_, .f32⟩
  | 87 => ⟨S2x4096x4, .f32⟩
  | 88 => ⟨S2x4096x4x1, .f32⟩
  | 89 => ⟨S_, .f32⟩
  | 90 => ⟨S2x4096x4x1, .f32⟩
  | 91 => ⟨S2x4096x4x1, .f32⟩
  | 92 => ⟨S_, .f32⟩
  | 93 => ⟨S2x4096x4x1, .f32⟩
  | 94 => ⟨S2x4096x4x1, .f32⟩
  | 95 => ⟨S2x4096x4x1, .f32⟩
  | 96 => ⟨S2x4096x4x128, .f32⟩
  | 97 => ⟨S2x4096x4x128, .f32⟩
  | 98 => ⟨S1x1x1x128, .f32⟩
  | 99 => ⟨S2x4096x4x128, .f32⟩
  | 100 => ⟨S2x4096x4x128, .f32⟩
  | 101 => ⟨S2x4096x4x128, .f32⟩
  | 102 => ⟨S1x128, .f32⟩
  | 103 => ⟨S128, .f32⟩
  | 104 => ⟨S2x4096x4x128, .f32⟩
  | 105 => ⟨S_, .f32⟩
  | 106 => ⟨S2x4096x4, .f32⟩
  | 107 => ⟨S2x4096x4x1, .f32⟩
  | 108 => ⟨S_, .f32⟩
  | 109 => ⟨S2x4096x4x1, .f32⟩
  | 110 => ⟨S2x4096x4x1, .f32⟩
  | 111 => ⟨S_, .f32⟩
  | 112 => ⟨S2x4096x4x1, .f32⟩
  | 113 => ⟨S2x4096x4x1, .f32⟩
  | 114 => ⟨S2x4096x4x1, .f32⟩
  | 115 => ⟨S2x4096x4x128, .f32⟩
  | 116 => ⟨S2x4096x4x128, .f32⟩
  | 117 => ⟨S1x1x1x128, .f32⟩
  | 118 => ⟨S2x4096x4x128, .f32⟩
  | 119 => ⟨S2x4096x4x128, .f32⟩
  | 120 => ⟨S2x4096x48, .f32⟩
  | 121 => ⟨S2x4096x48, .f32⟩
  | 122 => ⟨S_, .f32⟩
  | 123 => ⟨S2x4096x48, .f32⟩
  | 124 => ⟨S2x4096x48, .f32⟩
  | 125 => ⟨S_, .f32⟩
  | 126 => ⟨S2x4096x48, .f32⟩
  | 127 => ⟨S2x4096x48, .f32⟩
  | _ => ⟨S2x4096x2048, .f32⟩

abbrev hbmTy0_1 (i : Nat) : BufTy := match i % 128 with
  | 0 => ⟨S2x4096x4096, .f32⟩
  | 1 => ⟨S2x4096x4096, .f32⟩
  | 2 => ⟨S_, .f32⟩
  | 3 => ⟨S2x4096x4096, .f32⟩
  | 4 => ⟨S2x4096x4096, .f32⟩
  | 5 => ⟨S_, .f32⟩
  | 6 => ⟨S2x4096x4096, .f32⟩
  | 7 => ⟨S2x4096x4096, .f32⟩
  | 8 => ⟨S8192x4x512, .f32⟩
  | 9 => ⟨S4x8192x512, .f32⟩
  | 10 => ⟨S8192x4x512, .f32⟩
  | 11 => ⟨S4x8192x512, .f32⟩
  | 12 => ⟨S8192x48, .f32⟩
  | 13 => ⟨S8192x8x512, .f32⟩
  | 14 => ⟨S8x8192x512, .f32⟩
  | 15 => ⟨S2x512x4x128, .f32⟩
  | 16 => ⟨S2x512x4x128, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_16 : Ref sig .tc := ⟨.hbm, 122, rfl⟩
abbrev main_v99 : Ref sig .tc := ⟨.hbm, 123, rfl⟩
abbrev main_v100 : Ref sig .tc := ⟨.hbm, 124, rfl⟩
abbrev main_cst_17 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_18 : Ref sig .tc := ⟨.hbm, 130, rfl⟩
abbrev main_v105 : Ref sig .tc := ⟨.hbm, 131, rfl⟩
abbrev main_v106 : Ref sig .tc := ⟨.hbm, 132, rfl⟩
abbrev main_cst_19 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩

abbrev nD : Nat := 1
abbrev τ : Topo := Topo.v7x

variable {F : FTy → Type} [FloatOps F]
-- ==== SmpKernel.lean ====
abbrev S128x8x2048 : Shape := ⟨3, ![128, 8, 2048]⟩
abbrev S128x6x1x2048 : Shape := ⟨4, ![128, 6, 1, 2048]⟩
abbrev S2048 : Shape := ⟨1, ![2048]⟩
abbrev S2048x11312 : Shape := ⟨2, ![2048, 11312]⟩
abbrev S128 : Shape := ⟨1, ![128]⟩
abbrev S3x128 : Shape := ⟨2, ![3, 128]⟩
abbrev S2048x7168 : Shape := ⟨2, ![2048, 7168]⟩
abbrev S2048x48 : Shape := ⟨2, ![2048, 48]⟩
abbrev S_ : Shape := ⟨0, ![]⟩
abbrev S2048x512 : Shape := ⟨2, ![2048, 512]⟩
abbrev S2048x4096 : Shape := ⟨2, ![2048, 4096]⟩
abbrev S2048x11776 : Shape := ⟨2, ![2048, 11776]⟩
abbrev S512 : Shape := ⟨1, ![512]⟩
abbrev S1x128 : Shape := ⟨2, ![1, 128]⟩
abbrev S4x128 : Shape := ⟨2, ![4, 128]⟩
abbrev S1x512 : Shape := ⟨2, ![1, 512]⟩
abbrev S16x512 : Shape := ⟨2, ![16, 512]⟩
abbrev S7x512 : Shape := ⟨2, ![7, 512]⟩
abbrev S23x512 : Shape := ⟨2, ![23, 512]⟩
abbrev S23x1x512 : Shape := ⟨3, ![23, 1, 512]⟩
abbrev S1x1x2048 : Shape := ⟨3, ![1, 1, 2048]⟩
abbrev S23x1024x512 : Shape := ⟨3, ![23, 1024, 512]⟩
abbrev S128x1x1x2048 : Shape := ⟨4, ![128, 1, 1, 2048]⟩
abbrev S1x1x512 : Shape := ⟨3, ![1, 1, 512]⟩
abbrev S1x1024x512 : Shape := ⟨3, ![1, 1024, 512]⟩
abbrev S1024x2048 : Shape := ⟨2, ![1024, 2048]⟩
abbrev S128x8 : Shape := ⟨2, ![128, 8]⟩
abbrev S128x8x1 : Shape := ⟨3, ![128, 8, 1]⟩
abbrev S128x1x2048 : Shape := ⟨3, ![128, 1, 2048]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S128x8x4x128 : Shape := ⟨4, ![128, 8, 4, 128]⟩
abbrev S4x1024x512 : Shape := ⟨3, ![4, 1024, 512]⟩
abbrev S1024x48 : Shape := ⟨2, ![1024, 48]⟩
abbrev S8x1024x512 : Shape := ⟨3, ![8, 1024, 512]⟩

abbrev nBuf : Space → Nat
  | .hbm => 120
  | .vmem => 13
  | .smem => 0
  | _ => 0

abbrev bufTy : (tb : Table) → Fin (tcTables nBuf tb) → BufTy
  | .hbm, ⟨0, _⟩ => ⟨S128x8x2048, .f32⟩
  | .hbm, ⟨1, _⟩ => ⟨S128x6x1x2048, .f32⟩
  | .hbm, ⟨2, _⟩ => ⟨S2048, .f32⟩
  | .hbm, ⟨3, _⟩ => ⟨S2048x11312, .f32⟩
  | .hbm, ⟨4, _⟩ => ⟨S128, .f32⟩
  | .hbm, ⟨5, _⟩ => ⟨S3x128, .f32⟩
  | .hbm, ⟨6, _⟩ => ⟨S2048x7168, .f32⟩
  | .hbm, ⟨7, _⟩ => ⟨S2048x48, .f32⟩
  | .hbm, ⟨8, _⟩ => ⟨S_, .i32⟩
  | .hbm, ⟨9, _⟩ => ⟨S_, .f32⟩
  | .hbm, ⟨10, _⟩ => ⟨S2048x512, .f32⟩
  | .hbm, ⟨11, _⟩ => ⟨S2048x4096, .f32⟩
  | .hbm, ⟨12, _⟩ => ⟨S2048x11776, .f32⟩
  | .hbm, ⟨13, _⟩ => ⟨S2048x11776, .bf16⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S1x128, .f32⟩
  | .hbm, ⟨19, _⟩ => ⟨S4x128, .f32⟩
  | .hbm, ⟨20, _⟩ => ⟨S512, .f32⟩
  | .hbm, ⟨21, _⟩ => ⟨S1x128, .f32⟩
  | .hbm, ⟨22, _⟩ => ⟨S4x128, .f32⟩
  | .hbm, ⟨23, _⟩ => ⟨S512, .f32⟩
  | .hbm, ⟨24, _⟩ => ⟨S1x128, .f32⟩
  | .hbm, ⟨25, _⟩ => ⟨S4x128, .f32⟩
  | .hbm, ⟨26, _⟩ => ⟨S512, .f32⟩
  | .hbm, ⟨27, _⟩ => ⟨S1x128, .f32⟩
  | .hbm, ⟨28, _⟩ => ⟨S4x128, .f32⟩
  | .hbm, ⟨29, _⟩ => ⟨S512, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S4x128, .f32⟩
  | .hbm, ⟨34, _⟩ => ⟨S512, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S4x128, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S16x512, .f32⟩
  | .hbm, ⟨64, _⟩ => ⟨S7x512, .f32⟩
  | .hbm, ⟨65, _⟩ => ⟨S23x512, .f32⟩
  | .hbm, ⟨66, _⟩ => ⟨S23x1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S16x512, .f32⟩
  | .hbm, ⟨91, _⟩ => ⟨S7x512, .f32⟩
  | .hbm, ⟨92, _⟩ => ⟨S23x512, .f32⟩
  | .hbm, ⟨93, _⟩ => ⟨S23x1x512, .f32⟩
  | .hbm, ⟨94, _⟩ => ⟨S1x1x2048, .f32⟩
  | .hbm, ⟨95, _⟩ => ⟨S23x1024x512, .f32⟩
  | .hbm, ⟨96, _⟩ => ⟨S1x1024x512, .f32⟩
  | .hbm, ⟨97, _⟩ => ⟨S1024x512, .f32⟩
  | .hbm, ⟨98, _⟩ => ⟨S128x8x4x128, .f32⟩
  | .hbm, ⟨99, _⟩ => ⟨S1x1024x512, .f32⟩
  | .hbm, ⟨100, _⟩ => ⟨S1024x512, .f32⟩
  | .hbm, ⟨101, _⟩ => ⟨S128x8x4x128, .f32⟩
  | .hbm, ⟨102, _⟩ => ⟨S1x1024x512, .f32⟩
  | .hbm, ⟨103, _⟩ => ⟨S1024x512, .f32⟩
  | .hbm, ⟨104, _⟩ => ⟨S128x8x4x128, .f32⟩
  | .hbm, ⟨105, _⟩ => ⟨S1x1024x512, .f32⟩
  | .hbm, ⟨106, _⟩ => ⟨S1024x512, .f32⟩
  | .hbm, ⟨107, _⟩ => ⟨S128x8x4x128, .f32⟩
  | .hbm, ⟨108, _⟩ => ⟨S1x1024x512, .f32⟩
  | .hbm, ⟨109, _⟩ => ⟨S1024x512, .f32⟩
  | .hbm, ⟨110, _⟩ => ⟨S128x8x4x128, .f32⟩
  | .hbm, ⟨111, _⟩ => ⟨S1x1024x512, .f32⟩
  | .hbm, ⟨112, _⟩ => ⟨S1024x512, .f32⟩
  | .hbm, ⟨113, _⟩ => ⟨S128x8x4x128, .f32⟩
  | .hbm, ⟨114, _⟩ => ⟨S4x1024x512, .f32⟩
  | .hbm, ⟨115, _⟩ => ⟨S4x1024x512, .f32⟩
  | .hbm, ⟨116, _⟩ => ⟨S1x1024x512, .f32⟩
  | .hbm, ⟨117, _⟩ => ⟨S1024x512, .f32⟩
  | .hbm, ⟨118, _⟩ => ⟨S1024x48, .f32⟩
  | .hbm, ⟨119, _⟩ => ⟨S8x1024x512, .f32⟩
  | .local _ .vmem, ⟨0, _⟩ => ⟨S128x8x2048, .f32⟩
  | .local _ .vmem, ⟨1, _⟩ => ⟨S128x1x1x2048, .f32⟩
  | .local _ .vmem, ⟨2, _⟩ => ⟨S128x1x1x2048, .f32⟩
  | .local _ .vmem, ⟨3, _⟩ => ⟨S1x1x2048, .f32⟩
  | .local _ .vmem, ⟨4, _⟩ => ⟨S2048x512, .bf16⟩
  | .local _ .vmem, ⟨5, _⟩ => ⟨S2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 23], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let c14_i32 : BitVec 32 := 14#32
  let v11 : BitVec 1 := Scalar.cmpi .slt arg1 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c14_i32_7 : BitVec 32 := 14#32
  let v15 : BitVec 1 := Scalar.cmpi .sge arg1 c14_i32_7
  let v16 : BitVec 32 := Scalar.extui v15
  let c0_i32_8 : BitVec 32 := 0#32
  let v17 : BitVec 1 := Scalar.cmpi .ne v16 c0_i32_8
  v17

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  let c0_i32_8 : BitVec 32 := 0#32
  ![v16.toNat, c1_i32_5.toNat, c0_i32_6.toNat, c0_i32_7.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S128x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SmpKernelIdeal.lean ====
variable {F : FTy → Type} [FloatOps F] [Named F]
def κ : String → Option EReal := fun
  | "gelu" => some ((-80338380498831 / 1125899906842624 : ℝ) : EReal)
  | _ => none
-- ==== SmpReferenceIdeal.lean ====
abbrev S128x8x2048 : Shape := ⟨3, ![128, 8, 2048]⟩
abbrev S128x6x1x2048 : Shape := ⟨4, ![128, 6, 1, 2048]⟩
abbrev S2048 : Shape := ⟨1, ![2048]⟩
abbrev S2048x11312 : Shape := ⟨2, ![2048, 11312]⟩
abbrev S128 : Shape := ⟨1, ![128]⟩
abbrev S3x128 : Shape := ⟨2, ![3, 128]⟩
abbrev S128x1x1x2048 : Shape := ⟨4, ![128, 1, 1, 2048]⟩
abbrev S128x1x2048 : Shape := ⟨3, ![128, 1, 2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S128x8x11312 : Shape := ⟨3, ![128, 8, 11312]⟩
abbrev S128x8x512 : Shape := ⟨3, ![128, 8, 512]⟩
abbrev S128x8x48 : Shape := ⟨3, ![128, 8, 48]⟩
abbrev S128x8x4096 : Shape := ⟨3, ![128, 8, 4096]⟩
abbrev S128x8x4x4x128 : Shape := ⟨5, ![128, 8, 4, 4, 128]⟩
abbrev S128x8x4x4 : Shape := ⟨4, ![128, 8, 4, 4]⟩
abbrev S128x8x4x4x1 : Shape := ⟨5, ![128, 8, 4, 4, 1]⟩
abbrev S1x1x1x1x128 : Shape := ⟨5, ![1, 1, 1, 1, 128]⟩
abbrev S128x8x4x128 : Shape := ⟨4, ![128, 8, 4, 128]⟩
abbrev S1x128 : Shape := ⟨2, ![1, 128]⟩
abbrev S128x8x4 : Shape := ⟨3, ![128, 8, 4]⟩
abbrev S128x8x4x1 : Shape := ⟨4, ![128, 8, 4, 1]⟩
abbrev S1x1x1x128 : Shape := ⟨4, ![1, 1, 1, 128]⟩
abbrev S1024x4x512 : Shape := ⟨3, ![1024, 4, 512]⟩
abbrev S4x1024x512 : Shape := ⟨3, ![4, 1024, 512]⟩
abbrev S1024x48 : Shape := ⟨2, ![1024, 48]⟩
abbrev S1024x8x512 : Shape := ⟨3, ![1024, 8, 512]⟩
abbrev S8x1024x512 : Shape := ⟨3, ![8, 1024, 512]⟩

abbrev nBuf : Space → Nat
  | .hbm => 143
  | .vmem => 0
  | .smem => 0
  | _ => 0

abbrev hbmTy0_0 (i : Nat) : BufTy := match i % 128 with
  | 0 => ⟨S128x8x2048, .f32⟩
  | 1 => ⟨S128x6x1x2048, .f32⟩
  | 2 => ⟨S2048, .f32⟩
  | 3 => ⟨S2048x11312, .f32⟩
  | 4 => ⟨S128, .f32⟩
  | 5 => ⟨S3x128, .f32⟩
  | 6 => ⟨S128x1x1x2048, .f32⟩
  | 7 => ⟨S128x1x2048, .f32⟩
  | 8 => ⟨S128x1x1x2048, .f32⟩
  | 9 => ⟨S128x1x2048, .f32⟩
  | 10 => ⟨S128x8x2048, .f32⟩
  | 11 => ⟨S_, .f32⟩
  | 12 => ⟨S128x8, .f32⟩
  | 13 => ⟨S128x8x1, .f32⟩
  | 14 => ⟨S_, .f32⟩
  | 15 => ⟨S128x8x1, .f32⟩
  | 16 => ⟨S128x8x1, .f32⟩
  | 17 => ⟨S_, .f32⟩
  | 18 => ⟨S128x8x1, .f32⟩
  | 19 => ⟨S128x8x1, .f32⟩
  | 20 => ⟨S128x8x1, .f32⟩
  | 21 => ⟨S128x8x2048, .f32⟩
  | 22 => ⟨S128x8x2048, .f32⟩
  | 23 => ⟨S1x1x2048, .f32⟩
  | 24 => ⟨S128x8x2048, .f32⟩
  | 25 => ⟨S128x8x2048, .f32⟩
  | 26 => ⟨S_, .f32⟩
  | 27 => ⟨S128x1x2048, .f32⟩
  | 28 => ⟨S128x1x2048, .f32⟩
  | 29 => ⟨S128x8x2048, .f32⟩
  | 30 => ⟨S128x8x2048, .f32⟩
  | 31 => ⟨S128x8x2048, .f32⟩
  | 32 => ⟨S128x8x2048, .f32⟩
  | 33 => ⟨S128x8x11312, .f32⟩
  | 34 => ⟨S128x8x2048, .f32⟩
  | 35 => ⟨S128x8x2048, .f32⟩
  | 36 => ⟨S128x8x512, .f32⟩
  | 37 => ⟨S128x8x512, .f32⟩
  | 38 => ⟨S128x8x512, .f32⟩
  | 39 => ⟨S128x8x512, .f32⟩
  | 40 => ⟨S128x8x512, .f32⟩
  | 41 => ⟨S128x8x512, .f32⟩
  | 42 => ⟨S128x8x48, .f32⟩
  | 43 => ⟨S128x8x4096, .f32⟩
  | 44 => ⟨S128x8x2048, .f32⟩
  | 45 => ⟨S128x8x2048, .f32⟩
  | 46 => ⟨S_, .f32⟩
  | 47 => ⟨S128x8x2048, .f32⟩
  | 48 => ⟨S128x8x2048, .f32⟩
  | 49 => ⟨S128x8x2048, .f32⟩
  | 50 => ⟨S_, .f32⟩
  | 51 => ⟨S128x8x2048, .f32⟩
  | 52 => ⟨S128x8x2048, .f32⟩
  | 53 => ⟨S128x8x2048, .f32⟩
  | 54 => ⟨S_, .f32⟩
  | 55 => ⟨S128x8x2048, .f32⟩
  | 56 => ⟨S128x8x2048, .f32⟩
  | 57 => ⟨S_, .f32⟩
  | 58 => ⟨S128x8x2048, .f32⟩
  | 59 => ⟨S128x8x2048, .f32⟩
  | 60 => ⟨S128x8x2048, .f32⟩
  | 61 => ⟨S128x8x4x4x128, .f32⟩
  | 62 => ⟨S128x8x4x4x128, .f32⟩
  | 63 => ⟨S_, .f32⟩
  | 64 => ⟨S128x8x4x4, .f32⟩
  | 65 => ⟨S128x8x4x4x1, .f32⟩
  | 66 => ⟨S_, .f32⟩
  | 67 => ⟨S128x8x4x4x1, .f32⟩
  | 68 => ⟨S128x8x4x4x1, .f32⟩
  | 69 => ⟨S_, .f32⟩
  | 70 => ⟨S128x8x4x4x1, .f32⟩
  | 71 => ⟨S128x8x4x4x1, .f32⟩
  | 72 => ⟨S128x8x4x4x1, .f32⟩
  | 73 => ⟨S128x8x4x4x128, .f32⟩
  | 74 => ⟨S128x8x4x4x128, .f32⟩
  | 75 => ⟨S1x1x1x1x128, .f32⟩
  | 76 => ⟨S128x8x4x4x128, .f32⟩
  | 77 => ⟨S128x8x4x4x128, .f32⟩
  | 78 => ⟨S128x8x4x128, .f32⟩
  | 79 => ⟨S128x8x4x128, .f32⟩
  | 80 => ⟨S128x8x4x128, .f32⟩
  | 81 => ⟨S128x8x4x128, .f32⟩
  | 82 => ⟨S128x8x4x128, .f32⟩
  | 83 => ⟨S1x128, .f32⟩
  | 84 => ⟨S128, .f32⟩
  | 85 => ⟨S128x8x4x128, .f32⟩
  | 86 => ⟨S_, .f32⟩
  | 87 => ⟨S128x8x4, .f32⟩
  | 88 => ⟨S128x8x4x1, .f32⟩
  | 89 => ⟨S_, .f32⟩
  | 90 => ⟨S128x8x4x1, .f32⟩
  | 91 => ⟨S128x8x4x1, .f32⟩
  | 92 => ⟨S_, .f32⟩
  | 93 => ⟨S128x8x4x1, .f32⟩
  | 94 => ⟨S128x8x4x1, .f32⟩
  | 95 => ⟨S128x8x4x1, .f32⟩
  | 96 => ⟨S128x8x4x128, .f32⟩
  | 97 => ⟨S128x8x4x128, .f32⟩
  | 98 => ⟨S1x1x1x128, .f32⟩
  | 99 => ⟨S128x8x4x128, .f32⟩
  | 100 => ⟨S128x8x4x128, .f32⟩
  | 101 => ⟨S128x8x4x128, .f32⟩
  | 102 => ⟨S1x128, .f32⟩
  | 103 => ⟨S128, .f32⟩
  | 104 => ⟨S128x8x4x128, .f32⟩
  | 105 => ⟨S_, .f32⟩
  | 106 => ⟨S128x8x4, .f32⟩
  | 107 => ⟨S128x8x4x1, .f32⟩
  | 108 => ⟨S_, .f32⟩
  | 109 => ⟨S128x8x4x1, .f32⟩
  | 110 => ⟨S128x8x4x1, .f32⟩
  | 111 => ⟨S_, .f32⟩
  | 112 => ⟨S128x8x4x1, .f32⟩
  | 113 => ⟨S128x8x4x1, .f32⟩
  | 114 => ⟨S128x8x4x1, .f32⟩
  | 115 => ⟨S128x8x4x128, .f32⟩
  | 116 => ⟨S128x8x4x128, .f32⟩
  | 117 => ⟨S1x1x1x128, .f32⟩
  | 118 => ⟨S128x8x4x128, .f32⟩
  | 119 => ⟨S128x8x4x128, .f32⟩
  | 120 => ⟨S128x8x48, .f32⟩
  | 121 => ⟨S128x8x48, .f32⟩
  | 122 => ⟨S_, .f32⟩
  | 123 => ⟨S128x8x48, .f32⟩
  | 124 => ⟨S128x8x48, .f32⟩
  | 125 => ⟨S_, .f32⟩
  | 126 => ⟨S128x8x48, .f32⟩
  | 127 => ⟨S128x8x48, .f32⟩
  | _ => ⟨S128x8x2048, .f32⟩

abbrev hbmTy0_1 (i : Nat) : BufTy := match i % 128 with
  | 0 => ⟨S128x8x4096, .f32⟩
  | 1 => ⟨S128x8x4096, .f32⟩
  | 2 => ⟨S_, .f32⟩
  | 3 => ⟨S128x8x4096, .f32⟩
  | 4 => ⟨S128x8x4096, .f32⟩
  | 5 => ⟨S_, .f32⟩
  | 6 => ⟨S128x8x4096, .f32⟩
  | 7 => ⟨S128x8x4096, .f32⟩
  | 8 => ⟨S1024x4x512, .f32⟩
  | 9 => ⟨S4x1024x512, .f32⟩
  | 10 => ⟨S1024x4x512, .f32⟩
  | 11 => ⟨S4x1024x512, .f32⟩
  | 12 => ⟨S1024x48, .f32⟩
  | 13 => ⟨S1024x8x512, .f32⟩
  | 14 => ⟨S8x1024x512, .f32⟩
  | _ => ⟨S128x8x2048, .f32⟩

abbrev hbmTy (i : Nat) : BufTy := match i / 128 with
  | 0 => hbmTy0_0 i
  | 1 => hbmTy0_1 i
  | _ => ⟨S128x8x2048, .f32⟩

abbrev bufTy : (tb : Table) → Fin (tcTables nBuf tb) → BufTy
  | .hbm, ⟨i, _⟩ => hbmTy i
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_16 : Ref sig .tc := ⟨.hbm, 122, rfl⟩
abbrev main_v99 : Ref sig .tc := ⟨.hbm, 123, rfl⟩
abbrev main_v100 : Ref sig .tc := ⟨.hbm, 124, rfl⟩
abbrev main_cst_17 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_18 : Ref sig .tc := ⟨.hbm, 130, rfl⟩
abbrev main_v105 : Ref sig .tc := ⟨.hbm, 131, rfl⟩
abbrev main_v106 : Ref sig .tc := ⟨.hbm, 132, rfl⟩
abbrev main_cst_19 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]
-- ==== MixKernel.lean ====
abbrev S23x8192x512 : Shape := ⟨3, ![23, 8192, 512]⟩
abbrev S1024 : Shape := ⟨1, ![1024]⟩
abbrev S8x128x128 : Shape := ⟨3, ![8, 128, 128]⟩
abbrev S8x128 : Shape := ⟨2, ![8, 128]⟩
abbrev S128x128 : Shape := ⟨2, ![128, 128]⟩
abbrev S_ : Shape := ⟨0, ![]⟩
abbrev S8x128x1 : Shape := ⟨3, ![8, 128, 1]⟩
abbrev S1x1024 : Shape := ⟨2, ![1, 1024]⟩
abbrev S8192x1024 : Shape := ⟨2, ![8192, 1024]⟩
abbrev S256x1024 : Shape := ⟨2, ![256, 1024]⟩
abbrev S1x128x512 : Shape := ⟨3, ![1, 128, 512]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 22
  | .vmem => 16
  | .smem => 0
  | _ => 0

abbrev bufTy : (tb : Table) → Fin (tcTables nBuf tb) → BufTy
  | .hbm, ⟨0, _⟩ => ⟨S23x8192x512, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S8x128x128, .i1⟩
  | .hbm, ⟨12, _⟩ => ⟨S_, .f32⟩
  | .hbm, ⟨13, _⟩ => ⟨S8x128x128, .f32⟩
  | .hbm, ⟨14, _⟩ => ⟨S8x128x128, .f32⟩
  | .hbm, ⟨15, _⟩ => ⟨S8x128x128, .bf16⟩
  | .hbm, ⟨16, _⟩ => ⟨S8x128x1, .f32⟩
  | .hbm, ⟨17, _⟩ => ⟨S8x128x128, .f32⟩
  | .hbm, ⟨18, _⟩ => ⟨S1x1024, .f32⟩
  | .hbm, ⟨19, _⟩ => ⟨S1x1024, .f32⟩
  | .hbm, ⟨20, _⟩ => ⟨S8192x1024, .bf16⟩
  | .hbm, ⟨21, _⟩ => ⟨S256x1024, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .f32⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | _, _ => ⟨S23x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S23x8192x512 : Shape := ⟨3, ![23, 8192, 512]⟩
abbrev S1024 : Shape := ⟨1, ![1024]⟩
abbrev S8x128x128 : Shape := ⟨3, ![8, 128, 128]⟩
abbrev S8x128 : Shape := ⟨2, ![8, 128]⟩
abbrev S2x8192x512 : Shape := ⟨3, ![2, 8192, 512]⟩
abbrev S8192x2x512 : Shape := ⟨3, ![8192, 2, 512]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S128x128 : Shape := ⟨2, ![128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩
abbrev S8192x1024 : Shape := ⟨2, ![8192, 1024]⟩
abbrev S2x128x1024 : Shape := ⟨3, ![2, 128, 1024]⟩
abbrev S256x1024 : Shape := ⟨2, ![256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S23x8192x512, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2x8192x512, .f32⟩
  | .hbm, ⟨6, _⟩ => ⟨S2x8192x512, .f32⟩
  | .hbm, ⟨7, _⟩ => ⟨S8192x2x512, .f32⟩
  | .hbm, ⟨8, _⟩ => ⟨S2x4096x1024, .f32⟩
  | .hbm, ⟨9, _⟩ => ⟨S8192x2x512, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S_, .i32⟩
  | .hbm, ⟨41, _⟩ => ⟨S_, .f32⟩
  | .hbm, ⟨42, _⟩ => ⟨S2x4096x1024, .f32⟩
  | .hbm, ⟨43, _⟩ => ⟨S2x32x128x8x128, .f32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S8x128x128, .i1⟩
  | .hbm, ⟨51, _⟩ => ⟨S_, .f32⟩
  | .hbm, ⟨52, _⟩ => ⟨S8x128x128, .f32⟩
  | .hbm, ⟨53, _⟩ => ⟨S8x128x128, .f32⟩
  | .hbm, ⟨54, _⟩ => ⟨S8x2x32x128x128, .f32⟩
  | .hbm, ⟨55, _⟩ => ⟨S2x32x128x8x128, .f32⟩
  | .hbm, ⟨56, _⟩ => ⟨S128x8, .f32⟩
  | .hbm, ⟨57, _⟩ => ⟨S1x1x128x8x1, .f32⟩
  | .hbm, ⟨58, _⟩ => ⟨S2x32x128x8x128, .f32⟩
  | .hbm, ⟨59, _⟩ => ⟨S2x32x128x8x128, .f32⟩
  | .hbm, ⟨60, _⟩ => ⟨S2x4096x1024, .f32⟩
  | .hbm, ⟨61, _⟩ => ⟨S2x4096x1024, .f32⟩
  | .hbm, ⟨62, _⟩ => ⟨S8192x1024, .f32⟩
  | .hbm, ⟨63, _⟩ => ⟨S8192x1024, .bf16⟩
  | .hbm, ⟨64, _⟩ => ⟨S2x128x1024, .f32⟩
  | .hbm, ⟨65, _⟩ => ⟨S256x1024, .f32⟩
  | _, _ => ⟨S23x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_cst : Ref sig .tc := ⟨.hbm, 51, rfl⟩
abbrev main_call1_v6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== MrgKernel.lean ====
abbrev S23x8192x512 : Shape := ⟨3, ![23, 8192, 512]⟩
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩
abbrev S2048x512 : Shape := ⟨2, ![2048, 512]⟩
abbrev S1x1024x512 : Shape := ⟨3, ![1, 1024, 512]⟩

abbrev nBuf : Space → Nat
  | .hbm => 8
  | .vmem => 15
  | .smem => 0
  | _ => 0

abbrev bufTy : (tb : Table) → Fin (tcTables nBuf tb) → BufTy
  | .hbm, ⟨0, _⟩ => ⟨S23x8192x512, .f32⟩
  | .hbm, ⟨1, _⟩ => ⟨S8192x1024, .bf16⟩
  | .hbm, ⟨2, _⟩ => ⟨S8192x2048, .f32⟩
  | .hbm, ⟨3, _⟩ => ⟨S1024x2048, .f32⟩
  | .hbm, ⟨4, _⟩ => ⟨S2048x2048, .f32⟩
  | .hbm, ⟨5, _⟩ => ⟨S1024x2048, .bf16⟩
  | .hbm, ⟨6, _⟩ => ⟨S2048x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | _, _ => ⟨S23x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  let c0_i32_0 : BitVec 32 := 0#32
  ![v0.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MrgReferenceIdeal.lean ====
abbrev S23x8192x512 : Shape := ⟨3, ![23, 8192, 512]⟩
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S4x8192x512 : Shape := ⟨3, ![4, 8192, 512]⟩
abbrev S8192x4x512 : Shape := ⟨3, ![8192, 4, 512]⟩

abbrev nBuf : Space → Nat
  | .hbm => 18
  | .vmem => 0
  | .smem => 0
  | _ => 0

abbrev bufTy : (tb : Table) → Fin (tcTables nBuf tb) → BufTy
  | .hbm, ⟨0, _⟩ => ⟨S23x8192x512, .f32⟩
  | .hbm, ⟨1, _⟩ => ⟨S8192x1024, .bf16⟩
  | .hbm, ⟨2, _⟩ => ⟨S8192x2048, .f32⟩
  | .hbm, ⟨3, _⟩ => ⟨S1024x2048, .f32⟩
  | .hbm, ⟨4, _⟩ => ⟨S2048x2048, .f32⟩
  | .hbm, ⟨5, _⟩ => ⟨S4x8192x512, .f32⟩
  | .hbm, ⟨6, _⟩ => ⟨S4x8192x512, .f32⟩
  | .hbm, ⟨7, _⟩ => ⟨S8192x4x512, .f32⟩
  | .hbm, ⟨8, _⟩ => ⟨S8192x2048, .f32⟩
  | .hbm, ⟨9, _⟩ => ⟨S8192x4x512, .f32⟩
  | .hbm, ⟨10, _⟩ => ⟨S8192x2048, .f32⟩
  | .hbm, ⟨11, _⟩ => ⟨S8192x1024, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S23x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FinKernel.lean ====
abbrev S2x4096x2048 : Shape := ⟨3, ![2, 4096, 2048]⟩
abbrev S9216x2048 : Shape := ⟨2, ![9216, 2048]⟩
abbrev S2x6x1x2048 : Shape := ⟨4, ![2, 6, 1, 2048]⟩
abbrev S1x512x2048 : Shape := ⟨3, ![1, 512, 2048]⟩
abbrev S512x2048 : Shape := ⟨2, ![512, 2048]⟩
abbrev S1x1x1x2048 : Shape := ⟨4, ![1, 1, 1, 2048]⟩
abbrev S1x1x2048 : Shape := ⟨3, ![1, 1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S9216x2048, .f32⟩
  | .hbm, ⟨2, _⟩ => ⟨S2x6x1x2048, .f32⟩
  | .hbm, ⟨3, _⟩ => ⟨S2x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x512x2048, .f32⟩
  | .local _ .vmem, ⟨7, _⟩ => ⟨S1x512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinReferenceIdeal.lean ====
abbrev S2x4096x2048 : Shape := ⟨3, ![2, 4096, 2048]⟩
abbrev S9216x2048 : Shape := ⟨2, ![9216, 2048]⟩
abbrev S2x6x1x2048 : Shape := ⟨4, ![2, 6, 1, 2048]⟩
abbrev S2x1x1x2048 : Shape := ⟨4, ![2, 1, 1, 2048]⟩
abbrev S2x1x2048 : Shape := ⟨3, ![2, 1, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S9216x2048, .f32⟩
  | .hbm, ⟨2, _⟩ => ⟨S2x6x1x2048, .f32⟩
  | .hbm, ⟨3, _⟩ => ⟨S2x1x1x2048, .f32⟩
  | .hbm, ⟨4, _⟩ => ⟨S2x1x2048, .f32⟩
  | .hbm, ⟨5, _⟩ => ⟨S8192x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FisKernel.lean ====
abbrev S128x8x2048 : Shape := ⟨3, ![128, 8, 2048]⟩
abbrev S9216x2048 : Shape := ⟨2, ![9216, 2048]⟩
abbrev S128x6x1x2048 : Shape := ⟨4, ![128, 6, 1, 2048]⟩
abbrev S64x8x2048 : Shape := ⟨3, ![64, 8, 2048]⟩
abbrev S512x2048 : Shape := ⟨2, ![512, 2048]⟩
abbrev S64x1x1x2048 : Shape := ⟨4, ![64, 1, 1, 2048]⟩
abbrev S64x1x2048 : Shape := ⟨3, ![64, 1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S128x8x2048, .f32⟩
  | .hbm, ⟨1, _⟩ => ⟨S9216x2048, .f32⟩
  | .hbm, ⟨2, _⟩ => ⟨S128x6x1x2048, .f32⟩
  | .hbm, ⟨3, _⟩ => ⟨S128x8x2048, .f32⟩
  | .local _ .vmem, ⟨0, _⟩ => ⟨S64x8x2048, .f32⟩
  | .local _ .vmem, ⟨1, _⟩ => ⟨S64x8x2048, .f32⟩
  | .local _ .vmem, ⟨2, _⟩ => ⟨S512x2048, .f32⟩
  | .local _ .vmem, ⟨3, _⟩ => ⟨S512x2048, .f32⟩
  | .local _ .vmem, ⟨4, _⟩ => ⟨S64x1x1x2048, .f32⟩
  | .local _ .vmem, ⟨5, _⟩ => ⟨S64x1x1x2048, .f32⟩
  | .local _ .vmem, ⟨6, _⟩ => ⟨S64x8x2048, .f32⟩
  | .local _ .vmem, ⟨7, _⟩ => ⟨S64x8x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c5_i32 : BitVec 32 := 5#32
  let c0_i32_5 : BitVec 32 := 0#32
  let c0_i32_6 : BitVec 32 := 0#32
  let c0_i32_7 : BitVec 32 := 0#32
  ![v16.toNat, c5_i32.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S64x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FisReferenceIdeal.lean ====
abbrev S128x8x2048 : Shape := ⟨3, ![128, 8, 2048]⟩
abbrev S9216x2048 : Shape := ⟨2, ![9216, 2048]⟩
abbrev S128x6x1x2048 : Shape := ⟨4, ![128, 6, 1, 2048]⟩
abbrev S128x1x1x2048 : Shape := ⟨4, ![128, 1, 1, 2048]⟩
abbrev S128x1x2048 : Shape := ⟨3, ![128, 1, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S9216x2048, .f32⟩
  | .hbm, ⟨2, _⟩ => ⟨S128x6x1x2048, .f32⟩
  | .hbm, ⟨3, _⟩ => ⟨S128x1x1x2048, .f32⟩
  | .hbm, ⟨4, _⟩ => ⟨S128x1x2048, .f32⟩
  | .hbm, ⟨5, _⟩ => ⟨S1024x2048, .f32⟩
  | .hbm, ⟨6, _⟩ => ⟨S128x8x2048, .f32⟩
  | .hbm, ⟨7, _⟩ => ⟨S128x8x2048, .f32⟩
  | .hbm, ⟨8, _⟩ => ⟨S128x8x2048, .f32⟩
  | .hbm, ⟨9, _⟩ => ⟨S128x8x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutKernel.lean ====
abbrev S8192x2048 : Shape := ⟨2, ![8192, 2048]⟩
abbrev S2x4096x2048 : Shape := ⟨3, ![2, 4096, 2048]⟩
abbrev S2x6x1x2048 : Shape := ⟨4, ![2, 6, 1, 2048]⟩
abbrev S2048 : Shape := ⟨1, ![2048]⟩
abbrev S2048x2048 : Shape := ⟨2, ![2048, 2048]⟩
abbrev S1x1x2048 : Shape := ⟨3, ![1, 1, 2048]⟩
abbrev S9216x2048 : Shape := ⟨2, ![9216, 2048]⟩
abbrev S256x2048 : Shape := ⟨2, ![256, 2048]⟩
abbrev S1x256x2048 : Shape := ⟨3, ![1, 256, 2048]⟩
abbrev S1x1x1x2048 : Shape := ⟨4, ![1, 1, 1, 2048]⟩
abbrev S1x256 : Shape := ⟨2, ![1, 256]⟩
abbrev S1x256x1 : Shape := ⟨3, ![1, 256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x6x1x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x1x2048, .f32⟩
  | .hbm, ⟨7, _⟩ => ⟨S2x4096x2048, .f32⟩
  | .hbm, ⟨8, _⟩ => ⟨S9216x2048, .bf16⟩
  | .local _ .vmem, ⟨0, _⟩ => ⟨S256x2048, .bf16⟩
  | .local _ .vmem, ⟨1, _⟩ => ⟨S256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x2048, .f32⟩
  | .local _ .vmem, ⟨11, _⟩ => ⟨S2048x2048, .bf16⟩
  | .local _ .vmem, ⟨12, _⟩ => ⟨S1x256x2048, .f32⟩
  | .local _ .vmem, ⟨13, _⟩ => ⟨S1x256x2048, .f32⟩
  | .local _ .vmem, ⟨14, _⟩ => ⟨S256x2048, .bf16⟩
  | .local _ .vmem, ⟨15, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S8192x2048 : Shape := ⟨2, ![8192, 2048]⟩
abbrev S2x4096x2048 : Shape := ⟨3, ![2, 4096, 2048]⟩
abbrev S2x6x1x2048 : Shape := ⟨4, ![2, 6, 1, 2048]⟩
abbrev S2048 : Shape := ⟨1, ![2048]⟩
abbrev S2048x2048 : Shape := ⟨2, ![2048, 2048]⟩
abbrev S2x1x1x2048 : Shape := ⟨4, ![2, 1, 1, 2048]⟩
abbrev S2x1x2048 : Shape := ⟨3, ![2, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x6x1x2048, .f32⟩
  | .hbm, ⟨3, _⟩ => ⟨S2048, .f32⟩
  | .hbm, ⟨4, _⟩ => ⟨S2048x2048, .f32⟩
  | .hbm, ⟨5, _⟩ => ⟨S2x1x1x2048, .f32⟩
  | .hbm, ⟨6, _⟩ => ⟨S2x1x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== ScrKernel.lean ====
abbrev S9216x2048 : Shape := ⟨2, ![9216, 2048]⟩
abbrev S2048x2048 : Shape := ⟨2, ![2048, 2048]⟩
abbrev S128x128 : Shape := ⟨2, ![128, 128]⟩
abbrev S8x128x9216 : Shape := ⟨3, ![8, 128, 9216]⟩
abbrev S512x2048 : Shape := ⟨2, ![512, 2048]⟩
abbrev S8x128x512 : Shape := ⟨3, ![8, 128, 512]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 9
  | .vmem => 9
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S128x128, .f32⟩
  | .hbm, ⟨3, _⟩ => ⟨S128x128, .f32⟩
  | .hbm, ⟨4, _⟩ => ⟨S2048x2048, .bf16⟩
  | .hbm, ⟨5, _⟩ => ⟨S128x128, .bf16⟩
  | .hbm, ⟨6, _⟩ => ⟨S128x128, .bf16⟩
  | .hbm, ⟨7, _⟩ => ⟨S8x128x9216, .f32⟩
  | .hbm, ⟨8, _⟩ => ⟨S8x128x9216, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S128x128, .bf16⟩
  | .local _ .vmem, ⟨4, _⟩ => ⟨S128x128, .bf16⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScrReferenceIdeal.lean ====
abbrev S9216x2048 : Shape := ⟨2, ![9216, 2048]⟩
abbrev S2048x2048 : Shape := ⟨2, ![2048, 2048]⟩
abbrev S128x128 : Shape := ⟨2, ![128, 128]⟩
abbrev S9216x8x2x128 : Shape := ⟨4, ![9216, 8, 2, 128]⟩
abbrev S9216x8x1x128 : Shape := ⟨4, ![9216, 8, 1, 128]⟩
abbrev S9216x8x128 : Shape := ⟨3, ![9216, 8, 128]⟩
abbrev S8x128x9216 : Shape := ⟨3, ![8, 128, 9216]⟩

abbrev nBuf : Space → Nat
  | .hbm => 15
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S128x128, .f32⟩
  | .hbm, ⟨3, _⟩ => ⟨S128x128, .f32⟩
  | .hbm, ⟨4, _⟩ => ⟨S9216x2048, .f32⟩
  | .hbm, ⟨5, _⟩ => ⟨S9216x2048, .f32⟩
  | .hbm, ⟨6, _⟩ => ⟨S9216x8x2x128, .f32⟩
  | .hbm, ⟨7, _⟩ => ⟨S9216x8x1x128, .f32⟩
  | .hbm, ⟨8, _⟩ => ⟨S9216x8x128, .f32⟩
  | .hbm, ⟨9, _⟩ => ⟨S9216x8x128, .f32⟩
  | .hbm, ⟨10, _⟩ => ⟨S9216x8x1x128, .f32⟩
  | .hbm, ⟨11, _⟩ => ⟨S9216x8x128, .f32⟩
  | .hbm, ⟨12, _⟩ => ⟨S9216x8x128, .f32⟩
  | .hbm, ⟨13, _⟩ => ⟨S8x128x9216, .f32⟩
  | .hbm, ⟨14, _⟩ => ⟨S8x128x9216, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MxsKernel.lean ====
abbrev S23x1024x512 : Shape := ⟨3, ![23, 1024, 512]⟩
abbrev S1024 : Shape := ⟨1, ![1024]⟩
abbrev S8x128x128 : Shape := ⟨3, ![8, 128, 128]⟩
abbrev S8x128 : Shape := ⟨2, ![8, 128]⟩
abbrev S128x128 : Shape := ⟨2, ![128, 128]⟩
abbrev S_ : Shape := ⟨0, ![]⟩
abbrev S16x16 : Shape := ⟨2, ![16, 16]⟩
abbrev S1x16x1x16x1 : Shape := ⟨5, ![1, 16, 1, 16, 1]⟩
abbrev S8x8x8 : Shape := ⟨3, ![8, 8, 8]⟩
abbrev S8x1x8x1x8 : Shape := ⟨5, ![8, 1, 8, 1, 8]⟩
abbrev S8x16x8x16x8 : Shape := ⟨5, ![8, 16, 8, 16, 8]⟩
abbrev S8x8 : Shape := ⟨2, ![8, 8]⟩
abbrev S1x8x1x8 : Shape := ⟨4, ![1, 8, 1, 8]⟩
abbrev S1x8x16x8 : Shape := ⟨4, ![1, 8, 16, 8]⟩
abbrev S8x128x1 : Shape := ⟨3, ![8, 128, 1]⟩
abbrev S1x1024 : Shape := ⟨2, ![1, 1024]⟩
abbrev S1024x1024 : Shape := ⟨2, ![1024, 1024]⟩
abbrev S1x128x512 : Shape := ⟨3, ![1, 128, 512]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 42
  | .vmem => 16
  | .smem => 0
  | _ => 0

abbrev bufTy : (tb : Table) → Fin (tcTables nBuf tb) → BufTy
  | .hbm, ⟨0, _⟩ => ⟨S23x1024x512, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S8x128x128, .i1⟩
  | .hbm, ⟨12, _⟩ => ⟨S_, .f32⟩
  | .hbm, ⟨13, _⟩ => ⟨S8x128x128, .f32⟩
  | .hbm, ⟨14, _⟩ => ⟨S8x128x128, .f32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i1⟩
  | .hbm, ⟨21, _⟩ => ⟨S1x16x1x16x1, .i1⟩
  | .hbm, ⟨22, _⟩ => ⟨S8x8x8, .f32⟩
  | .hbm, ⟨23, _⟩ => ⟨S8x1x8x1x8, .f32⟩
  | .hbm, ⟨24, _⟩ => ⟨S_, .f32⟩
  | .hbm, ⟨25, _⟩ => ⟨S_, .f32⟩
  | .hbm, ⟨26, _⟩ => ⟨S8x16x8x16x8, .i1⟩
  | .hbm, ⟨27, _⟩ => ⟨S8x16x8x16x8, .f32⟩
  | .hbm, ⟨28, _⟩ => ⟨S8x16x8x16x8, .f32⟩
  | .hbm, ⟨29, _⟩ => ⟨S8x16x8x16x8, .f32⟩
  | .hbm, ⟨30, _⟩ => ⟨S8x128x128, .f32⟩
  | .hbm, ⟨31, _⟩ => ⟨S8x128x128, .bf16⟩
  | .hbm, ⟨32, _⟩ => ⟨S8x8, .f32⟩
  | .hbm, ⟨33, _⟩ => ⟨S1x8x1x8, .f32⟩
  | .hbm, ⟨34, _⟩ => ⟨S1x8x16x8, .f32⟩
  | .hbm, ⟨35, _⟩ => ⟨S8x128, .f32⟩
  | .hbm, ⟨36, _⟩ => ⟨S8x128x1, .f32⟩
  | .hbm, ⟨37, _⟩ => ⟨S8x128x128, .f32⟩
  | .hbm, ⟨38, _⟩ => ⟨S1x1024, .f32⟩
  | .hbm, ⟨39, _⟩ => ⟨S1x1024, .f32⟩
  | .hbm, ⟨40, _⟩ => ⟨S1024x1024, .bf16⟩
  | .hbm, ⟨41, _⟩ => ⟨S1024x1024, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .f32⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | _, _ => ⟨S23x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MxsReferenceIdeal.lean ====
abbrev S23x1024x512 : Shape := ⟨3, ![23, 1024, 512]⟩
abbrev S1024 : Shape := ⟨1, ![1024]⟩
abbrev S8x128x128 : Shape := ⟨3, ![8, 128, 128]⟩
abbrev S8x128 : Shape := ⟨2, ![8, 128]⟩
abbrev S2x1024x512 : Shape := ⟨3, ![2, 1024, 512]⟩
abbrev S1024x2x512 : Shape := ⟨3, ![1024, 2, 512]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S23x1024x512, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2x1024x512, .f32⟩
  | .hbm, ⟨6, _⟩ => ⟨S1024x2x512, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x1024, .f32⟩
  | .hbm, ⟨24, _⟩ => ⟨S128x8x1024, .f32⟩
  | .hbm, ⟨25, _⟩ => ⟨S_, .f32⟩
  | .hbm, ⟨26, _⟩ => ⟨S128x8x1, .f32⟩
  | .hbm, ⟨27, _⟩ => ⟨S128x8x1, .f32⟩
  | .hbm, ⟨28, _⟩ => ⟨S128x8x1, .f32⟩
  | .hbm, ⟨29, _⟩ => ⟨S128x8x1024, .f32⟩
  | .hbm, ⟨30, _⟩ => ⟨S128x8x1024, .f32⟩
  | .hbm, ⟨31, _⟩ => ⟨S1x1x1024, .f32⟩
  | .hbm, ⟨32, _⟩ => ⟨S128x8x1024, .f32⟩
  | .hbm, ⟨33, _⟩ => ⟨S128x8x1024, .f32⟩
  | .hbm, ⟨34, _⟩ => ⟨S1x1x1024, .f32⟩
  | .hbm, ⟨35, _⟩ => ⟨S128x8x1024, .f32⟩
  | .hbm, ⟨36, _⟩ => ⟨S128x8x1024, .f32⟩
  | .hbm, ⟨37, _⟩ => ⟨S1024x1024, .f32⟩
  | _, _ => ⟨S23x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== AdaKernel.lean ====
abbrev S136x2048 : Shape := ⟨2, ![136, 2048]⟩
abbrev S2048x12288 : Shape := ⟨2, ![2048, 12288]⟩
abbrev S12288 : Shape := ⟨1, ![12288]⟩
abbrev S1x12288 : Shape := ⟨2, ![1, 12288]⟩
abbrev S136x12288 : Shape := ⟨2, ![136, 12288]⟩
abbrev S2048x1024 : Shape := ⟨2, ![2048, 1024]⟩
abbrev S1x1024 : Shape := ⟨2, ![1, 1024]⟩
abbrev S136x1024 : Shape := ⟨2, ![136, 1024]⟩

abbrev nBuf : Space → Nat
  | .hbm => 5
  | .vmem => 7
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S136x12288, .f32⟩
  | .local _ .vmem, ⟨0, _⟩ => ⟨S136x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S136x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S136x2048 : Shape := ⟨2, ![136, 2048]⟩
abbrev S2048x12288 : Shape := ⟨2, ![2048, 12288]⟩
abbrev S12288 : Shape := ⟨1, ![12288]⟩
abbrev S_ : Shape := ⟨0, ![]⟩
abbrev S136x12288 : Shape := ⟨2, ![136, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S136x2048, .f32⟩
  | .hbm, ⟨4, _⟩ => ⟨S136x2048, .f32⟩
  | .hbm, ⟨5, _⟩ => ⟨S_, .f32⟩
  | .hbm, ⟨6, _⟩ => ⟨S136x2048, .f32⟩
  | .hbm, ⟨7, _⟩ => ⟨S136x2048, .f32⟩
  | .hbm, ⟨8, _⟩ => ⟨S_, .f32⟩
  | .hbm, ⟨9, _⟩ => ⟨S136x2048, .f32⟩
  | .hbm, ⟨10, _⟩ => ⟨S136x2048, .f32⟩
  | .hbm, ⟨11, _⟩ => ⟨S136x2048, .f32⟩
  | .hbm, ⟨12, _⟩ => ⟨S136x12288, .f32⟩
  | .hbm, ⟨13, _⟩ => ⟨S1x12288, .f32⟩
  | .hbm, ⟨14, _⟩ => ⟨S136x12288, .f32⟩
  | .hbm, ⟨15, _⟩ => ⟨S136x12288, .f32⟩
  | _, _ => ⟨S136x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Bucket.lean ====
module
public import Idealize.ShloMosaic.Lib.Pointwise
public import Idealize.ShloMosaic.Lib.WordCmp
@[expose] public section
set_option maxRecDepth 16384
noncomputable section
namespace Cert.Win
open Idealize.ShloMosaic Idealize.ShloMosaic.TcCoe

/-- The bucket of a distance word, before a negative one is wrapped: itself below sixteen, logarithmic from there on. -/
def core (w : BitVec 32) : BitVec 32 :=
  Scalar.select (IntOp.cmpi .slt (IntOp.maxsi w 0#32) 16#32) (IntOp.maxsi w 0#32)
    (IntOp.minsi (IntOp.addi 16#32 (FloatOps.fptosi (F := Ideal) (φ := .f32) 32 (Ideal.div (Ideal.log (Ideal.div (FloatOps.sitofp (F := Ideal) .f32 (IntOp.maxsi (IntOp.maxsi w 0#32) 1#32)) (Ideal.ofBits .f32 0x41800000#32))) (Ideal.ofBits .f32 0x40051592#32) * Ideal.ofBits .f32 0x41800000#32))) 31#32)

/-- A negative row number counts from the end. -/
def wrap (w : BitVec 32) : BitVec 32 := Scalar.select (IntOp.cmpi .slt w 0#32) (IntOp.addi w 32#32) w

/-- The row of the bias table that a distance word reads. -/
def rowOf (w : BitVec 32) : Fin 32 := ⟨min (wrap (core w)).toInt.toNat 31, by omega⟩

/-- The bias of head `h` at distance `n`. -/
def biasOf (A : FVec Ideal ⟨2, ![32, 16]⟩ .f32) (n : ℕ) (h : Fin 16) : EReal := A (ix2 (rowOf (BitVec.ofNat 32 n)) h)

theorem c16 : Ideal.ofBits .f32 0x41800000#32 = ((16 : ℝ) : EReal) := by
  simp [Ideal.ofBits, Ideal.ieee]
  rw [← EReal.coe_mul]
  congr 1
  norm_num

theorem c2 : ∃ r : ℝ, Ideal.ofBits .f32 0x40051592#32 = (r : EReal) ∧ 2 < r ∧ r < 2.1 := by
  refine ⟨8721810 / 4194304, ?_, by norm_num, by norm_num⟩
  simp [Ideal.ofBits, Ideal.ieee]
  rw [← EReal.coe_mul]
  congr 1
  norm_num

theorem w_max : ∀ n : Fin 512, IntOp.maxsi (IntOp.maxsi (BitVec.ofNat 32 n.val) 0#32) 1#32 = BitVec.ofNat 32 (max n.val 1) := by decide +kernel
theorem w_int : ∀ n : Fin 512, (BitVec.ofNat 32 n.val).toInt = (n.val : ℤ) := by decide +kernel
theorem w_cmp : ∀ n : Fin 512, 16 ≤ n.val → IntOp.cmpi .slt (IntOp.maxsi (BitVec.ofNat 32 n.val) 0#32) 16#32 = 0#1 := by decide +kernel
theorem w_min : ∀ z : Fin 400, 15 ≤ z.val → IntOp.minsi (IntOp.addi 16#32 (BitVec.ofInt 32 (z.val : ℤ))) 31#32 = 31#32 := by decide +kernel

theorem log_pos' {x : ℝ} (h : 0 < x) : Ideal.log (x : EReal) = ((Real.log x : ℝ) : EReal) := by
  show (if _ then _ else _) = _
  rw [if_neg (by linarith)]

theorem ratio (n : ℕ) (r : ℝ) (h1 : 257 ≤ n) (h2 : n ≤ 511) (hr1 : 2 < r) (hr2 : r < 2.1) :
    15 ≤ Real.log ((n : ℝ) * (1 / 16)) * (1 / r) * 16 ∧ Real.log ((n : ℝ) * (1 / 16)) * (1 / r) * 16 < 300 := by
  have hx : (16 : ℝ) ≤ (n : ℝ) * (1 / 16) := by
    have : (257 : ℝ) ≤ n := by exact_mod_cast h1
    linarith
  have hx' : (n : ℝ) * (1 / 16) ≤ 32 := by
    have : (n : ℝ) ≤ 511 := by exact_mod_cast h2
    linarith
  have l2 := Real.log_le_sub_one_of_pos (show 0 < (n : ℝ) * (1 / 16) by linarith)
  have a1 : Real.log 16 ≤ Real.log ((n : ℝ) * (1 / 16)) := Real.log_le_log (by norm_num) hx
  have a2 : Real.log 16 = 4 * Real.log 2 := by
    rw [show (16 : ℝ) = 2 ^ (4 : ℕ) by norm_num, Real.log_pow]; norm_num
  have a3 := Real.one_sub_inv_le_log_of_pos (show (0 : ℝ) < 2 by norm_num)
  norm_num at a3
  generalize Real.log ((n : ℝ) * (1 / 16)) = L at *
  constructor
  · rw [mul_one_div, div_mul_eq_mul_div, le_div_iff₀ (by linarith)]
    linarith
  · rw [mul_one_div, div_mul_eq_mul_div, div_lt_iff₀ (by linarith)]
    linarith

theorem toInt_word (q : ℝ) (q1 : 15 ≤ q) (q2 : q < 300) :
    ∃ z : Fin 400, 15 ≤ z.val ∧ FloatOps.fptosi (F := Ideal) (φ := .f32) 32 (q : EReal) = BitVec.ofInt 32 (z.val : ℤ) := by
  have f1 : 15 ≤ ⌊q⌋ := Int.le_floor.mpr (by exact_mod_cast q1)
  have f2 : ⌊q⌋ < 300 := Int.floor_lt.mpr (by exact_mod_cast q2)
  refine ⟨⟨⌊q⌋.toNat, by omega⟩, by show 15 ≤ ⌊q⌋.toNat; omega, ?_⟩
  show BitVec.ofInt 32 (Ideal.toIntClamped _ _ _) = BitVec.ofInt 32 ((⌊q⌋.toNat : ℕ) : ℤ)
  rw [Ideal.toIntClamped_coe, if_pos (by linarith), Int.toNat_of_nonneg (by omega)]
  congr 1
  rw [min_eq_right (by norm_num; omega), max_eq_right (by norm_num; omega)]

theorem far_word (n : ℕ) (h1 : 257 ≤ n) (h2 : n ≤ 511) (w : BitVec 32) (hw : w.toInt = (n : ℤ)) :
    ∃ z : Fin 400, 15 ≤ z.val ∧ FloatOps.fptosi (F := Ideal) (φ := .f32) 32 (Ideal.div (Ideal.log (Ideal.div (FloatOps.sitofp (F := Ideal) .f32 w) (Ideal.ofBits .f32 0x41800000#32))) (Ideal.ofBits .f32 0x40051592#32) * Ideal.ofBits .f32 0x41800000#32) = BitVec.ofInt 32 (z.val : ℤ) := by
  obtain ⟨r, hr, hr1, hr2⟩ := c2
  have hs : (FloatOps.sitofp (F := Ideal) .f32 w : EReal) = ((n : ℝ) : EReal) := by
    show ((w.toInt : ℝ) : EReal) = _
    rw [hw]; norm_cast
  have hp : 0 < (n : ℝ) * (1 / 16) := by
    have : (257 : ℝ) ≤ n := by exact_mod_cast h1
    linarith
  have := ratio n r h1 h2 hr1 hr2
  rw [hs, c16, hr, Ideal.div_coe (y := 16) (by norm_num), ← EReal.coe_mul, log_pos' hp, Ideal.div_coe (y := r) (by linarith), ← EReal.coe_mul, ← EReal.coe_mul]
  exact toInt_word _ this.1 this.2

theorem sel0 (a b : BitVec 32) : Scalar.select 0#1 a b = b := rfl

theorem rowOf_of (w : BitVec 32) (h : core w = 31#32) : rowOf w = 31 := by
  refine Fin.ext ?_
  show min (wrap (core w)).toInt.toNat 31 = 31
  rw [h]
  decide

/-- From distance 257 on, within the window, the last row is read. -/
theorem row_far (n : ℕ) (h1 : 257 ≤ n) (h2 : n ≤ 511) : rowOf (BitVec.ofNat 32 n) = 31 := by
  have hn : n < 512 := by omega
  have e1 := w_max ⟨n, hn⟩
  have e2 := w_cmp ⟨n, hn⟩ (by show 16 ≤ n; omega)
  have e3 := w_int ⟨n, hn⟩
  have em : max n 1 = n := by omega
  dsimp only at e1 e2 e3
  rw [em] at e1
  obtain ⟨z, z1, z2⟩ := far_word n h1 h2 _ e3
  have hc : core (BitVec.ofNat 32 n) = 31#32 := by
    unfold core
    rw [e1, e2, z2, w_min z z1]
    exact sel0 _ _
  exact rowOf_of _ hc
end Cert.Win
-- ==== Proof.PreAt.lean ====
module
public import proofs.«01_k».proof.Proof.Gen.Pre_win_pre
public import proofs.«01_k».proof.Proof.Bucket
public import Idealize.ShloMosaic.Lib.Pointwise
@[expose] public section
set_option maxRecDepth 16384
noncomputable section
namespace Cert.Pre_win_pre.Win
open Cert.Pre_win_pre Cert.Pre_win_pre.Gen Idealize.ShloMosaic Idealize.ShloMosaic.TcCoe
open Cert.Win (core wrap rowOf biasOf)

/-- The parts of the precondition, named: the distances of a tile and of the one before it, their buckets, the bias less that of the last bucket, and the later keys. -/
def DIST : IVec S2x256x256 32 := subi (broadcastInDim S2x256x256 ![0, 1, 2] Facts.bcast_S2x256x1_S2x256x256_0_1_2 (addi (broadcastInDim S2x256x1 ![0, 1, 2] Facts.bcast_S2x1x1_S2x256x1_0_1_2 (muli (broadcastInDim S2x1x1 ![] Facts.bcast_S_S2x1x1 (constantI S_ 32 256#32)) (broadcastInDim S2x1x1 ![0] Facts.bcast_S2_S2x1x1_0 (iotaInDim S2 32 0)))) (broadcastInDim S2x256x1 ![0, 1, 2] Facts.bcast_S1x256x1_S2x256x1_0_1_2 (broadcastInDim S1x256x1 ![1] Facts.bcast_S256_S1x256x1_1 (iotaInDim S256 32 0))))) (broadcastInDim S2x256x256 ![0, 1, 2] Facts.bcast_S1x1x256_S2x256x256_0_1_2 (broadcastInDim S1x1x256 ![2] Facts.bcast_S256_S1x1x256_2 (iotaInDim S256 32 0)))
def cI (w : BitVec 32) : IVec S2x256x256 32 := broadcastInDim S2x256x256 ![] Facts.bcast_S_S2x256x256 (constantI S_ 32 w)
def cF (w : BitVec 32) : FVec Ideal S2x256x256 .f32 := broadcastInDim S2x256x256 ![] Facts.bcast_S_S2x256x256 (constant S_ .f32 w)
def BC (D : IVec S2x256x256 32) : IVec S2x256x256 32 := select (cmpi .slt (maxsi D (cI 0#32)) (cI 16#32)) (maxsi D (cI 0#32)) (minsi (addi (cI 16#32) (fptosi 32 (mulf (Host.divf (Host.log (Host.divf (sitofp .f32 (maxsi (maxsi D (cI 0#32)) (cI 1#32))) (cF 0x41800000#32))) (cF 0x40051592#32)) (cF 0x41800000#32) : FVec Ideal S2x256x256 .f32))) (cI 31#32))
def BW (B : IVec S2x256x256 32) : IVec S2x256x256 32 := select (cmpi .slt B (cI 0#32)) (addi B (cI 32#32)) B
def NEAR (A0 : FVec Ideal S32x16 .f32) (B : IVec S2x256x256 32) : FVec Ideal S4x2x1024x256 .f32 :=
  shapeCast S4x2x1024x256 (transpose S4x2x4x256x256 [3, 0, 4, 1, 2] (shapeCast S2x256x256x4x4 (subf (Host.gather gather_S32x16_S2x256x256x1_S2x256x256x16_3_0_n_n_0_3_116 A0 (broadcastInDim S2x256x256x1 ![0, 1, 2] Facts.bcast_S2x256x256_S2x256x256x1_0_1_2 B))
    (broadcastInDim S2x256x256x16 ![0, 1, 2, 3] Facts.bcast_S1x1x1x16_S2x256x256x16_0_1_2_3 (broadcastInDim S1x1x1x16 ![3] Facts.bcast_S16_S1x1x1x16_3 (shapeCast S16 (extractStridedSlice S1x16 ![31, 0] A0 Facts.slices_S32x16_S1x16_31_0) Facts.shapeCasts_S1x16_S16)))) Facts.shapeCasts_S2x256x256x16_S2x256x256x4x4) Facts.transposes_S2x256x256x4x4_S4x2x4x256x256_3_0_4_1_2) Facts.shapeCasts_S4x2x4x256x256_S4x2x1024x256
def LATER (D : IVec S2x256x256 32) : IVec S4x2x1024x256 1 :=
  shapeCast S4x2x1024x256 (broadcastInDim S4x2x4x256x256 ![0, 1, 2, 3, 4] Facts.bcast_S1x2x1x256x256_S4x2x4x256x256_0_1_2_3_4 (broadcastInDim S1x2x1x256x256 ![1, 3, 4] Facts.bcast_S2x256x256_S1x2x1x256x256_1_3_4 (cmpi .slt D (cI 0#32)))) Facts.shapeCasts_S4x2x4x256x256_S4x2x1024x256
def ABS (A0 : FVec Ideal S32x16 .f32) : IVec S16 1 :=
  cmpf .olt (Host.absf (shapeCast S16 (extractStridedSlice S1x16 ![31, 0] A0 Facts.slices_S32x16_S1x16_31_0) Facts.shapeCasts_S1x16_S16)) (broadcastInDim S16 ![] Facts.bcast_S_S16 (constant S_ .f32 0x7F800000#32))

theorem fn_eq (A0 : FVec Ideal S32x16 .f32) (A1 : FVec Ideal S23x8192x512 .f32) (A2 : FVec Ideal S4x2x1024x256 .f32) (A3 : FVec Ideal S8192x2048 .f32) :
    fn (F := Ideal) A0 A1 A2 A3 = (ori (cmpf .oeq A2 (NEAR A0 (BW (BC DIST)))) (LATER DIST), ABS A0) := rfl

variable (g : Fin 4) (e : Fin 2) (k : Fin 1024) (i j : Fin 256)

theorem DIST_at : DIST (ix3 e i j) = IntOp.subi (IntOp.addi (IntOp.muli 256#32 (BitVec.ofNat 32 e.val)) (BitVec.ofNat 32 i.val)) (BitVec.ofNat 32 j.val) := by
  unfold DIST
  pointwise
theorem BC_at (D : IVec S2x256x256 32) : BC D (ix3 e i j) = core (D (ix3 e i j)) := by
  unfold BC core cI cF
  pointwise
theorem BW_at (D : IVec S2x256x256 32) : BW D (ix3 e i j) = wrap (D (ix3 e i j)) := by
  unfold BW wrap cI
  pointwise
theorem col_at (D : IVec S2x256x256 32) : (broadcastInDim S2x256x256x1 ![0, 1, 2] Facts.bcast_S2x256x256_S2x256x256x1_0_1_2 D) (ix4 e i j 0) = D (ix3 e i j) := by
  pointwise

/-- The rows taken from the bias table: row `idx`, clamped into the table, at its column. -/
theorem gather_at (A0 : FVec Ideal S32x16 .f32) (idx : IVec S2x256x256x1 32) (h : Fin 16) :
    (Host.gather gather_S32x16_S2x256x256x1_S2x256x256x16_3_0_n_n_0_3_116 A0 idx (ix4 e i j h) : EReal)
      = A0 (ix2 (⟨min (idx (ix4 e i j 0)).toInt.toNat 31, by omega⟩ : Fin 32) h) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x16_S2x256x256x1_S2x256x256x16_3_0_n_n_0_3_116] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S2x256x256x1_S2x256x256x16_3_0_n_n_0_3_116.startIndexMap from List.mem_singleton.mpr rfl)]
    have hsi : gather_S32x16_S2x256x256x1_S2x256x256x16_3_0_n_n_0_3_116.siIdx (ix4 e i j h) ⟨List.idxOf (0 : Fin 2) gather_S32x16_S2x256x256x1_S2x256x256x16_3_0_n_n_0_3_116.startIndexMap,
        List.idxOf_lt_length_iff.2 (List.mem_singleton.mpr rfl)⟩ = ix4 e i j 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => by simp [gather_S32x16_S2x256x256x1_S2x256x256x16_3_0_n_n_0_3_116] at h)]
    unfold GatherDims.start
    rw [dif_neg (show ¬ (1 : Fin 2) ∈ gather_S32x16_S2x256x256x1_S2x256x256x16_3_0_n_n_0_3_116.startIndexMap from by decide)]
    simp only [Nat.zero_add, Nat.add_zero]
    unfold GatherDims.offCoord
    rw [dif_pos (by decide)]
    rfl

theorem NEAR_at (A0 : FVec Ideal S32x16 .f32) : (NEAR A0 (BW (BC DIST)) (ix4 g e k j) : EReal)
    = A0 (ix2 (rowOf (DIST (ix3 e ⟨k.val % 256, by omega⟩ j))) ⟨g.val * 4 + k.val / 256, by omega⟩) - A0 (ix2 31 ⟨g.val * 4 + k.val / 256, by omega⟩) := by
  unfold NEAR
  pointwise
  refine congrArg₂ (· - ·) ((gather_at e _ j A0 _ _).trans ?_) rfl
  exact congrArg (fun w : BitVec 32 => (A0 (ix2 (⟨min w.toInt.toNat 31, by omega⟩ : Fin 32) ⟨g.val * 4 + k.val / 256, by omega⟩) : EReal)) ((col_at e _ j _).trans ((BW_at e _ j _).trans (congrArg wrap (BC_at e _ j _))))

theorem LATER_at (D : IVec S2x256x256 32) : LATER D (ix4 g e k j) = IntOp.cmpi .slt (D (ix3 e ⟨k.val % 256, by omega⟩ j)) 0#32 := by
  unfold LATER cI
  pointwise

theorem ABS_at (A0 : FVec Ideal S32x16 .f32) (h : Fin 16) : ABS A0 (ix1 h) = BitVec.ofBool (decide ((FloatOps.absf (F := Ideal) (φ := .f32) (A0 (ix2 31 h)) : EReal) < Ideal.ofBits .f32 0x7F800000#32)) := by
  unfold ABS
  pointwise

theorem TOP : Ideal.ofBits .f32 0x7F800000#32 = ⊤ := by simp [Ideal.ofBits, Ideal.ieee]

theorem FST_at (A0 : FVec Ideal S32x16 .f32) (A1 : FVec Ideal S23x8192x512 .f32) (A2 : FVec Ideal S4x2x1024x256 .f32) (A3 : FVec Ideal S8192x2048 .f32) :
    (fn (F := Ideal) A0 A1 A2 A3).1 (ix4 g e k j) = IntOp.ori (BitVec.ofBool (decide ((A2 (ix4 g e k j) : EReal) = NEAR A0 (BW (BC DIST)) (ix4 g e k j)))) (LATER DIST (ix4 g e k j)) := by
  rw [fn_eq]
  rfl
end Cert.Pre_win_pre.Win
-- ==== Proof.RefParts.lean ====
module
public import proofs.«01_k».proof.Proof.Gen.ReferenceIdeal.Run
public import Idealize.ShloMosaic.Lib.Pointwise
@[expose] public section
set_option maxRecDepth 16384
noncomputable section
namespace Cert.ReferenceIdeal.Win
open Cert.ReferenceIdeal Cert.ReferenceIdeal.Gen Idealize.ShloMosaic Idealize.ShloMosaic.TcCoe Idealize.SL.Sem

/-- The parts of the reference, named: the distances, their buckets, the mask, the bias, the scaled products, the masked scores, their maximum, the exponentials, the weights, the gate, the weighted values. -/
def DIST : IVec S4096x4096 32 := (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))
def BC (D : IVec S4096x4096 32) : IVec S4096x4096 32 := (select (cmpi .slt (maxsi D (broadcastInDim S4096x4096 ![] bcast_S_S4096x4096 (constantI S_ 32 0#32))) (broadcastInDim S4096x4096 ![] bcast_S_S4096x4096 (constantI S_ 32 16#32))) (maxsi D (broadcastInDim S4096x4096 ![] bcast_S_S4096x4096 (constantI S_ 32 0#32))) (minsi (addi (broadcastInDim S4096x4096 ![] bcast_S_S4096x4096 (constantI S_ 32 16#32)) (fptosi 32 (mulf (Host.divf (Host.log (Host.divf (sitofp .f32 (maxsi (maxsi D (broadcastInDim S4096x4096 ![] bcast_S_S4096x4096 (constantI S_ 32 0#32))) (broadcastInDim S4096x4096 ![] bcast_S_S4096x4096 (constantI S_ 32 1#32)))) (broadcastInDim S4096x4096 ![] bcast_S_S4096x4096 (constant S_ .f32 0x41800000#32)))) (broadcastInDim S4096x4096 ![] bcast_S_S4096x4096 (constant S_ .f32 0x40051592#32))) (broadcastInDim S4096x4096 ![] bcast_S_S4096x4096 (constant S_ .f32 0x41800000#32)) : FVec Ideal S4096x4096 .f32))) (broadcastInDim S4096x4096 ![] bcast_S_S4096x4096 (constantI S_ 32 31#32))))
def BW (B : IVec S4096x4096 32) : IVec S4096x4096 32 := (select (cmpi .slt B (broadcastInDim S4096x4096 ![] bcast_S_S4096x4096 (constantI S_ 32 0#32))) (addi B (broadcastInDim S4096x4096 ![] bcast_S_S4096x4096 (constantI S_ 32 32#32))) B)
def MK (D : IVec S4096x4096 32) : IVec S2x4096x4x4x4096 1 := (broadcastInDim S2x4096x4x4x4096 ![0, 1, 2, 3, 4] bcast_S1x4096x1x1x4096_S2x4096x4x4x4096_0_1_2_3_4 (broadcastInDim S1x4096x1x1x4096 ![1, 4] bcast_S4096x4096_S1x4096x1x1x4096_1_4 (andi (cmpi .sge D (broadcastInDim S4096x4096 ![] bcast_S_S4096x4096 (constantI S_ 32 0#32))) (cmpi .slt D (broadcastInDim S4096x4096 ![] bcast_S_S4096x4096 (constantI S_ 32 512#32))))))
def BI (A0 : FVec Ideal S32x16 .f32) (B : IVec S4096x4096 32) : FVec Ideal S2x4096x4x4x4096 .f32 := (broadcastInDim S2x4096x4x4x4096 ![0, 1, 2, 3, 4] bcast_S1x4096x4x4x4096_S2x4096x4x4x4096_0_1_2_3_4 (broadcastInDim S1x4096x4x4x4096 ![1, 2, 3, 4] bcast_S4096x4x4x4096_S1x4096x4x4x4096_1_2_3_4 (transpose S4096x4x4x4096 [0, 2, 3, 1] (shapeCast _ (Host.gather gather_S32x16_S4096x4096x1_S4096x4096x16_2_0_n_n_0_2_116 A0 (broadcastInDim S4096x4096x1 ![0, 1] bcast_S4096x4096_S4096x4096x1_0_1 B)) shapeCasts_S4096x4096x16_S4096x4096x4x4) transposes_S4096x4096x4x4_S4096x4x4x4096_0_2_3_1)))
def QK (A1 : FVec Ideal S23x8192x512 .f32) : FVec Ideal S2x4096x4x4x4096 .f32 := (mulf (transpose S2x4096x4x4x4096 [0, 3, 1, 4, 2] (Host.dotGeneral dot_S2x4096x4x128_S2x4096x4x4x128_S2x4x4096x4096x4_3_4_1_13_02_02 none (shapeCast _ (shapeCast _ (extractStridedSlice S1x8192x512 ![12, 0, 0] A1 slices_S23x8192x512_S1x8192x512_12_0_0) shapeCasts_S1x8192x512_S8192x512) shapeCasts_S8192x512_S2x4096x4x128) (transpose S2x4096x4x4x128 [1, 2, 0, 3, 4] (shapeCast _ (extractStridedSlice S4x8192x512 ![4, 0, 0] A1 slices_S23x8192x512_S4x8192x512_4_0_0) shapeCasts_S4x8192x512_S4x2x4096x4x128) transposes_S4x2x4096x4x128_S2x4096x4x4x128_1_2_0_3_4)) transposes_S2x4x4096x4096x4_S2x4096x4x4x4096_0_3_1_4_2) (broadcastInDim S2x4096x4x4x4096 ![] bcast_S_S2x4096x4x4x4096 (constant S_ .f32 0x3DB504F3#32)))
def SM (mk : IVec S2x4096x4x4x4096 1) (qk bi : FVec Ideal S2x4096x4x4x4096 .f32) : FVec Ideal S2x4096x4x4x4096 .f32 := (select mk (addf qk bi) (broadcastInDim S2x4096x4x4x4096 ![] bcast_S_S2x4096x4x4x4096 (id (constant S_ .f32 0xFF800000#32))))
def MM (sm : FVec Ideal S2x4096x4x4x4096 .f32) : FVec Ideal S2x4096x4x4x4096 .f32 := (broadcastInDim S2x4096x4x4x4096 ![0, 1, 2, 3, 4] bcast_S2x4096x4x4x1_S2x4096x4x4x4096_0_1_2_3_4 (broadcastInDim S2x4096x4x4x1 ![0, 1, 2, 3] bcast_S2x4096x4x4_S2x4096x4x4x1_0_1_2_3 (Host.reduce FloatOps.maximumf sm (constant S_ .f32 0xFF800000#32) reducesTo_S2x4096x4x4x4096_S2x4096x4x4_d4 h_S_)))
def EE (mk : IVec S2x4096x4x4x4096 1) (sm mm : FVec Ideal S2x4096x4x4x4096 .f32) : FVec Ideal S2x4096x4x4x4096 .f32 := (select mk (Host.exp (subf sm mm)) (broadcastInDim S2x4096x4x4x4096 ![] bcast_S_S2x4096x4x4x4096 (id (constant S_ .f32 0x00000000#32))))
def PP (ee : FVec Ideal S2x4096x4x4x4096 .f32) : FVec Ideal S2x4096x4x4x4096 .f32 := (Host.divf ee (broadcastInDim S2x4096x4x4x4096 ![0, 1, 2, 3, 4] bcast_S2x4096x4x4x1_S2x4096x4x4x4096_0_1_2_3_4 (maximumf (broadcastInDim S2x4096x4x4x1 ![0, 1, 2, 3] bcast_S2x4096x4x4_S2x4096x4x4x1_0_1_2_3 (Host.reduceAdd ee (constant S_ .f32 0x00000000#32) reducesTo_S2x4096x4x4x4096_S2x4096x4x4_d4 h_S_)) (broadcastInDim S2x4096x4x4x1 ![] bcast_S_S2x4096x4x4x1 (constant S_ .f32 0x0DA24260#32)))))
def GT (A1 : FVec Ideal S23x8192x512 .f32) : FVec Ideal S2x4096x4x4x128 .f32 := (broadcastInDim S2x4096x4x4x128 ![0, 1, 2, 3, 4] bcast_S2x4096x4x4x1_S2x4096x4x4x128_0_1_2_3_4 (extractStridedSlice S2x4096x4x4x1 ![0, 0, 0, 0, 2] (shapeCast _ (extractStridedSlice S8192x48 ![0, 0] (shapeCast _ (extractStridedSlice S1x8192x512 ![14, 0, 0] A1 slices_S23x8192x512_S1x8192x512_14_0_0) shapeCasts_S1x8192x512_S8192x512) slices_S8192x512_S8192x48_0_0) shapeCasts_S8192x48_S2x4096x4x4x3) slices_S2x4096x4x4x3_S2x4096x4x4x1_0_0_0_0_2))
def OO (A1 : FVec Ideal S23x8192x512 .f32) (pp : FVec Ideal S2x4096x4x4x4096 .f32) : FVec Ideal S2x4096x4x4x128 .f32 := (transpose S2x4096x4x4x128 [0, 3, 1, 4, 2] (Host.dotGeneral dot_S2x4096x4x128_S2x4096x4x4x4096_S2x4x128x4096x4_1_4_3_13_02_02 none (shapeCast _ (shapeCast _ (extractStridedSlice S1x8192x512 ![13, 0, 0] A1 slices_S23x8192x512_S1x8192x512_13_0_0) shapeCasts_S1x8192x512_S8192x512) shapeCasts_S8192x512_S2x4096x4x128) pp) transposes_S2x4x128x4096x4_S2x4096x4x4x128_0_3_1_4_2)
def RR (A3 : FVec Ideal S8192x2048 .f32) (gt oo : FVec Ideal S2x4096x4x4x128 .f32) : FVec Ideal S8192x2048 .f32 := shapeCast _ (addf (shapeCast _ A3 shapeCasts_S8192x2048_S2x4096x4x4x128) (mulf gt oo)) shapeCasts_S2x4096x4x4x128_S8192x2048

variable (m : (ℓ : Loc nD τ sig) → Buf (Elt Ideal) ℓ)
abbrev arg0 (c : Dev nD) : FVec Ideal S32x16 .f32 := m ((c : Thread nD τ).loc main_arg0)
abbrev arg1 (c : Dev nD) : FVec Ideal S23x8192x512 .f32 := m ((c : Thread nD τ).loc main_arg1)
abbrev arg3 (c : Dev nD) : FVec Ideal S8192x2048 .f32 := m ((c : Thread nD τ).loc main_arg3)

theorem res_eq (c : Dev nD) : Value.res_main_v82 m c
    = RR (arg3 m c) (GT (arg1 m c)) (OO (arg1 m c) (PP (EE (MK DIST) (SM (MK DIST) (QK (arg1 m c)) (BI (arg0 m c) (BW (BC DIST)))) (MM (SM (MK DIST) (QK (arg1 m c)) (BI (arg0 m c) (BW (BC DIST)))))))) := rfl
end Cert.ReferenceIdeal.Win
-- ==== Proof.RefAt.lean ====
module
public import proofs.«01_k».proof.Proof.RefParts
public import proofs.«01_k».proof.Proof.Bucket
@[expose] public section
set_option maxRecDepth 16384
noncomputable section
namespace Cert.ReferenceIdeal.Win
open Cert.ReferenceIdeal Cert.ReferenceIdeal.Gen Idealize.ShloMosaic Idealize.ShloMosaic.TcCoe Idealize.SL.Sem
open Cert.Win (core wrap rowOf biasOf)

variable (b : Fin 2) (T u : Fin 4096) (g r : Fin 4) (d : Fin 128)

theorem DIST_at : DIST (ix2 T u) = IntOp.subi (BitVec.ofNat 32 T.val) (BitVec.ofNat 32 u.val) := by
  unfold DIST
  pointwise

theorem BC_at (D : IVec S4096x4096 32) : BC D (ix2 T u) = core (D (ix2 T u)) := by
  unfold BC core
  pointwise

theorem BW_at (D : IVec S4096x4096 32) : BW D (ix2 T u) = wrap (D (ix2 T u)) := by
  unfold BW wrap
  pointwise

theorem MK_at (D : IVec S4096x4096 32) : MK D (ix5 b T g r u) = IntOp.andi (IntOp.cmpi .sge (D (ix2 T u)) 0#32) (IntOp.cmpi .slt (D (ix2 T u)) 512#32) := by
  unfold MK
  pointwise

/-- The rows taken from the bias table: row `idx`, clamped into the table, at its column. -/
theorem gather_at (A0 : FVec Ideal S32x16 .f32) (idx : IVec S4096x4096x1 32) (h : Fin 16) :
    (Host.gather gather_S32x16_S4096x4096x1_S4096x4096x16_2_0_n_n_0_2_116 A0 idx (ix3 T u h) : EReal)
      = A0 (ix2 (⟨min (idx (ix3 T u 0)).toInt.toNat 31, by omega⟩ : Fin 32) h) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x16_S4096x4096x1_S4096x4096x16_2_0_n_n_0_2_116] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S4096x4096x1_S4096x4096x16_2_0_n_n_0_2_116.startIndexMap from List.mem_singleton.mpr rfl)]
    have hsi : gather_S32x16_S4096x4096x1_S4096x4096x16_2_0_n_n_0_2_116.siIdx (ix3 T u h) ⟨List.idxOf (0 : Fin 2) gather_S32x16_S4096x4096x1_S4096x4096x16_2_0_n_n_0_2_116.startIndexMap,
        List.idxOf_lt_length_iff.2 (List.mem_singleton.mpr rfl)⟩ = ix3 T u 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S32x16_S4096x4096x1_S4096x4096x16_2_0_n_n_0_2_116] at h)]
    unfold GatherDims.start
    rw [dif_neg (show ¬ (1 : Fin 2) ∈ gather_S32x16_S4096x4096x1_S4096x4096x16_2_0_n_n_0_2_116.startIndexMap from by decide)]
    simp only [Nat.zero_add, Nat.add_zero]
    unfold GatherDims.offCoord
    rw [dif_pos (by decide)]
    rfl

theorem col_at (D : IVec S4096x4096 32) : (broadcastInDim S4096x4096x1 ![0, 1] bcast_S4096x4096_S4096x4096x1_0_1 D) (ix3 T u 0) = D (ix2 T u) := by
  pointwise

theorem BI_at (A0 : FVec Ideal S32x16 .f32) (D : IVec S4096x4096 32) : (BI A0 (BW (BC D)) (ix5 b T g r u) : EReal) = A0 (ix2 (rowOf (D (ix2 T u))) ⟨g.val * 4 + r.val, by omega⟩) := by
  unfold BI
  pointwise
  refine (gather_at T u A0 _ _).trans ?_
  exact congrArg (fun w : BitVec 32 => (A0 (ix2 (⟨min w.toInt.toNat 31, by omega⟩ : Fin 32) ⟨g.val * 4 + r.val, by omega⟩) : EReal)) ((col_at T u _).trans ((BW_at T u _).trans (congrArg wrap (BC_at T u D))))

theorem QK_at (A : FVec Ideal S23x8192x512 .f32) : (QK A (ix5 b T g r u) : EReal) = (∑ x : Fin 128, A (ix3 12 ⟨b.val * 4096 + u.val, by omega⟩ ⟨g.val * 128 + x.val, by omega⟩) * A (ix3 ⟨4 + g.val, by omega⟩ ⟨b.val * 4096 + T.val, by omega⟩ ⟨r.val * 128 + x.val, by omega⟩)) * Ideal.ofBits .f32 0x3DB504F3#32 := by
  unfold QK
  pointwise

theorem SM_at (mk : IVec S2x4096x4x4x4096 1) (qk bi : FVec Ideal S2x4096x4x4x4096 .f32) : (SM mk qk bi (ix5 b T g r u) : EReal) = Scalar.select (mk (ix5 b T g r u)) (qk (ix5 b T g r u) + bi (ix5 b T g r u) : EReal) (Ideal.ofBits .f32 0xFF800000#32) := by
  unfold SM
  pointwise
  rfl

theorem MM_at (sm : FVec Ideal S2x4096x4x4x4096 .f32) : (MM sm (ix5 b T g r u) : EReal) = Finset.fold max (Ideal.ofBits .f32 0xFF800000#32) (fun x : Fin 4096 => (sm (ix5 b T g r x) : EReal)) Finset.univ := by
  unfold MM
  pointwise

theorem EE_at (mk : IVec S2x4096x4x4x4096 1) (sm mm : FVec Ideal S2x4096x4x4x4096 .f32) : (EE mk sm mm (ix5 b T g r u) : EReal) = Scalar.select (mk (ix5 b T g r u)) (Ideal.exp (sm (ix5 b T g r u) - mm (ix5 b T g r u))) 0 := by
  unfold EE
  pointwise
  simp only [id]
  pointwise

theorem PP_at (ee : FVec Ideal S2x4096x4x4x4096 .f32) : (PP ee (ix5 b T g r u) : EReal) = Ideal.div (ee (ix5 b T g r u)) (max (∑ x : Fin 4096, (ee (ix5 b T g r x) : EReal)) (Ideal.ofBits .f32 0x0DA24260#32)) := by
  unfold PP
  pointwise

theorem GT_at (A : FVec Ideal S23x8192x512 .f32) : (GT A (ix5 b T g r d) : EReal) = A (ix3 14 ⟨b.val * 4096 + T.val, by omega⟩ ⟨g.val * 12 + r.val * 3 + 2, by omega⟩) := by
  unfold GT
  pointwise

theorem OO_at (A : FVec Ideal S23x8192x512 .f32) (pp : FVec Ideal S2x4096x4x4x4096 .f32) : (OO A pp (ix5 b T g r d) : EReal) = ∑ x : Fin 4096, A (ix3 13 ⟨b.val * 4096 + x.val, by omega⟩ ⟨g.val * 128 + d.val, by omega⟩) * pp (ix5 b T g r x) := by
  unfold OO
  pointwise

theorem RR_at (A3 : FVec Ideal S8192x2048 .f32) (gt oo : FVec Ideal S2x4096x4x4x128 .f32) (x : Fin 8192) (y : Fin 2048) : (RR A3 gt oo (ix2 x y) : EReal) = A3 (ix2 x y) + gt (ix5 ⟨x.val / 4096, by omega⟩ ⟨x.val % 4096, by omega⟩ ⟨y.val / 512, by omega⟩ ⟨y.val / 128 % 4, by omega⟩ ⟨y.val % 128, by omega⟩) * oo (ix5 ⟨x.val / 4096, by omega⟩ ⟨x.val % 4096, by omega⟩ ⟨y.val / 512, by omega⟩ ⟨y.val / 128 % 4, by omega⟩ ⟨y.val % 128, by omega⟩) := by
  unfold RR
  pointwise
end Cert.ReferenceIdeal.Win
-- ==== Proof.Ops.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- A block of scores of the diagonal chunk: the table is added, and keys later than the query are masked; `o` is the block's first row within the tile. -/
def scC (o : ℕ) (s : FVec Ideal S128x256 .f32) (tb : FVec Ideal S1x1x128x256 .f32) : FVec Ideal S128x256 .f32 :=
  fun y => if (y 1).val ≤ (y 0).val + o then s y + tb (ix4 0 0 (y 0) (y 1)) else (⊥ : EReal)

/-- A block of scores of the chunk before the diagonal: the table is added. -/
def scN (s : FVec Ideal S128x256 .f32) (tb : FVec Ideal S1x1x128x256 .f32) : FVec Ideal S128x256 .f32 :=
  fun y => s y + tb (ix4 0 0 (y 0) (y 1))

/-- A block of scores of the chunk where the window ends: keys that lie a window or more back are masked. -/
def scW (o : ℕ) (s : FVec Ideal S128x256 .f32) : FVec Ideal S128x256 .f32 :=
  fun y => if (y 0).val + o < (y 1).val then s y else (⊥ : EReal)

/-- The running maximum after a block of scores. -/
def mxB (sc : FVec Ideal S128x256 .f32) (mo : FVec Ideal S128x128 .f32) : FVec Ideal S128x128 .f32 :=
  fun y => max (mo y) (Finset.univ.fold max (⊥ : EReal) fun k : Fin 256 => sc (ix2 (y 0) k))

/-- The exponentials of a block of scores below its running maximum. -/
def ppB (sc : FVec Ideal S128x256 .f32) (mn : FVec Ideal S128x128 .f32) : FVec Ideal S128x256 .bf16 :=
  fun y => Ideal.exp (sc y - mn (ix2 (y 0) ⟨(y 1).val % 128, Nat.mod_lt _ (by decide)⟩))

/-- The factor that carries the sums from the old running maximum to the new one. -/
def aaB (mo mn : FVec Ideal S128x128 .f32) : FVec Ideal S128x128 .f32 :=
  fun y => Ideal.exp (mo y - mn y)

theorem mask_bot : (Named.named (F := Ideal) κ "mask" 0xF149F2CA#32 : Ideal .f32) = (⊥ : EReal) := rfl

theorem ofBits_bot : (Ideal.ofBits .f32 0xFF800000#32 : EReal) = ⊥ := by simp [Ideal.ofBits, Ideal.ieee]

theorem scC_eq (o : ℕ) (ho : o < 1024) (s : FVec Ideal S128x256 .f32) (tb : FVec Ideal S1x1x128x256 .f32) :
    select (cmpi .sge (addi (iota .tc S128x256 32 [0] iota_S128x256_d0_w32) (broadcast S128x256 (BitVec.ofNat 32 o))) (iota .tc S128x256 32 [1] iota_S128x256_d1_w32))
      (addf s (shapeCast S128x256 tb shapeCasts_S1x1x128x256_S128x256)) (broadcast S128x256 (Named.named (F := Ideal) κ "mask" 0xF149F2CA#32 : Ideal .f32)) = scC o s tb := by
  funext y
  idx_vars y
  unfold scC
  pointwise
  rw [WordCmp.addi_ofNat, WordCmp.cmpi_sge_ofNat (by omega) (by omega), WordCmp.select_ofBool, mask_bot]
  simp only [decide_eq_true_eq]
  try rfl

theorem scW_eq (o : ℕ) (ho : o < 1024) (s : FVec Ideal S128x256 .f32) :
    select (cmpi .sgt (iota .tc S128x256 32 [1] iota_S128x256_d1_w32) (addi (iota .tc S128x256 32 [0] iota_S128x256_d0_w32) (broadcast S128x256 (BitVec.ofNat 32 o))))
      s (broadcast S128x256 (Named.named (F := Ideal) κ "mask" 0xF149F2CA#32 : Ideal .f32)) = scW o s := by
  funext y
  idx_vars y
  unfold scW
  pointwise
  rw [WordCmp.addi_ofNat, WordCmp.cmpi_sgt_ofNat (by omega) (by omega), WordCmp.select_ofBool, mask_bot]
  simp only [decide_eq_true_eq]
  try rfl

theorem scN_eq (s : FVec Ideal S128x256 .f32) (tb : FVec Ideal S1x1x128x256 .f32) :
    addf s (shapeCast S128x256 tb shapeCasts_S1x1x128x256_S128x256) = scN s tb := by
  funext y
  idx_vars y
  unfold scN
  pointwise

theorem mxB_eq (sc : FVec Ideal S128x256 .f32) (mo : FVec Ideal S128x128 .f32) :
    maximumf mo (broadcastTo S128x128 (shapeCast S128x1 (multiReduction .maximumf [1] S128 sc 0xFF800000#32 reduces_S128x256_S128 (.inl rfl) rfl) shapeCasts_S128_S128x1) broadcasts_S128x1_S128x128) = mxB sc mo := by
  funext y
  idx_vars y
  unfold mxB
  pointwise
  rw [ofBits_bot]

/-- The same with the axis list as it stands once the rank is written out. -/
theorem mxB_eq' (sc : FVec Ideal S128x256 .f32) (mo : FVec Ideal S128x128 .f32) :
    maximumf mo (broadcastTo S128x128 (shapeCast S128x1 (multiReduction (s := S128x256) .maximumf (List.cons (α := Fin 2) (1 : Fin S128x256.rank) (List.nil (α := Fin 2))) S128 sc 0xFF800000#32 reduces_S128x256_S128 (.inl rfl) rfl) shapeCasts_S128_S128x1) broadcasts_S128x1_S128x128) = mxB sc mo := mxB_eq sc mo

theorem ppB_eq (sc : FVec Ideal S128x256 .f32) (mn : FVec Ideal S128x128 .f32) :
   truncf .bf16 (exp (subf sc (concatenate S128x256 1 [⟨S128x128, mn⟩, ⟨S128x128, mn⟩] concatenates_S128x128_S128x128_S128x256_d1))) bitsLt_bf16_f32 = ppB sc mn := by
  funext y
  idx_vars y
  unfold ppB
  pointwise
  have : (⟨y1.val % 128, Nat.mod_lt _ (by decide)⟩ : Fin 128) = if h : y1.val < 128 then ⟨y1.val, h⟩ else ⟨y1.val - 128, by omega⟩ := by
    split <;> (apply Fin.ext; simp only []; omega)
  rw [this]
  split <;> rfl
theorem aaB_eq (mo mn : FVec Ideal S128x128 .f32) : exp (subf mo mn) = aaB mo mn := rfl

/-- Scores of the diagonal chunk, all rows. -/
def SCC (s : FVec Ideal S1024x256 .f32) (tb : FVec Ideal S1x2x1024x256 .f32) : FVec Ideal S1024x256 .f32 :=
  fun y => if (y 1).val ≤ (y 0).val % 256 then s y + tb (ix4 0 0 (y 0) (y 1)) else (⊥ : EReal)

/-- Scores of the chunk before the diagonal, all rows. -/
def SCN (s : FVec Ideal S1024x256 .f32) (tb : FVec Ideal S1x2x1024x256 .f32) : FVec Ideal S1024x256 .f32 :=
  fun y => s y + tb (ix4 0 1 (y 0) (y 1))

/-- Scores of the chunk where the window ends, all rows. -/
def SCW (s : FVec Ideal S1024x256 .f32) : FVec Ideal S1024x256 .f32 :=
  fun y => if (y 0).val % 256 < (y 1).val then s y else (⊥ : EReal)

/-- The running maximum, all rows. -/
def MX (sc : FVec Ideal S1024x256 .f32) (mo : FVec Ideal S1024x128 .f32) : FVec Ideal S1024x128 .f32 :=
  fun y => max (mo y) (Finset.univ.fold max (⊥ : EReal) fun k : Fin 256 => sc (ix2 (y 0) k))

/-- The exponentials, all rows. -/
def PP (sc : FVec Ideal S1024x256 .f32) (mn : FVec Ideal S1024x128 .f32) : FVec Ideal S1024x256 .bf16 :=
  fun y => Ideal.exp (sc y - mn (ix2 (y 0) ⟨(y 1).val % 128, Nat.mod_lt _ (by decide)⟩))

/-- The carrying factors, all rows. -/
def AA (mo mn : FVec Ideal S1024x128 .f32) : FVec Ideal S1024x128 .f32 :=
  fun y => Ideal.exp (mo y - mn y)

theorem scC_ld (o o' : ℕ) (h : ∀ a, (![o, 0] : Fin 2 → ℕ) a + (![128, 256] : Fin 2 → ℕ) a ≤ S1024x256.size a) (h' : ∀ a, (![0, 0, o, 0] : Fin 4 → ℕ) a + (![1, 1, 128, 256] : Fin 4 → ℕ) a ≤ S1x2x1024x256.size a) (s : FVec Ideal S1024x256 .f32) (tb : FVec Ideal S1x2x1024x256 .f32) (ho : o % 256 = o' ∧ o' ≤ 128) :
    scC o' (View.ld (Val := Elt Ideal) (e' := .f32) s (Rect.unit (s := S1024x256) ![o, 0] ![128, 256] h)) (View.ld (Val := Elt Ideal) (e' := .f32) tb (Rect.unit (s := S1x2x1024x256) ![0, 0, o, 0] ![1, 1, 128, 256] h')) = View.ld (Val := Elt Ideal) (e' := .f32) (SCC s tb) (Rect.unit (s := S1024x256) ![o, 0] ![128, 256] h) := by
  funext y
  idx_vars y
  unfold scC SCC
  pointwise
  rw [show (o + y0.val) % 256 = y0.val + o' by omega]

theorem scN_ld (o : ℕ) (h : ∀ a, (![o, 0] : Fin 2 → ℕ) a + (![128, 256] : Fin 2 → ℕ) a ≤ S1024x256.size a) (h' : ∀ a, (![0, 1, o, 0] : Fin 4 → ℕ) a + (![1, 1, 128, 256] : Fin 4 → ℕ) a ≤ S1x2x1024x256.size a) (s : FVec Ideal S1024x256 .f32) (tb : FVec Ideal S1x2x1024x256 .f32) :
    scN (View.ld (Val := Elt Ideal) (e' := .f32) s (Rect.unit (s := S1024x256) ![o, 0] ![128, 256] h)) (View.ld (Val := Elt Ideal) (e' := .f32) tb (Rect.unit (s := S1x2x1024x256) ![0, 1, o, 0] ![1, 1, 128, 256] h')) = View.ld (Val := Elt Ideal) (e' := .f32) (SCN s tb) (Rect.unit (s := S1024x256) ![o, 0] ![128, 256] h) := by
  funext y
  idx_vars y
  unfold scN SCN
  pointwise

theorem scW_ld (o o' : ℕ) (h : ∀ a, (![o, 0] : Fin 2 → ℕ) a + (![128, 256] : Fin 2 → ℕ) a ≤ S1024x256.size a) (s : FVec Ideal S1024x256 .f32) (ho : o % 256 = o' ∧ o' ≤ 128) :
    scW o' (View.ld (Val := Elt Ideal) (e' := .f32) s (Rect.unit (s := S1024x256) ![o, 0] ![128, 256] h)) = View.ld (Val := Elt Ideal) (e' := .f32) (SCW s) (Rect.unit (s := S1024x256) ![o, 0] ![128, 256] h) := by
  funext y
  idx_vars y
  unfold scW SCW
  pointwise
  rw [show (o + y0.val) % 256 = y0.val + o' by omega]

theorem mxB_ld (o : ℕ) (h : ∀ a, (![o, 0] : Fin 2 → ℕ) a + (![128, 256] : Fin 2 → ℕ) a ≤ S1024x256.size a) (h1 : ∀ a, (![o, 0] : Fin 2 → ℕ) a + (![128, 128] : Fin 2 → ℕ) a ≤ S1024x128.size a) (sc : FVec Ideal S1024x256 .f32) (mo : FVec Ideal S1024x128 .f32) :
    mxB (View.ld (Val := Elt Ideal) (e' := .f32) sc (Rect.unit (s := S1024x256) ![o, 0] ![128, 256] h)) (View.ld (Val := Elt Ideal) (e' := .f32) mo (Rect.unit (s := S1024x128) ![o, 0] ![128, 128] h1)) = View.ld (Val := Elt Ideal) (e' := .f32) (MX sc mo) (Rect.unit (s := S1024x128) ![o, 0] ![128, 128] h1) := by
  funext y
  idx_vars y
  unfold mxB MX
  pointwise

theorem ppB_ld (o : ℕ) (h : ∀ a, (![o, 0] : Fin 2 → ℕ) a + (![128, 256] : Fin 2 → ℕ) a ≤ S1024x256.size a) (h1 : ∀ a, (![o, 0] : Fin 2 → ℕ) a + (![128, 128] : Fin 2 → ℕ) a ≤ S1024x128.size a) (sc : FVec Ideal S1024x256 .f32) (mn : FVec Ideal S1024x128 .f32) :
    ppB (View.ld (Val := Elt Ideal) (e' := .f32) sc (Rect.unit (s := S1024x256) ![o, 0] ![128, 256] h)) (View.ld (Val := Elt Ideal) (e' := .f32) mn (Rect.unit (s := S1024x128) ![o, 0] ![128, 128] h1)) = View.ld (Val := Elt Ideal) (e' := .bf16) (PP sc mn) (Rect.unit (s := S1024x256) ![o, 0] ![128, 256] h) := by
  funext y
  idx_vars y
  unfold ppB PP
  pointwise

theorem aaB_ld (o : ℕ) (h1 : ∀ a, (![o, 0] : Fin 2 → ℕ) a + (![128, 128] : Fin 2 → ℕ) a ≤ S1024x128.size a) (mo mn : FVec Ideal S1024x128 .f32) :
    aaB (View.ld (Val := Elt Ideal) (e' := .f32) mo (Rect.unit (s := S1024x128) ![o, 0] ![128, 128] h1)) (View.ld (Val := Elt Ideal) (e' := .f32) mn (Rect.unit (s := S1024x128) ![o, 0] ![128, 128] h1)) = View.ld (Val := Elt Ideal) (e' := .f32) (AA mo mn) (Rect.unit (s := S1024x128) ![o, 0] ![128, 128] h1) := rfl

/-- Eight stores of row blocks of one array, read back whole, give the array. -/
theorem rows {Val : EltTy → Type} [∀ e, Nonempty (Val e)] {sig : RefSig} {κ : Kind} {sp : Space} {e : EltTy} {w : ℕ} (v : View sig κ sp (⟨2, ![1024, w]⟩ : Shape) e) (G : (⟨2, ![1024, w]⟩ : Shape).Idx → Val e)
    (h0 h1 h2 h3 h4 h5 h6 h7 h) (L : List (View.Piece Val (⟨2, ![1024, w]⟩ : Shape) e)) :
    v.readCov (⟨Rect.unit (s := (⟨2, ![1024, w]⟩ : Shape)) ![896, 0] ![128, w] h7, View.ld G (Rect.unit (s := (⟨2, ![1024, w]⟩ : Shape)) ![896, 0] ![128, w] h7)⟩ ::
        ⟨Rect.unit (s := (⟨2, ![1024, w]⟩ : Shape)) ![768, 0] ![128, w] h6, View.ld G (Rect.unit (s := (⟨2, ![1024, w]⟩ : Shape)) ![768, 0] ![128, w] h6)⟩ ::
        ⟨Rect.unit (s := (⟨2, ![1024, w]⟩ : Shape)) ![640, 0] ![128, w] h5, View.ld G (Rect.unit (s := (⟨2, ![1024, w]⟩ : Shape)) ![640, 0] ![128, w] h5)⟩ ::
        ⟨Rect.unit (s := (⟨2, ![1024, w]⟩ : Shape)) ![512, 0] ![128, w] h4, View.ld G (Rect.unit (s := (⟨2, ![1024, w]⟩ : Shape)) ![512, 0] ![128, w] h4)⟩ ::
        ⟨Rect.unit (s := (⟨2, ![1024, w]⟩ : Shape)) ![384, 0] ![128, w] h3, View.ld G (Rect.unit (s := (⟨2, ![1024, w]⟩ : Shape)) ![384, 0] ![128, w] h3)⟩ ::
        ⟨Rect.unit (s := (⟨2, ![1024, w]⟩ : Shape)) ![256, 0] ![128, w] h2, View.ld G (Rect.unit (s := (⟨2, ![1024, w]⟩ : Shape)) ![256, 0] ![128, w] h2)⟩ ::
        ⟨Rect.unit (s := (⟨2, ![1024, w]⟩ : Shape)) ![128, 0] ![128, w] h1, View.ld G (Rect.unit (s := (⟨2, ![1024, w]⟩ : Shape)) ![128, 0] ![128, w] h1)⟩ ::
        ⟨Rect.unit (s := (⟨2, ![1024, w]⟩ : Shape)) ![0, 0] ![128, w] h0, View.ld G (Rect.unit (s := (⟨2, ![1024, w]⟩ : Shape)) ![0, 0] ![128, w] h0)⟩ :: L)
      (Rect.unit (s := (⟨2, ![1024, w]⟩ : Shape)) ![0, 0] ![1024, w] h).toLoadRect = G := by
  rw [View.readCov_eq_canon']
  funext y
  have e : (Rect.unit (s := (⟨2, ![1024, w]⟩ : Shape)) ![0, 0] ![1024, w] h).toLoadRect.idx y = y := by
    funext a
    apply Fin.ext
    fin_cases a <;> simp [Rect.toLoadRect, Rect.unit, LoadRect.idx]
  rw [e]
  refine View.canon_append_of_piecesOf G L [⟨Rect.unit (s := (⟨2, ![1024, w]⟩ : Shape)) ![896, 0] ![128, w] h7, View.ld G (Rect.unit (s := (⟨2, ![1024, w]⟩ : Shape)) ![896, 0] ![128, w] h7)⟩, ⟨Rect.unit (s := (⟨2, ![1024, w]⟩ : Shape)) ![768, 0] ![128, w] h6, View.ld G (Rect.unit (s := (⟨2, ![1024, w]⟩ : Shape)) ![768, 0] ![128, w] h6)⟩, ⟨Rect.unit (s := (⟨2, ![1024, w]⟩ : Shape)) ![640, 0] ![128, w] h5, View.ld G (Rect.unit (s := (⟨2, ![1024, w]⟩ : Shape)) ![640, 0] ![128, w] h5)⟩, ⟨Rect.unit (s := (⟨2, ![1024, w]⟩ : Shape)) ![512, 0] ![128, w] h4, View.ld G (Rect.unit (s := (⟨2, ![1024, w]⟩ : Shape)) ![512, 0] ![128, w] h4)⟩, ⟨Rect.unit (s := (⟨2, ![1024, w]⟩ : Shape)) ![384, 0] ![128, w] h3, View.ld G (Rect.unit (s := (⟨2, ![1024, w]⟩ : Shape)) ![384, 0] ![128, w] h3)⟩, ⟨Rect.unit (s := (⟨2, ![1024, w]⟩ : Shape)) ![256, 0] ![128, w] h2, View.ld G (Rect.unit (s := (⟨2, ![1024, w]⟩ : Shape)) ![256, 0] ![128, w] h2)⟩, ⟨Rect.unit (s := (⟨2, ![1024, w]⟩ : Shape)) ![128, 0] ![128, w] h1, View.ld G (Rect.unit (s := (⟨2, ![1024, w]⟩ : Shape)) ![128, 0] ![128, w] h1)⟩, ⟨Rect.unit (s := (⟨2, ![1024, w]⟩ : Shape)) ![0, 0] ![128, w] h0, View.ld G (Rect.unit (s := (⟨2, ![1024, w]⟩ : Shape)) ![0, 0] ![128, w] h0)⟩]
    ⟨fun _ => rfl, fun _ => rfl, fun _ => rfl, fun _ => rfl, fun _ => rfl, fun _ => rfl, fun _ => rfl, fun _ => rfl, trivial⟩ y ?_
  have hy0 : (y 0).val < 1024 := (y 0).isLt
  have hy1 : (y 1).val < w := (y 1).isLt
  have key : ∀ (o : ℕ) (ho), o ≤ (y 0).val → (y 0).val < o + 128 → (y : (⟨2, ![1024, w]⟩ : Shape).Idx) ∈ (Rect.unit (s := (⟨2, ![1024, w]⟩ : Shape)) ![o, 0] ![128, w] ho).set := by
    intro o ho h1 h2
    rw [Rect.mem_set_unit]
    intro a
    fin_cases a
    · exact ⟨h1, h2⟩
    · exact ⟨Nat.zero_le _, by simpa using hy1⟩
  simp only [List.mem_cons, List.not_mem_nil, or_false, exists_eq_or_imp, exists_eq_left]
  rcases (by omega : (y 0).val / 128 = 7 ∨ (y 0).val / 128 = 6 ∨ (y 0).val / 128 = 5 ∨ (y 0).val / 128 = 4 ∨ (y 0).val / 128 = 3 ∨ (y 0).val / 128 = 2
    ∨ (y 0).val / 128 = 1 ∨ (y 0).val / 128 = 0) with h | h | h | h | h | h | h | h
  · exact .inl (key _ _ (by omega) (by omega))
  · exact .inr (.inl (key _ _ (by omega) (by omega)))
  · exact .inr (.inr (.inl (key _ _ (by omega) (by omega))))
  · exact .inr (.inr (.inr (.inl (key _ _ (by omega) (by omega)))))
  · exact .inr (.inr (.inr (.inr (.inl (key _ _ (by omega) (by omega))))))
  · exact .inr (.inr (.inr (.inr (.inr (.inl (key _ _ (by omega) (by omega)))))))
  · exact .inr (.inr (.inr (.inr (.inr (.inr (.inl (key _ _ (by omega) (by omega))))))))
  · exact .inr (.inr (.inr (.inr (.inr (.inr (.inr (key _ _ (by omega) (by omega))))))))

theorem rows256 {Val : EltTy → Type} [∀ e, Nonempty (Val e)] {sig : RefSig} {κ : Kind} {sp : Space} {e : EltTy} (v : View sig κ sp S1024x256 e) (G : S1024x256.Idx → Val e)
    (h0 h1 h2 h3 h4 h5 h6 h7 h) (L : List (View.Piece Val S1024x256 e)) :
    v.readCov (⟨Rect.unit (s := S1024x256) ![896, 0] ![128, 256] h7, View.ld G (Rect.unit (s := S1024x256) ![896, 0] ![128, 256] h7)⟩ ::
        ⟨Rect.unit (s := S1024x256) ![768, 0] ![128, 256] h6, View.ld G (Rect.unit (s := S1024x256) ![768, 0] ![128, 256] h6)⟩ ::
        ⟨Rect.unit (s := S1024x256) ![640, 0] ![128, 256] h5, View.ld G (Rect.unit (s := S1024x256) ![640, 0] ![128, 256] h5)⟩ ::
        ⟨Rect.unit (s := S1024x256) ![512, 0] ![128, 256] h4, View.ld G (Rect.unit (s := S1024x256) ![512, 0] ![128, 256] h4)⟩ ::
        ⟨Rect.unit (s := S1024x256) ![384, 0] ![128, 256] h3, View.ld G (Rect.unit (s := S1024x256) ![384, 0] ![128, 256] h3)⟩ ::
        ⟨Rect.unit (s := S1024x256) ![256, 0] ![128, 256] h2, View.ld G (Rect.unit (s := S1024x256) ![256, 0] ![128, 256] h2)⟩ ::
        ⟨Rect.unit (s := S1024x256) ![128, 0] ![128, 256] h1, View.ld G (Rect.unit (s := S1024x256) ![128, 0] ![128, 256] h1)⟩ ::
        ⟨Rect.unit (s := S1024x256) ![0, 0] ![128, 256] h0, View.ld G (Rect.unit (s := S1024x256) ![0, 0] ![128, 256] h0)⟩ :: L)
      (Rect.unit (s := S1024x256) ![0, 0] ![1024, 256] h).toLoadRect = G := rows v G h0 h1 h2 h3 h4 h5 h6 h7 h L

theorem rows128 {Val : EltTy → Type} [∀ e, Nonempty (Val e)] {sig : RefSig} {κ : Kind} {sp : Space} {e : EltTy} (v : View sig κ sp S1024x128 e) (G : S1024x128.Idx → Val e)
    (h0 h1 h2 h3 h4 h5 h6 h7 h) (L : List (View.Piece Val S1024x128 e)) :
    v.readCov (⟨Rect.unit (s := S1024x128) ![896, 0] ![128, 128] h7, View.ld G (Rect.unit (s := S1024x128) ![896, 0] ![128, 128] h7)⟩ ::
        ⟨Rect.unit (s := S1024x128) ![768, 0] ![128, 128] h6, View.ld G (Rect.unit (s := S1024x128) ![768, 0] ![128, 128] h6)⟩ ::
        ⟨Rect.unit (s := S1024x128) ![640, 0] ![128, 128] h5, View.ld G (Rect.unit (s := S1024x128) ![640, 0] ![128, 128] h5)⟩ ::
        ⟨Rect.unit (s := S1024x128) ![512, 0] ![128, 128] h4, View.ld G (Rect.unit (s := S1024x128) ![512, 0] ![128, 128] h4)⟩ ::
        ⟨Rect.unit (s := S1024x128) ![384, 0] ![128, 128] h3, View.ld G (Rect.unit (s := S1024x128) ![384, 0] ![128, 128] h3)⟩ ::
        ⟨Rect.unit (s := S1024x128) ![256, 0] ![128, 128] h2, View.ld G (Rect.unit (s := S1024x128) ![256, 0] ![128, 128] h2)⟩ ::
        ⟨Rect.unit (s := S1024x128) ![128, 0] ![128, 128] h1, View.ld G (Rect.unit (s := S1024x128) ![128, 0] ![128, 128] h1)⟩ ::
        ⟨Rect.unit (s := S1024x128) ![0, 0] ![128, 128] h0, View.ld G (Rect.unit (s := S1024x128) ![0, 0] ![128, 128] h0)⟩ :: L)
      (Rect.unit (s := S1024x128) ![0, 0] ![1024, 128] h).toLoadRect = G := rows v G h0 h1 h2 h3 h4 h5 h6 h7 h L

end Cert.KernelIdeal.Win
-- ==== Proof.Blocks.lean ====
module
public import proofs.«01_k».proof.Proof.Ops
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal.Win
open Cert.KernelIdeal Cert.KernelIdeal.Gen Idealize.ShloMosaic Idealize.ShloMosaic.TcCoe Idealize.SL.Sem

/-- The factor the queries are scaled by. -/
def sc0 : EReal := Ideal.ofBits .f32 0x3DB504F3#32

theorem ofBits_zero : (Ideal.ofBits .f32 0x00000000#32 : EReal) = 0 := by simp [Ideal.ofBits, Ideal.ieee]

/-- The lanes behind the queries: a number in lane 64, its rounding's remainder in lane 65. -/
def extB (b : EReal) : FVec Ideal S256x128 .bf16 :=
  fun y => if (y 1).val = 64 then b else if (y 1).val = 65 then b - b else (0 : EReal)

theorem pay97 (b : Elt Ideal .f32) : k0_pay97 (F := Ideal) b = extB b := by
  funext y
  idx_vars y
  unfold extB
  pointwise [k0_pay97, k0_pay95]
  rw [WordCmp.cmpi_eq_ofNat (by omega) (by decide), WordCmp.cmpi_eq_ofNat (by omega) (by decide), WordCmp.select_ofBool, WordCmp.select_ofBool]
  simp only [decide_eq_true_eq]
  try rfl

theorem pay99 (b : Elt Ideal .f32) : k0_pay99 (F := Ideal) (iota .tc S256x128 32 [1] iota_S256x128_d1_w32) k0_pay95 b = extB b := pay97 b
theorem pay102 (b : Elt Ideal .f32) : k0_pay102 (F := Ideal) (k0_pay100 (iota .tc S256x128 32 [1] iota_S256x128_d1_w32) k0_pay95 b) = extB b := pay97 b
theorem pay104 (b : Elt Ideal .f32) : k0_pay104 (F := Ideal) (iota .tc S256x128 32 [1] iota_S256x128_d1_w32) k0_pay95 b = extB b := pay97 b

def qB (o : ℕ) (ho : o ≤ 384) (q : FVec Ideal S1x256x512 .f32) : FVec Ideal S256x128 .bf16 :=
  fun y => (q (ix3 0 (y 0) ⟨o + (y 1).val, by have : (y 1).val < 128 := (y 1).isLt; omega⟩) : EReal) * sc0
theorem pay96 (q : FVec Ideal S1x256x512 .f32) : k0_pay96 (F := Ideal) q = qB 0 (by decide) q := by
  funext y
  idx_vars y
  unfold qB sc0
  pointwise [k0_pay96, k0_pay94]
theorem pay98 (q : FVec Ideal S1x256x512 .f32) : k0_pay98 (F := Ideal) (k0_pay94 q) = qB 128 (by decide) q := by
  funext y
  idx_vars y
  unfold qB sc0
  pointwise [k0_pay98, k0_pay94]
theorem pay101 (q : FVec Ideal S1x256x512 .f32) : k0_pay101 (F := Ideal) (k0_pay94 q) = qB 256 (by decide) q := by
  funext y
  idx_vars y
  unfold qB sc0
  pointwise [k0_pay101, k0_pay94]
theorem pay103 (q : FVec Ideal S1x256x512 .f32) : k0_pay103 (F := Ideal) (k0_pay94 q) = qB 384 (by decide) q := by
  funext y
  idx_vars y
  unfold qB sc0
  pointwise [k0_pay103, k0_pay94]

/-- The query array of one tile: four heads' scaled queries one under the other, and behind them the lanes of `extB`. -/
def QF (q : FVec Ideal S1x256x512 .f32) (b0 b1 b2 b3 : EReal) : FVec Ideal S1024x256 .bf16 := fun y =>
  if h : (y 1).val < 128 then (q (ix3 0 ⟨(y 0).val % 256, Nat.mod_lt _ (by decide)⟩ ⟨(y 0).val / 256 * 128 + (y 1).val, by have : (y 0).val < 1024 := (y 0).isLt; omega⟩) : EReal) * sc0
  else
    let b := if (y 0).val < 256 then b0 else if (y 0).val < 512 then b1 else if (y 0).val < 768 then b2 else b3
    if (y 1).val = 192 then b else if (y 1).val = 193 then b - b else (0 : EReal)

theorem extB_ld (q : FVec Ideal S1x256x512 .f32) (b0 b1 b2 b3 : EReal) (o : ℕ) (b : EReal) (h : ∀ a, (![o, 128] : Fin 2 → ℕ) a + (![256, 128] : Fin 2 → ℕ) a ≤ S1024x256.size a)
    (hb : (if o < 256 then b0 else if o < 512 then b1 else if o < 768 then b2 else b3) = b) (ho : o % 256 = 0) (ho' : o ≤ 768) (x : (Rect.unit (s := S1024x256) ![o, 128] ![256, 128] h).shape.Idx) :
    (extB b : FVec Ideal S256x128 .bf16) x = View.ld (Val := Elt Ideal) (e' := .bf16) (QF q b0 b1 b2 b3) (Rect.unit (s := S1024x256) ![o, 128] ![256, 128] h) x := by
  change S256x128.Idx at x
  idx_vars x
  unfold extB QF
  pointwise
  rw [← hb]
  have e1 : (o + x0.val < 256) = (o < 256) := by apply propext; omega
  have e2 : (o + x0.val < 512) = (o < 512) := by apply propext; omega
  have e3 : (o + x0.val < 768) = (o < 768) := by apply propext; omega
  have e4 : (128 + x1.val = 192) = (x1.val = 64) := by apply propext; omega
  have e5 : (128 + x1.val = 193) = (x1.val = 65) := by apply propext; omega
  simp only [e1, e2, e3, e4, e5]
  try rfl

theorem qB_ld (q : FVec Ideal S1x256x512 .f32) (b0 b1 b2 b3 : EReal) (o o' : ℕ) (h' : o' ≤ 384) (h : ∀ a, (![o, 0] : Fin 2 → ℕ) a + (![256, 128] : Fin 2 → ℕ) a ≤ S1024x256.size a)
    (ho : o % 256 = 0) (ho' : o / 256 * 128 = o') (x : (Rect.unit (s := S1024x256) ![o, 0] ![256, 128] h).shape.Idx) :
    (qB o' h' q : FVec Ideal S256x128 .bf16) x = View.ld (Val := Elt Ideal) (e' := .bf16) (QF q b0 b1 b2 b3) (Rect.unit (s := S1024x256) ![o, 0] ![256, 128] h) x := by
  change S256x128.Idx at x
  idx_vars x
  unfold qB QF
  pointwise
  congr 3 <;> (apply Fin.ext; simp only []; omega)

theorem QF_eq (v : View sig .tc .vmem S1024x256 .bf16) (q : FVec Ideal S1x256x512 .f32) (b0 b1 b2 b3 : EReal) (h0 h1 h2 h3 h4 h5 h6 h7 h) :
    v.readCov (Val := Elt Ideal) [⟨Rect.unit (s := S1024x256) ![768, 128] ![256, 128] h0, extB b3⟩, ⟨Rect.unit (s := S1024x256) ![768, 0] ![256, 128] h1, qB 384 (by decide) q⟩,
      ⟨Rect.unit (s := S1024x256) ![512, 128] ![256, 128] h2, extB b2⟩, ⟨Rect.unit (s := S1024x256) ![512, 0] ![256, 128] h3, qB 256 (by decide) q⟩,
      ⟨Rect.unit (s := S1024x256) ![256, 128] ![256, 128] h4, extB b1⟩, ⟨Rect.unit (s := S1024x256) ![256, 0] ![256, 128] h5, qB 128 (by decide) q⟩,
      ⟨Rect.unit (s := S1024x256) ![0, 128] ![256, 128] h6, extB b0⟩, ⟨Rect.unit (s := S1024x256) ![0, 0] ![256, 128] h7, qB 0 (by decide) q⟩]
      (Rect.unit (s := S1024x256) ![0, 0] ![1024, 256] h).toLoadRect = QF q b0 b1 b2 b3 := by
  rw [View.readCov_eq_canon']
  funext (y : S1024x256.Idx)
  have e : (Rect.unit (s := S1024x256) ![0, 0] ![1024, 256] h).toLoadRect.idx y = y := by
    funext a
    apply Fin.ext
    fin_cases a <;> simp [Rect.toLoadRect, Rect.unit, LoadRect.idx]
  rw [e]
  have hy0 : (y 0).val < 1024 := (y 0).isLt
  have hy1 : (y 1).val < 256 := (y 1).isLt
  have key : ∀ (o o' : ℕ) (ho), o ≤ (y 0).val → (y 0).val < o + 256 → o' ≤ (y 1).val → (y 1).val < o' + 128 →
      (y : S1024x256.Idx) ∈ (Rect.unit (s := S1024x256) ![o, o'] ![256, 128] ho).set := by
    intro o o' ho h1 h2 h3 h4
    rw [Rect.mem_set_unit]
    intro a
    fin_cases a
    · exact ⟨h1, h2⟩
    · exact ⟨h3, h4⟩
  refine View.canon_append_of_piecesOf (Val := Elt Ideal) (e := .bf16) (QF q b0 b1 b2 b3) [] [⟨Rect.unit (s := S1024x256) ![768, 128] ![256, 128] h0, extB b3⟩, ⟨Rect.unit (s := S1024x256) ![768, 0] ![256, 128] h1, qB 384 (by decide) q⟩,
      ⟨Rect.unit (s := S1024x256) ![512, 128] ![256, 128] h2, extB b2⟩, ⟨Rect.unit (s := S1024x256) ![512, 0] ![256, 128] h3, qB 256 (by decide) q⟩,
      ⟨Rect.unit (s := S1024x256) ![256, 128] ![256, 128] h4, extB b1⟩, ⟨Rect.unit (s := S1024x256) ![256, 0] ![256, 128] h5, qB 128 (by decide) q⟩,
      ⟨Rect.unit (s := S1024x256) ![0, 128] ![256, 128] h6, extB b0⟩, ⟨Rect.unit (s := S1024x256) ![0, 0] ![256, 128] h7, qB 0 (by decide) q⟩]
    ?_ y ?_
  · exact ⟨extB_ld q b0 b1 b2 b3 768 b3 h0 (by simp) (by decide) (by decide), qB_ld q b0 b1 b2 b3 768 384 (by decide) h1 (by decide) (by decide), extB_ld q b0 b1 b2 b3 512 b2 h2 (by simp) (by decide) (by decide), qB_ld q b0 b1 b2 b3 512 256 (by decide) h3 (by decide) (by decide),
      extB_ld q b0 b1 b2 b3 256 b1 h4 (by simp) (by decide) (by decide), qB_ld q b0 b1 b2 b3 256 128 (by decide) h5 (by decide) (by decide), extB_ld q b0 b1 b2 b3 0 b0 h6 (by simp) (by decide) (by decide), qB_ld q b0 b1 b2 b3 0 0 (by decide) h7 (by decide) (by decide), trivial⟩
  simp only [List.mem_cons, List.not_mem_nil, or_false, exists_eq_or_imp, exists_eq_left]
  rcases (by omega : (y 0).val / 256 = 3 ∨ (y 0).val / 256 = 2 ∨ (y 0).val / 256 = 1 ∨ (y 0).val / 256 = 0) with h | h | h | h <;>
    rcases (by omega : (y 1).val / 128 = 1 ∨ (y 1).val / 128 = 0) with h' | h'
  · exact .inl (key _ _ _ (by omega) (by omega) (by omega) (by omega))
  · exact .inr (.inl (key _ _ _ (by omega) (by omega) (by omega) (by omega)))
  · exact .inr (.inr (.inl (key _ _ _ (by omega) (by omega) (by omega) (by omega))))
  · exact .inr (.inr (.inr (.inl (key _ _ _ (by omega) (by omega) (by omega) (by omega)))))
  · exact .inr (.inr (.inr (.inr (.inl (key _ _ _ (by omega) (by omega) (by omega) (by omega))))))
  · exact .inr (.inr (.inr (.inr (.inr (.inl (key _ _ _ (by omega) (by omega) (by omega) (by omega)))))))
  · exact .inr (.inr (.inr (.inr (.inr (.inr (.inl (key _ _ _ (by omega) (by omega) (by omega) (by omega))))))))
  · exact .inr (.inr (.inr (.inr (.inr (.inr (.inr (key _ _ _ (by omega) (by omega) (by omega) (by omega))))))))

/-- The products of queries and keys. -/
def DS (Q : FVec Ideal S1024x256 .bf16) (K : FVec Ideal S256x256 .bf16) : FVec Ideal S1024x256 .f32 :=
  fun y => ∑ k : Fin 256, (Q (ix2 (y 0) k) : EReal) * (K (ix2 (y 1) k) : EReal)
theorem DS_eq (Q : FVec Ideal S1024x256 .bf16) (K : FVec Ideal S256x256 .bf16) :
    matmul dot_S1024x256_S256x256_S1024x256_1_1_0_0_n_n none Q K (constant S1024x256 FTy.f32 0#32) = DS Q K := by
  funext y
  idx_vars y
  unfold DS
  pointwise

/-- One step of the weighted sums: the old sums carried over, and the new chunk's added. -/
def ST (P : FVec Ideal S1024x256 .bf16) (V : FVec Ideal S256x256 .bf16) (A : FVec Ideal S1024x128 .f32) (acc : FVec Ideal S1024x256 .f32) : FVec Ideal S1024x256 .f32 :=
  fun y => (A (ix2 (y 0) ⟨(y 1).val % 128, Nat.mod_lt _ (by decide)⟩) : EReal) * (acc y : EReal) + ∑ k : Fin 256, (P (ix2 (y 0) k) : EReal) * (V (ix2 k (y 1)) : EReal)
theorem ST_eq (P : FVec Ideal S1024x256 .bf16) (V : FVec Ideal S256x256 .bf16) (A : FVec Ideal S1024x128 .f32) (acc : FVec Ideal S1024x256 .f32) :
    k0_pay154 (F := Ideal) P V A acc = ST P V A acc := by
  funext y
  idx_vars y
  unfold ST
  pointwise [k0_pay154]
  congr 2
  split <;> (congr 3; omega)
theorem pay155 (P : FVec Ideal S1024x256 .bf16) (V : FVec Ideal S256x256 .bf16) (A : FVec Ideal S1024x128 .f32) (acc : FVec Ideal S1024x256 .f32) :
    k0_pay155 (F := Ideal) P V A acc = ST P V A acc := ST_eq P V A acc
theorem pay153 (P : FVec Ideal S1024x256 .bf16) (V : FVec Ideal S256x256 .bf16) (A : FVec Ideal S1024x128 .f32) (acc : FVec Ideal S1024x256 .f32) :
    k0_pay153 (F := Ideal) (k0_pay152 P V) A acc = ST P V A acc := ST_eq P V A acc
theorem pay105 : k0_pay105 (F := Ideal) = fun _ => (⊥ : EReal) := by
  funext y
  idx_vars y
  pointwise [k0_pay105]
  exact mask_bot
theorem pay106 : k0_pay106 (F := Ideal) = fun _ => (0 : EReal) := by
  funext y
  idx_vars y
  pointwise [k0_pay106]

/-- The lane of the gate of head `r` of group `g`. -/
theorem lane_lt (g r : ℕ) (hg : g < 4) (hr : r < 4) : (g * 4 + r) * 3 + 2 < 512 := by omega

/-- What a tile of the result holds: `prev` and the weighted sums over their weights' sum, times the gate. -/
def OUT (g : ℕ) (hg : g < 4) (acc : FVec Ideal S1024x256 .f32) (nsa : FVec Ideal S1x256x512 .f32) (prev : FVec Ideal S256x512 .f32) : FVec Ideal S256x512 .f32 := fun y =>
  have h0 : (y 0).val < 256 := (y 0).isLt
  have h1 : (y 1).val < 512 := (y 1).isLt
  (prev y : EReal) + (acc (ix2 ⟨(y 1).val / 128 * 256 + (y 0).val, by omega⟩ ⟨(y 1).val % 128, by omega⟩) : EReal)
      * Ideal.div (Ideal.ofBits .f32 0x3F800000#32) (max (acc (ix2 ⟨(y 1).val / 128 * 256 + (y 0).val, by omega⟩ ⟨128, by omega⟩) : EReal) (Ideal.ofBits .f32 0x0DA24260#32))
    * (nsa (ix3 0 (y 0) ⟨(g * 4 + (y 1).val / 128) * 3 + 2, by omega⟩) : EReal)

theorem gate_sum (g : ℕ) (hg : g < 4) (r : ℕ) (hr : r < 4) (f : Fin 512 → EReal) :
    (∑ x : Fin 512, Scalar.select (IntOp.cmpi .eq (BitVec.ofNat 32 x.val) (Scalar.addi (Scalar.muli (Scalar.addi (Scalar.muli (BitVec.ofNat 32 g) 4#32) (BitVec.ofNat 32 r)) 3#32) 2#32)) (f x) 0) = f ⟨(g * 4 + r) * 3 + 2, by omega⟩ := by
  have e : Scalar.addi (Scalar.muli (Scalar.addi (Scalar.muli (BitVec.ofNat 32 g) 4#32) (BitVec.ofNat 32 r)) 3#32) 2#32 = BitVec.ofNat 32 ((g * 4 + r) * 3 + 2) := by
    rw [show Scalar.addi (Scalar.muli (Scalar.addi (Scalar.muli (BitVec.ofNat 32 g) 4#32) (BitVec.ofNat 32 r)) 3#32) 2#32
      = IntOp.addi (IntOp.muli (IntOp.addi (IntOp.muli (BitVec.ofNat 32 g) (BitVec.ofNat 32 4)) (BitVec.ofNat 32 r)) (BitVec.ofNat 32 3)) (BitVec.ofNat 32 2) from rfl,
      WordCmp.muli_ofNat, WordCmp.addi_ofNat, WordCmp.muli_ofNat, WordCmp.addi_ofNat]
  rw [e, Finset.sum_eq_single ⟨(g * 4 + r) * 3 + 2, by omega⟩]
  · rw [WordCmp.cmpi_eq_ofNat (by simp only []; omega) (by omega), WordCmp.select_ofBool, if_pos (by simp)]
  · intro x _ hx
    rw [WordCmp.cmpi_eq_ofNat (by omega) (by omega), WordCmp.select_ofBool, if_neg]
    simp only [decide_eq_true_eq]
    intro h
    exact hx (Fin.ext h)
  · simp

theorem acc_at {acc : FVec Ideal S1024x256 .f32} {a a' : Fin 1024} {b b' : Fin 256} (h : a.val = a'.val) (h' : b.val = b'.val) : acc (ix2 a b) = acc (ix2 a' b') := by
  rw [Fin.ext h, Fin.ext h']

/-- `OUT` at a column of head `r`. -/
theorem OUT_at (g : ℕ) (hg : g < 4) (acc : FVec Ideal S1024x256 .f32) (nsa : FVec Ideal S1x256x512 .f32) (P : FVec Ideal S256x512 .f32) (r : ℕ) (hr : r < 4) (x0 : Fin 256) (x1 : Fin 128) :
    (P (ix2 x0 ⟨r * 128 + x1.val, by omega⟩) : EReal) + acc (ix2 ⟨r * 256 + x0.val, by omega⟩ ⟨x1.val, by omega⟩) * Ideal.div 1 (max (acc (ix2 ⟨r * 256 + x0.val, by omega⟩ ⟨128, by omega⟩)) (Ideal.ofBits .f32 0x0DA24260#32))
      * (∑ x : Fin 512, Scalar.select (IntOp.cmpi .eq (BitVec.ofNat 32 x.val) (Scalar.addi (Scalar.muli (Scalar.addi (Scalar.muli (BitVec.ofNat 32 g) 4#32) (BitVec.ofNat 32 r)) 3#32) 2#32)) (nsa (ix3 0 x0 x)) 0)
     = OUT g hg acc nsa P (ix2 x0 ⟨r * 128 + x1.val, by omega⟩) := by
  rw [gate_sum g hg r hr fun x => nsa (ix3 0 x0 x)]
  unfold OUT
  pointwise
  congr 2
  · congr 1
    · exact acc_at (by simp only []; omega) (by simp only []; omega)
    · congr 2
      exact acc_at (by simp only []; omega) rfl
  · congr 2
    apply Fin.ext; simp only []; omega

variable (g : ℕ) (hg : g < 4) (acc : FVec Ideal S1024x256 .f32) (nsa : FVec Ideal S1x256x512 .f32) (P : FVec Ideal S256x512 .f32)
theorem o3 (h) (x : S256x128.Idx) :
    k0_pay2 (F := Ideal) (BitVec.ofNat 32 g) (k0_pay156 acc) (k0_pay157 nsa) (iota .tc S256x512 32 [1] iota_S256x512_d1_w32) (View.ld (Val := Elt Ideal) (e' := .f32) P (Rect.unit (s := S256x512) ![0, 384] ![256, 128] h)) x
     = View.ld (Val := Elt Ideal) (e' := .f32) (OUT g hg acc nsa P) (Rect.unit (s := S256x512) ![0, 384] ![256, 128] h) x := by
  idx_vars x
  pointwise [k0_pay2, k0_pay156, k0_pay157]
  exact OUT_at g hg acc nsa P 3 (by decide) x0 x1
theorem o2 (h) (x : S256x128.Idx) :
    k0_pay1 (F := Ideal) (k0_pay161 (BitVec.ofNat 32 g) (k0_pay157 nsa) (iota .tc S256x512 32 [1] iota_S256x512_d1_w32)) (View.ld (Val := Elt Ideal) (e' := .f32) P (Rect.unit (s := S256x512) ![0, 256] ![256, 128] h)) (k0_pay162 (k0_pay156 acc)) x
     = View.ld (Val := Elt Ideal) (e' := .f32) (OUT g hg acc nsa P) (Rect.unit (s := S256x512) ![0, 256] ![256, 128] h) x := by
  idx_vars x
  pointwise [k0_pay1, k0_pay161, k0_pay162, k0_pay156, k0_pay157]
  exact OUT_at g hg acc nsa P 2 (by decide) x0 x1
theorem o1 (h) (x : S256x128.Idx) :
    k0_pay160 (F := Ideal) (BitVec.ofNat 32 g) (k0_pay156 acc) (k0_pay157 nsa) (iota .tc S256x512 32 [1] iota_S256x512_d1_w32) (View.ld (Val := Elt Ideal) (e' := .f32) P (Rect.unit (s := S256x512) ![0, 128] ![256, 128] h)) x
     = View.ld (Val := Elt Ideal) (e' := .f32) (OUT g hg acc nsa P) (Rect.unit (s := S256x512) ![0, 128] ![256, 128] h) x := by
  idx_vars x
  pointwise [k0_pay160, k0_pay156, k0_pay157]
  exact OUT_at g hg acc nsa P 1 (by decide) x0 x1
theorem o0 (h) (x : S256x128.Idx) :
    k0_pay159 (F := Ideal) (k0_pay156 acc) (k0_pay158 (BitVec.ofNat 32 g) nsa) (View.ld (Val := Elt Ideal) (e' := .f32) P (Rect.unit (s := S256x512) ![0, 0] ![256, 128] h)) x
     = View.ld (Val := Elt Ideal) (e' := .f32) (OUT g hg acc nsa P) (Rect.unit (s := S256x512) ![0, 0] ![256, 128] h) x := by
  idx_vars x
  pointwise [k0_pay159, k0_pay156, k0_pay158, k0_pay157]
  have e := OUT_at g hg acc nsa P 0 (by decide) x0 x1
  simp only [Nat.zero_mul, Nat.zero_add] at e
  exact e

/-- The four stores of a tile of the result leave the array `OUT`. -/
theorem OUT_eq (h0 h1 h2 h3) :
    View.canon (Val := Elt Ideal) (s := S256x512) (e := .f32)
      [⟨Rect.unit (s := S256x512) ![0, 384] ![256, 128] h3, k0_pay2 (F := Ideal) (BitVec.ofNat 32 g) (k0_pay156 acc) (k0_pay157 nsa) (iota .tc S256x512 32 [1] iota_S256x512_d1_w32) (View.ld (Val := Elt Ideal) (e' := .f32) P (Rect.unit (s := S256x512) ![0, 384] ![256, 128] h3))⟩,
       ⟨Rect.unit (s := S256x512) ![0, 256] ![256, 128] h2, k0_pay1 (F := Ideal) (k0_pay161 (BitVec.ofNat 32 g) (k0_pay157 nsa) (iota .tc S256x512 32 [1] iota_S256x512_d1_w32)) (View.ld (Val := Elt Ideal) (e' := .f32) P (Rect.unit (s := S256x512) ![0, 256] ![256, 128] h2)) (k0_pay162 (k0_pay156 acc))⟩,
       ⟨Rect.unit (s := S256x512) ![0, 128] ![256, 128] h1, k0_pay160 (F := Ideal) (BitVec.ofNat 32 g) (k0_pay156 acc) (k0_pay157 nsa) (iota .tc S256x512 32 [1] iota_S256x512_d1_w32) (View.ld (Val := Elt Ideal) (e' := .f32) P (Rect.unit (s := S256x512) ![0, 128] ![256, 128] h1))⟩,
       ⟨Rect.unit (s := S256x512) ![0, 0] ![256, 128] h0, k0_pay159 (F := Ideal) (k0_pay156 acc) (k0_pay158 (BitVec.ofNat 32 g) nsa) (View.ld (Val := Elt Ideal) (e' := .f32) P (Rect.unit (s := S256x512) ![0, 0] ![256, 128] h0))⟩] = OUT g hg acc nsa P := by
  funext (y : S256x512.Idx)
  have hy0 : (y 0).val < 256 := (y 0).isLt
  have hy1 : (y 1).val < 512 := (y 1).isLt
  have key : ∀ (o : ℕ) (ho), o ≤ (y 1).val → (y 1).val < o + 128 →
      (y : S256x512.Idx) ∈ (Rect.unit (s := S256x512) ![0, o] ![256, 128] ho).set := by
    intro o ho h1 h2
    rw [Rect.mem_set_unit]
    intro a
    fin_cases a
    · exact ⟨Nat.zero_le _, by simpa using hy0⟩
    · exact ⟨h1, h2⟩
  rw [← List.append_nil (_ :: _)]
  refine View.canon_append_of_piecesOf (Val := Elt Ideal) (e := .f32) (OUT g hg acc nsa P) [] _ ?_ y ?_
  · exact ⟨o3 g hg acc nsa P h3, o2 g hg acc nsa P h2, o1 g hg acc nsa P h1, o0 g hg acc nsa P h0, trivial⟩
  simp only [List.mem_cons, List.not_mem_nil, or_false, exists_eq_or_imp, exists_eq_left]
  rcases (by omega : (y 1).val / 128 = 3 ∨ (y 1).val / 128 = 2 ∨ (y 1).val / 128 = 1 ∨ (y 1).val / 128 = 0) with h | h | h | h
  · exact .inl (key _ _ (by omega) (by omega))
  · exact .inr (.inl (key _ _ (by omega) (by omega)))
  · exact .inr (.inr (.inl (key _ _ (by omega) (by omega))))
  · exact .inr (.inr (.inr (key _ _ (by omega) (by omega))))

end Cert.KernelIdeal.Win
-- ==== Proof.Load.lean ====
module
public import proofs.«01_k».proof.Proof.Blocks
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- A grid point's coordinates: the batch row, the group of heads, the tile of 256 queries. -/
theorem coord0 : ∀ t : Fin cfg0.N, (grid0.coords t 0).val = t.val / 64 := by decide +kernel
theorem coord1 : ∀ t : Fin cfg0.N, (grid0.coords t 1).val = t.val / 16 % 4 := by decide +kernel
theorem coord2 : ∀ t : Fin cfg0.N, (grid0.coords t 2).val = t.val % 16 := by decide +kernel

theorem off2_eq : ∀ t : Fin cfg0.N, k0_off2 (grid0.coords t) = ![t.val % 16 * 256, 0] := by decide +kernel
theorem off3_eq : ∀ t : Fin cfg0.N, 1 ≤ t.val % 16 → k0_off3 (grid0.coords t) = ![(t.val % 16 - 1) * 256, 0] := by decide +kernel
theorem off4_eq : ∀ t : Fin cfg0.N, 2 ≤ t.val % 16 → k0_off4 (grid0.coords t) = ![(t.val % 16 - 2) * 256, 0] := by decide +kernel
theorem off1_eq : ∀ (t : Fin cfg0.N) (r : Fin 4), k0_off1 (grid0.coords t) (BitVec.ofNat 32 r.val) = ![31, t.val / 16 % 4 * 4 + r.val] := by decide +kernel

/-- The 256 rows of a key or value array that begin at row `o`. -/
def CH {α : Type} (X : S4096x256.Idx → α) (o : ℕ) (ho : o ≤ 3840) : S256x256.Idx → α :=
  fun y => X (ix2 ⟨o + (y 0).val, by have : (y 0).val < 256 := (y 0).isLt; omega⟩ (y 1))

theorem ld_ch {off : Fin 2 → ℕ} (o : ℕ) (ho : o ≤ 3840) (e : off = ![o, 0]) (X : FVec Ideal S4096x256 .bf16) (h : ∀ a, off a + (![256, 256] : Fin 2 → ℕ) a ≤ S4096x256.size a) :
    View.ld (Val := Elt Ideal) (e' := .bf16) X (Rect.unit (s := S4096x256) off ![256, 256] h) = CH X o ho := by
  subst e
  funext y
  idx_vars y
  unfold CH
  pointwise

theorem ld_bb {off : Fin 2 → ℕ} (o : ℕ) (ho : o < 16) (e : off = ![31, o]) (X : FVec Ideal S32x16 .f32) (h : ∀ a, off a + (![1, 1] : Fin 2 → ℕ) a ≤ S32x16.size a) (hf) :
    View.ld (Val := Elt Ideal) (e' := .f32) X (Rect.unit (s := S32x16) off ![1, 1] h) (Shape.Idx.first hf) = X (ix2 31 ⟨o, ho⟩) := by
  subst e
  show X _ = X _
  congr 1
  funext a
  apply Fin.ext
  fin_cases a <;> rfl
end Cert.KernelIdeal.Win
-- ==== Proof.State.lean ====
module
public import proofs.«01_k».proof.Proof.Load
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- An array that holds the keys, and behind them among other lanes two lanes of ones. -/
def IsKB (k : FVec Ideal S1x4096x128 .f32) (kb : FVec Ideal S4096x256 .bf16) : Prop :=
  ∀ (i : Fin 4096) (l : Fin 256), (∀ h : l.val < 128, (kb (ix2 i l) : EReal) = k (ix3 0 i ⟨l.val, h⟩)) ∧ (l.val = 192 ∨ l.val = 193 → (kb (ix2 i l) : EReal) = 1)

/-- The value array: the values, and behind them a lane of ones. -/
def VB (v : FVec Ideal S1x4096x128 .f32) : FVec Ideal S4096x256 .bf16 := fun y =>
  if h : (y 1).val < 128 then (v (ix3 0 (y 0) ⟨(y 1).val, h⟩) : EReal) else if (y 1).val = 128 then (1 : EReal) else 0

variable (m : (ℓ : Loc nD τ sig) → Buf (Elt Ideal) ℓ)

/-- The windows' block indices at a grid point. -/
theorem idx : ∀ t : Fin cfg0.N, (win0_0.index t = ![0, 0] ∧ win0_1.index t = ![4 + t.val / 16 % 4, t.val / 64 * 16 + t.val % 16, 0] ∧ win0_2.index t = ![14, t.val / 64 * 16 + t.val % 16, 0]
    ∧ win0_3.index t = ![12, t.val / 64, t.val / 16 % 4] ∧ win0_4.index t = ![13, t.val / 64, t.val / 16 % 4] ∧ win0_5.index t = ![t.val / 16 % 4, 0, 0, 0]
    ∧ win0_6.index t = ![t.val / 64 * 16 + t.val % 16, t.val / 16 % 4] ∧ win0_7.index t = ![t.val / 64 * 16 + t.val % 16, t.val / 16 % 4]) :=
  (by decide +kernel : ∀ t : Fin grid0.N, _)

theorem blk0 (c : Dev nD) (t : Fin cfg0.N) (y : S32x16.Idx) : iblk m c 0 t y = m ((c : Thread nD τ).loc main_arg0) y := by
  blk_ext [iblk, V, idx t]
theorem blk1 (c : Dev nD) (t : Fin cfg0.N) (j : Fin 256) (k : Fin 512) : iblk m c 1 t (ix3 0 j k) = m ((c : Thread nD τ).loc main_arg1) (ix3 ⟨4 + t.val / 16 % 4, by omega⟩ ⟨(t.val / 64 * 16 + t.val % 16) * 256 + j, by have : t.val < 128 := t.isLt; omega⟩ k) := by
  blk_ext [iblk, V, idx t]
theorem blk2 (c : Dev nD) (t : Fin cfg0.N) (j : Fin 256) (k : Fin 512) : iblk m c 2 t (ix3 0 j k) = m ((c : Thread nD τ).loc main_arg1) (ix3 14 ⟨(t.val / 64 * 16 + t.val % 16) * 256 + j, by have : t.val < 128 := t.isLt; omega⟩ k) := by
  blk_ext [iblk, V, idx t]
theorem blk3 (c : Dev nD) (t : Fin cfg0.N) (j : Fin 4096) (k : Fin 128) : iblk m c 3 t (ix3 0 j k) = m ((c : Thread nD τ).loc main_arg1) (ix3 12 ⟨t.val / 64 * 4096 + j, by have : t.val < 128 := t.isLt; omega⟩ ⟨t.val / 16 % 4 * 128 + k, by omega⟩) := by
  blk_ext [iblk, V, idx t]
theorem blk4 (c : Dev nD) (t : Fin cfg0.N) (j : Fin 4096) (k : Fin 128) : iblk m c 4 t (ix3 0 j k) = m ((c : Thread nD τ).loc main_arg1) (ix3 13 ⟨t.val / 64 * 4096 + j, by have : t.val < 128 := t.isLt; omega⟩ ⟨t.val / 16 % 4 * 128 + k, by omega⟩) := by
  blk_ext [iblk, V, idx t]
theorem blk5 (c : Dev nD) (t : Fin cfg0.N) (d : Fin 2) (j : Fin 1024) (k : Fin 256) : iblk m c 5 t (ix4 0 d j k) = m ((c : Thread nD τ).loc main_arg2) (ix4 ⟨t.val / 16 % 4, by omega⟩ d j k) := by
  blk_ext [iblk, V, idx t]
theorem blk6 (c : Dev nD) (t : Fin cfg0.N) (j : Fin 256) (k : Fin 512) : iblk m c 6 t (ix2 j k) = m ((c : Thread nD τ).loc main_arg3) (ix2 ⟨(t.val / 64 * 16 + t.val % 16) * 256 + j, by have : t.val < 128 := t.isLt; omega⟩ ⟨t.val / 16 % 4 * 512 + k, by omega⟩) := by
  blk_ext [iblk, V, idx t]

theorem word_ori_one : ∀ x : BitVec 1, IntOp.ori x 1#1 = 1#1 := by decide
theorem word_one_ori : ∀ x : BitVec 1, IntOp.ori 1#1 x = 1#1 := by decide
theorem word_flt (b : Bool) : (FloatOps.sitofp (F := Ideal) .f32 (BitVec.setWidth 32 (BitVec.ofBool b)) : EReal) = if b = true then 1 else 0 := by
  cases b
  · show (((BitVec.toInt 0#32 : ℤ) : ℝ) : EReal) = _
    simp
  · show (((BitVec.toInt 1#32 : ℤ) : ℝ) : EReal) = _
    simp

theorem kb_A (c : Dev nD) (t : Fin cfg0.N) (h0 : t.val % 16 = 0) (h1 : ¬ 1 ≤ t.val % 16) (h2 : ¬ 2 ≤ t.val % 16) :
    IsKB (iblk m c 3 t) (outsAt0 m c t.val t.isLt).2.1 := by
  intro i l
  rw [outsAt0_A m c t h0 h1 h2]
  frame_open
  frame_out
  generalize hy : (ix2 i l : S4096x256.Idx) = y
  have hi : (y 0).val = i := by rw [← hy]; rfl
  have hl : (y 1).val = l := by rw [← hy]; rfl
  clear hy
  refine ⟨fun hh => ?_, fun hh => ?_⟩
  · canon_tiles y h
    · omega
    · rename_i z
      idx_vars y
      pointwise
      congr 1
      have e0 : y0 = i := by apply Fin.ext; omega
      have e1 : y1 = ⟨l.val, hh⟩ := by apply Fin.ext; show y1.val = l.val; omega
      rw [e0, e1]
  · canon_tiles y h
    · rename_i z
      have e : (y 1).val = 64 ∨ (y 1).val = 65 := by omega
      idx_vars y
      rcases e with e | e
      all_goals pointwise [k0_pay91]
      all_goals rw [e]
      · rw [show IntOp.cmpi .eq (BitVec.ofNat 32 64) 64#32 = 1#1 from rfl, word_ori_one, word_one_ori]
        exact word_flt true
      · rw [show IntOp.cmpi .eq (BitVec.ofNat 32 65) 65#32 = 1#1 from rfl, word_ori_one]
        exact word_flt true
    · omega

theorem vb_A (c : Dev nD) (t : Fin cfg0.N) (h0 : t.val % 16 = 0) (h1 : ¬ 1 ≤ t.val % 16) (h2 : ¬ 2 ≤ t.val % 16) :
    (outsAt0 m c t.val t.isLt).2.2 = VB (iblk m c 4 t) := by
  rw [outsAt0_A m c t h0 h1 h2]
  frame_open
  frame_out
  funext y
  unfold VB
  canon_tiles y h
  · rename_i z
    rw [dif_neg (by omega)]
    idx_vars y
    pointwise [k0_pay93]
    rw [WordCmp.cmpi_eq_ofNat (by omega) (by omega), word_flt]
    simp only [decide_eq_true_eq]
    by_cases e : y1.val = 0
    · rw [if_pos e, if_pos (by omega)]
    · rw [if_neg e, if_neg (by omega)]
  · rename_i z
    have hz : (z 1).val < 128 := by omega
    rw [dif_pos hz]
    idx_vars y
    pointwise [k0_pay92]
    congr 1
    have e0 : y0 = z 0 := by apply Fin.ext; omega
    have e1 : y1 = ⟨(z 1).val, hz⟩ := by apply Fin.ext; exact h1.symm
    rw [e0, e1]

theorem st_C (c : Dev nD) (t : Fin cfg0.N) (h0 : ¬ t.val % 16 = 0) (h1 : 1 ≤ t.val % 16) (h2 : 2 ≤ t.val % 16) :
    (outsAt0 m c t.val t.isLt).2 = (outsAt0 m c (t.val - 1) (lt_of_le_of_lt (Nat.sub_le _ _) t.isLt)).2 := by
  rw [outsAt0_C m c t h0 h1 h2]
  rfl
theorem st_B (c : Dev nD) (t : Fin cfg0.N) (h0 : ¬ t.val % 16 = 0) (h1 : 1 ≤ t.val % 16) (h2 : ¬ 2 ≤ t.val % 16) :
    (outsAt0 m c t.val t.isLt).2 = (outsAt0 m c (t.val - 1) (lt_of_le_of_lt (Nat.sub_le _ _) t.isLt)).2 := by
  rw [outsAt0_B m c t h0 h1 h2]
  rfl

theorem st_prev (c : Dev nD) (t : Fin cfg0.N) (h0 : ¬ t.val % 16 = 0) :
    (outsAt0 m c t.val t.isLt).2 = (outsAt0 m c (t.val - 1) (lt_of_le_of_lt (Nat.sub_le _ _) t.isLt)).2 := by
  by_cases h2 : 2 ≤ t.val % 16
  · exact st_C m c t h0 (by omega) h2
  · exact st_B m c t h0 (by omega) h2

/-- Along the tiles of one batch row and group of heads the key window and the value window stay. -/
theorem blk3_prev (c : Dev nD) (n : ℕ) (hn : n + 1 < cfg0.N) (h : ¬ (n + 1) % 16 = 0) : iblk m c 3 ⟨n + 1, hn⟩ = iblk m c 3 ⟨n, Nat.lt_of_succ_lt hn⟩ := by
  funext y
  idx_vars y
  obtain rfl : y0 = 0 := Subsingleton.elim _ _
  have e1 : (n + 1) / 64 = n / 64 := by omega
  have e2 : (n + 1) / 16 % 4 = n / 16 % 4 := by omega
  rw [blk3, blk3]
  simp only [e1, e2]
theorem blk4_prev (c : Dev nD) (n : ℕ) (hn : n + 1 < cfg0.N) (h : ¬ (n + 1) % 16 = 0) : iblk m c 4 ⟨n + 1, hn⟩ = iblk m c 4 ⟨n, Nat.lt_of_succ_lt hn⟩ := by
  funext y
  idx_vars y
  obtain rfl : y0 = 0 := Subsingleton.elim _ _
  have e1 : (n + 1) / 64 = n / 64 := by omega
  have e2 : (n + 1) / 16 % 4 = n / 16 % 4 := by omega
  rw [blk4, blk4]
  simp only [e1, e2]

/-- After every grid point the key array holds that point's keys and the value array its values. -/
theorem state (c : Dev nD) : ∀ (n : ℕ) (hn : n < cfg0.N), IsKB (iblk m c 3 ⟨n, hn⟩) (outsAt0 m c n hn).2.1 ∧ (outsAt0 m c n hn).2.2 = VB (iblk m c 4 ⟨n, hn⟩)
  | 0, hn => ⟨kb_A m c ⟨0, hn⟩ rfl (fun h => by revert h; show ¬ 1 ≤ 0 % 16; decide) (fun h => by revert h; show ¬ 2 ≤ 0 % 16; decide), vb_A m c ⟨0, hn⟩ rfl (fun h => by revert h; show ¬ 1 ≤ 0 % 16; decide) (fun h => by revert h; show ¬ 2 ≤ 0 % 16; decide)⟩
  | n + 1, hn => by
    by_cases h : (n + 1) % 16 = 0
    · exact ⟨kb_A m c ⟨n + 1, hn⟩ h (by show ¬ 1 ≤ (n + 1) % 16; omega) (by show ¬ 2 ≤ (n + 1) % 16; omega), vb_A m c ⟨n + 1, hn⟩ h (by show ¬ 1 ≤ (n + 1) % 16; omega) (by show ¬ 2 ≤ (n + 1) % 16; omega)⟩
    · have ih := state c n (Nat.lt_of_succ_lt hn)
      have e := st_prev m c ⟨n + 1, hn⟩ h
      simp only [Nat.add_sub_cancel] at e
      rw [blk3_prev m c n hn h, blk4_prev m c n hn h, e]
      exact ih
end Cert.KernelIdeal.Win
-- ==== Proof.Chunk.lean ====
module
public import proofs.«01_k».proof.Proof.State
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- The accumulator after one more chunk: `S` the chunk's masked scores, `V` its values, `M` the running maximum before it. -/
def A1 (S : FVec Ideal S1024x256 .f32) (V : FVec Ideal S256x256 .bf16) (M : FVec Ideal S1024x128 .f32) (acc : FVec Ideal S1024x256 .f32) : FVec Ideal S1024x256 .f32 :=
  ST (PP S (MX S M)) V (AA M (MX S M)) acc

/-- The running maximum and the accumulator before the first chunk. -/
def M0 : FVec Ideal S1024x128 .f32 := fun _ => (⊥ : EReal)
def Z0 : FVec Ideal S1024x256 .f32 := fun _ => (0 : EReal)

variable (m : (ℓ : Loc nD τ sig) → Buf (Elt Ideal) ℓ)

/-- The extended queries of a grid point. -/
def QT (c : Dev nD) (t : Fin cfg0.N) : FVec Ideal S1024x256 .bf16 :=
  QF (iblk m c 1 t) (iblk m c 0 t (ix2 31 ⟨t.val / 16 % 4 * 4 + 0, by omega⟩)) (iblk m c 0 t (ix2 31 ⟨t.val / 16 % 4 * 4 + 1, by omega⟩))
    (iblk m c 0 t (ix2 31 ⟨t.val / 16 % 4 * 4 + 2, by omega⟩)) (iblk m c 0 t (ix2 31 ⟨t.val / 16 % 4 * 4 + 3, by omega⟩))

/-- The key and value arrays as a grid point leaves them. -/
def KBt (c : Dev nD) (t : Fin cfg0.N) : FVec Ideal S4096x256 .bf16 := (outsAt0 m c t.val t.isLt).2.1
def VBt (c : Dev nD) (t : Fin cfg0.N) : FVec Ideal S4096x256 .bf16 := (outsAt0 m c t.val t.isLt).2.2

/-- The scores of a grid point against the 256 keys from key `o` on. -/
def SD (c : Dev nD) (t : Fin cfg0.N) (o : ℕ) (ho : o ≤ 3840) : FVec Ideal S1024x256 .f32 := DS (QT m c t) (CH (KBt m c t) o ho)

theorem ld_b (c : Dev nD) (t : Fin cfg0.N) (r : Fin 4) (h : ∀ a, k0_off1 (grid0.coords t) (BitVec.ofNat 32 r.val) a + (![1, 1] : Fin 2 → ℕ) a ≤ S32x16.size a) (hf) :
    View.ld (Val := Elt Ideal) (e' := .f32) (iblk m c 0 t) (Rect.unit (s := S32x16) (k0_off1 (grid0.coords t) (BitVec.ofNat 32 r.val)) ![1, 1] h) (Shape.Idx.first hf) = iblk m c 0 t (ix2 31 ⟨t.val / 16 % 4 * 4 + r.val, by omega⟩) :=
  ld_bb _ _ (off1_eq t r) (iblk m c 0 t) h hf
theorem ld_b0 (c : Dev nD) (t : Fin cfg0.N) (h) (hf) : View.ld (Val := Elt Ideal) (e' := .f32) (iblk m c 0 t) (Rect.unit (s := S32x16) (k0_off1 (grid0.coords t) 0#32) ![1, 1] h) (Shape.Idx.first hf) = iblk m c 0 t (ix2 31 ⟨t.val / 16 % 4 * 4 + 0, by omega⟩) := ld_b m c t 0 h hf
theorem ld_b1 (c : Dev nD) (t : Fin cfg0.N) (h) (hf) : View.ld (Val := Elt Ideal) (e' := .f32) (iblk m c 0 t) (Rect.unit (s := S32x16) (k0_off1 (grid0.coords t) 1#32) ![1, 1] h) (Shape.Idx.first hf) = iblk m c 0 t (ix2 31 ⟨t.val / 16 % 4 * 4 + 1, by omega⟩) := ld_b m c t 1 h hf
theorem ld_b2 (c : Dev nD) (t : Fin cfg0.N) (h) (hf) : View.ld (Val := Elt Ideal) (e' := .f32) (iblk m c 0 t) (Rect.unit (s := S32x16) (k0_off1 (grid0.coords t) 2#32) ![1, 1] h) (Shape.Idx.first hf) = iblk m c 0 t (ix2 31 ⟨t.val / 16 % 4 * 4 + 2, by omega⟩) := ld_b m c t 2 h hf
theorem ld_b3 (c : Dev nD) (t : Fin cfg0.N) (h) (hf) : View.ld (Val := Elt Ideal) (e' := .f32) (iblk m c 0 t) (Rect.unit (s := S32x16) (k0_off1 (grid0.coords t) 3#32) ![1, 1] h) (Shape.Idx.first hf) = iblk m c 0 t (ix2 31 ⟨t.val / 16 % 4 * 4 + 3, by omega⟩) := ld_b m c t 3 h hf

end Cert.KernelIdeal.Win
-- ==== Proof.Row.lean ====
module
public import Idealize.ShloMosaic.Lib.Pointwise
@[expose] public section
noncomputable section
namespace Cert.KernelIdeal.Win
open Idealize.ShloMosaic

theorem exp_nonneg (x : EReal) : 0 ≤ Ideal.exp x := by
  induction x with
  | bot => simp
  | top => simp
  | coe r => rw [Ideal.exp_coe]; exact_mod_cast (Real.exp_pos r).le

/-- An exponential below a bound, carried to a larger bound. -/
theorem exp_carry {s a b : EReal} (h1 : s ≤ a) (h2 : a ≤ b) : Ideal.exp (a - b) * Ideal.exp (s - a) = Ideal.exp (s - b) := by
  induction b with
  | bot =>
    obtain rfl : a = ⊥ := le_bot_iff.mp h2
    obtain rfl : s = ⊥ := le_bot_iff.mp h1
    simp
  | top =>
    have e : ∀ x : EReal, x - ⊤ = ⊥ := fun x => by simp [sub_eq_add_neg]
    simp [e]
  | coe b =>
    induction a with
    | bot =>
      obtain rfl : s = ⊥ := le_bot_iff.mp h1
      simp
    | top => exact absurd h2 (by simp)
    | coe a =>
      induction s with
      | bot => simp
      | top => exact absurd h1 (by simp)
      | coe s =>
        rw [← EReal.coe_sub, ← EReal.coe_sub, ← EReal.coe_sub, Ideal.exp_coe, Ideal.exp_coe, Ideal.exp_coe, ← EReal.coe_mul, ← Real.exp_add]
        congr 2
        ring

theorem exp_sub_ne_top {a b : EReal} (h : a ≤ b) : Ideal.exp (a - b) ≠ ⊤ := by
  induction b with
  | bot =>
    obtain rfl : a = ⊥ := le_bot_iff.mp h
    simp
  | top => simp [sub_eq_add_neg]
  | coe b =>
    induction a with
    | bot => simp
    | top => exact absurd h (by simp)
    | coe a => rw [← EReal.coe_sub, Ideal.exp_coe]; exact EReal.coe_ne_top _

theorem mul_sum_of_nonneg {ι : Type} (S : Finset ι) (f : ι → EReal) {a : EReal} (h : 0 ≤ a) (h' : a ≠ ⊤) : a * ∑ u ∈ S, f u = ∑ u ∈ S, a * f u := by
  classical
  induction S using Finset.induction_on with
  | empty => simp
  | insert x S hx ih => rw [Finset.sum_insert hx, Finset.sum_insert hx, EReal.left_distrib_of_nonneg_of_ne_top h h', ih]

/-- The weighted sum of a row over the keys `S`: weights are exponentials below the maximum of the scores `σ` over `S`. -/
def AC (σ v : ℕ → EReal) (S : Finset ℕ) : EReal := ∑ u ∈ S, Ideal.exp (σ u - S.sup σ) * v u

theorem AC_empty (σ v : ℕ → EReal) : AC σ v ∅ = 0 := by simp [AC]

/-- One more chunk of keys: the sum so far is carried to the new maximum, and the chunk's terms are added. -/
theorem AC_step (σ v : ℕ → EReal) (S T : Finset ℕ) (h : Disjoint S T) :
    Ideal.exp (S.sup σ - (S ∪ T).sup σ) * AC σ v S + ∑ u ∈ T, Ideal.exp (σ u - (S ∪ T).sup σ) * v u = AC σ v (S ∪ T) := by
  have hS : S.sup σ ≤ (S ∪ T).sup σ := Finset.sup_mono Finset.subset_union_left
  unfold AC
  rw [mul_sum_of_nonneg _ _ (exp_nonneg _) (exp_sub_ne_top hS), Finset.sum_union h]
  congr 1
  refine Finset.sum_congr rfl fun u hu => ?_
  rw [← mul_assoc, exp_carry (Finset.le_sup hu) hS]

theorem bot_sub' (x : EReal) : (⊥ : EReal) - x = ⊥ := by simp [sub_eq_add_neg]

/-- Keys whose score is minus infinity take no part. -/
theorem AC_mask (σ v : ℕ → EReal) (S U : Finset ℕ) (h : S ⊆ U) (hm : ∀ u ∈ U, u ∉ S → σ u = ⊥) : AC σ v S = AC σ v U := by
  have e : U.sup σ = S.sup σ := by
    refine le_antisymm (Finset.sup_le fun u hu => ?_) (Finset.sup_mono h)
    by_cases hs : u ∈ S
    · exact Finset.le_sup hs
    · rw [hm u hu hs]; exact bot_le
  unfold AC
  rw [e]
  refine Finset.sum_subset h fun u hu hs => ?_
  rw [hm u hu hs, bot_sub', Ideal.exp_bot, zero_mul]

theorem tiny_pos : (0 : EReal) < Ideal.ofBits .f32 0x0DA24260#32 := by
  simp [Ideal.ofBits, Ideal.ieee]
  rw [← EReal.coe_mul]
  exact EReal.coe_pos.mpr (by positivity)

theorem one_bits : Ideal.ofBits .f32 0x3F800000#32 = 1 := by
  simp [Ideal.ofBits, Ideal.ieee]
  rw [← EReal.coe_mul, ← EReal.coe_one]
  congr 1
  norm_num

/-- The weighted sum divided once by the sum of weights is the sum with every weight divided. -/
theorem AC_norm (σ v : ℕ → EReal) (U : Finset ℕ) {t : EReal} (ht : 0 < t) :
    AC σ v U * Ideal.div 1 (max (AC σ (fun _ => 1) U) t)
      = ∑ u ∈ U, Ideal.div (Ideal.exp (σ u - U.sup σ)) (max (∑ w ∈ U, Ideal.exp (σ w - U.sup σ)) t) * v u := by
  have e1 : AC σ (fun _ => 1) U = ∑ w ∈ U, Ideal.exp (σ w - U.sup σ) := by simp [AC]
  rw [e1]
  generalize hD : max (∑ w ∈ U, Ideal.exp (σ w - U.sup σ)) t = D
  have hD0 : 0 < D := by rw [← hD]; exact lt_of_lt_of_le ht (le_max_right _ _)
  have hd : ∀ x : EReal, Ideal.div x D = x * D⁻¹ := fun x => by rw [Ideal.div, if_neg hD0.ne']
  have hi : 0 ≤ D⁻¹ := EReal.inv_nonneg_of_nonneg hD0.le
  have ht' : D⁻¹ ≠ ⊤ := by
    induction D with
    | bot => simp
    | top => simp
    | coe r => rw [← EReal.coe_inv]; exact EReal.coe_ne_top _
  rw [hd, one_mul, mul_comm]
  unfold AC
  rw [mul_sum_of_nonneg _ _ hi ht']
  refine Finset.sum_congr rfl fun u _ => ?_
  rw [hd, ← mul_assoc, mul_comm D⁻¹]

theorem fold_max_sup {n : ℕ} (f : Fin n → EReal) : (Finset.univ.fold max (⊥ : EReal) f) = Finset.univ.sup f := rfl

/-- A maximum and a sum over 256 places are those over a run of 256 keys. -/
theorem sup_run (o : ℕ) (f : ℕ → EReal) (n : ℕ) : (Finset.univ.sup fun k : Fin n => f (o + k.val)) = (Finset.Ico o (o + n)).sup f := by
  refine le_antisymm (Finset.sup_le fun k _ => Finset.le_sup (f := f) (by simp)) (Finset.sup_le fun u hu => ?_)
  rw [Finset.mem_Ico] at hu
  have := Finset.le_sup (f := fun k : Fin n => f (o + k.val)) (Finset.mem_univ (⟨u - o, by omega⟩ : Fin n))
  simpa [Nat.add_sub_cancel' hu.1] using this
theorem sum_run (o : ℕ) (f : ℕ → EReal) (n : ℕ) : (∑ k : Fin n, f (o + k.val)) = ∑ u ∈ Finset.Ico o (o + n), f u := by
  rw [Finset.sum_Ico_eq_sum_range, Nat.add_sub_cancel_left, Finset.sum_range]
end Cert.KernelIdeal.Win
-- ==== Proof.Flash.lean ====
module
public import proofs.«01_k».proof.Proof.Chunk
public import proofs.«01_k».proof.Proof.Row
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- The running maximum of a row after one more chunk. -/
theorem MX_run (S : FVec Ideal S1024x256 .f32) (M : FVec Ideal S1024x128 .f32) (σ : ℕ → EReal) (F : Finset ℕ) (o : ℕ) (ρ : Fin 1024)
    (hS : ∀ k : Fin 256, (S (ix2 ρ k) : EReal) = σ (o + k.val)) (hM : ∀ l : Fin 128, (M (ix2 ρ l) : EReal) = F.sup σ) (l : Fin 128) :
    (MX S M (ix2 ρ l) : EReal) = (F ∪ Finset.Ico o (o + 256)).sup σ := by
  have e : (MX S M (ix2 ρ l) : EReal) = max (M (ix2 ρ l)) (Finset.univ.fold max (⊥ : EReal) fun k : Fin 256 => S (ix2 ρ k)) := rfl
  rw [e, hM, fold_max_sup, Finset.sup_union, ← sup_run]
  simp only [hS]

/-- The weighted sum of a row after one more chunk. -/
theorem A1_run (S : FVec Ideal S1024x256 .f32) (V : FVec Ideal S256x256 .bf16) (M : FVec Ideal S1024x128 .f32) (acc : FVec Ideal S1024x256 .f32)
    (σ v : ℕ → EReal) (F : Finset ℕ) (o : ℕ) (ρ : Fin 1024) (d : Fin 256)
    (hS : ∀ k : Fin 256, (S (ix2 ρ k) : EReal) = σ (o + k.val)) (hV : ∀ k : Fin 256, (V (ix2 k d) : EReal) = v (o + k.val))
    (hM : ∀ l : Fin 128, (M (ix2 ρ l) : EReal) = F.sup σ) (hacc : (acc (ix2 ρ d) : EReal) = AC σ v F) (hd : Disjoint F (Finset.Ico o (o + 256))) :
    (A1 S V M acc (ix2 ρ d) : EReal) = AC σ v (F ∪ Finset.Ico o (o + 256)) := by
  have e : (A1 S V M acc (ix2 ρ d) : EReal) = Ideal.exp (M (ix2 ρ ⟨d.val % 128, Nat.mod_lt _ (by decide)⟩) - MX S M (ix2 ρ ⟨d.val % 128, Nat.mod_lt _ (by decide)⟩)) * acc (ix2 ρ d)
      + ∑ k : Fin 256, Ideal.exp (S (ix2 ρ k) - MX S M (ix2 ρ ⟨k.val % 128, Nat.mod_lt _ (by decide)⟩)) * V (ix2 k d) := rfl
  rw [e, ← AC_step σ v F _ hd, hacc, hM, MX_run S M σ F o ρ hS hM, ← sum_run]
  simp only [MX_run S M σ F o ρ hS hM, hS, hV]

theorem M0_at (σ : ℕ → EReal) (ρ : Fin 1024) (l : Fin 128) : (M0 (ix2 ρ l) : EReal) = (∅ : Finset ℕ).sup σ := rfl
theorem Z0_at (σ v : ℕ → EReal) (ρ : Fin 1024) (d : Fin 256) : (Z0 (ix2 ρ d) : EReal) = AC σ v ∅ := (AC_empty σ v).symm

theorem sc0_nonneg : (0 : EReal) ≤ sc0 := by
  unfold sc0
  simp [Ideal.ofBits, Ideal.ieee]
  rw [← EReal.coe_mul]
  exact EReal.coe_nonneg.mpr (by positivity)
theorem sc0_ne_top : (sc0 : EReal) ≠ ⊤ := by
  unfold sc0
  simp [Ideal.ofBits, Ideal.ieee]
  rw [← EReal.coe_mul]
  exact EReal.coe_ne_top _

/-- A score: the scaled product of a query and a key, and the constant that the two lanes of ones bring in. -/
theorem DS_at (q : FVec Ideal S1x256x512 .f32) (b0 b1 b2 b3 : EReal) (K : FVec Ideal S4096x256 .bf16) (kk : FVec Ideal S1x4096x128 .f32) (hK : IsKB kk K) (o : ℕ) (ho : o ≤ 3840)
    (ρ : Fin 1024) (j : Fin 256) (b : EReal) (hb : (if ρ.val < 256 then b0 else if ρ.val < 512 then b1 else if ρ.val < 768 then b2 else b3) = b) :
    (DS (QF q b0 b1 b2 b3) (CH K o ho) (ix2 ρ j) : EReal)
      = sc0 * (∑ l : Fin 128, (q (ix3 0 ⟨ρ.val % 256, Nat.mod_lt _ (by decide)⟩ ⟨ρ.val / 256 * 128 + l.val, by omega⟩) : EReal) * (kk (ix3 0 ⟨o + j.val, by omega⟩ l) : EReal)) + (b + (b - b)) := by
  have e : (DS (QF q b0 b1 b2 b3) (CH K o ho) (ix2 ρ j) : EReal) = ∑ l : Fin (128 + 128), (QF q b0 b1 b2 b3 (ix2 ρ l) : EReal) * (K (ix2 ⟨o + j.val, by omega⟩ l) : EReal) := rfl
  rw [e, Fin.sum_univ_add]
  refine congrArg₂ (· + ·) ?_ ?_
  · rw [mul_sum_of_nonneg _ _ sc0_nonneg sc0_ne_top]
    refine Finset.sum_congr rfl fun l _ => ?_
    have hl : (Fin.castAdd 128 l).val < 128 := l.isLt
    rw [(hK ⟨o + j.val, by omega⟩ (Fin.castAdd 128 l)).1 hl]
    have e1 : (QF q b0 b1 b2 b3 (ix2 ρ (Fin.castAdd 128 l)) : EReal) = q (ix3 0 ⟨ρ.val % 256, Nat.mod_lt _ (by decide)⟩ ⟨ρ.val / 256 * 128 + l.val, by omega⟩) * sc0 := dif_pos hl
    rw [e1, mul_comm _ sc0, mul_assoc]
    rfl
  · rw [Fintype.sum_eq_add (64 : Fin 128) (65 : Fin 128) (by decide)]
    · have e1 : (K (ix2 ⟨o + j.val, by omega⟩ (Fin.natAdd 128 (64 : Fin 128))) : EReal) = 1 := (hK ⟨o + j.val, by omega⟩ (Fin.natAdd 128 (64 : Fin 128))).2 (Or.inl rfl)
      have e2 : (K (ix2 ⟨o + j.val, by omega⟩ (Fin.natAdd 128 (65 : Fin 128))) : EReal) = 1 := (hK ⟨o + j.val, by omega⟩ (Fin.natAdd 128 (65 : Fin 128))).2 (Or.inr rfl)
      rw [e1, e2, mul_one, mul_one, ← hb]
      rfl
    · intro l hl
      have h1 : ¬ (Fin.natAdd 128 l).val < 128 := by simp
      have h2 : ¬ (Fin.natAdd 128 l).val = 192 := fun h => hl.1 (by apply Fin.ext; simp only [Fin.natAdd] at h; show l.val = 64; omega)
      have h3 : ¬ (Fin.natAdd 128 l).val = 193 := fun h => hl.2 (by apply Fin.ext; simp only [Fin.natAdd] at h; show l.val = 65; omega)
      have e : (QF q b0 b1 b2 b3 (ix2 ρ (Fin.natAdd 128 l)) : EReal) = 0 := by
        refine (dif_neg h1).trans ?_
        exact (if_neg h2).trans (if_neg h3)
      rw [e, zero_mul]
end Cert.KernelIdeal.Win
-- ==== Proof.CaseA.lean ====
module
public import proofs.«01_k».proof.Proof.Chunk
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What the first tile of queries writes. -/
theorem out_A (c : Dev nD) (t : Fin cfg0.N) (h0 : t.val % 16 = 0) (h1 : ¬ 1 ≤ t.val % 16) (h2 : ¬ 2 ≤ t.val % 16) :
    (outsAt0 m c t.val t.isLt).1 = OUT (t.val / 16 % 4) (by omega)
      (let S0 := SCC (SD m c t (t.val % 16 * 256) (by omega)) (iblk m c 5 t)
       A1 S0 (CH (VBt m c t) (t.val % 16 * 256) (by omega)) M0 Z0)
      (iblk m c 2 t) (iblk m c 6 t) := by
  suffices h : ∃ K V : FVec Ideal S4096x256 .bf16, K = KBt m c t ∧ V = VBt m c t ∧ (outsAt0 m c t.val t.isLt).1 = OUT (grid0.coords t 1).val (grid0.coords t 1).isLt
      (A1 (SCC (DS (QT m c t) (CH K (t.val % 16 * 256) (by omega))) (iblk m c 5 t)) (CH V (t.val % 16 * 256) (by omega)) M0 Z0) (iblk m c 2 t) (iblk m c 6 t) by
    obtain ⟨K, V, rfl, rfl, e⟩ := h
    rw [e]
    unfold SD
    congr 1
  refine ⟨?K, ?V, ?hk, ?hv, ?main⟩
  case main =>
    rw [outsAt0_A m c t h0 h1 h2]
    frame_open
    try simp -proj (disch := decide) only [↓ View.readCov_skip, ↓ View.readCov_cons_toLoadRect, ↓ View.readCov_fill]
    frame_out
    try simp -proj only [read_unread_whole]
    try simp -proj only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, shapeCast_self]
    try simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
    try simp -proj (disch := decide) only [↓ View.readCov_skip, ↓ View.readCov_cons_toLoadRect, ↓ View.readCov_fill, read_unread_whole, Memref.IsWhole.read_unread, View.ld_unit_lit']
    try simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
    try simp -proj (disch := decide) only [k0_pay5, k0_pay48, k0_pay107, shapeCast_self, pay96, pay97, pay98, pay99, pay101, pay102, pay103, pay104, QF_eq, DS_eq, pay153, ST_eq, pay155, pay105, pay106]
    rw [OUT_eq _ (grid0.coords t 1).isLt, pay104, pay102, pay99]
    try simp -proj only [QF_eq]
    simp -proj only [ld_ch _ (by omega) (off2_eq t)]
    unfold A1 M0 Z0 QT
    simp -proj only [ld_b0 m c t, ld_b1 m c t, ld_b2 m c t, ld_b3 m c t]
    rfl
  case hk =>
    unfold KBt
    rw [outsAt0_A m c t h0 h1 h2]
    frame_open
    frame_out
    simp only [shapeCast_self]
  case hv =>
    unfold VBt
    rw [outsAt0_A m c t h0 h1 h2]
    frame_open
    frame_out
end Cert.KernelIdeal.Win
-- ==== Proof.CaseB.lean ====
module
public import proofs.«01_k».proof.Proof.Chunk
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What a tile of queries with one chunk before it writes. -/
theorem out_B (c : Dev nD) (t : Fin cfg0.N) (h0 : ¬ t.val % 16 = 0) (h1 : 1 ≤ t.val % 16) (h2 : ¬ 2 ≤ t.val % 16) :
    (outsAt0 m c t.val t.isLt).1 = OUT (t.val / 16 % 4) (by omega)
      (let S0 := SCC (SD m c t (t.val % 16 * 256) (by omega)) (iblk m c 5 t)
       let S1 := SCN (SD m c t ((t.val % 16 - 1) * 256) (by omega)) (iblk m c 5 t)
       A1 S1 (CH (VBt m c t) ((t.val % 16 - 1) * 256) (by omega)) (MX S0 M0) (A1 S0 (CH (VBt m c t) (t.val % 16 * 256) (by omega)) M0 Z0))
      (iblk m c 2 t) (iblk m c 6 t) := by
  unfold SD KBt VBt
  rw [st_prev m c t h0, outsAt0_B m c t h0 h1 h2]
  frame_open
  simp -proj (disch := decide) only [↓ View.readCov_skip, ↓ View.readCov_cons_toLoadRect, ↓ View.readCov_fill]
  frame_out
  simp -proj only [read_unread_whole]
  simp -proj only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, shapeCast_self]
  simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
  simp -proj (disch := decide) only [↓ View.readCov_skip, ↓ View.readCov_cons_toLoadRect, ↓ View.readCov_fill, read_unread_whole, Memref.IsWhole.read_unread, View.ld_unit_lit']
  simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
  simp -proj (disch := decide) only [k0_pay5, k0_pay48, k0_pay107, shapeCast_self, pay96, pay97, pay98, pay99, pay101, pay102, pay103, pay104, QF_eq, DS_eq, pay153, ST_eq, pay155, pay105, pay106]
  rw [OUT_eq _ (grid0.coords t 1).isLt, pay104, pay102, pay99]
  simp -proj only [QF_eq]
  simp -proj only [ld_ch _ (by omega) (off2_eq t), ld_ch _ (by omega) (off3_eq t h1)]
  unfold A1 M0 Z0 QT
  simp -proj only [ld_b0 m c t, ld_b1 m c t, ld_b2 m c t, ld_b3 m c t]
  congr 1
end Cert.KernelIdeal.Win
-- ==== Proof.CaseC.lean ====
module
public import proofs.«01_k».proof.Proof.Chunk
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What a tile of queries with two full chunks before it writes. -/
theorem out_C (c : Dev nD) (t : Fin cfg0.N) (h0 : ¬ t.val % 16 = 0) (h1 : 1 ≤ t.val % 16) (h2 : 2 ≤ t.val % 16) :
    (outsAt0 m c t.val t.isLt).1 = OUT (t.val / 16 % 4) (by omega)
      (let S0 := SCC (SD m c t (t.val % 16 * 256) (by omega)) (iblk m c 5 t)
       let S1 := SCN (SD m c t ((t.val % 16 - 1) * 256) (by omega)) (iblk m c 5 t)
       let S2 := SCW (SD m c t ((t.val % 16 - 2) * 256) (by omega))
       A1 S2 (CH (VBt m c t) ((t.val % 16 - 2) * 256) (by omega)) (MX S1 (MX S0 M0)) (A1 S1 (CH (VBt m c t) ((t.val % 16 - 1) * 256) (by omega)) (MX S0 M0) (A1 S0 (CH (VBt m c t) (t.val % 16 * 256) (by omega)) M0 Z0)))
      (iblk m c 2 t) (iblk m c 6 t) := by
  unfold SD KBt VBt
  rw [st_prev m c t h0, outsAt0_C m c t h0 h1 h2]
  frame_open
  simp -proj (disch := decide) only [↓ View.readCov_skip, ↓ View.readCov_cons_toLoadRect, ↓ View.readCov_fill]
  frame_out
  simp -proj only [read_unread_whole]
  simp -proj only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, shapeCast_self]
  simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
  simp -proj (disch := decide) only [↓ View.readCov_skip, ↓ View.readCov_cons_toLoadRect, ↓ View.readCov_fill, read_unread_whole, Memref.IsWhole.read_unread, View.ld_unit_lit']
  simp -proj (disch := decide) only [↓ scC_eq 0 (by decide), ↓ scC_eq 128 (by decide), ↓ scW_eq 0 (by decide), ↓ scW_eq 128 (by decide), scC_ld, scN_eq, scN_ld, scW_ld, mxB_eq, mxB_eq', ppB_eq, aaB_eq, mxB_ld, ppB_ld, aaB_ld, shapeCast_self, rows256, rows128]
  simp -proj (disch := decide) only [k0_pay5, k0_pay48, k0_pay107, shapeCast_self, pay96, pay97, pay98, pay99, pay101, pay102, pay103, pay104, QF_eq, DS_eq, pay153, ST_eq, pay155, pay105, pay106]
  rw [OUT_eq _ (grid0.coords t 1).isLt, pay104, pay102, pay99]
  simp -proj only [QF_eq]
  simp -proj only [ld_ch _ (by omega) (off2_eq t), ld_ch _ (by omega) (off3_eq t h1), ld_ch _ (by omega) (off4_eq t h2)]
  unfold A1 M0 Z0 QT
  simp -proj only [ld_b0 m c t, ld_b1 m c t, ld_b2 m c t, ld_b3 m c t]
  congr 1
end Cert.KernelIdeal.Win
-- ==== Proof.Point.lean ====
module
public import proofs.«01_k».proof.Proof.Flash
public import proofs.«01_k».proof.Proof.CaseA
public import proofs.«01_k».proof.Proof.CaseB
public import proofs.«01_k».proof.Proof.CaseC
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- The product of query `T` of head `h` and key `u`, unscaled. -/
def dt (X : FVec Ideal S23x8192x512 .f32) (b : Fin 2) (h : Fin 16) (T : Fin 4096) (u : ℕ) : EReal :=
  ∑ l : Fin 128, (X (ix3 ⟨4 + h.val / 4, by omega⟩ ⟨b.val * 4096 + T.val, by omega⟩ ⟨h.val % 4 * 128 + l.val, by omega⟩) : EReal)
    * (X (ix3 12 ⟨b.val * 4096 + u % 4096, by omega⟩ ⟨h.val / 4 * 128 + l.val, by omega⟩) : EReal)

/-- The masked score of query `T` of head `h` against key `u`: `bias n h` is the relative bias at distance `n`, and the window is 512 keys long. -/
def sg (X : FVec Ideal S23x8192x512 .f32) (bias : ℕ → Fin 16 → EReal) (b : Fin 2) (h : Fin 16) (T : Fin 4096) (u : ℕ) : EReal :=
  if u ≤ T.val ∧ T.val < u + 512 then sc0 * dt X b h T u + bias (T.val - u) h else ⊥

/-- Entry `d` of the value of key `u` for head `h`. -/
def vg (X : FVec Ideal S23x8192x512 .f32) (b : Fin 2) (h : Fin 16) (d : Fin 128) (u : ℕ) : EReal :=
  X (ix3 13 ⟨b.val * 4096 + u % 4096, by omega⟩ ⟨h.val / 4 * 128 + d.val, by omega⟩)

/-- What is known of the bias: at the last bucket it is a real number, the tables hold its difference to that, and from distance 257 on it is that. -/
structure Bias (R : FVec Ideal S32x16 .f32) (Tb : FVec Ideal S4x2x1024x256 .f32) (bias : ℕ → Fin 16 → EReal) : Prop where
  top : ∀ h : Fin 16, (R (ix2 31 h) : EReal) ≠ ⊤
  bot : ∀ h : Fin 16, (R (ix2 31 h) : EReal) ≠ ⊥
  table : ∀ (g : Fin 4) (e : Fin 2) (r : Fin 4) (i j : Fin 256), j.val ≤ 256 * e.val + i.val →
    (Tb (ix4 g e ⟨r.val * 256 + i.val, by omega⟩ j) : EReal) = bias (256 * e.val + i.val - j.val) ⟨g.val * 4 + r.val, by omega⟩ - (R (ix2 31 ⟨g.val * 4 + r.val, by omega⟩) : EReal)
  far : ∀ (n : ℕ) (h : Fin 16), 257 ≤ n → n ≤ 511 → bias n h = (R (ix2 31 h) : EReal)

theorem real_cancel {b x : EReal} (h1 : b ≠ ⊤) (h2 : b ≠ ⊥) (s : EReal) : s + (b + (b - b)) + (x - b) = s + x := by
  rw [EReal.sub_self h1 h2, add_zero, add_assoc]
  congr 1
  lift b to ℝ using ⟨h1, h2⟩
  induction x with
  | bot => simp
  | top => simp
  | coe x => rw [← EReal.coe_sub, ← EReal.coe_add]; congr 1; ring

variable (m : (ℓ : Loc nD τ sig) → Buf (Elt Ideal) ℓ)

/-- The batch row, the head and the query of a grid point's row. -/
def bt (t : Fin cfg0.N) : Fin 2 := ⟨t.val / 64, by have : t.val < 128 := t.isLt; omega⟩
def ht (t : Fin cfg0.N) (r : Fin 4) : Fin 16 := ⟨t.val / 16 % 4 * 4 + r.val, by omega⟩
def Tt (t : Fin cfg0.N) (i : Fin 256) : Fin 4096 := ⟨t.val % 16 * 256 + i.val, by omega⟩
def row (r : Fin 4) (i : Fin 256) : Fin 1024 := ⟨r.val * 256 + i.val, by omega⟩

abbrev arg0 (c : Dev nD) : FVec Ideal S32x16 .f32 := m ((c : Thread nD τ).loc main_arg0)
abbrev arg1 (c : Dev nD) : FVec Ideal S23x8192x512 .f32 := m ((c : Thread nD τ).loc main_arg1)
abbrev arg2 (c : Dev nD) : FVec Ideal S4x2x1024x256 .f32 := m ((c : Thread nD τ).loc main_arg2)
abbrev arg3 (c : Dev nD) : FVec Ideal S8192x2048 .f32 := m ((c : Thread nD τ).loc main_arg3)

theorem SD_at (c : Dev nD) (t : Fin cfg0.N) (o : ℕ) (ho : o ≤ 3840) (r : Fin 4) (i j : Fin 256) :
    (SD m c t o ho (ix2 (row r i) j) : EReal) = sc0 * dt (arg1 m c) (bt t) (ht t r) (Tt t i) (o + j.val)
      + ((arg0 m c (ix2 31 (ht t r)) : EReal) + ((arg0 m c (ix2 31 (ht t r)) : EReal) - (arg0 m c (ix2 31 (ht t r)) : EReal))) := by
  unfold SD QT
  rw [DS_at _ _ _ _ _ _ _ (show IsKB (iblk m c 3 t) (KBt m c t) from (state m c t.val t.isLt).1) o ho (row r i) j (arg0 m c (ix2 31 (ht t r)))]
  · congr 2
    unfold dt
    refine Finset.sum_congr rfl fun l _ => ?_
    rw [blk1, blk3]
    refine congrArg₂ (· * ·) (congrArg _ ?_) (congrArg _ ?_)
    · congr 1 <;> (apply Fin.ext; simp only [row, ht, bt, Tt]; omega)
    · congr 1 <;> (apply Fin.ext; simp only [row, ht, bt, Tt]; omega)
  · rw [blk0, blk0, blk0, blk0]
    have hr : r.val = 0 ∨ r.val = 1 ∨ r.val = 2 ∨ r.val = 3 := by omega
    rcases hr with e | e | e | e
    · rw [if_pos (by simp only [row]; omega)]
      simp only [ht, e]
    · rw [if_neg (by simp only [row]; omega), if_pos (by simp only [row]; omega)]
      simp only [ht, e]
    · rw [if_neg (by simp only [row]; omega), if_neg (by simp only [row]; omega), if_pos (by simp only [row]; omega)]
      simp only [ht, e]
    · rw [if_neg (by simp only [row]; omega), if_neg (by simp only [row]; omega), if_neg (by simp only [row]; omega)]
      simp only [ht, e]

variable {bias : ℕ → Fin 16 → EReal}

theorem S0_at (c : Dev nD) (H : Bias (arg0 m c) (arg2 m c) bias) (t : Fin cfg0.N) (ho) (r : Fin 4) (i j : Fin 256) :
    (SCC (SD m c t (t.val % 16 * 256) ho) (iblk m c 5 t) (ix2 (row r i) j) : EReal) = sg (arg1 m c) bias (bt t) (ht t r) (Tt t i) (t.val % 16 * 256 + j.val) := by
  have e : (SCC (SD m c t (t.val % 16 * 256) ho) (iblk m c 5 t) (ix2 (row r i) j) : EReal)
    = if j.val ≤ (row r i).val % 256 then (SD m c t (t.val % 16 * 256) ho (ix2 (row r i) j) : EReal) + (iblk m c 5 t (ix4 0 0 (row r i) j) : EReal) else (⊥ : EReal) := rfl
  have hm : (row r i).val % 256 = i.val := by simp only [row]; omega
  have hT : (Tt t i).val = t.val % 16 * 256 + i.val := rfl
  rw [e, hm]
  unfold sg
  by_cases hj : j.val ≤ i.val
  · rw [if_pos hj, if_pos (by omega), SD_at, blk5]
    have et : (m ((c : Thread nD τ).loc main_arg2) (ix4 ⟨t.val / 16 % 4, by omega⟩ 0 (row r i) j) : EReal) = bias (256 * 0 + i.val - j.val) (ht t r) - (arg0 m c (ix2 31 (ht t r)) : EReal) :=
      H.table ⟨t.val / 16 % 4, by omega⟩ 0 r i j (by simp; omega)
    rw [et, real_cancel (H.top _) (H.bot _)]
    congr 2
    omega
  · rw [if_neg hj, if_neg (by omega)]

theorem S1_at (c : Dev nD) (H : Bias (arg0 m c) (arg2 m c) bias) (t : Fin cfg0.N) (h1 : 1 ≤ t.val % 16) (ho) (r : Fin 4) (i j : Fin 256) :
    (SCN (SD m c t ((t.val % 16 - 1) * 256) ho) (iblk m c 5 t) (ix2 (row r i) j) : EReal) = sg (arg1 m c) bias (bt t) (ht t r) (Tt t i) ((t.val % 16 - 1) * 256 + j.val) := by
  have e : (SCN (SD m c t ((t.val % 16 - 1) * 256) ho) (iblk m c 5 t) (ix2 (row r i) j) : EReal)
    = (SD m c t ((t.val % 16 - 1) * 256) ho (ix2 (row r i) j) : EReal) + (iblk m c 5 t (ix4 0 1 (row r i) j) : EReal) := rfl
  have hT : (Tt t i).val = t.val % 16 * 256 + i.val := rfl
  rw [e]
  unfold sg
  rw [if_pos (by omega), SD_at, blk5]
  have et : (m ((c : Thread nD τ).loc main_arg2) (ix4 ⟨t.val / 16 % 4, by omega⟩ 1 (row r i) j) : EReal) = bias (256 * 1 + i.val - j.val) (ht t r) - (arg0 m c (ix2 31 (ht t r)) : EReal) :=
    H.table ⟨t.val / 16 % 4, by omega⟩ 1 r i j (by simp; omega)
  rw [et, real_cancel (H.top _) (H.bot _)]
  congr 2
  omega

theorem S2_at (c : Dev nD) (H : Bias (arg0 m c) (arg2 m c) bias) (t : Fin cfg0.N) (h2 : 2 ≤ t.val % 16) (ho) (r : Fin 4) (i j : Fin 256) :
    (SCW (SD m c t ((t.val % 16 - 2) * 256) ho) (ix2 (row r i) j) : EReal) = sg (arg1 m c) bias (bt t) (ht t r) (Tt t i) ((t.val % 16 - 2) * 256 + j.val) := by
  have e : (SCW (SD m c t ((t.val % 16 - 2) * 256) ho) (ix2 (row r i) j) : EReal)
    = if (row r i).val % 256 < j.val then (SD m c t ((t.val % 16 - 2) * 256) ho (ix2 (row r i) j) : EReal) else (⊥ : EReal) := rfl
  have hm : (row r i).val % 256 = i.val := by simp only [row]; omega
  have hT : (Tt t i).val = t.val % 16 * 256 + i.val := rfl
  rw [e, hm]
  unfold sg
  by_cases hj : i.val < j.val
  · rw [if_pos hj, if_pos (by omega), SD_at, H.far _ _ (by omega) (by omega), EReal.sub_self (H.top _) (H.bot _), add_zero]
  · rw [if_neg hj, if_neg (by omega)]

theorem V_at (c : Dev nD) (t : Fin cfg0.N) (o : ℕ) (ho : o ≤ 3840) (r : Fin 4) (d : Fin 128) (k : Fin 256) :
    (CH (VBt m c t) o ho (ix2 k ⟨d.val, by omega⟩) : EReal) = vg (arg1 m c) (bt t) (ht t r) d (o + k.val) := by
  unfold CH VBt
  rw [(state m c t.val t.isLt).2]
  unfold VB
  refine (dif_pos (show d.val < 128 from d.isLt)).trans ?_
  refine (blk4 m c t ⟨o + k.val, by omega⟩ d).trans ?_
  unfold vg
  refine congrArg _ ?_
  congr 1 <;> (apply Fin.ext; simp only [row, ht, bt, Tt]; omega)

theorem V1_at (c : Dev nD) (t : Fin cfg0.N) (o : ℕ) (ho : o ≤ 3840) (k : Fin 256) :
    (CH (VBt m c t) o ho (ix2 k 128) : EReal) = (fun _ : ℕ => (1 : EReal)) (o + k.val) := by
  unfold CH VBt
  rw [(state m c t.val t.isLt).2]
  rfl

/-- The sums of a row, over the last one, two or three chunks, are those over all the keys. -/
theorem acc_all {v : ℕ → EReal} (X : FVec Ideal S23x8192x512 .f32) (bias : ℕ → Fin 16 → EReal) (b : Fin 2) (h : Fin 16) (T : Fin 4096) (F : Finset ℕ)
    (h1 : ∀ u ∈ F, u < 4096) (h2 : ∀ u, u ≤ T.val → T.val < u + 512 → u ∈ F) :
    AC (sg X bias b h T) v F = AC (sg X bias b h T) v (Finset.range 4096) := by
  refine AC_mask _ _ _ _ (fun u hu => Finset.mem_range.mpr (h1 u hu)) fun u _ hu => ?_
  unfold sg
  rw [if_neg]
  exact fun hh => hu (h2 u hh.1 hh.2)

/-- The result at query row `R` and column `h * 128 + d`. -/
def GO (X : FVec Ideal S23x8192x512 .f32) (bias : ℕ → Fin 16 → EReal) (p : EReal) (b : Fin 2) (h : Fin 16) (T : Fin 4096) (d : Fin 128) : EReal :=
  p + AC (sg X bias b h T) (vg X b h d) (Finset.range 4096) * Ideal.div 1 (max (AC (sg X bias b h T) (fun _ => 1) (Finset.range 4096)) (Ideal.ofBits .f32 0x0DA24260#32))
    * X (ix3 14 ⟨b.val * 4096 + T.val, by omega⟩ ⟨h.val * 3 + 2, by omega⟩)

theorem OUT_rd (g : ℕ) (hg : g < 4) (acc : FVec Ideal S1024x256 .f32) (nsa : FVec Ideal S1x256x512 .f32) (prev : FVec Ideal S256x512 .f32) (i : Fin 256) (r : Fin 4) (d : Fin 128) :
    (OUT g hg acc nsa prev (ix2 i ⟨r.val * 128 + d.val, by omega⟩) : EReal)
    = (prev (ix2 i ⟨r.val * 128 + d.val, by omega⟩) : EReal) + (acc (ix2 ⟨(r.val * 128 + d.val) / 128 * 256 + i.val, by omega⟩ ⟨(r.val * 128 + d.val) % 128, by omega⟩) : EReal)
      * Ideal.div (Ideal.ofBits .f32 0x3F800000#32) (max (acc (ix2 ⟨(r.val * 128 + d.val) / 128 * 256 + i.val, by omega⟩ ⟨128, by omega⟩) : EReal) (Ideal.ofBits .f32 0x0DA24260#32))
      * (nsa (ix3 0 i ⟨(g * 4 + (r.val * 128 + d.val) / 128) * 3 + 2, by omega⟩) : EReal) := rfl

theorem OUT_pt (c : Dev nD) (t : Fin cfg0.N) (acc : FVec Ideal S1024x256 .f32) (r : Fin 4) (i : Fin 256) (d : Fin 128)
    (hv : (acc (ix2 (row r i) ⟨d.val, by omega⟩) : EReal) = AC (sg (arg1 m c) bias (bt t) (ht t r) (Tt t i)) (vg (arg1 m c) (bt t) (ht t r) d) (Finset.range 4096))
    (h1 : (acc (ix2 (row r i) 128) : EReal) = AC (sg (arg1 m c) bias (bt t) (ht t r) (Tt t i)) (fun _ => 1) (Finset.range 4096)) :
    (OUT (t.val / 16 % 4) (by omega) acc (iblk m c 2 t) (iblk m c 6 t) (ix2 i ⟨r.val * 128 + d.val, by omega⟩) : EReal)
      = GO (arg1 m c) bias (arg3 m c (ix2 ⟨(bt t).val * 4096 + (Tt t i).val, by omega⟩ ⟨(ht t r).val * 128 + d.val, by omega⟩)) (bt t) (ht t r) (Tt t i) d := by
  have e1 : (⟨(r.val * 128 + d.val) / 128 * 256 + i.val, by omega⟩ : Fin 1024) = row r i := by apply Fin.ext; simp only [row]; omega
  have e2 : (⟨(r.val * 128 + d.val) % 128, by omega⟩ : Fin 256) = ⟨d.val, by omega⟩ := by apply Fin.ext; simp only []; omega
  rw [OUT_rd, e1, e2, hv, show (⟨128, by omega⟩ : Fin 256) = 128 from rfl, h1, one_bits, blk6, blk2]
  unfold GO
  refine congrArg₂ (· + ·) (congrArg _ ?_) (congrArg₂ (· * ·) rfl (congrArg _ ?_))
  · congr 1 <;> (apply Fin.ext; simp only [row, ht, bt, Tt]; omega)
  · congr 1 <;> (apply Fin.ext; simp only [row, ht, bt, Tt]; omega)

/-- What a grid point writes. -/
theorem point (c : Dev nD) (H : Bias (arg0 m c) (arg2 m c) bias) (t : Fin cfg0.N) (r : Fin 4) (i : Fin 256) (d : Fin 128) :
    ((outsAt0 m c t.val t.isLt).1 (ix2 i ⟨r.val * 128 + d.val, by omega⟩) : EReal)
      = GO (arg1 m c) bias (arg3 m c (ix2 ⟨(bt t).val * 4096 + (Tt t i).val, by omega⟩ ⟨(ht t r).val * 128 + d.val, by omega⟩)) (bt t) (ht t r) (Tt t i) d := by
  have hT : (Tt t i).val = t.val % 16 * 256 + i.val := rfl
  by_cases h0 : t.val % 16 = 0
  · rw [out_A m c t h0 (by omega) (by omega)]
    have key : ∀ (d' : Fin 256) (v : ℕ → EReal), (∀ o ho k, (CH (VBt m c t) o ho (ix2 k d') : EReal) = v (o + k.val)) → _ := fun d' v hV =>
      A1_run _ _ M0 Z0 _ v ∅ _ (row r i) d' (S0_at m c H t (by omega) r i) (hV (t.val % 16 * 256) (by omega)) (M0_at _ _) (Z0_at _ _ _ _) (by simp)
    refine OUT_pt m c t _ r i d ?_ ?_
    · exact (key _ _ (fun o ho => V_at m c t o ho r d)).trans (acc_all _ _ _ _ _ _ (fun u hu => by simp at hu; omega) (fun u _ _ => by simp; omega))
    · exact (key _ _ (fun o ho => V1_at m c t o ho)).trans (acc_all _ _ _ _ _ _ (fun u hu => by simp at hu; omega) (fun u _ _ => by simp; omega))
  by_cases h2 : 2 ≤ t.val % 16
  · rw [out_C m c t h0 (by omega) h2]
    have d1 : Disjoint (∅ ∪ Finset.Ico (t.val % 16 * 256) (t.val % 16 * 256 + 256)) (Finset.Ico ((t.val % 16 - 1) * 256) ((t.val % 16 - 1) * 256 + 256)) := by
      rw [Finset.disjoint_left]; intro u hu hu'; simp at hu hu'; omega
    have d2 : Disjoint (∅ ∪ Finset.Ico (t.val % 16 * 256) (t.val % 16 * 256 + 256) ∪ Finset.Ico ((t.val % 16 - 1) * 256) ((t.val % 16 - 1) * 256 + 256)) (Finset.Ico ((t.val % 16 - 2) * 256) ((t.val % 16 - 2) * 256 + 256)) := by
      rw [Finset.disjoint_left]; intro u hu hu'; simp at hu hu'; omega
    have key : ∀ (d' : Fin 256) (v : ℕ → EReal), (∀ o ho k, (CH (VBt m c t) o ho (ix2 k d') : EReal) = v (o + k.val)) → _ := fun d' v hV =>
      A1_run _ _ _ _ _ v _ _ (row r i) d' (S2_at m c H t h2 (by omega) r i) (hV ((t.val % 16 - 2) * 256) (by omega))
        (MX_run _ _ _ _ _ (row r i) (S1_at m c H t (by omega) (by omega) r i) (MX_run _ M0 _ ∅ _ (row r i) (S0_at m c H t (by omega) r i) (M0_at _ _)))
        (A1_run _ _ _ _ _ v _ _ (row r i) d' (S1_at m c H t (by omega) (by omega) r i) (hV ((t.val % 16 - 1) * 256) (by omega)) (MX_run _ M0 _ ∅ _ (row r i) (S0_at m c H t (by omega) r i) (M0_at _ _))
          (A1_run _ _ M0 Z0 _ v ∅ _ (row r i) d' (S0_at m c H t (by omega) r i) (hV (t.val % 16 * 256) (by omega)) (M0_at _ _) (Z0_at _ _ _ _) (by simp)) d1) d2
    refine OUT_pt m c t _ r i d ?_ ?_
    · exact (key _ _ (fun o ho => V_at m c t o ho r d)).trans (acc_all _ _ _ _ _ _ (fun u hu => by simp at hu; omega) (fun u _ _ => by simp; omega))
    · exact (key _ _ (fun o ho => V1_at m c t o ho)).trans (acc_all _ _ _ _ _ _ (fun u hu => by simp at hu; omega) (fun u _ _ => by simp; omega))
  · rw [out_B m c t h0 (by omega) h2]
    have d1 : Disjoint (∅ ∪ Finset.Ico (t.val % 16 * 256) (t.val % 16 * 256 + 256)) (Finset.Ico ((t.val % 16 - 1) * 256) ((t.val % 16 - 1) * 256 + 256)) := by
      rw [Finset.disjoint_left]; intro u hu hu'; simp at hu hu'; omega
    have key : ∀ (d' : Fin 256) (v : ℕ → EReal), (∀ o ho k, (CH (VBt m c t) o ho (ix2 k d') : EReal) = v (o + k.val)) → _ := fun d' v hV =>
      A1_run _ _ _ _ _ v _ _ (row r i) d' (S1_at m c H t (by omega) (by omega) r i) (hV ((t.val % 16 - 1) * 256) (by omega)) (MX_run _ M0 _ ∅ _ (row r i) (S0_at m c H t (by omega) r i) (M0_at _ _))
          (A1_run _ _ M0 Z0 _ v ∅ _ (row r i) d' (S0_at m c H t (by omega) r i) (hV (t.val % 16 * 256) (by omega)) (M0_at _ _) (Z0_at _ _ _ _) (by simp)) d1
    refine OUT_pt m c t _ r i d ?_ ?_
    · exact (key _ _ (fun o ho => V_at m c t o ho r d)).trans (acc_all _ _ _ _ _ _ (fun u hu => by simp at hu; omega) (fun u _ _ => by simp; omega))
    · exact (key _ _ (fun o ho => V1_at m c t o ho)).trans (acc_all _ _ _ _ _ _ (fun u hu => by simp at hu; omega) (fun u _ _ => by simp; omega))
end Cert.KernelIdeal.Win
-- ==== Proof.Arr.lean ====
module
public import proofs.«01_k».proof.Proof.Point
@[expose] public section
set_option maxRecDepth 16384
noncomputable section
namespace Cert.KernelIdeal.Win
open Cert.KernelIdeal Cert.KernelIdeal.Gen Idealize.ShloMosaic Idealize.ShloMosaic.TcCoe Idealize.SL.Sem
open Idealize.ShloMosaic.Pipeline (Dat)

/-- The result array. -/
def GA (X : FVec Ideal S23x8192x512 .f32) (bias : ℕ → Fin 16 → EReal) (P : FVec Ideal S8192x2048 .f32) : FVec Ideal S8192x2048 .f32 := fun y =>
  have h0 : (y 0).val < 8192 := (y 0).isLt
  have h1 : (y 1).val < 2048 := (y 1).isLt
  GO X bias (P y) ⟨(y 0).val / 4096, by omega⟩ ⟨(y 1).val / 128, by omega⟩ ⟨(y 0).val % 4096, Nat.mod_lt _ (by decide)⟩ ⟨(y 1).val % 128, Nat.mod_lt _ (by decide)⟩

variable (m : (ℓ : Loc nD τ sig) → Buf (Elt Ideal) ℓ) {bias : ℕ → Fin 16 → EReal}

theorem GA_at (X : FVec Ideal S23x8192x512 .f32) (P : FVec Ideal S8192x2048 .f32) (b : Fin 2) (T : Fin 4096) (h : Fin 16) (d : Fin 128) :
    GA X bias P (ix2 ⟨b.val * 4096 + T.val, by omega⟩ ⟨h.val * 128 + d.val, by omega⟩) = GO X bias (P (ix2 ⟨b.val * 4096 + T.val, by omega⟩ ⟨h.val * 128 + d.val, by omega⟩)) b h T d := by
  have e : (⟨(b.val * 4096 + T.val) / 4096, by omega⟩ : Fin 2) = b ∧ (⟨(h.val * 128 + d.val) / 128, by omega⟩ : Fin 16) = h ∧ (⟨(b.val * 4096 + T.val) % 4096, Nat.mod_lt _ (by decide)⟩ : Fin 4096) = T
      ∧ (⟨(h.val * 128 + d.val) % 128, Nat.mod_lt _ (by decide)⟩ : Fin 128) = d :=
    ⟨Fin.ext (by show (b.val * 4096 + T.val) / 4096 = b.val; omega), Fin.ext (by show (h.val * 128 + d.val) / 128 = h.val; omega), Fin.ext (by show (b.val * 4096 + T.val) % 4096 = T.val; omega), Fin.ext (by show (h.val * 128 + d.val) % 128 = d.val; omega)⟩
  obtain ⟨e1, e2, e3, e4⟩ := e
  show GO X bias _ (⟨(b.val * 4096 + T.val) / 4096, _⟩ : Fin 2) (⟨(h.val * 128 + d.val) / 128, _⟩ : Fin 16) (⟨(b.val * 4096 + T.val) % 4096, _⟩ : Fin 4096) (⟨(h.val * 128 + d.val) % 128, _⟩ : Fin 128) = _
  rw [e1, e2, e3, e4]

theorem block_at (c : Dev nD) (H : Bias (arg0 m c) (arg2 m c) bias) (t : Fin cfg0.N) (i : Fin 256) (r : Fin 4) (d : Fin 128) (j : Fin 512) (hj : j.val = r.val * 128 + d.val) (x0 : Fin 8192) (x1 : Fin 2048)
    (h0 : x0.val = (t.val / 64 * 16 + t.val % 16) * 256 + i.val) (h1 : x1.val = t.val / 16 % 4 * 512 + j.val) :
    ((outsAt0 m c t.val t.isLt).1 (ix2 i j) : EReal) = GA (arg1 m c) bias (arg3 m c) (ix2 x0 x1) := by
  have ej : j = ⟨r.val * 128 + d.val, by omega⟩ := Fin.ext hj
  have e0 : x0 = (⟨(bt t).val * 4096 + (Tt t i).val, by omega⟩ : Fin 8192) := Fin.ext (by show x0.val = t.val / 64 * 4096 + (t.val % 16 * 256 + i.val); omega)
  have e1 : x1 = (⟨(Win.ht t r).val * 128 + d.val, by omega⟩ : Fin 2048) := Fin.ext (by show x1.val = (t.val / 16 % 4 * 4 + r.val) * 128 + d.val; omega)
  rw [ej, show (ix2 x0 x1 : S8192x2048.Idx) = ix2 (⟨(bt t).val * 4096 + (Tt t i).val, by omega⟩ : Fin 8192) (⟨(Win.ht t r).val * 128 + d.val, by omega⟩ : Fin 2048) from congrArg₂ ix2 e0 e1, GA_at]
  exact point m c H t r i d

/-- The result array of the call: every block written back is the part of it that `GA` states. -/
theorem arr (c : Dev nD) (H : Bias (arg0 m c) (arg2 m c) bias) : (dats m 0 c).arrAt 7 cfg0.N = GA (arg1 m c) bias (arg3 m c) := by
  refine (dats m 0 c).arrAt_eq_of_covers 7 (GA (arg1 m c) bias (arg3 m c)) (by decide +kernel) fun t hf y => ?_
  blk_simp
  rw [after0_7]
  have hy : y = ix2 (n0 := 256) (n1 := 512) (y 0) (y 1) := by funext a; fin_cases a <;> rfl
  have hx : ∀ x : S8192x2048.Idx, x = ix2 (n0 := 8192) (n1 := 2048) (x 0) (x 1) := fun x => by funext a; fin_cases a <;> rfl
  rw [hy, hx ((win0_7.blk t).view.emb _)]
  have h1 : (y 1 : Fin 512).val < 512 := (y 1 : Fin 512).isLt
  refine block_at m c H t _ ⟨(y 1 : Fin 512).val / 128, by omega⟩ ⟨(y 1 : Fin 512).val % 128, by omega⟩ _ ?_ _ _ ?_ ?_
  · show (y 1 : Fin 512).val = (y 1 : Fin 512).val / 128 * 128 + (y 1 : Fin 512).val % 128
    omega
  · blk_simp [idx t]
  · blk_simp [idx t]
end Cert.KernelIdeal.Win
-- ==== Proof.RefVal.lean ====
module
public import proofs.«01_k».proof.Proof.RefAt
public import proofs.«01_k».proof.Proof.Arr
@[expose] public section
set_option maxRecDepth 16384
noncomputable section
namespace Cert.ReferenceIdeal.Win
open Cert.ReferenceIdeal Cert.ReferenceIdeal.Gen Idealize.ShloMosaic Idealize.ShloMosaic.TcCoe Idealize.SL.Sem
open Cert.Win (core wrap rowOf biasOf)
open Cert.KernelIdeal.Win (sg vg dt GO GA AC AC_norm sc0 tiny_pos ofBits_bot sup_run sum_run fold_max_sup bot_sub')

theorem toInt_lt (n : ℕ) (h : n < 4096) : (BitVec.ofNat 32 n).toInt = (n : ℤ) := by
  rw [BitVec.toInt_eq_toNat_of_lt (by rw [BitVec.toNat_ofNat]; omega), BitVec.toNat_ofNat]
  omega

theorem toInt_sub (T u : ℕ) (hT : T < 4096) (hu : u < 4096) : (IntOp.subi (BitVec.ofNat 32 T) (BitVec.ofNat 32 u)).toInt = (T : ℤ) - u := by
  show (BitVec.ofNat 32 T - BitVec.ofNat 32 u).toInt = _
  rw [BitVec.toInt_sub, toInt_lt _ (by omega), toInt_lt _ (by omega)]
  simp only [Int.bmod]
  omega

theorem sub_word (T u : ℕ) (h : u ≤ T) (hT : T < 4096) : IntOp.subi (BitVec.ofNat 32 T) (BitVec.ofNat 32 u) = BitVec.ofNat 32 (T - u) := by
  apply BitVec.eq_of_toInt_eq
  rw [toInt_sub T u hT (by omega), toInt_lt _ (by omega)]
  omega

/-- The mask of the window. -/
theorem mask_word (T u : ℕ) (hT : T < 4096) (hu : u < 4096) (a b : EReal) :
    Scalar.select (IntOp.andi (IntOp.cmpi .sge (IntOp.subi (BitVec.ofNat 32 T) (BitVec.ofNat 32 u)) 0#32) (IntOp.cmpi .slt (IntOp.subi (BitVec.ofNat 32 T) (BitVec.ofNat 32 u)) 512#32)) a b
      = if u ≤ T ∧ T < u + 512 then a else b := by
  have e := toInt_sub T u hT hu
  generalize IntOp.subi (BitVec.ofNat 32 T) (BitVec.ofNat 32 u) = w at *
  have h1 : IntOp.cmpi .sge w 0#32 = BitVec.ofBool (decide (u ≤ T)) := by
    show BitVec.ofBool (BitVec.sle 0#32 w) = _
    rw [BitVec.sle_eq_decide, e]
    congr 1
    exact decide_eq_decide.mpr (by rw [show (0#32 : BitVec 32).toInt = 0 from rfl]; omega)
  have h2 : IntOp.cmpi .slt w 512#32 = BitVec.ofBool (decide (T < u + 512)) := by
    show BitVec.ofBool (BitVec.slt w 512#32) = _
    rw [BitVec.slt_eq_decide, e]
    congr 1
    exact decide_eq_decide.mpr (by rw [show (512#32 : BitVec 32).toInt = 512 from rfl]; omega)
  rw [h1, h2]
  by_cases p : u ≤ T <;> by_cases q : T < u + 512 <;> simp [p, q, Scalar.select, IntOp.andi]

variable (A0 : FVec Ideal S32x16 .f32) (A : FVec Ideal S23x8192x512 .f32) (b : Fin 2) (T : Fin 4096) (g r : Fin 4) (d : Fin 128)

def hd (g r : Fin 4) : Fin 16 := ⟨g.val * 4 + r.val, by omega⟩

/-- The masked score. -/
theorem S_at (u : Fin 4096) : (SM (MK DIST) (QK A) (BI A0 (BW (BC DIST))) (ix5 b T g r u) : EReal) = sg A (biasOf A0) b (hd g r) T u.val := by
  rw [SM_at, MK_at, DIST_at, QK_at, BI_at, DIST_at, mask_word _ _ T.isLt u.isLt]
  unfold sg
  by_cases hm : u.val ≤ T.val ∧ T.val < u.val + 512
  · rw [if_pos hm, if_pos hm]
    refine congrArg₂ (· + ·) ?_ ?_
    · rw [mul_comm]
      unfold dt sc0
      refine congrArg₂ (· * ·) rfl (Finset.sum_congr rfl fun l _ => ?_)
      rw [mul_comm]
      refine congrArg₂ (· * ·) (congrArg A ?_) (congrArg A ?_)
      · congr 1 <;> (apply Fin.ext; simp only [hd]; omega)
      · congr 1 <;> (apply Fin.ext; simp only [hd]; omega)
    · unfold biasOf
      rw [sub_word T.val u.val hm.1 T.isLt]
      rfl
  · rw [if_neg hm, if_neg hm]
    exact ofBits_bot

theorem M_at (sm : FVec Ideal S2x4096x4x4x4096 .f32) (f : ℕ → EReal) (h : ∀ u : Fin 4096, (sm (ix5 b T g r u) : EReal) = f u.val) (u : Fin 4096) :
    (MM sm (ix5 b T g r u) : EReal) = (Finset.range 4096).sup f := by
  rw [MM_at, ofBits_bot, fold_max_sup, Finset.range_eq_Ico, ← sup_run 0 f 4096]
  exact Finset.sup_congr rfl fun x _ => (h x).trans (congrArg f (Nat.zero_add _).symm)

/-- The exponential of a score below its row's maximum; it vanishes where the mask does. -/
theorem E_at (u : Fin 4096) : (EE (MK DIST) (SM (MK DIST) (QK A) (BI A0 (BW (BC DIST)))) (MM (SM (MK DIST) (QK A) (BI A0 (BW (BC DIST))))) (ix5 b T g r u) : EReal)
    = Ideal.exp (sg A (biasOf A0) b (hd g r) T u.val - (Finset.range 4096).sup (sg A (biasOf A0) b (hd g r) T)) := by
  rw [EE_at, M_at b T g r _ _ (S_at A0 A b T g r), S_at, MK_at, DIST_at, mask_word _ _ T.isLt u.isLt]
  by_cases h : u.val ≤ T.val ∧ T.val < u.val + 512
  · rw [if_pos h]
  · rw [if_neg h]
    conv_rhs => unfold sg
    rw [if_neg h, bot_sub']
    exact Ideal.exp_bot.symm

theorem P_at (ee : FVec Ideal S2x4096x4x4x4096 .f32) (f : ℕ → EReal) (h : ∀ u : Fin 4096, (ee (ix5 b T g r u) : EReal) = f u.val) (u : Fin 4096) :
    (PP ee (ix5 b T g r u) : EReal) = Ideal.div (f u.val) (max (∑ w ∈ Finset.range 4096, f w) (Ideal.ofBits .f32 0x0DA24260#32)) := by
  rw [PP_at, h, ← Fin.sum_univ_eq_sum_range f 4096]
  exact congrArg (fun s => Ideal.div _ (max s _)) (Finset.sum_congr rfl fun x _ => h x)

theorem O_at (pp : FVec Ideal S2x4096x4x4x4096 .f32) (f : ℕ → EReal) (h : ∀ u : Fin 4096, (pp (ix5 b T g r u) : EReal) = f u.val) :
    (OO A pp (ix5 b T g r d) : EReal) = ∑ u ∈ Finset.range 4096, f u * vg A b (hd g r) d u := by
  rw [OO_at, ← Fin.sum_univ_eq_sum_range (fun u => f u * vg A b (hd g r) d u) 4096]
  refine Finset.sum_congr rfl fun x _ => ?_
  rw [h, mul_comm]
  unfold vg
  refine congrArg₂ (· * ·) rfl (congrArg A ?_)
  congr 1 <;> (apply Fin.ext; simp only [hd]; omega)

/-- The reference's row: the weighted sum of the values, every weight normalised. -/
theorem row_at : (OO A (PP (EE (MK DIST) (SM (MK DIST) (QK A) (BI A0 (BW (BC DIST)))) (MM (SM (MK DIST) (QK A) (BI A0 (BW (BC DIST))))))) (ix5 b T g r d) : EReal)
    = AC (sg A (biasOf A0) b (hd g r) T) (vg A b (hd g r) d) (Finset.range 4096)
      * Ideal.div 1 (max (AC (sg A (biasOf A0) b (hd g r) T) (fun _ => 1) (Finset.range 4096)) (Ideal.ofBits .f32 0x0DA24260#32)) := by
  rw [AC_norm _ _ _ tiny_pos]
  exact O_at A b T g r d _ _ (P_at b T g r _ _ (E_at A0 A b T g r))

variable (m : (ℓ : Loc nD τ sig) → Buf (Elt Ideal) ℓ)

/-- The reference's result is the array that the kernel's blocks make up. -/
theorem res_GA (c : Dev nD) : Value.res_main_v82 m c = GA (arg1 m c) (biasOf (arg0 m c)) (arg3 m c) := by
  rw [res_eq]
  funext y
  have hy : y = ix2 (n0 := 8192) (n1 := 2048) (y 0) (y 1) := by funext a; fin_cases a <;> rfl
  rw [hy]
  generalize (y 0 : Fin 8192) = x
  generalize (y 1 : Fin 2048) = z
  refine (RR_at _ _ _ x z).trans ?_
  rw [row_at, GT_at, mul_comm]
  have hz : z.val < 2048 := z.isLt
  have e : hd ⟨z.val / 512, by omega⟩ ⟨z.val / 128 % 4, by omega⟩ = (⟨z.val / 128, by omega⟩ : Fin 16) := Fin.ext (by show z.val / 512 * 4 + z.val / 128 % 4 = z.val / 128; omega)
  rw [e]
  show _ = GO _ _ _ (⟨x.val / 4096, _⟩ : Fin 2) (⟨z.val / 128, _⟩ : Fin 16) (⟨x.val % 4096, _⟩ : Fin 4096) (⟨z.val % 128, _⟩ : Fin 128)
  unfold GO
  refine congrArg₂ (· + ·) rfl (congrArg₂ (· * ·) rfl (congrArg (arg1 m c) ?_))
  congr 1
  exact Fin.ext (by show z.val / 512 * 12 + z.val / 128 % 4 * 3 + 2 = z.val / 128 * 3 + 2; omega)
end Cert.ReferenceIdeal.Win
-- ==== Proof.PreBias.lean ====
module
public import proofs.«01_k».proof.Proof.PreAt
public import proofs.«01_k».proof.Proof.RefVal
@[expose] public section
set_option maxRecDepth 16384
noncomputable section
namespace Cert.Pre_win_pre.Win
open Cert.Pre_win_pre Cert.Pre_win_pre.Gen Idealize.ShloMosaic Idealize.ShloMosaic.TcCoe
open Cert.Win (core wrap rowOf biasOf row_far)
open Cert.KernelIdeal.Win (Bias)
open Cert.ReferenceIdeal.Win (sub_word toInt_lt)

theorem dist_word (e : Fin 2) (i j : Fin 256) (h : j.val ≤ 256 * e.val + i.val) : DIST (ix3 e i j) = BitVec.ofNat 32 (256 * e.val + i.val - j.val) := by
  rw [DIST_at, show (256#32 : BitVec 32) = BitVec.ofNat 32 256 from rfl, WordCmp.muli_ofNat, WordCmp.addi_ofNat]
  exact sub_word _ _ h (by omega)

theorem not_later (n : ℕ) (h : n < 4096) : IntOp.cmpi .slt (BitVec.ofNat 32 n) 0#32 = 0#1 := by
  show BitVec.ofBool (BitVec.slt _ _) = _
  rw [BitVec.slt_eq_decide, toInt_lt n h, show (0#32 : BitVec 32).toInt = 0 from rfl, decide_eq_false (by omega)]
  rfl

/-- The precondition says what the kernel needs of the bias: the tables are those of the bias, and the last bucket's bias is a real number. -/
theorem bias_of_pre (A0 : FVec Ideal S32x16 .f32) (A1 : FVec Ideal S23x8192x512 .f32) (A2 : FVec Ideal S4x2x1024x256 .f32) (A3 : FVec Ideal S8192x2048 .f32)
    (h1 : (fn (F := Ideal) A0 A1 A2 A3).1 = fun _ => 1#1) (h2 : (fn (F := Ideal) A0 A1 A2 A3).2 = fun _ => 1#1) : Bias A0 A2 (biasOf A0) := by
  have hb : ∀ h : Fin 16, (FloatOps.absf (F := Ideal) (φ := .f32) (A0 (ix2 31 h)) : EReal) < ⊤ := fun h => by
    have := congrFun h2 (ix1 h)
    rw [fn_eq] at this
    have e := (ABS_at A0 h).symm.trans this
    rw [TOP] at e
    by_contra hn
    rw [decide_eq_false hn] at e
    exact absurd e (by decide)
  refine ⟨fun h => ?_, fun h => ?_, fun g e r i j hj => ?_, fun n h n1 n2 => ?_⟩
  · intro e
    have := hb h
    rw [e] at this
    exact absurd this (by simp [FloatOps.absf])
  · intro e
    have := hb h
    rw [e] at this
    exact absurd this (by simp [FloatOps.absf])
  · have q := congrFun h1 (ix4 g e (⟨r.val * 256 + i.val, by omega⟩ : Fin 1024) j)
    rw [FST_at, LATER_at, NEAR_at] at q
    have hi : (⟨(⟨r.val * 256 + i.val, by omega⟩ : Fin 1024).val % 256, by omega⟩ : Fin 256) = i := Fin.ext (by show (r.val * 256 + i.val) % 256 = i.val; omega)
    have hr : (⟨g.val * 4 + (⟨r.val * 256 + i.val, by omega⟩ : Fin 1024).val / 256, by show g.val * 4 + (r.val * 256 + i.val) / 256 < 16; omega⟩ : Fin 16) = ⟨g.val * 4 + r.val, by omega⟩ := Fin.ext (by show g.val * 4 + (r.val * 256 + i.val) / 256 = g.val * 4 + r.val; omega)
    rw [hi, hr, dist_word e i j hj, not_later _ (by omega)] at q
    by_contra hn
    unfold biasOf at hn
    rw [decide_eq_false hn] at q
    exact absurd q (by decide)
  · unfold biasOf
    rw [row_far n n1 n2]
end Cert.Pre_win_pre.Win
-- ==== Proof.InOps.lean ====
module
public import proofs.«01_k».proof.Proof.Gen.InKernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
namespace Cert.InKernelIdeal.In
open Cert.InKernelIdeal Cert.InKernelIdeal.Gen Idealize.ShloMosaic Idealize.ShloMosaic.TcCoe Idealize.SL.Sem
open Idealize.ShloMosaic.Pipeline (Dat)

/-- The small number under the root of the norms. -/
def eps : EReal := Ideal.ofBits .f32 0x358637BD#32
/-- The number one. -/
def one : EReal := Ideal.ofBits .f32 0x3F800000#32

/-- A block of the modulated norm of the input's rows. -/
def HB (x : FVec Ideal S1x1024x2048 .f32) (g : FVec Ideal S1x1x2048 .f32) (sc sh : FVec Ideal S1x1x1x2048 .f32) : FVec Ideal S1024x2048 .bf16 := fun y =>
  ((x (ix3 0 (y 0) (y 1)) : EReal) * Ideal.rsqrt (Ideal.div (∑ k : Fin 2048, x (ix3 0 (y 0) k) * x (ix3 0 (y 0) k)) (Ideal.ofBits .f32 0x45000000#32) + eps) * g (ix3 0 0 (y 1))) * (one + sc (ix4 0 0 0 (y 1))) + sh (ix4 0 0 0 (y 1))

/-- A block of the projection. -/
def YB (h : FVec Ideal S1024x2048 .bf16) (w : FVec Ideal S2048x512 .bf16) : FVec Ideal S1024x512 .f32 := fun y =>
  ∑ k : Fin 2048, (h (ix2 (y 0) k) : EReal) * w (ix2 k (y 1))

/-- The gelu as the kernel computes it. -/
def geK (y : EReal) : EReal :=
  y * Ideal.div one (one + Ideal.exp (y * (y * y * ((-80338380498831 / 1125899906842624 : ℝ) : EReal) - Ideal.ofBits .f32 0x3FCC422A#32)))
/-- The sigmoid as the kernel computes it. -/
def sgK (y : EReal) : EReal := Ideal.div one (one + Ideal.exp (0 - y))

/-- The norm of each group of 128 lanes. -/
def RB (v : FVec Ideal S1024x512 .f32) : FVec Ideal S1024x512 .f32 := fun y =>
  (v y : EReal) * Ideal.rsqrt (Ideal.div (∑ l : Fin 128, v (ix2 (y 0) ⟨(y 1).val / 128 * 128 + l, by have : (y 1).val < 512 := (y 1).isLt; omega⟩) * v (ix2 (y 0) ⟨(y 1).val / 128 * 128 + l, by have : (y 1).val < 512 := (y 1).isLt; omega⟩)) (Ideal.ofBits .f32 0x43000000#32) + eps)

theorem pay1 (x : FVec Ideal S1x1024x2048 .f32) (g : FVec Ideal S1x1x2048 .f32) (sc sh : FVec Ideal S1x1x1x2048 .f32) : k0_pay1 (F := Ideal) x g sc sh = HB x g sc sh := by
  funext y
  idx_vars y
  unfold HB eps one
  pointwise [k0_pay1]

theorem pay2 (h : FVec Ideal S1024x2048 .bf16) (w : FVec Ideal S2048x512 .bf16) : k0_pay2 (F := Ideal) h w = YB h w := by
  funext y
  idx_vars y
  unfold YB
  pointwise [k0_pay2]

theorem gelu_named : (Named.named (F := Ideal) κ "gelu" 0xBD922279#32 : Ideal .f32) = ((-80338380498831 / 1125899906842624 : ℝ) : EReal) := rfl

theorem pay3 (h : FVec Ideal S1024x2048 .bf16) (w : FVec Ideal S2048x512 .bf16) : k0_pay3 (F := Ideal) h w = fun y => geK (YB h w (ix2 (y 1) (y 2))) := by
  funext y
  idx_vars y
  unfold geK one
  pointwise [k0_pay3, pay2, gelu_named]

theorem pay5 (h : FVec Ideal S1024x2048 .bf16) (w : FVec Ideal S2048x512 .bf16) : k0_pay5 (F := Ideal) h w = fun y => sgK (YB h w (ix2 (y 1) (y 2))) := by
  funext y
  idx_vars y
  unfold sgK one
  pointwise [k0_pay5, pay2]

theorem pay6 (v : FVec Ideal S1024x512 .f32) : k0_pay6 (F := Ideal) v = RB v := by
  funext y
  idx_vars y
  unfold RB eps
  pointwise [k0_pay6]
  by_cases h1 : y1.val < 128
  · have e : y1.val / 128 * 128 = 0 := by omega
    rw [dif_pos h1]
    simp only [e, Nat.zero_add]
  rw [dif_neg h1]
  by_cases h2 : y1.val - 128 < 128
  · have e : y1.val / 128 * 128 = 128 := by omega
    have e1 : (⟨128 + (y1.val - 128), by omega⟩ : Fin 512) = y1 := Fin.ext (by show 128 + (y1.val - 128) = y1.val; omega)
    rw [dif_pos h2]
    simp only [e, e1]
  rw [dif_neg h2]
  by_cases h3 : y1.val - 128 - 128 < 128
  · have e : y1.val / 128 * 128 = 256 := by omega
    have e1 : (⟨256 + (y1.val - 128 - 128), by omega⟩ : Fin 512) = y1 := Fin.ext (by show 256 + (y1.val - 128 - 128) = y1.val; omega)
    rw [dif_pos h3]
    simp only [e, e1]
  rw [dif_neg h3]
  have e : y1.val / 128 * 128 = 384 := by omega
  have e1 : (⟨384 + (y1.val - 128 - 128 - 128), by omega⟩ : Fin 512) = y1 := Fin.ext (by show 384 + (y1.val - 128 - 128 - 128) = y1.val; omega)
  simp only [e, e1]

theorem pay4 (h : FVec Ideal S1024x2048 .bf16) (w : FVec Ideal S2048x512 .bf16) (n : FVec Ideal S1024x512 .f32) (g f : FVec Ideal S1x1x512 .f32) :
    k0_pay4 (F := Ideal) h w n g f = fun y => if (Ideal.ofBits .f32 0x3F000000#32 : EReal) < f (ix3 0 0 (y 2)) then (n (ix2 (y 1) (y 2)) : EReal) * g (ix3 0 0 (y 2)) else YB h w (ix2 (y 1) (y 2)) := by
  funext y
  idx_vars y
  pointwise [k0_pay4, pay2]

end Cert.InKernelIdeal.In
-- ==== Proof.InState.lean ====
module
public import proofs.«01_k».proof.Proof.InV
@[expose] public section
set_option maxRecDepth 16384
noncomputable section
namespace Cert.InKernelIdeal.In
open Cert.InKernelIdeal Cert.InKernelIdeal.Gen Idealize.ShloMosaic Idealize.ShloMosaic.TcCoe Idealize.SL.Sem
open Idealize.ShloMosaic.Pipeline (Dat)

/-- The modulated norm of the input at a batch row, a position and a column. -/
def HR (x : FVec Ideal S2x4096x2048 .f32) (mo : FVec Ideal S2x6x1x2048 .f32) (g : FVec Ideal S2048 .f32) (b : Fin 2) (r : Fin 4096) (k : Fin 2048) : EReal :=
  ((x (ix3 b r k) : EReal) * Ideal.rsqrt (Ideal.div (∑ k' : Fin 2048, x (ix3 b r k') * x (ix3 b r k')) (Ideal.ofBits .f32 0x45000000#32) + eps) * g (ix1 k)) * (one + mo (ix4 b 1 0 k)) + mo (ix4 b 0 0 k)

/-- The modulated norm of the input at a row and a column. -/
def HN (x : FVec Ideal S2x4096x2048 .f32) (mo : FVec Ideal S2x6x1x2048 .f32) (g : FVec Ideal S2048 .f32) (n : Fin 8192) (k : Fin 2048) : EReal :=
  HR x mo g ⟨n.val / 4096, by omega⟩ ⟨n.val % 4096, by omega⟩ k

/-- The projection at a row and a column of the weight. -/
def YN (x : FVec Ideal S2x4096x2048 .f32) (mo : FVec Ideal S2x6x1x2048 .f32) (g : FVec Ideal S2048 .f32) (w : FVec Ideal S2048x11312 .f32) (n : Fin 8192) (l : Fin 11312) : EReal :=
  ∑ k : Fin 2048, HN x mo g n k * w (ix2 k l)

variable (m : (ℓ : Loc nD τ sig) → Buf (Elt Ideal) ℓ)

/-- The modulated norm of the launch's input. -/
def hn (c : Dev nD) (n : Fin 8192) (k : Fin 2048) : EReal :=
  HN (m ((c : Thread nD τ).loc main_arg0)) (m ((c : Thread nD τ).loc main_arg1)) (m ((c : Thread nD τ).loc main_arg2)) n k

/-- The projection of the launch's input. -/
def yn (c : Dev nD) (n : Fin 8192) (l : Fin 11312) : EReal :=
  YN (m ((c : Thread nD τ).loc main_arg0)) (m ((c : Thread nD τ).loc main_arg1)) (m ((c : Thread nD τ).loc main_arg2)) (m ((c : Thread nD τ).loc main_arg3)) n l

/-- The windows' block indices at a grid point. -/
theorem idx : ∀ t : Fin cfg0.N, (win0_0.index t = ![t.val / 92, t.val / 23 % 4, 0] ∧ win0_1.index t = ![t.val / 92, 1, 0, 0] ∧ win0_2.index t = ![t.val / 92, 0, 0, 0]
    ∧ win0_3.index t = ![0, 0, 0] ∧ win0_4.index t = ![0, t.val % 23] ∧ win0_5.index t = ![t.val % 23, 0, 0]
    ∧ win0_6.index t = ![t.val % 23, 0, 0] ∧ win0_7.index t = ![t.val % 23, t.val / 23, 0]) :=
  (by decide +kernel : ∀ t : Fin grid0.N, _)

theorem lt184 (t : Fin cfg0.N) : t.val < 184 := t.isLt

theorem V_arg0 (c : Dev nD) : V m c main_arg0 = m ((c : Thread nD τ).loc main_arg0) := by
  show V0 m c (Proc.devRef .tc main_arg0) = _
  rw [V_split, k5_arg0]
  unfold U4 U3 U2 U1
  rw [k4_arg0, k3_arg0, k2_arg0, k1_arg0]
theorem V_arg1 (c : Dev nD) : V m c main_arg1 = m ((c : Thread nD τ).loc main_arg1) := by
  show V0 m c (Proc.devRef .tc main_arg1) = _
  rw [V_split, k5_arg1]
  unfold U4 U3 U2 U1
  rw [k4_arg1, k3_arg1, k2_arg1, k1_arg1]

theorem blk0 (c : Dev nD) (t : Fin cfg0.N) (j : Fin 1024) (k : Fin 2048) : iblk m c 0 t (ix3 0 j k) = m ((c : Thread nD τ).loc main_arg0) (ix3 (⟨t.val / 92, by have := lt184 t; omega⟩ : Fin 2) ⟨t.val / 23 % 4 * 1024 + j, by omega⟩ k) := by
  rw [← V_arg0 m c]
  blk_ext [iblk, idx t]
theorem blk1 (c : Dev nD) (t : Fin cfg0.N) (k : Fin 2048) : iblk m c 1 t (ix4 0 0 0 k) = m ((c : Thread nD τ).loc main_arg1) (ix4 (⟨t.val / 92, by have := lt184 t; omega⟩ : Fin 2) 1 0 k) := by
  rw [← V_arg1 m c]
  blk_ext [iblk, idx t]
theorem blk2 (c : Dev nD) (t : Fin cfg0.N) (k : Fin 2048) : iblk m c 2 t (ix4 0 0 0 k) = m ((c : Thread nD τ).loc main_arg1) (ix4 (⟨t.val / 92, by have := lt184 t; omega⟩ : Fin 2) 0 0 k) := by
  rw [← V_arg1 m c]
  blk_ext [iblk, idx t]
theorem blk3 (c : Dev nD) (t : Fin cfg0.N) (k : Fin 2048) : iblk m c 3 t (ix3 0 0 k) = m ((c : Thread nD τ).loc main_arg2) (ix1 k) := by
  rw [← V_g1 m c]
  blk_ext [iblk, idx t]
theorem blk4 (c : Dev nD) (t : Fin cfg0.N) (j : Fin 2048) (k : Fin 512) : iblk m c 4 t (ix2 j k) = V m c main_v5 (ix2 j (⟨t.val % 23 * 512 + k, by omega⟩ : Fin 11776)) := by
  blk_ext [iblk, idx t]
theorem blk5 (c : Dev nD) (t : Fin cfg0.N) (k : Fin 512) : iblk m c 5 t (ix3 0 0 k) = V m c main_v56 (ix3 (⟨t.val % 23, by omega⟩ : Fin 23) 0 k) := by
  blk_ext [iblk, idx t]
theorem blk6 (c : Dev nD) (t : Fin cfg0.N) (k : Fin 512) : iblk m c 6 t (ix3 0 0 k) = V m c main_v83 (ix3 (⟨t.val % 23, by omega⟩ : Fin 23) 0 k) := by
  blk_ext [iblk, idx t]

/-- The rows of the modulated norm that tile `i` of 1024 rows works on. -/
def HS (c : Dev nD) (i : ℕ) (hi : i < 8) : FVec Ideal S1024x2048 .bf16 := fun y =>
  hn m c ⟨i * 1024 + (y 0).val, by have : (y 0).val < 1024 := (y 0).isLt; omega⟩ (y 1)

theorem HB_at (x : FVec Ideal S1x1024x2048 .f32) (g : FVec Ideal S1x1x2048 .f32) (sc sh : FVec Ideal S1x1x1x2048 .f32) (a : Fin 1024) (k : Fin 2048) : HB x g sc sh (ix2 a k) =
    ((x (ix3 0 a k) : EReal) * Ideal.rsqrt (Ideal.div (∑ k' : Fin 2048, x (ix3 0 a k') * x (ix3 0 a k')) (Ideal.ofBits .f32 0x45000000#32) + eps) * g (ix3 0 0 k)) * (one + sc (ix4 0 0 0 k)) + sh (ix4 0 0 0 k) := rfl

theorem HB_eq (c : Dev nD) (t : Fin cfg0.N) : HB (iblk m c 0 t) (iblk m c 3 t) (iblk m c 1 t) (iblk m c 2 t) = HS m c (t.val / 23) (by have := lt184 t; omega) := by
  have ht := lt184 t
  funext y
  idx_vars y
  have e0 : (⟨t.val / 92, by omega⟩ : Fin 2) = ⟨(t.val / 23 * 1024 + y0.val) / 4096, by omega⟩ := Fin.ext (by show t.val / 92 = (t.val / 23 * 1024 + y0.val) / 4096; omega)
  have e1 : (⟨t.val / 23 % 4 * 1024 + y0.val, by omega⟩ : Fin 4096) = ⟨(t.val / 23 * 1024 + y0.val) % 4096, by omega⟩ := Fin.ext (by show t.val / 23 % 4 * 1024 + y0.val = (t.val / 23 * 1024 + y0.val) % 4096; omega)
  refine Eq.trans ?_ (congrArg₂ (fun b r => HR (m ((c : Thread nD τ).loc main_arg0)) (m ((c : Thread nD τ).loc main_arg1)) (m ((c : Thread nD τ).loc main_arg2)) b r y1) e0 e1)
  rw [HB_at]
  unfold HR
  simp only [blk0, blk1, blk2, blk3]

theorem st_A (c : Dev nD) (t : Fin cfg0.N) (h0 : t.val % 23 = 0) : (outsAt0 m c t.val t.isLt).2 = HS m c (t.val / 23) (by have := lt184 t; omega) := by
  rw [outsAt0_A m c t h0 (by omega) (by omega) (by omega)]
  frame_open
  frame_out
  rw [pay1, HB_eq]

/-- What the point before left in the scratch. -/
abbrev prev (c : Dev nD) (t : Fin cfg0.N) : FVec Ideal S1024x2048 .bf16 := (outsAt0 m c (t.val - 1) (Nat.lt_of_le_of_lt (Nat.sub_le _ _) t.isLt)).2

theorem st_BCD (c : Dev nD) (t : Fin cfg0.N) (h0 : ¬ t.val % 23 = 0) : (outsAt0 m c t.val t.isLt).2 = prev m c t := by
  by_cases h1 : t.val % 23 ≤ 3
  · rw [outsAt0_B m c t h0 h1 (by omega) (by omega)]
    rfl
  · by_cases h2 : t.val % 23 ≤ 13
    · rw [outsAt0_C m c t h0 h1 (by omega) (by omega)]
      rfl
    · rw [outsAt0_D m c t h0 h1 (by omega) (by omega)]
      rfl

/-- The scratch holds the modulated norm of the tile of rows at work. -/
theorem st (c : Dev nD) : ∀ (n : ℕ) (hn : n < cfg0.N), (outsAt0 m c n hn).2 = HS m c (n / 23) (by have : n < 184 := hn; omega) := by
  intro n
  induction n with
  | zero => intro hn; exact st_A m c ⟨0, hn⟩ rfl
  | succ n ih =>
    intro hn
    by_cases h0 : (n + 1) % 23 = 0
    · exact st_A m c ⟨n + 1, hn⟩ h0
    · refine (st_BCD m c ⟨n + 1, hn⟩ h0).trans ((ih (Nat.lt_of_succ_lt hn)).trans ?_)
      have e : n / 23 = (n + 1) / 23 := by omega
      congr 1

theorem prev_eq (c : Dev nD) (t : Fin cfg0.N) (h0 : ¬ t.val % 23 = 0) : prev m c t = HS m c (t.val / 23) (by have := lt184 t; omega) :=
  (st_BCD m c t h0).symm.trans (st m c t.val t.isLt)

theorem out_A (c : Dev nD) (t : Fin cfg0.N) (h0 : t.val % 23 = 0) : (outsAt0 m c t.val t.isLt).1 = k0_pay3 (HS m c (t.val / 23) (by have := lt184 t; omega)) (iblk m c 4 t) := by
  rw [outsAt0_A m c t h0 (by omega) (by omega) (by omega)]
  frame_open
  frame_out
  rw [pay1, HB_eq]

theorem out_B (c : Dev nD) (t : Fin cfg0.N) (h0 : ¬ t.val % 23 = 0) (h1 : t.val % 23 ≤ 3) : (outsAt0 m c t.val t.isLt).1 = k0_pay3 (HS m c (t.val / 23) (by have := lt184 t; omega)) (iblk m c 4 t) := by
  rw [← prev_eq m c t h0, outsAt0_B m c t h0 h1 (by omega) (by omega)]
  frame_open
  frame_out
  simp -proj only [read_unread_whole]

theorem out_C (c : Dev nD) (t : Fin cfg0.N) (h1 : 4 ≤ t.val % 23) (h2 : t.val % 23 ≤ 13) : (outsAt0 m c t.val t.isLt).1 =
    k0_pay4 (HS m c (t.val / 23) (by have := lt184 t; omega)) (iblk m c 4 t) (k0_pay6 (k0_pay2 (HS m c (t.val / 23) (by have := lt184 t; omega)) (iblk m c 4 t))) (iblk m c 5 t) (iblk m c 6 t) := by
  rw [← prev_eq m c t (by omega), outsAt0_C m c t (by omega) (by omega) ⟨h1, h2⟩ (by omega)]
  frame_open
  frame_out
  simp -proj only [read_unread_whole]

theorem out_D (c : Dev nD) (t : Fin cfg0.N) (h1 : 14 ≤ t.val % 23) : (outsAt0 m c t.val t.isLt).1 = k0_pay5 (HS m c (t.val / 23) (by have := lt184 t; omega)) (iblk m c 4 t) := by
  rw [← prev_eq m c t (by omega), outsAt0_D m c t (by omega) (by omega) (by omega) h1]
  frame_open
  frame_out
  simp -proj only [read_unread_whole]

end Cert.InKernelIdeal.In
-- ==== Proof.InArr.lean ====
module
public import proofs.«01_k».proof.Proof.InState
@[expose] public section
set_option maxRecDepth 16384
noncomputable section
namespace Cert.InKernelIdeal.In
open Cert.InKernelIdeal Cert.InKernelIdeal.Gen Idealize.ShloMosaic Idealize.ShloMosaic.TcCoe Idealize.SL.Sem
open Idealize.ShloMosaic.Pipeline (Dat)

variable (m : (ℓ : Loc nD τ sig) → Buf (Elt Ideal) ℓ)

/-- The weight, the gains and the flags as the call takes them. -/
def wv (c : Dev nD) : FVec Ideal S2048x11776 .bf16 := V m c main_v5
def gv (c : Dev nD) : FVec Ideal S23x1x512 .f32 := V m c main_v56
def fv (c : Dev nD) : FVec Ideal S23x1x512 .f32 := V m c main_v83

/-- The projection at a row and a column of the padded weight. -/
def yv (c : Dev nD) (n : Fin 8192) (l : Fin 11776) : EReal := ∑ k : Fin 2048, hn m c n k * wv m c (ix2 k l)

/-- The projection divided by the root of its group's mean square. -/
def rv (c : Dev nD) (n : Fin 8192) (j : Fin 23) (l : Fin 512) : EReal :=
  yv m c n ⟨j.val * 512 + l.val, by omega⟩ * Ideal.rsqrt (Ideal.div (∑ k : Fin 128, yv m c n ⟨j.val * 512 + (l.val / 128 * 128 + k.val), by omega⟩ * yv m c n ⟨j.val * 512 + (l.val / 128 * 128 + k.val), by omega⟩) (Ideal.ofBits .f32 0x43000000#32) + eps)

/-- The call's output at a tile, a row and a column. -/
def GP (c : Dev nD) (j : Fin 23) (n : Fin 8192) (l : Fin 512) : EReal :=
  if j.val ≤ 3 then geK (yv m c n ⟨j.val * 512 + l.val, by omega⟩)
  else if j.val ≤ 13 then (if (Ideal.ofBits .f32 0x3F000000#32 : EReal) < fv m c (ix3 j 0 l) then rv m c n j l * gv m c (ix3 j 0 l) else yv m c n ⟨j.val * 512 + l.val, by omega⟩)
  else sgK (yv m c n ⟨j.val * 512 + l.val, by omega⟩)

/-- The call's output. -/
def GA (c : Dev nD) : FVec Ideal S23x8192x512 .f32 := fun y => GP m c (y 0) (y 1) (y 2)

/-- The tile of columns and the row of an entry of a grid point's block. -/
abbrev jt (t : Fin cfg0.N) : Fin 23 := ⟨t.val % 23, Nat.mod_lt _ (by decide)⟩
abbrev nt (t : Fin cfg0.N) (a : Fin 1024) : Fin 8192 := ⟨t.val / 23 * 1024 + a.val, by have := lt184 t; omega⟩

theorem YB_at (c : Dev nD) (t : Fin cfg0.N) (a : Fin 1024) (l : Fin 512) :
    (YB (HS m c (t.val / 23) (by have := lt184 t; omega)) (iblk m c 4 t) (ix2 a l) : EReal) = yv m c (nt t a) ⟨(jt t).val * 512 + l.val, by omega⟩ := by
  unfold YB yv
  refine Finset.sum_congr rfl fun k _ => ?_
  exact congrArg₂ (fun p q : EReal => p * q) rfl (blk4 m c t k l)

theorem RB_at (c : Dev nD) (t : Fin cfg0.N) (a : Fin 1024) (l : Fin 512) :
    (RB (YB (HS m c (t.val / 23) (by have := lt184 t; omega)) (iblk m c 4 t)) (ix2 a l) : EReal) = rv m c (nt t a) (jt t) l := by
  unfold RB rv
  refine congrArg₂ (fun p q : EReal => p * Ideal.rsqrt (Ideal.div q _ + eps)) (YB_at m c t a l) ?_
  refine Finset.sum_congr rfl fun k _ => ?_
  exact congrArg₂ (fun p q : EReal => p * q) (YB_at m c t a _) (YB_at m c t a _)

theorem block_at (c : Dev nD) (t : Fin cfg0.N) (a : Fin 1024) (l : Fin 512) : ((outsAt0 m c t.val t.isLt).1 (ix3 0 a l) : EReal) = GP m c (jt t) (nt t a) l := by
  unfold GP
  by_cases h0 : t.val % 23 = 0
  · rw [if_pos (by show t.val % 23 ≤ 3; omega), out_A m c t h0, pay3]
    exact congrArg geK (YB_at m c t a l)
  · by_cases h1 : t.val % 23 ≤ 3
    · rw [if_pos h1, out_B m c t h0 h1, pay3]
      exact congrArg geK (YB_at m c t a l)
    · rw [if_neg h1]
      by_cases h2 : t.val % 23 ≤ 13
      · rw [if_pos h2, out_C m c t (by omega) h2, pay2, pay6, pay4]
        have e6 : (iblk m c 6 t (ix3 0 0 l)) = fv m c (ix3 (jt t) 0 l) := blk6 m c t l
        have e5 : (iblk m c 5 t (ix3 0 0 l)) = gv m c (ix3 (jt t) 0 l) := blk5 m c t l
        show (if (Ideal.ofBits .f32 0x3F000000#32 : EReal) < iblk m c 6 t (ix3 0 0 l) then _ else _) = _
        rw [e6]
        refine if_congr Iff.rfl ?_ (YB_at m c t a l)
        exact congrArg₂ (fun p q : EReal => p * q) (RB_at m c t a l) e5
      · rw [if_neg h2, out_D m c t (by omega), pay5]
        exact congrArg sgK (YB_at m c t a l)

/-- The result array of the call: every block written back is the part of it that `GA` states. -/
theorem arr (c : Dev nD) : (dats m 0 c).arrAt 7 cfg0.N = GA m c := by
  refine (dats m 0 c).arrAt_eq_of_covers 7 (GA m c) (by decide +kernel) fun t hf y => ?_
  blk_simp
  rw [after0_7]
  have hy : y = ix3 (n0 := 1) (n1 := 1024) (n2 := 512) 0 (y 1) (y 2) := by funext a; fin_cases a; exact Fin.ext (by have : (y 0 : Fin 1).val < 1 := (y 0 : Fin 1).isLt; show (y 0 : Fin 1).val = 0; omega); rfl; rfl
  have hx : ∀ x : S23x8192x512.Idx, x = ix3 (n0 := 23) (n1 := 8192) (n2 := 512) (x 0) (x 1) (x 2) := fun x => by funext a; fin_cases a <;> rfl
  rw [hy]
  refine (block_at m c t _ _).trans ?_
  unfold GA
  have e0 : jt t = ((win0_7.blk t).view.emb (ix3 (n0 := 1) (n1 := 1024) (n2 := 512) 0 (y 1) (y 2)) : S23x8192x512.Idx) 0 := by
    apply Fin.ext
    blk_simp [idx t]
    rfl
  have e1 : nt t (y 1) = ((win0_7.blk t).view.emb (ix3 (n0 := 1) (n1 := 1024) (n2 := 512) 0 (y 1) (y 2)) : S23x8192x512.Idx) 1 := by
    apply Fin.ext
    blk_simp [idx t]
  have e2 : (y 2 : Fin 512) = ((win0_7.blk t).view.emb (ix3 (n0 := 1) (n1 := 1024) (n2 := 512) 0 (y 1) (y 2)) : S23x8192x512.Idx) 2 := by
    apply Fin.ext
    blk_simp [idx t]
  exact (congrFun (congrFun (congrArg (GP m c) e0) _) _).trans ((congrFun (congrArg (GP m c _) e1) _).trans (congrArg (GP m c _ _) e2))
end Cert.InKernelIdeal.In
-- ==== Proof.InTail.lean ====
module
public import proofs.«01_k».proof.Proof.InArr
@[expose] public section
set_option maxRecDepth 16384
noncomputable section
namespace Cert.InKernelIdeal.In
open Cert.InKernelIdeal Cert.InKernelIdeal.Gen Idealize.ShloMosaic Idealize.ShloMosaic.TcCoe Idealize.SL.Sem
open Idealize.ShloMosaic.Pipeline (Dat)

variable (m : (ℓ : Loc nD τ sig) → Buf (Elt Ideal) ℓ)

theorem t_88 (U : Valuation τ sig (Elt Ideal)) (b : Fin 2) (r : Fin 4096) (h : Fin 4) (d : Fin 128) : StableHlo.after hostOps1 U (Proc.devRef .tc main_v88) (ix4 b r h d) = U (Proc.devRef .tc main_v85) (ix3 (8 : Fin 23) (⟨b.val * 4096 + r.val, by omega⟩ : Fin 8192) (⟨h.val * 128 + d.val, by omega⟩ : Fin 512)) := by
  after_results
  pointwise
theorem t_91 (U : Valuation τ sig (Elt Ideal)) (b : Fin 2) (r : Fin 4096) (h : Fin 4) (d : Fin 128) : StableHlo.after hostOps1 U (Proc.devRef .tc main_v91) (ix4 b r h d) = U (Proc.devRef .tc main_v85) (ix3 (9 : Fin 23) (⟨b.val * 4096 + r.val, by omega⟩ : Fin 8192) (⟨h.val * 128 + d.val, by omega⟩ : Fin 512)) := by
  after_results
  pointwise
theorem t_94 (U : Valuation τ sig (Elt Ideal)) (b : Fin 2) (r : Fin 4096) (h : Fin 4) (d : Fin 128) : StableHlo.after hostOps1 U (Proc.devRef .tc main_v94) (ix4 b r h d) = U (Proc.devRef .tc main_v85) (ix3 (10 : Fin 23) (⟨b.val * 4096 + r.val, by omega⟩ : Fin 8192) (⟨h.val * 128 + d.val, by omega⟩ : Fin 512)) := by
  after_results
  pointwise
theorem t_97 (U : Valuation τ sig (Elt Ideal)) (b : Fin 2) (r : Fin 4096) (h : Fin 4) (d : Fin 128) : StableHlo.after hostOps1 U (Proc.devRef .tc main_v97) (ix4 b r h d) = U (Proc.devRef .tc main_v85) (ix3 (11 : Fin 23) (⟨b.val * 4096 + r.val, by omega⟩ : Fin 8192) (⟨h.val * 128 + d.val, by omega⟩ : Fin 512)) := by
  after_results
  pointwise
theorem t_101 (U : Valuation τ sig (Elt Ideal)) (b : Fin 2) (r : Fin 512) (h : Fin 4) (d : Fin 128) : StableHlo.after hostOps1 U (Proc.devRef .tc main_v101) (ix4 b r h d) = U (Proc.devRef .tc main_v85) (ix3 (12 : Fin 23) (⟨b.val * 4096 + (3584 + r.val), by omega⟩ : Fin 8192) (⟨h.val * 128 + d.val, by omega⟩ : Fin 512)) := by
  after_results
  pointwise
theorem t_105 (U : Valuation τ sig (Elt Ideal)) (b : Fin 2) (r : Fin 512) (h : Fin 4) (d : Fin 128) : StableHlo.after hostOps1 U (Proc.devRef .tc main_v105) (ix4 b r h d) = U (Proc.devRef .tc main_v85) (ix3 (13 : Fin 23) (⟨b.val * 4096 + (3584 + r.val), by omega⟩ : Fin 8192) (⟨h.val * 128 + d.val, by omega⟩ : Fin 512)) := by
  after_results
  pointwise
theorem t_106 (U : Valuation τ sig (Elt Ideal)) (j : Fin 4) (r : Fin 8192) (l : Fin 512) : StableHlo.after hostOps1 U (Proc.devRef .tc main_v106) (ix3 j r l) = U (Proc.devRef .tc main_v85) (ix3 (⟨0 + j.val, by omega⟩ : Fin 23) r l) := by
  after_results
  pointwise
theorem t_107 (U : Valuation τ sig (Elt Ideal)) (j : Fin 4) (r : Fin 8192) (l : Fin 512) : StableHlo.after hostOps1 U (Proc.devRef .tc main_v107) (ix3 j r l) = U (Proc.devRef .tc main_v85) (ix3 (⟨4 + j.val, by omega⟩ : Fin 23) r l) := by
  after_results
  pointwise
theorem t_111 (U : Valuation τ sig (Elt Ideal)) (j : Fin 8) (r : Fin 8192) (l : Fin 512) : StableHlo.after hostOps1 U (Proc.devRef .tc main_v111) (ix3 j r l) = U (Proc.devRef .tc main_v85) (ix3 (⟨15 + j.val, by omega⟩ : Fin 23) r l) := by
  after_results
  pointwise
theorem t_110 (U : Valuation τ sig (Elt Ideal)) (r : Fin 8192) (l : Fin 48) : StableHlo.after hostOps1 U (Proc.devRef .tc main_v110) (ix2 r l) = U (Proc.devRef .tc main_v85) (ix3 (14 : Fin 23) r (⟨l.val, by omega⟩ : Fin 512)) := by
  after_results
  pointwise

/-- What the lines after the call find in its output. -/
theorem tail_arr (c : Dev nD) : Pipeline.withArrays (cfgs 0).spec c (V0 m c) (fun w => (dats m 0 c).arrAt w (cfgs 0).N) (Proc.devRef .tc main_v85) = GA m c :=
  ((dats m 0 c).withArrays_arrAt sharedIn0 (V0 m c) (A_eq m c) 7).trans (arr m c)

end Cert.InKernelIdeal.In
-- ==== Proof.InVal.lean ====
module
public import proofs.«01_k».proof.Proof.InTail
@[expose] public section
set_option maxRecDepth 16384
noncomputable section
namespace Cert.InKernelIdeal.In
open Cert.InKernelIdeal Cert.InKernelIdeal.Gen Idealize.ShloMosaic Idealize.ShloMosaic.TcCoe Idealize.SL.Sem
open Idealize.ShloMosaic.Pipeline (Dat)

/-! ## The results as functions of the launch's arrays -/
section
variable (x : FVec Ideal S2x4096x2048 .f32) (mo : FVec Ideal S2x6x1x2048 .f32) (g : FVec Ideal S2048 .f32) (w : FVec Ideal S2048x11312 .f32)

/-- The projection at a row and a column given as numbers. -/
def YT (n l : ℕ) : EReal := if h : n < 8192 ∧ l < 11312 then YN x mo g w ⟨n, h.1⟩ ⟨l, h.2⟩ else 0
/-- An entry of a group of 128 columns, divided by the root of the group's mean square. -/
def NT (n b d : ℕ) : EReal :=
  YT x mo g w n (b + d) * Ideal.rsqrt (Ideal.div (∑ k : Fin 128, YT x mo g w n (b + k.val) * YT x mo g w n (b + k.val)) (Ideal.ofBits .f32 0x43000000#32) + eps)

/-- Four heads of columns. -/
def KC (o : ℕ) : FVec Ideal S2x4096x4x128 .f32 := fun y => YT x mo g w ((y 0).val * 4096 + (y 1).val) (o + ((y 2).val * 128 + (y 3).val))
/-- Four heads of columns, each normalised and scaled. -/
def KN (o : ℕ) (i : Fin 3) (gk : FVec Ideal S3x128 .f32) : FVec Ideal S2x4096x4x128 .f32 := fun y =>
  NT x mo g w ((y 0).val * 4096 + (y 1).val) (o + (y 2).val * 128) (y 3).val * gk (ix2 i (y 3))
/-- The last 512 rows of four heads. -/
def WC (o : ℕ) : FVec Ideal S2x512x4x128 .f32 := fun y => YT x mo g w ((y 0).val * 4096 + (3584 + (y 1).val)) (o + ((y 2).val * 128 + (y 3).val))
/-- The last 512 rows of four heads, each normalised and scaled. -/
def WN (o : ℕ) (i : Fin 3) (gk : FVec Ideal S3x128 .f32) : FVec Ideal S2x512x4x128 .f32 := fun y =>
  NT x mo g w ((y 0).val * 4096 + (3584 + (y 1).val)) (o + (y 2).val * 128) (y 3).val * gk (ix2 i (y 3))
/-- The first four tiles, through the gate. -/
def TA : FVec Ideal S4x8192x512 .f32 := fun y => geK (YT x mo g w (y 1).val ((y 0).val * 512 + (y 2).val))
/-- The queries' four tiles, normalised by heads and scaled. -/
def TQ (gq : FVec Ideal S128 .f32) : FVec Ideal S4x8192x512 .f32 := fun y =>
  NT x mo g w (y 1).val (2048 + (y 0).val * 512 + (y 2).val / 128 * 128) ((y 2).val % 128) * gq (ix1 ⟨(y 2).val % 128, by omega⟩)
/-- The 48 gates. -/
def TG : FVec Ideal S8192x48 .f32 := fun y => sgK (YT x mo g w (y 0).val (7168 + (y 1).val))
/-- The last eight tiles, through the sigmoid. -/
def TM : FVec Ideal S8x8192x512 .f32 := fun y => sgK (YT x mo g w (y 1).val (7216 + ((y 0).val * 512 + (y 2).val)))
end

variable (m : (ℓ : Loc nD τ sig) → Buf (Elt Ideal) ℓ)

/-- The launch's projection. -/
def yt (c : Dev nD) : ℕ → ℕ → EReal :=
  YT (m ((c : Thread nD τ).loc main_arg0)) (m ((c : Thread nD τ).loc main_arg1)) (m ((c : Thread nD τ).loc main_arg2)) (m ((c : Thread nD τ).loc main_arg3))
def ntt (c : Dev nD) : ℕ → ℕ → ℕ → EReal :=
  NT (m ((c : Thread nD τ).loc main_arg0)) (m ((c : Thread nD τ).loc main_arg1)) (m ((c : Thread nD τ).loc main_arg2)) (m ((c : Thread nD τ).loc main_arg3))

theorem wv_at (c : Dev nD) (k : Fin 2048) (l : Fin 11776) (hl : l.val < 7216 ∨ 7680 ≤ l.val) : wv m c (ix2 k l) = m ((c : Thread nD τ).loc main_arg3) (ix2 k (col l)) := V_w m c k l hl

theorem yv_at (c : Dev nD) (n : Fin 8192) (l : Fin 11776) (L : ℕ) (h : (l.val < 7216 ∧ L = l.val) ∨ (7680 ≤ l.val ∧ L + 464 = l.val)) : yv m c n l = yt m c n.val L := by
  have hL : L < 11312 := by omega
  have e : (⟨L, hL⟩ : Fin 11312) = col l := by
    unfold col
    rcases h with h | h
    · rw [dif_pos h.1]; exact Fin.ext h.2
    · rw [dif_neg (by omega)]; exact Fin.ext (by show L = l.val - 464; omega)
  unfold yt YT
  rw [dif_pos ⟨n.isLt, hL⟩]
  unfold yv YN
  refine Finset.sum_congr rfl fun k _ => ?_
  refine congrArg₂ (fun p q : EReal => p * q) rfl ((wv_at m c k l (by omega)).trans ?_)
  exact congrArg (fun q : Fin 11312 => m ((c : Thread nD τ).loc main_arg3) (ix2 k q)) e.symm

theorem rv_at (c : Dev nD) (n : Fin 8192) (j : Fin 23) (l : Fin 512) (hj : j.val ≤ 13) : rv m c n j l = ntt m c n.val (j.val * 512 + l.val / 128 * 128) (l.val % 128) := by
  unfold rv ntt NT
  refine congrArg₂ (fun p q : EReal => p * Ideal.rsqrt (Ideal.div q _ + eps)) ((yv_at m c n _ _ (Or.inl ⟨by show j.val * 512 + l.val < 7216; omega, ?_⟩))) ?_
  · show j.val * 512 + l.val / 128 * 128 + l.val % 128 = j.val * 512 + l.val
    omega
  · refine Finset.sum_congr rfl fun k _ => ?_
    have h := yv_at m c n ⟨j.val * 512 + (l.val / 128 * 128 + k.val), by omega⟩ (j.val * 512 + l.val / 128 * 128 + k.val) (Or.inl ⟨by show j.val * 512 + (l.val / 128 * 128 + k.val) < 7216; omega, by show _ = j.val * 512 + (l.val / 128 * 128 + k.val); omega⟩)
    exact congrArg₂ (fun p q : EReal => p * q) h h

theorem half_lt_one : (Ideal.ofBits .f32 0x3F000000#32 : EReal) < one := by
  have h1 : (Ideal.ofBits .f32 0x3F000000#32 : EReal) = ((1/2 : ℝ) : EReal) := by
    simp [Ideal.ofBits, Ideal.ieee]; try (rw [← EReal.coe_mul]; congr 1; norm_num)
  have h2 : one = ((1 : ℝ) : EReal) := by
    unfold one; simp [Ideal.ofBits, Ideal.ieee]; try (rw [← EReal.coe_mul]; norm_num)
  rw [h1, h2]; exact EReal.coe_lt_coe_iff.mpr (by norm_num)
theorem half_not_lt_zero : ¬ (Ideal.ofBits .f32 0x3F000000#32 : EReal) < 0 := by
  have h1 : (Ideal.ofBits .f32 0x3F000000#32 : EReal) = ((1/2 : ℝ) : EReal) := by
    simp [Ideal.ofBits, Ideal.ieee]; try (rw [← EReal.coe_mul]; congr 1; norm_num)
  rw [h1, ← EReal.coe_zero]; intro h; have := EReal.coe_lt_coe_iff.mp h; norm_num at this

theorem GP_a (c : Dev nD) (j : Fin 23) (n : Fin 8192) (l : Fin 512) (hj : j.val ≤ 3) : GP m c j n l = geK (yt m c n.val (j.val * 512 + l.val)) := by
  unfold GP
  rw [if_pos hj]
  exact congrArg geK (yv_at m c n _ _ (Or.inl ⟨by show j.val * 512 + l.val < 7216; omega, rfl⟩))
theorem GP_n (c : Dev nD) (j : Fin 23) (n : Fin 8192) (l : Fin 512) (hj : 4 ≤ j.val) (hj' : j.val ≤ 13) (hf : fv m c (ix3 j 0 l) = one) :
    GP m c j n l = ntt m c n.val (j.val * 512 + l.val / 128 * 128) (l.val % 128) * gv m c (ix3 j 0 l) := by
  unfold GP
  rw [if_neg (by omega), if_pos hj', if_pos (lt_of_lt_of_eq half_lt_one hf.symm)]
  exact congrArg (fun p : EReal => p * gv m c (ix3 j 0 l)) (rv_at m c n j l hj')
theorem GP_p (c : Dev nD) (j : Fin 23) (n : Fin 8192) (l : Fin 512) (hj : 4 ≤ j.val) (hj' : j.val ≤ 13) (hf : fv m c (ix3 j 0 l) = (0 : EReal)) :
    GP m c j n l = yt m c n.val (j.val * 512 + l.val) := by
  unfold GP
  rw [if_neg (by omega), if_pos hj', if_neg (fun h => half_not_lt_zero (lt_of_lt_of_eq h hf))]
  exact yv_at m c n _ _ (Or.inl ⟨by show j.val * 512 + l.val < 7216; omega, rfl⟩)
theorem GP_g (c : Dev nD) (n : Fin 8192) (l : Fin 512) (hl : l.val < 48) : GP m c (14 : Fin 23) n l = sgK (yt m c n.val (7168 + l.val)) := by
  unfold GP
  rw [if_neg (by decide), if_neg (by decide)]
  exact congrArg sgK (yv_at m c n _ _ (Or.inl ⟨by show 14 * 512 + l.val < 7216; omega, by show 7168 + l.val = 14 * 512 + l.val; omega⟩))
theorem GP_m (c : Dev nD) (j : Fin 8) (n : Fin 8192) (l : Fin 512) : GP m c (⟨15 + j.val, by omega⟩ : Fin 23) n l = sgK (yt m c n.val (7216 + (j.val * 512 + l.val))) := by
  unfold GP
  rw [if_neg (by show ¬ (15 + j.val ≤ 3); omega), if_neg (by show ¬ (15 + j.val ≤ 13); omega)]
  exact congrArg sgK (yv_at m c n _ _ (Or.inr ⟨by show 7680 ≤ (15 + j.val) * 512 + l.val; omega, by show _ = (15 + j.val) * 512 + l.val; omega⟩))

/-! ## The results -/

/-- What the lines after the call leave. -/
abbrev WA (c : Dev nD) : Valuation τ sig (Elt Ideal) := Pipeline.withArrays (cfgs 0).spec c (V0 m c) (fun w => (dats m 0 c).arrAt w (cfgs 0).N)

theorem WA_at (c : Dev nD) (j : Fin 23) (n : Fin 8192) (l : Fin 512) : WA m c (Proc.devRef .tc main_v85) (ix3 j n l) = GP m c j n l :=
  congrFun (tail_arr m c) (ix3 j n l)

theorem res_kc (c : Dev nD) : StableHlo.after hostOps1 (WA m c) (Proc.devRef .tc main_v88) = KC (m ((c : Thread nD τ).loc main_arg0)) (m ((c : Thread nD τ).loc main_arg1)) (m ((c : Thread nD τ).loc main_arg2)) (m ((c : Thread nD τ).loc main_arg3)) 4096 := by
  funext y; idx_vars y
  refine (t_88 (WA m c) y0 y1 y2 y3).trans ((WA_at m c _ _ _).trans ((GP_p m c _ _ _ (by decide) (by decide) (V_flag_8 m c _)).trans ?_))
  rfl
theorem res_vc (c : Dev nD) : StableHlo.after hostOps1 (WA m c) (Proc.devRef .tc main_v91) = KC (m ((c : Thread nD τ).loc main_arg0)) (m ((c : Thread nD τ).loc main_arg1)) (m ((c : Thread nD τ).loc main_arg2)) (m ((c : Thread nD τ).loc main_arg3)) 4608 := by
  funext y; idx_vars y
  refine (t_91 (WA m c) y0 y1 y2 y3).trans ((WA_at m c _ _ _).trans ((GP_p m c _ _ _ (by decide) (by decide) (V_flag_9 m c _)).trans ?_))
  rfl
theorem res_vs (c : Dev nD) : StableHlo.after hostOps1 (WA m c) (Proc.devRef .tc main_v97) = KC (m ((c : Thread nD τ).loc main_arg0)) (m ((c : Thread nD τ).loc main_arg1)) (m ((c : Thread nD τ).loc main_arg2)) (m ((c : Thread nD τ).loc main_arg3)) 5632 := by
  funext y; idx_vars y
  refine (t_97 (WA m c) y0 y1 y2 y3).trans ((WA_at m c _ _ _).trans ((GP_p m c _ _ _ (by decide) (by decide) (V_flag_11 m c _)).trans ?_))
  rfl
theorem res_vw (c : Dev nD) : StableHlo.after hostOps1 (WA m c) (Proc.devRef .tc main_v105) = WC (m ((c : Thread nD τ).loc main_arg0)) (m ((c : Thread nD τ).loc main_arg1)) (m ((c : Thread nD τ).loc main_arg2)) (m ((c : Thread nD τ).loc main_arg3)) 6656 := by
  funext y; idx_vars y
  refine (t_105 (WA m c) y0 y1 y2 y3).trans ((WA_at m c _ _ _).trans ((GP_p m c _ _ _ (by decide) (by decide) (V_flag_13 m c _)).trans ?_))
  rfl
theorem gv_at10 (c : Dev nD) (l : Fin 512) : gv m c (ix3 (10 : Fin 23) 0 l) = m ((c : Thread nD τ).loc main_arg5) (ix2 (1 : Fin 3) (⟨l.val % 128, by omega⟩ : Fin 128)) := V_gain_10 m c l
theorem gv_at12 (c : Dev nD) (l : Fin 512) : gv m c (ix3 (12 : Fin 23) 0 l) = m ((c : Thread nD τ).loc main_arg5) (ix2 (2 : Fin 3) (⟨l.val % 128, by omega⟩ : Fin 128)) := V_gain_12 m c l
theorem gv_atq (c : Dev nD) (j : Fin 4) (l : Fin 512) : gv m c (ix3 (⟨4 + j.val, by omega⟩ : Fin 23) 0 l) = m ((c : Thread nD τ).loc main_arg4) (ix1 (⟨l.val % 128, by omega⟩ : Fin 128)) := by
  fin_cases j
  · exact V_gain_4 m c l
  · exact V_gain_5 m c l
  · exact V_gain_6 m c l
  · exact V_gain_7 m c l
theorem fv_atq (c : Dev nD) (j : Fin 4) (l : Fin 512) : fv m c (ix3 (⟨4 + j.val, by omega⟩ : Fin 23) 0 l) = one := by
  fin_cases j
  · exact V_flag_4 m c l
  · exact V_flag_5 m c l
  · exact V_flag_6 m c l
  · exact V_flag_7 m c l

theorem ntt_congr (c : Dev nD) {n b b' d d' : ℕ} (hb : b = b') (hd : d = d') : ntt m c n b d = ntt m c n b' d' := by rw [hb, hd]

theorem res_ks (c : Dev nD) : StableHlo.after hostOps1 (WA m c) (Proc.devRef .tc main_v94) = KN (m ((c : Thread nD τ).loc main_arg0)) (m ((c : Thread nD τ).loc main_arg1)) (m ((c : Thread nD τ).loc main_arg2)) (m ((c : Thread nD τ).loc main_arg3)) 5120 1 (m ((c : Thread nD τ).loc main_arg5)) := by
  funext y; idx_vars y
  refine (t_94 (WA m c) y0 y1 y2 y3).trans ((WA_at m c _ _ _).trans ((GP_n m c _ _ _ (by decide) (by decide) (V_flag_10 m c _)).trans ?_))
  refine (congrArg₂ (fun p q : EReal => p * q) (ntt_congr m c (b' := 5120 + y2.val * 128) (d' := y3.val) ?_ ?_) ((gv_at10 m c _).trans (congrArg (fun d : Fin 128 => m ((c : Thread nD τ).loc main_arg5) (ix2 (1 : Fin 3) d)) (Fin.ext (b := y3) ?_)))).trans rfl
  · show 10 * 512 + (y2.val * 128 + y3.val) / 128 * 128 = _; omega
  · show (y2.val * 128 + y3.val) % 128 = _; omega
  · show (y2.val * 128 + y3.val) % 128 = _; omega
theorem res_kw (c : Dev nD) : StableHlo.after hostOps1 (WA m c) (Proc.devRef .tc main_v101) = WN (m ((c : Thread nD τ).loc main_arg0)) (m ((c : Thread nD τ).loc main_arg1)) (m ((c : Thread nD τ).loc main_arg2)) (m ((c : Thread nD τ).loc main_arg3)) 6144 2 (m ((c : Thread nD τ).loc main_arg5)) := by
  funext y; idx_vars y
  refine (t_101 (WA m c) y0 y1 y2 y3).trans ((WA_at m c _ _ _).trans ((GP_n m c _ _ _ (by decide) (by decide) (V_flag_12 m c _)).trans ?_))
  refine (congrArg₂ (fun p q : EReal => p * q) (ntt_congr m c (b' := 6144 + y2.val * 128) (d' := y3.val) ?_ ?_) ((gv_at12 m c _).trans (congrArg (fun d : Fin 128 => m ((c : Thread nD τ).loc main_arg5) (ix2 (2 : Fin 3) d)) (Fin.ext (b := y3) ?_)))).trans rfl
  · show 12 * 512 + (y2.val * 128 + y3.val) / 128 * 128 = _; omega
  · show (y2.val * 128 + y3.val) % 128 = _; omega
  · show (y2.val * 128 + y3.val) % 128 = _; omega
theorem res_a (c : Dev nD) : StableHlo.after hostOps1 (WA m c) (Proc.devRef .tc main_v106) = TA (m ((c : Thread nD τ).loc main_arg0)) (m ((c : Thread nD τ).loc main_arg1)) (m ((c : Thread nD τ).loc main_arg2)) (m ((c : Thread nD τ).loc main_arg3)) := by
  funext y; idx_vars y
  refine (t_106 (WA m c) y0 y1 y2).trans ((WA_at m c _ _ _).trans ((GP_a m c _ _ _ (by show 0 + y0.val ≤ 3; omega)).trans ?_))
  refine (congrArg (fun q : ℕ => geK (yt m c y1.val q)) ?_).trans rfl
  show (0 + y0.val) * 512 + y2.val = y0.val * 512 + y2.val; omega
theorem res_q (c : Dev nD) : StableHlo.after hostOps1 (WA m c) (Proc.devRef .tc main_v107) = TQ (m ((c : Thread nD τ).loc main_arg0)) (m ((c : Thread nD τ).loc main_arg1)) (m ((c : Thread nD τ).loc main_arg2)) (m ((c : Thread nD τ).loc main_arg3)) (m ((c : Thread nD τ).loc main_arg4)) := by
  funext y; idx_vars y
  refine (t_107 (WA m c) y0 y1 y2).trans ((WA_at m c _ _ _).trans ((GP_n m c _ _ _ (by show 4 ≤ 4 + y0.val; omega) (by show 4 + y0.val ≤ 13; omega) (fv_atq m c y0 y2)).trans ?_))
  refine (congrArg₂ (fun p q : EReal => p * q) (ntt_congr m c (b' := 2048 + y0.val * 512 + y2.val / 128 * 128) (d' := y2.val % 128) ?_ rfl) (gv_atq m c y0 y2)).trans rfl
  show (4 + y0.val) * 512 + y2.val / 128 * 128 = _; omega
theorem res_g (c : Dev nD) : StableHlo.after hostOps1 (WA m c) (Proc.devRef .tc main_v110) = TG (m ((c : Thread nD τ).loc main_arg0)) (m ((c : Thread nD τ).loc main_arg1)) (m ((c : Thread nD τ).loc main_arg2)) (m ((c : Thread nD τ).loc main_arg3)) := by
  funext y; idx_vars y
  exact (t_110 (WA m c) y0 y1).trans ((WA_at m c _ _ _).trans ((GP_g m c _ _ y1.isLt).trans rfl))
theorem res_m (c : Dev nD) : StableHlo.after hostOps1 (WA m c) (Proc.devRef .tc main_v111) = TM (m ((c : Thread nD τ).loc main_arg0)) (m ((c : Thread nD τ).loc main_arg1)) (m ((c : Thread nD τ).loc main_arg2)) (m ((c : Thread nD τ).loc main_arg3)) := by
  funext y; idx_vars y
  exact (t_111 (WA m c) y0 y1 y2).trans ((WA_at m c _ _ _).trans ((GP_m m c _ _ _).trans rfl))

end Cert.InKernelIdeal.In
-- ==== Proof.InGelu.lean ====
module
public import proofs.«01_k».proof.Proof.InOps
@[expose] public section
set_option maxRecDepth 16384
noncomputable section
namespace Cert.InKernelIdeal.In
open Idealize.ShloMosaic

theorem one_real : one = ((1 : ℝ) : EReal) := by
  unfold one; simp [Ideal.ofBits, Ideal.ieee]; try (rw [← EReal.coe_mul]; norm_num)
theorem half_real : (Ideal.ofBits .f32 0x3F000000#32 : EReal) = ((1 / 2 : ℝ) : EReal) := by
  simp [Ideal.ofBits, Ideal.ieee]; try (rw [← EReal.coe_mul]; congr 1; norm_num)
theorem two_s_real : (Ideal.ofBits .f32 0x3FCC422A#32 : EReal) = ((13386282 / 8388608 : ℝ) : EReal) := by
  simp [Ideal.ofBits, Ideal.ieee]; try (rw [← EReal.coe_mul]; congr 1; norm_num)
theorem s_real : (Ideal.ofBits .f32 0x3F4C422A#32 : EReal) = ((13386282 / 16777216 : ℝ) : EReal) := by
  simp [Ideal.ofBits, Ideal.ieee]; try (rw [← EReal.coe_mul]; congr 1; norm_num)
theorem k_real : (Ideal.ofBits .f32 0x3D372713#32 : EReal) = ((12003091 / 268435456 : ℝ) : EReal) := by
  simp [Ideal.ofBits, Ideal.ieee]; try (rw [← EReal.coe_mul]; congr 1; norm_num)

/-- The gate as the reference computes it. -/
def geR (y : EReal) : EReal :=
  y * (Ideal.ofBits .f32 0x3F000000#32 * (1 + Ideal.tanh (Ideal.ofBits .f32 0x3F4C422A#32 * (y + Ideal.ofBits .f32 0x3D372713#32 * (y * y * y)))))

/-- Half of one plus the hyperbolic tangent is the logistic function of twice the argument. -/
theorem half_tanh (u : ℝ) : 1 / 2 * (1 + Real.tanh u) = 1 / (1 + Real.exp (-(2 * u))) := by
  rw [Real.tanh_eq_sinh_div_cosh, Real.sinh_eq, Real.cosh_eq]
  have h1 : Real.exp (-(2 * u)) = Real.exp (-u) * Real.exp (-u) := by rw [← Real.exp_add]; congr 1; ring
  have h2 : Real.exp u * Real.exp (-u) = 1 := by rw [← Real.exp_add]; simp
  have p1 := Real.exp_pos u
  have p2 := Real.exp_pos (-u)
  rw [h1]
  have e : 1 + Real.exp (-u) * Real.exp (-u) = Real.exp (-u) * (Real.exp u + Real.exp (-u)) := by linear_combination -h2
  rw [e]
  have q : Real.exp u + Real.exp (-u) ≠ 0 := by positivity
  have r : Real.exp (-u) ≠ 0 := p2.ne'
  field_simp
  linear_combination 2 * h2

theorem ge_coe (r : ℝ) : geK (r : EReal) = geR (r : EReal) := by
  unfold geK geR
  rw [one_real, half_real, two_s_real, s_real, k_real]
  simp only [← EReal.coe_mul, ← EReal.coe_add, ← EReal.coe_sub]
  have e1 : ∀ z : ℝ, Ideal.exp (z : EReal) = (Real.exp z : EReal) := fun z => rfl
  have e2 : ∀ z : ℝ, Ideal.tanh (z : EReal) = (Real.tanh z : EReal) := fun z => rfl
  rw [e1, e2, ← EReal.coe_one]
  simp only [← EReal.coe_add, ← EReal.coe_mul]
  have hz : r * (r * r * (-80338380498831 / 1125899906842624) - 13386282 / 8388608) = -(2 * (13386282 / 16777216 * (r + 12003091 / 268435456 * (r * r * r)))) := by ring
  rw [Ideal.div_coe (by positivity), half_tanh, hz]
  simp only [← EReal.coe_mul]
  congr 1
  ring

theorem ge_top : geK ⊤ = geR ⊤ := by
  unfold geK geR
  rw [one_real, half_real, two_s_real, s_real, k_real]
  have h1 : (⊤ : EReal) * ((-80338380498831 / 1125899906842624 : ℝ) : EReal) = ⊥ := EReal.top_mul_coe_of_neg (by norm_num)
  have h2 : ((12003091 / 268435456 : ℝ) : EReal) * ⊤ = ⊤ := EReal.coe_mul_top_of_pos (by norm_num)
  have h3 : ((13386282 / 16777216 : ℝ) : EReal) * ⊤ = ⊤ := EReal.coe_mul_top_of_pos (by norm_num)
  have e1 : Ideal.exp ⊥ = 0 := rfl
  have e2 : Ideal.tanh ⊤ = 1 := rfl
  have h4 : (⊤ : EReal) + ⊤ = ⊤ := rfl
  have h5 : (⊥ : EReal) - ((13386282 / 8388608 : ℝ) : EReal) = ⊥ := EReal.bot_sub _
  rw [EReal.top_mul_top, h1, h5, EReal.top_mul_bot, e1, EReal.top_mul_top, h2, h4, h3, e2, add_zero]
  rw [Ideal.div_coe (by norm_num), ← EReal.coe_one, ← EReal.coe_add, ← EReal.coe_mul]
  norm_num
  rw [← EReal.coe_mul, EReal.top_mul_coe_of_pos (by norm_num)]

theorem ge_bot : geK ⊥ = geR ⊥ := by
  unfold geK geR
  rw [one_real, half_real, two_s_real, s_real, k_real]
  have h1 : (⊤ : EReal) * ((-80338380498831 / 1125899906842624 : ℝ) : EReal) = ⊥ := EReal.top_mul_coe_of_neg (by norm_num)
  have h2 : ((12003091 / 268435456 : ℝ) : EReal) * ⊥ = ⊥ := EReal.coe_mul_bot_of_pos (by norm_num)
  have h3 : ((13386282 / 16777216 : ℝ) : EReal) * ⊥ = ⊥ := EReal.coe_mul_bot_of_pos (by norm_num)
  have e1 : Ideal.exp ⊤ = ⊤ := rfl
  have e2 : Ideal.tanh ⊥ = -1 := rfl
  have h4 : (⊥ : EReal) + ⊥ = ⊥ := rfl
  have h5 : (⊥ : EReal) - ((13386282 / 8388608 : ℝ) : EReal) = ⊥ := EReal.bot_sub _
  have h6 : ((1 : ℝ) : EReal) + ⊤ = ⊤ := EReal.coe_add_top 1
  have h7 : (1 : EReal) + -1 = 0 := by rw [← EReal.coe_one, ← EReal.coe_neg, ← EReal.coe_add]; norm_num
  have h8 : Ideal.div ((1 : ℝ) : EReal) ⊤ = 0 := by simp [Ideal.div]
  rw [EReal.bot_mul_bot, h1, h5, EReal.bot_mul_bot, e1, h6, h8, EReal.top_mul_bot, h2, h4, h3, e2, h7, mul_zero, mul_zero, mul_zero]

/-- Both gates agree at every extended real. -/
theorem ge_eq (y : EReal) : geK y = geR y := by
  induction y with
  | bot => exact ge_bot
  | top => exact ge_top
  | coe r => exact ge_coe r

theorem sg_eq (y : EReal) : sgK y = Ideal.div 1 (1 + Ideal.exp (-y)) := by
  unfold sgK
  have h : one = 1 := one_real.trans EReal.coe_one
  rw [h, zero_sub]

end Cert.InKernelIdeal.In
-- ==== Proof.InRef.lean ====
module
public import proofs.«01_k».proof.Proof.InVal
public import proofs.«01_k».proof.Proof.InGelu
public import proofs.«01_k».proof.Proof.Gen.InReferenceIdeal.Run
@[expose] public section
set_option maxRecDepth 16384
noncomputable section
namespace Cert.InReferenceIdeal.In
open Cert.InReferenceIdeal Cert.InReferenceIdeal.Gen Idealize.ShloMosaic Idealize.ShloMosaic.TcCoe Idealize.SL.Sem
open Cert.InKernelIdeal.In (HR HN YN YT NT KC KN WC WN TA TQ TG TM geK sgK geR ge_eq sg_eq eps one)

variable (x : FVec Ideal S2x4096x2048 .f32) (mo : FVec Ideal S2x6x1x2048 .f32) (g : FVec Ideal S2048 .f32) (w : FVec Ideal S2048x11312 .f32) (gq : FVec Ideal S128 .f32) (gk : FVec Ideal S3x128 .f32) (Yv : FVec Ideal S2x4096x11312 .f32)

/-- The reference's modulated norm. -/
def Hr : FVec Ideal S2x4096x2048 .f32 := addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (shapeCast _ (extractStridedSlice S2x1x1x2048 ![0, 1, 0, 0] mo slices_S2x6x1x2048_S2x1x1x2048_0_1_0_0) shapeCasts_S2x1x1x2048_S2x1x2048)))) (broadcastInDim S2x4096x2048 ![0, 1, 2] bcast_S2x1x2048_S2x4096x2048_0_1_2 (shapeCast _ (extractStridedSlice S2x1x1x2048 ![0, 0, 0, 0] mo slices_S2x6x1x2048_S2x1x1x2048_0_0_0_0) shapeCasts_S2x1x1x2048_S2x1x2048))
/-- The reference's projection. -/
def Yr : FVec Ideal S2x4096x11312 .f32 := Host.dotGeneral dot_S2x4096x2048_S2048x11312_S2x4096x11312_2_0_01_1_n_n none (Hr x mo g) w

theorem one_eq : one = 1 := by
  unfold one; simp [Ideal.ofBits, Ideal.ieee]; try (rw [← EReal.coe_mul]; norm_num)

theorem Hr_at (b : Fin 2) (r : Fin 4096) (k : Fin 2048) : Hr x mo g (ix3 b r k) = HR x mo g b r k := by
  unfold Hr HR
  rw [one_eq]
  pointwise
  rfl

theorem Yr_sum (b : Fin 2) (r : Fin 4096) (l : Fin 11312) : Yr x mo g w (ix3 b r l) = ∑ k : Fin 2048, Hr x mo g (ix3 b r k) * w (ix2 k l) := by
  unfold Yr
  pointwise

theorem Yr_at (b : Fin 2) (r : Fin 4096) (l : Fin 11312) : Yr x mo g w (ix3 b r l) = YT x mo g w (b.val * 4096 + r.val) l.val := by
  rw [Yr_sum]
  unfold YT
  rw [dif_pos ⟨by omega, l.isLt⟩]
  unfold YN
  refine Finset.sum_congr rfl fun k _ => ?_
  refine congrArg₂ (fun p q : EReal => p * q) ((Hr_at x mo g b r k).trans ?_) rfl
  unfold HN
  exact congrArg₂ (fun (p : Fin 2) (q : Fin 4096) => HR x mo g p q k) (Fin.ext (by show b.val = (b.val * 4096 + r.val) / 4096; omega)) (Fin.ext (by show r.val = (b.val * 4096 + r.val) % 4096; omega))

/-- The reference's result, of its projection. -/
def Rks (Yv : FVec Ideal S2x4096x11312 .f32) (gk : FVec Ideal S3x128 .f32) : FVec Ideal S2x4096x4x128 .f32 := mulf (mulf (shapeCast _ (extractStridedSlice S2x4096x512 ![0, 0, 5120] Yv slices_S2x4096x11312_S2x4096x512_0_0_5120) shapeCasts_S2x4096x512_S2x4096x4x128) (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf (shapeCast _ (extractStridedSlice S2x4096x512 ![0, 0, 5120] Yv slices_S2x4096x11312_S2x4096x512_0_0_5120) shapeCasts_S2x4096x512_S2x4096x4x128) (shapeCast _ (extractStridedSlice S2x4096x512 ![0, 0, 5120] Yv slices_S2x4096x11312_S2x4096x512_0_0_5120) shapeCasts_S2x4096x512_S2x4096x4x128)) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x358637BD#32)))))) (broadcastInDim S2x4096x4x128 ![0, 1, 2, 3] bcast_S1x1x1x128_S2x4096x4x128_0_1_2_3 (broadcastInDim S1x1x1x128 ![3] bcast_S128_S1x1x1x128_3 (shapeCast _ (extractStridedSlice S1x128 ![1, 0] gk slices_S3x128_S1x128_1_0) shapeCasts_S1x128_S128)))
/-- The reference's result, of its projection. -/
def Ra (Yv : FVec Ideal S2x4096x11312 .f32) : FVec Ideal S4x8192x512 .f32 := transpose S4x8192x512 [1, 0, 2] (shapeCast _ (mulf (extractStridedSlice S2x4096x2048 ![0, 0, 0] Yv slices_S2x4096x11312_S2x4096x2048_0_0_0) (mulf (broadcastInDim S2x4096x2048 ![] bcast_S_S2x4096x2048 (constant S_ .f32 0x3F000000#32)) (addf (broadcastInDim S2x4096x2048 ![] bcast_S_S2x4096x2048 (constant S_ .f32 0x3F800000#32)) (Host.tanh (mulf (broadcastInDim S2x4096x2048 ![] bcast_S_S2x4096x2048 (constant S_ .f32 0x3F4C422A#32)) (addf (extractStridedSlice S2x4096x2048 ![0, 0, 0] Yv slices_S2x4096x11312_S2x4096x2048_0_0_0) (mulf (broadcastInDim S2x4096x2048 ![] bcast_S_S2x4096x2048 (constant S_ .f32 0x3D372713#32)) (mulf (mulf (extractStridedSlice S2x4096x2048 ![0, 0, 0] Yv slices_S2x4096x11312_S2x4096x2048_0_0_0) (extractStridedSlice S2x4096x2048 ![0, 0, 0] Yv slices_S2x4096x11312_S2x4096x2048_0_0_0)) (extractStridedSlice S2x4096x2048 ![0, 0, 0] Yv slices_S2x4096x11312_S2x4096x2048_0_0_0))))))))) shapeCasts_S2x4096x2048_S8192x4x512) transposes_S8192x4x512_S4x8192x512_1_0_2
/-- The reference's result, of its projection. -/
def Rq (Yv : FVec Ideal S2x4096x11312 .f32) (gq : FVec Ideal S128 .f32) : FVec Ideal S4x8192x512 .f32 := transpose S4x8192x512 [1, 0, 2] (shapeCast _ (mulf (mulf (shapeCast _ (extractStridedSlice S2x4096x2048 ![0, 0, 2048] Yv slices_S2x4096x11312_S2x4096x2048_0_0_2048) shapeCasts_S2x4096x2048_S2x4096x4x4x128) (broadcastInDim S2x4096x4x4x128 ![0, 1, 2, 3, 4] bcast_S2x4096x4x4x1_S2x4096x4x4x128_0_1_2_3_4 (Host.rsqrt (addf (Host.divf (broadcastInDim S2x4096x4x4x1 ![0, 1, 2, 3] bcast_S2x4096x4x4_S2x4096x4x4x1_0_1_2_3 (Host.reduceAdd (mulf (shapeCast _ (extractStridedSlice S2x4096x2048 ![0, 0, 2048] Yv slices_S2x4096x11312_S2x4096x2048_0_0_2048) shapeCasts_S2x4096x2048_S2x4096x4x4x128) (shapeCast _ (extractStridedSlice S2x4096x2048 ![0, 0, 2048] Yv slices_S2x4096x11312_S2x4096x2048_0_0_2048) shapeCasts_S2x4096x2048_S2x4096x4x4x128)) (constant S_ .f32 0x00000000#32) reducesTo_S2x4096x4x4x128_S2x4096x4x4_d4 h_S_)) (broadcastInDim S2x4096x4x4x1 ![] bcast_S_S2x4096x4x4x1 (constant S_ .f32 0x43000000#32))) (broadcastInDim S2x4096x4x4x1 ![] bcast_S_S2x4096x4x4x1 (constant S_ .f32 0x358637BD#32)))))) (broadcastInDim S2x4096x4x4x128 ![0, 1, 2, 3, 4] bcast_S1x1x1x1x128_S2x4096x4x4x128_0_1_2_3_4 (broadcastInDim S1x1x1x1x128 ![4] bcast_S128_S1x1x1x1x128_4 gq))) shapeCasts_S2x4096x4x4x128_S8192x4x512) transposes_S8192x4x512_S4x8192x512_1_0_2
/-- The reference's result, of its projection. -/
def Rkw (Yv : FVec Ideal S2x4096x11312 .f32) (gk : FVec Ideal S3x128 .f32) : FVec Ideal S2x512x4x128 .f32 := extractStridedSlice S2x512x4x128 ![0, 3584, 0, 0] (mulf (mulf (shapeCast _ (extractStridedSlice S2x4096x512 ![0, 0, 6144] Yv slices_S2x4096x11312_S2x4096x512_0_0_6144) shapeCasts_S2x4096x512_S2x4096x4x128) (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf (shapeCast _ (extractStridedSlice S2x4096x512 ![0, 0, 6144] Yv slices_S2x4096x11312_S2x4096x512_0_0_6144) shapeCasts_S2x4096x512_S2x4096x4x128) (shapeCast _ (extractStridedSlice S2x4096x512 ![0, 0, 6144] Yv slices_S2x4096x11312_S2x4096x512_0_0_6144) shapeCasts_S2x4096x512_S2x4096x4x128)) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x358637BD#32)))))) (broadcastInDim S2x4096x4x128 ![0, 1, 2, 3] bcast_S1x1x1x128_S2x4096x4x128_0_1_2_3 (broadcastInDim S1x1x1x128 ![3] bcast_S128_S1x1x1x128_3 (shapeCast _ (extractStridedSlice S1x128 ![2, 0] gk slices_S3x128_S1x128_2_0) shapeCasts_S1x128_S128)))) slices_S2x4096x4x128_S2x512x4x128_0_3584_0_0
/-- The reference's result, of its projection. -/
def Rkc (Yv : FVec Ideal S2x4096x11312 .f32) : FVec Ideal S2x4096x4x128 .f32 := shapeCast _ (extractStridedSlice S2x4096x512 ![0, 0, 4096] Yv slices_S2x4096x11312_S2x4096x512_0_0_4096) shapeCasts_S2x4096x512_S2x4096x4x128
/-- The reference's result, of its projection. -/
def Rvc (Yv : FVec Ideal S2x4096x11312 .f32) : FVec Ideal S2x4096x4x128 .f32 := shapeCast _ (extractStridedSlice S2x4096x512 ![0, 0, 4608] Yv slices_S2x4096x11312_S2x4096x512_0_0_4608) shapeCasts_S2x4096x512_S2x4096x4x128
/-- The reference's result, of its projection. -/
def Rvs (Yv : FVec Ideal S2x4096x11312 .f32) : FVec Ideal S2x4096x4x128 .f32 := shapeCast _ (extractStridedSlice S2x4096x512 ![0, 0, 5632] Yv slices_S2x4096x11312_S2x4096x512_0_0_5632) shapeCasts_S2x4096x512_S2x4096x4x128
/-- The reference's result, of its projection. -/
def Rvw (Yv : FVec Ideal S2x4096x11312 .f32) : FVec Ideal S2x512x4x128 .f32 := extractStridedSlice S2x512x4x128 ![0, 3584, 0, 0] (shapeCast _ (extractStridedSlice S2x4096x512 ![0, 0, 6656] Yv slices_S2x4096x11312_S2x4096x512_0_0_6656) shapeCasts_S2x4096x512_S2x4096x4x128) slices_S2x4096x4x128_S2x512x4x128_0_3584_0_0
/-- The reference's result, of its projection. -/
def Rg (Yv : FVec Ideal S2x4096x11312 .f32) : FVec Ideal S8192x48 .f32 := shapeCast _ (Host.divf (broadcastInDim S2x4096x48 ![] bcast_S_S2x4096x48 (constant S_ .f32 0x3F800000#32)) (addf (broadcastInDim S2x4096x48 ![] bcast_S_S2x4096x48 (constant S_ .f32 0x3F800000#32)) (Host.exp (Host.negf (extractStridedSlice S2x4096x48 ![0, 0, 7168] Yv slices_S2x4096x11312_S2x4096x48_0_0_7168))))) shapeCasts_S2x4096x48_S8192x48
/-- The reference's result, of its projection. -/
def Rm (Yv : FVec Ideal S2x4096x11312 .f32) : FVec Ideal S8x8192x512 .f32 := transpose S8x8192x512 [1, 0, 2] (shapeCast _ (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (extractStridedSlice S2x4096x4096 ![0, 0, 7216] Yv slices_S2x4096x11312_S2x4096x4096_0_0_7216))))) shapeCasts_S2x4096x4096_S8192x8x512) transposes_S8192x8x512_S8x8192x512_1_0_2
theorem Rkc_at (b : Fin 2) (r : Fin 4096) (h : Fin 4) (d : Fin 128) : Rkc Yv (ix4 b r h d) = Yv (ix3 b r (⟨4096 + (h.val * 128 + d.val), by omega⟩ : Fin 11312)) := by
  unfold Rkc
  pointwise
theorem Rvc_at (b : Fin 2) (r : Fin 4096) (h : Fin 4) (d : Fin 128) : Rvc Yv (ix4 b r h d) = Yv (ix3 b r (⟨4608 + (h.val * 128 + d.val), by omega⟩ : Fin 11312)) := by
  unfold Rvc
  pointwise
theorem Rvs_at (b : Fin 2) (r : Fin 4096) (h : Fin 4) (d : Fin 128) : Rvs Yv (ix4 b r h d) = Yv (ix3 b r (⟨5632 + (h.val * 128 + d.val), by omega⟩ : Fin 11312)) := by
  unfold Rvs
  pointwise
theorem Rvw_at (b : Fin 2) (r : Fin 512) (h : Fin 4) (d : Fin 128) : Rvw Yv (ix4 b r h d) = Yv (ix3 b (⟨3584 + r.val, by omega⟩ : Fin 4096) (⟨6656 + (h.val * 128 + d.val), by omega⟩ : Fin 11312)) := by
  unfold Rvw
  pointwise
theorem Rks_at (b : Fin 2) (r : Fin 4096) (h : Fin 4) (d : Fin 128) : Rks Yv gk (ix4 b r h d) = (Yv (ix3 b r (⟨5120 + (h.val * 128 + d.val), by omega⟩ : Fin 11312)) : EReal) * Ideal.rsqrt (Ideal.div (∑ k : Fin 128, Yv (ix3 b r (⟨5120 + (h.val * 128 + k.val), by omega⟩ : Fin 11312)) * Yv (ix3 b r (⟨5120 + (h.val * 128 + k.val), by omega⟩ : Fin 11312))) (Ideal.ofBits .f32 0x43000000#32) + eps) * gk (ix2 1 d) := by
  unfold Rks
  pointwise
  rfl
theorem Rkw_at (b : Fin 2) (r : Fin 512) (h : Fin 4) (d : Fin 128) : Rkw Yv gk (ix4 b r h d) = (Yv (ix3 b (⟨3584 + r.val, by omega⟩ : Fin 4096) (⟨6144 + (h.val * 128 + d.val), by omega⟩ : Fin 11312)) : EReal) * Ideal.rsqrt (Ideal.div (∑ k : Fin 128, Yv (ix3 b (⟨3584 + r.val, by omega⟩ : Fin 4096) (⟨6144 + (h.val * 128 + k.val), by omega⟩ : Fin 11312)) * Yv (ix3 b (⟨3584 + r.val, by omega⟩ : Fin 4096) (⟨6144 + (h.val * 128 + k.val), by omega⟩ : Fin 11312))) (Ideal.ofBits .f32 0x43000000#32) + eps) * gk (ix2 2 d) := by
  unfold Rkw
  pointwise
  rfl
theorem Ra_at (j : Fin 4) (n : Fin 8192) (l : Fin 512) : Ra Yv (ix3 j n l) = geR (Yv (ix3 (⟨n.val / 4096, by omega⟩ : Fin 2) (⟨n.val % 4096, by omega⟩ : Fin 4096) (⟨j.val * 512 + l.val, by omega⟩ : Fin 11312))) := by
  unfold Ra
  pointwise
  rfl
theorem Rq_at (j : Fin 4) (n : Fin 8192) (l : Fin 512) : Rq Yv gq (ix3 j n l) = (Yv (ix3 (⟨n.val / 4096, by omega⟩ : Fin 2) (⟨n.val % 4096, by omega⟩ : Fin 4096) (⟨2048 + (j.val * 512 + l.val / 128 * 128 + l.val % 128), by omega⟩ : Fin 11312)) : EReal) * Ideal.rsqrt (Ideal.div (∑ k : Fin 128, Yv (ix3 (⟨n.val / 4096, by omega⟩ : Fin 2) (⟨n.val % 4096, by omega⟩ : Fin 4096) (⟨2048 + (j.val * 512 + l.val / 128 * 128 + k.val), by omega⟩ : Fin 11312)) * Yv (ix3 (⟨n.val / 4096, by omega⟩ : Fin 2) (⟨n.val % 4096, by omega⟩ : Fin 4096) (⟨2048 + (j.val * 512 + l.val / 128 * 128 + k.val), by omega⟩ : Fin 11312))) (Ideal.ofBits .f32 0x43000000#32) + eps) * gq (ix1 (⟨l.val % 128, by omega⟩ : Fin 128)) := by
  unfold Rq
  pointwise
  rfl
theorem Rg_at (n : Fin 8192) (l : Fin 48) : Rg Yv (ix2 n l) = Ideal.div 1 (1 + Ideal.exp (-(Yv (ix3 (⟨n.val / 4096, by omega⟩ : Fin 2) (⟨n.val % 4096, by omega⟩ : Fin 4096) (⟨7168 + l.val, by omega⟩ : Fin 11312)) : EReal))) := by
  unfold Rg
  pointwise
theorem Rm_at (j : Fin 8) (n : Fin 8192) (l : Fin 512) : Rm Yv (ix3 j n l) = Ideal.div 1 (1 + Ideal.exp (-(Yv (ix3 (⟨n.val / 4096, by omega⟩ : Fin 2) (⟨n.val % 4096, by omega⟩ : Fin 4096) (⟨7216 + (j.val * 512 + l.val), by omega⟩ : Fin 11312)) : EReal))) := by
  unfold Rm
  pointwise

/-- The row of a stacked row's batch and place, put together again. -/
theorem row_eq (n : ℕ) : n / 4096 * 4096 + n % 4096 = n := by omega

theorem YT_congr {n n' l l' : ℕ} (hn : n = n') (hl : l = l') : YT x mo g w n l = YT x mo g w n' l' := by rw [hn, hl]

theorem norm_congr (n : ℕ) {b d L : ℕ} (p : EReal) (s t : Fin 128 → EReal) (hp : p = YT x mo g w n L) (hL : L = b + d)
    (hs : ∀ k, s k = YT x mo g w n (b + k.val)) (ht : ∀ k, t k = YT x mo g w n (b + k.val)) :
    p * Ideal.rsqrt (Ideal.div (∑ k : Fin 128, s k * t k) (Ideal.ofBits .f32 0x43000000#32) + eps) = NT x mo g w n b d := by
  unfold NT
  rw [hp, hL]
  refine congrArg (fun q : EReal => YT x mo g w n (b + d) * Ideal.rsqrt (Ideal.div q _ + eps)) (Finset.sum_congr rfl fun k _ => ?_)
  rw [hs k, ht k]

theorem ref_kc : Rkc (Yr x mo g w) = KC x mo g w 4096 := by
  funext y; idx_vars y
  exact (Rkc_at _ y0 y1 y2 y3).trans ((Yr_at x mo g w _ _ _).trans rfl)
theorem ref_vc : Rvc (Yr x mo g w) = KC x mo g w 4608 := by
  funext y; idx_vars y
  exact (Rvc_at _ y0 y1 y2 y3).trans ((Yr_at x mo g w _ _ _).trans rfl)
theorem ref_vs : Rvs (Yr x mo g w) = KC x mo g w 5632 := by
  funext y; idx_vars y
  exact (Rvs_at _ y0 y1 y2 y3).trans ((Yr_at x mo g w _ _ _).trans rfl)
theorem ref_vw : Rvw (Yr x mo g w) = WC x mo g w 6656 := by
  funext y; idx_vars y
  exact (Rvw_at _ y0 y1 y2 y3).trans ((Yr_at x mo g w _ _ _).trans rfl)
theorem ref_ks : Rks (Yr x mo g w) gk = KN x mo g w 5120 1 gk := by
  funext y; idx_vars y
  refine (Rks_at gk _ y0 y1 y2 y3).trans (congrArg (fun p : EReal => p * gk (ix2 1 y3)) ?_)
  exact norm_congr x mo g w (y0.val * 4096 + y1.val) (b := 5120 + y2.val * 128) (d := y3.val) _ _ _ (Yr_at x mo g w _ _ _) (by dsimp only; omega) (fun k => (Yr_at x mo g w _ _ _).trans (YT_congr x mo g w rfl (by dsimp only; omega))) (fun k => (Yr_at x mo g w _ _ _).trans (YT_congr x mo g w rfl (by dsimp only; omega)))
theorem ref_kw : Rkw (Yr x mo g w) gk = WN x mo g w 6144 2 gk := by
  funext y; idx_vars y
  refine (Rkw_at gk _ y0 y1 y2 y3).trans (congrArg (fun p : EReal => p * gk (ix2 2 y3)) ?_)
  exact norm_congr x mo g w (y0.val * 4096 + (3584 + y1.val)) (b := 6144 + y2.val * 128) (d := y3.val) _ _ _ (Yr_at x mo g w _ _ _) (by dsimp only; omega) (fun k => (Yr_at x mo g w _ _ _).trans (YT_congr x mo g w rfl (by dsimp only; omega))) (fun k => (Yr_at x mo g w _ _ _).trans (YT_congr x mo g w rfl (by dsimp only; omega)))
theorem ref_a : Ra (Yr x mo g w) = TA x mo g w := by
  funext y; idx_vars y
  refine (Ra_at _ y0 y1 y2).trans ((ge_eq _).symm.trans (congrArg geK ((Yr_at x mo g w _ _ _).trans (YT_congr x mo g w (row_eq y1.val) rfl))))
theorem ref_q : Rq (Yr x mo g w) gq = TQ x mo g w gq := by
  funext y; idx_vars y
  refine (Rq_at gq _ y0 y1 y2).trans (congrArg (fun p : EReal => p * gq (ix1 ⟨y2.val % 128, by omega⟩)) ?_)
  exact norm_congr x mo g w y1.val (b := 2048 + y0.val * 512 + y2.val / 128 * 128) (d := y2.val % 128) _ _ _ ((Yr_at x mo g w _ _ _).trans (YT_congr x mo g w (row_eq y1.val) rfl)) (by dsimp only; omega) (fun k => (Yr_at x mo g w _ _ _).trans (YT_congr x mo g w (row_eq y1.val) (by dsimp only; omega))) (fun k => (Yr_at x mo g w _ _ _).trans (YT_congr x mo g w (row_eq y1.val) (by dsimp only; omega)))
theorem ref_g : Rg (Yr x mo g w) = TG x mo g w := by
  funext y; idx_vars y
  exact (Rg_at _ y0 y1).trans ((sg_eq _).symm.trans (congrArg sgK ((Yr_at x mo g w _ _ _).trans (YT_congr x mo g w (row_eq y0.val) rfl))))
theorem ref_m : Rm (Yr x mo g w) = TM x mo g w := by
  funext y; idx_vars y
  exact (Rm_at _ y0 y1 y2).trans ((sg_eq _).symm.trans (congrArg sgK ((Yr_at x mo g w _ _ _).trans (YT_congr x mo g w (row_eq y1.val) rfl))))

end Cert.InReferenceIdeal.In
-- ==== Proof.InClaim.lean ====
module
public import proofs.«01_k».proof.Defs
public import proofs.«01_k».proof.Proof.InRef
public import Idealize.ShloMosaic.Adequacy
public import Idealize.ShloMosaic.Init
@[expose] public section
set_option maxRecDepth 16384
noncomputable section
namespace Cert.InKernelIdeal.In
open Cert.InKernelIdeal Cert.InKernelIdeal.Gen Idealize.ShloMosaic Idealize.ShloMosaic.TcCoe Idealize.SL.Sem

variable (m : (ℓ : Loc nD τ sig) → Buf (Elt Ideal) ℓ)

abbrev x0 (c : Dev nD) : FVec Ideal S2x4096x2048 .f32 := m ((c.tc : Thread nD τ).loc main_arg0)
abbrev x1 (c : Dev nD) : FVec Ideal S2x6x1x2048 .f32 := m ((c.tc : Thread nD τ).loc main_arg1)
abbrev x2 (c : Dev nD) : FVec Ideal S2048 .f32 := m ((c.tc : Thread nD τ).loc main_arg2)
abbrev x3 (c : Dev nD) : FVec Ideal S2048x11312 .f32 := m ((c.tc : Thread nD τ).loc main_arg3)
abbrev x4 (c : Dev nD) : FVec Ideal S128 .f32 := m ((c.tc : Thread nD τ).loc main_arg4)
abbrev x5 (c : Dev nD) : FVec Ideal S3x128 .f32 := m ((c.tc : Thread nD τ).loc main_arg5)

/-- A run of the kernel's call and its host code ends with the ten results. -/
theorem run_in (ρ : Dev nD → PrngReg) : θ_run (defs (F := Ideal)) (onTc (τ := τ) (main (F := Ideal))) ⟨m, fun _ => 0, ρ⟩ (fun r => ∀ c : Dev nD,
      r.2.mem ((c.tc : Thread nD τ).loc main_v88) = KC (x0 m c) (x1 m c) (x2 m c) (x3 m c) 4096
      ∧ r.2.mem ((c.tc : Thread nD τ).loc main_v91) = KC (x0 m c) (x1 m c) (x2 m c) (x3 m c) 4608
      ∧ r.2.mem ((c.tc : Thread nD τ).loc main_v94) = KN (x0 m c) (x1 m c) (x2 m c) (x3 m c) 5120 1 (x5 m c)
      ∧ r.2.mem ((c.tc : Thread nD τ).loc main_v97) = KC (x0 m c) (x1 m c) (x2 m c) (x3 m c) 5632
      ∧ r.2.mem ((c.tc : Thread nD τ).loc main_v101) = WN (x0 m c) (x1 m c) (x2 m c) (x3 m c) 6144 2 (x5 m c)
      ∧ r.2.mem ((c.tc : Thread nD τ).loc main_v105) = WC (x0 m c) (x1 m c) (x2 m c) (x3 m c) 6656
      ∧ r.2.mem ((c.tc : Thread nD τ).loc main_v106) = TA (x0 m c) (x1 m c) (x2 m c) (x3 m c)
      ∧ r.2.mem ((c.tc : Thread nD τ).loc main_v107) = TQ (x0 m c) (x1 m c) (x2 m c) (x3 m c) (x4 m c)
      ∧ r.2.mem ((c.tc : Thread nD τ).loc main_v110) = TG (x0 m c) (x1 m c) (x2 m c) (x3 m c)
      ∧ r.2.mem ((c.tc : Thread nD τ).loc main_v111) = TM (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨
      ((h.1 c).2 main_v88 (Pipeline.mem_restRefs_of main_v88 (by decide) (by decide))).trans (res_kc m c),
      ((h.1 c).2 main_v91 (Pipeline.mem_restRefs_of main_v91 (by decide) (by decide))).trans (res_vc m c),
      ((h.1 c).2 main_v94 (Pipeline.mem_restRefs_of main_v94 (by decide) (by decide))).trans (res_ks m c),
      ((h.1 c).2 main_v97 (Pipeline.mem_restRefs_of main_v97 (by decide) (by decide))).trans (res_vs m c),
      ((h.1 c).2 main_v101 (Pipeline.mem_restRefs_of main_v101 (by decide) (by decide))).trans (res_kw m c),
      ((h.1 c).2 main_v105 (Pipeline.mem_restRefs_of main_v105 (by decide) (by decide))).trans (res_vw m c),
      ((h.1 c).2 main_v106 (Pipeline.mem_restRefs_of main_v106 (by decide) (by decide))).trans (res_a m c),
      ((h.1 c).2 main_v107 (Pipeline.mem_restRefs_of main_v107 (by decide) (by decide))).trans (res_q m c),
      ((h.1 c).2 main_v110 (Pipeline.mem_restRefs_of main_v110 (by decide) (by decide))).trans (res_g m c),
      ((h.1 c).2 main_v111 (Pipeline.mem_restRefs_of main_v111 (by decide) (by decide))).trans (res_m m c),
      h.2 c⟩) (θ_run_and (Cert.InKernelIdeal.Gen.run_main m ρ) (Cert.InKernelIdeal.Gen.unchanged m ρ))

end Cert.InKernelIdeal.In

namespace Cert.InReferenceIdeal.In
open Cert.InReferenceIdeal Cert.InReferenceIdeal.Gen Idealize.ShloMosaic Idealize.ShloMosaic.TcCoe Idealize.SL.Sem

variable (m : (ℓ : Loc nD τ sig) → Buf (Elt Ideal) ℓ)

abbrev y0 (c : Dev nD) : FVec Ideal S2x4096x2048 .f32 := m ((c.tc : Thread nD τ).loc main_arg0)
abbrev y1 (c : Dev nD) : FVec Ideal S2x6x1x2048 .f32 := m ((c.tc : Thread nD τ).loc main_arg1)
abbrev y2 (c : Dev nD) : FVec Ideal S2048 .f32 := m ((c.tc : Thread nD τ).loc main_arg2)
abbrev y3 (c : Dev nD) : FVec Ideal S2048x11312 .f32 := m ((c.tc : Thread nD τ).loc main_arg3)
abbrev y4 (c : Dev nD) : FVec Ideal S128 .f32 := m ((c.tc : Thread nD τ).loc main_arg4)
abbrev y5 (c : Dev nD) : FVec Ideal S3x128 .f32 := m ((c.tc : Thread nD τ).loc main_arg5)

/-- The reference ends with its arguments as they were; it declares no semaphore. -/
theorem frame : Cert.quiescent_InReferenceIdeal := by
  intro m ρ _
  exact (θ_run _ _ _).mono (fun r h => ⟨fun c => (h c).2.2.2.2.2.2.2.2.2.2, sem_eq_zero_of_no_sems (by decide) r.2⟩) (Cert.InReferenceIdeal.Value.run m ρ)

/-- The kernel's input projection and the reference's end with the same arrays. -/
theorem value : Cert.algebraic_InKernelIdeal_InReferenceIdeal := by
  intro m g m' g' _ hargs
  refine ⟨fun c => Cert.InKernelIdeal.In.KC (Cert.InKernelIdeal.In.x0 m c) (Cert.InKernelIdeal.In.x1 m c) (Cert.InKernelIdeal.In.x2 m c) (Cert.InKernelIdeal.In.x3 m c) 4096,
    fun c => Cert.InKernelIdeal.In.KC (Cert.InKernelIdeal.In.x0 m c) (Cert.InKernelIdeal.In.x1 m c) (Cert.InKernelIdeal.In.x2 m c) (Cert.InKernelIdeal.In.x3 m c) 4608,
    fun c => Cert.InKernelIdeal.In.KN (Cert.InKernelIdeal.In.x0 m c) (Cert.InKernelIdeal.In.x1 m c) (Cert.InKernelIdeal.In.x2 m c) (Cert.InKernelIdeal.In.x3 m c) 5120 1 (Cert.InKernelIdeal.In.x5 m c),
    fun c => Cert.InKernelIdeal.In.KC (Cert.InKernelIdeal.In.x0 m c) (Cert.InKernelIdeal.In.x1 m c) (Cert.InKernelIdeal.In.x2 m c) (Cert.InKernelIdeal.In.x3 m c) 5632,
    fun c => Cert.InKernelIdeal.In.WN (Cert.InKernelIdeal.In.x0 m c) (Cert.InKernelIdeal.In.x1 m c) (Cert.InKernelIdeal.In.x2 m c) (Cert.InKernelIdeal.In.x3 m c) 6144 2 (Cert.InKernelIdeal.In.x5 m c),
    fun c => Cert.InKernelIdeal.In.WC (Cert.InKernelIdeal.In.x0 m c) (Cert.InKernelIdeal.In.x1 m c) (Cert.InKernelIdeal.In.x2 m c) (Cert.InKernelIdeal.In.x3 m c) 6656,
    fun c => Cert.InKernelIdeal.In.TA (Cert.InKernelIdeal.In.x0 m c) (Cert.InKernelIdeal.In.x1 m c) (Cert.InKernelIdeal.In.x2 m c) (Cert.InKernelIdeal.In.x3 m c),
    fun c => Cert.InKernelIdeal.In.TQ (Cert.InKernelIdeal.In.x0 m c) (Cert.InKernelIdeal.In.x1 m c) (Cert.InKernelIdeal.In.x2 m c) (Cert.InKernelIdeal.In.x3 m c) (Cert.InKernelIdeal.In.x4 m c),
    fun c => Cert.InKernelIdeal.In.TG (Cert.InKernelIdeal.In.x0 m c) (Cert.InKernelIdeal.In.x1 m c) (Cert.InKernelIdeal.In.x2 m c) (Cert.InKernelIdeal.In.x3 m c),
    fun c => Cert.InKernelIdeal.In.TM (Cert.InKernelIdeal.In.x0 m c) (Cert.InKernelIdeal.In.x1 m c) (Cert.InKernelIdeal.In.x2 m c) (Cert.InKernelIdeal.In.x3 m c),
    Cert.InKernelIdeal.In.run_in m g, ?_⟩
  refine (θ_run _ _ _).mono (fun r h c => ?_) (Cert.InReferenceIdeal.Value.run m' g')
  have e := hargs c
  have a0 : y0 m' c = Cert.InKernelIdeal.In.x0 m c := e.1
  have a1 : y1 m' c = Cert.InKernelIdeal.In.x1 m c := e.2.1
  have a2 : y2 m' c = Cert.InKernelIdeal.In.x2 m c := e.2.2.1
  have a3 : y3 m' c = Cert.InKernelIdeal.In.x3 m c := e.2.2.2.1
  have a4 : y4 m' c = Cert.InKernelIdeal.In.x4 m c := e.2.2.2.2.1
  have a5 : y5 m' c = Cert.InKernelIdeal.In.x5 m c := e.2.2.2.2.2
  obtain ⟨h0, h1, h2, h3, h4, h5, h6, h7, h8, h9, hr⟩ := h c
  refine ⟨h0.trans ((ref_kc (y0 m' c) (y1 m' c) (y2 m' c) (y3 m' c)).trans ?_), h1.trans ((ref_vc (y0 m' c) (y1 m' c) (y2 m' c) (y3 m' c)).trans ?_), h2.trans ((ref_ks (y0 m' c) (y1 m' c) (y2 m' c) (y3 m' c) (y5 m' c)).trans ?_), h3.trans ((ref_vs (y0 m' c) (y1 m' c) (y2 m' c) (y3 m' c)).trans ?_),
    h4.trans ((ref_kw (y0 m' c) (y1 m' c) (y2 m' c) (y3 m' c) (y5 m' c)).trans ?_), h5.trans ((ref_vw (y0 m' c) (y1 m' c) (y2 m' c) (y3 m' c)).trans ?_), h6.trans ((ref_a (y0 m' c) (y1 m' c) (y2 m' c) (y3 m' c)).trans ?_), h7.trans ((ref_q (y0 m' c) (y1 m' c) (y2 m' c) (y3 m' c) (y4 m' c)).trans ?_),
    h8.trans ((ref_g (y0 m' c) (y1 m' c) (y2 m' c) (y3 m' c)).trans ?_), h9.trans ((ref_m (y0 m' c) (y1 m' c) (y2 m' c) (y3 m' c)).trans ?_), hr⟩
  all_goals (first | rw [a0, a1, a2, a3, a4] | rw [a0, a1, a2, a3, a5] | rw [a0, a1, a2, a3])

end Cert.InReferenceIdeal.In
-- ==== Proof.SmpOps.lean ====
module
public import proofs.«01_k».proof.Proof.InGelu
public import proofs.«01_k».proof.Proof.Gen.SmpKernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

/-- A block of the modulated norm of the input's rows. -/
def HB (x : FVec Ideal S128x8x2048 .f32) (g : FVec Ideal S1x1x2048 .f32) (sc sh : FVec Ideal S128x1x1x2048 .f32) : FVec Ideal S1024x2048 .bf16 := fun y =>
  have h0 : (y 0).val < 1024 := (y 0).isLt
  ((x (ix3 ⟨(y 0).val / 8, by omega⟩ ⟨(y 0).val % 8, by omega⟩ (y 1)) : EReal) * Ideal.rsqrt (Ideal.div (∑ k : Fin 2048, x (ix3 ⟨(y 0).val / 8, by omega⟩ ⟨(y 0).val % 8, by omega⟩ k) * x (ix3 ⟨(y 0).val / 8, by omega⟩ ⟨(y 0).val % 8, by omega⟩ k)) (Ideal.ofBits .f32 0x45000000#32) + eps) * g (ix3 0 0 (y 1))) * (one + sc (ix4 ⟨(y 0).val / 8, by omega⟩ 0 0 (y 1))) + sh (ix4 ⟨(y 0).val / 8, by omega⟩ 0 0 (y 1))

theorem pay1 (x : FVec Ideal S128x8x2048 .f32) (g : FVec Ideal S1x1x2048 .f32) (sc sh : FVec Ideal S128x1x1x2048 .f32) : k0_pay1 (F := Ideal) x g sc sh = HB x g sc sh := by
  funext y
  idx_vars y
  unfold HB eps one
  pointwise [k0_pay1]

theorem pay2 (h : FVec Ideal S1024x2048 .bf16) (w : FVec Ideal S2048x512 .bf16) : k0_pay2 (F := Ideal) h w = YB h w := by
  funext y
  idx_vars y
  unfold YB
  pointwise [k0_pay2]

theorem gelu_named : (Named.named (F := Ideal) κ "gelu" 0xBD922279#32 : Ideal .f32) = ((-80338380498831 / 1125899906842624 : ℝ) : EReal) := rfl

theorem pay3 (h : FVec Ideal S1024x2048 .bf16) (w : FVec Ideal S2048x512 .bf16) : k0_pay3 (F := Ideal) h w = fun y => geK (YB h w (ix2 (y 1) (y 2))) := by
  funext y
  idx_vars y
  unfold geK one
  pointwise [k0_pay3, pay2, gelu_named]

theorem pay5 (h : FVec Ideal S1024x2048 .bf16) (w : FVec Ideal S2048x512 .bf16) : k0_pay5 (F := Ideal) h w = fun y => sgK (YB h w (ix2 (y 1) (y 2))) := by
  funext y
  idx_vars y
  unfold sgK one
  pointwise [k0_pay5, pay2]

theorem pay6 (v : FVec Ideal S1024x512 .f32) : k0_pay6 (F := Ideal) v = RB v := by
  funext y
  idx_vars y
  unfold RB eps
  pointwise [k0_pay6]
  by_cases h1 : y1.val < 128
  · have e : y1.val / 128 * 128 = 0 := by omega
    rw [dif_pos h1]
    simp only [e, Nat.zero_add]
  rw [dif_neg h1]
  by_cases h2 : y1.val - 128 < 128
  · have e : y1.val / 128 * 128 = 128 := by omega
    have e1 : (⟨128 + (y1.val - 128), by omega⟩ : Fin 512) = y1 := Fin.ext (by show 128 + (y1.val - 128) = y1.val; omega)
    rw [dif_pos h2]
    simp only [e, e1]
  rw [dif_neg h2]
  by_cases h3 : y1.val - 128 - 128 < 128
  · have e : y1.val / 128 * 128 = 256 := by omega
    have e1 : (⟨256 + (y1.val - 128 - 128), by omega⟩ : Fin 512) = y1 := Fin.ext (by show 256 + (y1.val - 128 - 128) = y1.val; omega)
    rw [dif_pos h3]
    simp only [e, e1]
  rw [dif_neg h3]
  have e : y1.val / 128 * 128 = 384 := by omega
  have e1 : (⟨384 + (y1.val - 128 - 128 - 128), by omega⟩ : Fin 512) = y1 := Fin.ext (by show 384 + (y1.val - 128 - 128 - 128) = y1.val; omega)
  simp only [e, e1]

theorem pay4 (h : FVec Ideal S1024x2048 .bf16) (w : FVec Ideal S2048x512 .bf16) (n : FVec Ideal S1024x512 .f32) (g f : FVec Ideal S1x1x512 .f32) :
    k0_pay4 (F := Ideal) h w n g f = fun y => if (Ideal.ofBits .f32 0x3F000000#32 : EReal) < f (ix3 0 0 (y 2)) then (n (ix2 (y 1) (y 2)) : EReal) * g (ix3 0 0 (y 2)) else YB h w (ix2 (y 1) (y 2)) := by
  funext y
  idx_vars y
  pointwise [k0_pay4, pay2]

end Cert.SmpKernelIdeal.Smp
-- ==== Proof.SmpHost.lean ====
module
public import proofs.«01_k».proof.Proof.SmpOps
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

variable (m : (ℓ : Loc nD τ sig) → Buf (Elt Ideal) ℓ)

/-- The host lines before the rows of gains and flags. -/
abbrev L1 : List (HloOp τ sig (Elt Ideal)) := List.flatten [hostOps0, hostOps0_1, List.take 29 hostOps0_2]
/-- The host lines that cut the weight, and those that follow. -/
abbrev L0 : List (HloOp τ sig (Elt Ideal)) := List.flatten [hostOps0, hostOps0_1, List.take 1 hostOps0_2]
abbrev L01 : List (HloOp τ sig (Elt Ideal)) := List.take 28 (List.drop 1 hostOps0_2)
/-- The rows of gains. -/
abbrev L2 : List (HloOp τ sig (Elt Ideal)) := List.take 23 (List.drop 29 hostOps0_2)
/-- The array of gains. -/
abbrev L3 : List (HloOp τ sig (Elt Ideal)) := List.take 4 (List.drop 52 hostOps0_2)
/-- The rows of flags. -/
abbrev L4 : List (HloOp τ sig (Elt Ideal)) := List.take 23 (List.drop 56 hostOps0_2)
/-- The array of flags, and the gain of the norm. -/
abbrev L5 : List (HloOp τ sig (Elt Ideal)) := List.drop 79 hostOps0_2

def U1 (c : Dev nD) : Valuation τ sig (Elt Ideal) := StableHlo.after L1 (fun b => m (c, b))
def U2 (c : Dev nD) : Valuation τ sig (Elt Ideal) := StableHlo.after L2 (U1 m c)
def U3 (c : Dev nD) : Valuation τ sig (Elt Ideal) := StableHlo.after L3 (U2 m c)
def U4 (c : Dev nD) : Valuation τ sig (Elt Ideal) := StableHlo.after L4 (U3 m c)

theorem V_split (c : Dev nD) : V0 m c = StableHlo.after L5 (U4 m c) := by
  unfold U4 U3 U2 U1
  rfl

theorem g3_4 (U : Valuation τ sig (Elt Ideal)) (l : Fin 512) : StableHlo.after L3 U (Proc.devRef .tc main_v56) (ix3 (4 : Fin 23) 0 l) = U (Proc.devRef .tc main_v34) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_4 (U : Valuation τ sig (Elt Ideal)) (l : Fin 512) : StableHlo.after L2 U (Proc.devRef .tc main_v34) (ix2 0 l) = U (Proc.devRef .tc main_v10) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_4 (U : Valuation τ sig (Elt Ideal)) (l : Fin 512) : StableHlo.after L5 U (Proc.devRef .tc main_v83) (ix3 (4 : Fin 23) 0 l) = U (Proc.devRef .tc main_v61) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_4 (U : Valuation τ sig (Elt Ideal)) (l : Fin 512) : StableHlo.after L4 U (Proc.devRef .tc main_v61) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g3_5 (U : Valuation τ sig (Elt Ideal)) (l : Fin 512) : StableHlo.after L3 U (Proc.devRef .tc main_v56) (ix3 (5 : Fin 23) 0 l) = U (Proc.devRef .tc main_v35) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_5 (U : Valuation τ sig (Elt Ideal)) (l : Fin 512) : StableHlo.after L2 U (Proc.devRef .tc main_v35) (ix2 0 l) = U (Proc.devRef .tc main_v13) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_5 (U : Valuation τ sig (Elt Ideal)) (l : Fin 512) : StableHlo.after L5 U (Proc.devRef .tc main_v83) (ix3 (5 : Fin 23) 0 l) = U (Proc.devRef .tc main_v62) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_5 (U : Valuation τ sig (Elt Ideal)) (l : Fin 512) : StableHlo.after L4 U (Proc.devRef .tc main_v62) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g3_6 (U : Valuation τ sig (Elt Ideal)) (l : Fin 512) : StableHlo.after L3 U (Proc.devRef .tc main_v56) (ix3 (6 : Fin 23) 0 l) = U (Proc.devRef .tc main_v36) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_6 (U : Valuation τ sig (Elt Ideal)) (l : Fin 512) : StableHlo.after L2 U (Proc.devRef .tc main_v36) (ix2 0 l) = U (Proc.devRef .tc main_v16) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_6 (U : Valuation τ sig (Elt Ideal)) (l : Fin 512) : StableHlo.after L5 U (Proc.devRef .tc main_v83) (ix3 (6 : Fin 23) 0 l) = U (Proc.devRef .tc main_v63) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_6 (U : Valuation τ sig (Elt Ideal)) (l : Fin 512) : StableHlo.after L4 U (Proc.devRef .tc main_v63) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g3_7 (U : Valuation τ sig (Elt Ideal)) (l : Fin 512) : StableHlo.after L3 U (Proc.devRef .tc main_v56) (ix3 (7 : Fin 23) 0 l) = U (Proc.devRef .tc main_v37) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_7 (U : Valuation τ sig (Elt Ideal)) (l : Fin 512) : StableHlo.after L2 U (Proc.devRef .tc main_v37) (ix2 0 l) = U (Proc.devRef .tc main_v19) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_7 (U : Valuation τ sig (Elt Ideal)) (l : Fin 512) : StableHlo.after L5 U (Proc.devRef .tc main_v83) (ix3 (7 : Fin 23) 0 l) = U (Proc.devRef .tc main_v64) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_7 (U : Valuation τ sig (Elt Ideal)) (l : Fin 512) : StableHlo.after L4 U (Proc.devRef .tc main_v64) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_8 (U : Valuation τ sig (Elt Ideal)) (l : Fin 512) : StableHlo.after L5 U (Proc.devRef .tc main_v83) (ix3 (8 : Fin 23) 0 l) = U (Proc.devRef .tc main_v65) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_8 (U : Valuation τ sig (Elt Ideal)) (l : Fin 512) : StableHlo.after L4 U (Proc.devRef .tc main_v65) (ix2 0 l) = U (Proc.devRef .tc main_v7) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_9 (U : Valuation τ sig (Elt Ideal)) (l : Fin 512) : StableHlo.after L5 U (Proc.devRef .tc main_v83) (ix3 (9 : Fin 23) 0 l) = U (Proc.devRef .tc main_v66) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_9 (U : Valuation τ sig (Elt Ideal)) (l : Fin 512) : StableHlo.after L4 U (Proc.devRef .tc main_v66) (ix2 0 l) = U (Proc.devRef .tc main_v7) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g3_10 (U : Valuation τ sig (Elt Ideal)) (l : Fin 512) : StableHlo.after L3 U (Proc.devRef .tc main_v56) (ix3 (10 : Fin 23) 0 l) = U (Proc.devRef .tc main_v40) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_10 (U : Valuation τ sig (Elt Ideal)) (l : Fin 512) : StableHlo.after L2 U (Proc.devRef .tc main_v40) (ix2 0 l) = U (Proc.devRef .tc main_v24) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_10 (U : Valuation τ sig (Elt Ideal)) (l : Fin 512) : StableHlo.after L5 U (Proc.devRef .tc main_v83) (ix3 (10 : Fin 23) 0 l) = U (Proc.devRef .tc main_v67) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_10 (U : Valuation τ sig (Elt Ideal)) (l : Fin 512) : StableHlo.after L4 U (Proc.devRef .tc main_v67) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_11 (U : Valuation τ sig (Elt Ideal)) (l : Fin 512) : StableHlo.after L5 U (Proc.devRef .tc main_v83) (ix3 (11 : Fin 23) 0 l) = U (Proc.devRef .tc main_v68) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_11 (U : Valuation τ sig (Elt Ideal)) (l : Fin 512) : StableHlo.after L4 U (Proc.devRef .tc main_v68) (ix2 0 l) = U (Proc.devRef .tc main_v7) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g3_12 (U : Valuation τ sig (Elt Ideal)) (l : Fin 512) : StableHlo.after L3 U (Proc.devRef .tc main_v56) (ix3 (12 : Fin 23) 0 l) = U (Proc.devRef .tc main_v42) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem g2_12 (U : Valuation τ sig (Elt Ideal)) (l : Fin 512) : StableHlo.after L2 U (Proc.devRef .tc main_v42) (ix2 0 l) = U (Proc.devRef .tc main_v29) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_12 (U : Valuation τ sig (Elt Ideal)) (l : Fin 512) : StableHlo.after L5 U (Proc.devRef .tc main_v83) (ix3 (12 : Fin 23) 0 l) = U (Proc.devRef .tc main_v69) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_12 (U : Valuation τ sig (Elt Ideal)) (l : Fin 512) : StableHlo.after L4 U (Proc.devRef .tc main_v69) (ix2 0 l) = U (Proc.devRef .tc main_v6) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f5_13 (U : Valuation τ sig (Elt Ideal)) (l : Fin 512) : StableHlo.after L5 U (Proc.devRef .tc main_v83) (ix3 (13 : Fin 23) 0 l) = U (Proc.devRef .tc main_v70) (ix2 0 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem f4_13 (U : Valuation τ sig (Elt Ideal)) (l : Fin 512) : StableHlo.after L4 U (Proc.devRef .tc main_v70) (ix2 0 l) = U (Proc.devRef .tc main_v7) (ix1 l) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem k2_v5 (U : Valuation τ sig (Elt Ideal)) : StableHlo.after L2 U (Proc.devRef .tc main_v5) = U (Proc.devRef .tc main_v5) := by
  simp only [L0, L01, L1, L2, L3, L4, L5, hostOps0_2, List.take_succ_cons, List.take_zero, List.drop_succ_cons, List.drop_zero, List.flatten_cons, List.flatten_nil, List.append_nil, List.cons_append, List.nil_append]
  after_results
theorem k2_v6 (U : Valuation τ sig (Elt Ideal)) : StableHlo.after L2 U (Proc.devRef .tc main_v6) = U (Proc.devRef .tc main_v6) := by
  simp only [L0, L01, L1, L2, L3, L4, L5, hostOps0_2, List.take_succ_cons, List.take_zero, List.drop_succ_cons, List.drop_zero, List.flatten_cons, List.flatten_nil, List.append_nil, List.cons_append, List.nil_append]
  after_results
theorem k2_v7 (U : Valuation τ sig (Elt Ideal)) : StableHlo.after L2 U (Proc.devRef .tc main_v7) = U (Proc.devRef .tc main_v7) := by
  simp only [L0, L01, L1, L2, L3, L4, L5, hostOps0_2, List.take_succ_cons, List.take_zero, List.drop_succ_cons, List.drop_zero, List.flatten_cons, List.flatten_nil, List.append_nil, List.cons_append, List.nil_append]
  after_results
theorem k2_arg2 (U : Valuation τ sig (Elt Ideal)) : StableHlo.after L2 U (Proc.devRef .tc main_arg2) = U (Proc.devRef .tc main_arg2) := by
  simp only [L0, L01, L1, L2, L3, L4, L5, hostOps0_2, List.take_succ_cons, List.take_zero, List.drop_succ_cons, List.drop_zero, List.flatten_cons, List.flatten_nil, List.append_nil, List.cons_append, List.nil_append]
  after_results
theorem k2_arg0 (U : Valuation τ sig (Elt Ideal)) : StableHlo.after L2 U (Proc.devRef .tc main_arg0) = U (Proc.devRef .tc main_arg0) := by
  simp only [L0, L01, L1, L2, L3, L4, L5, hostOps0_2, List.take_succ_cons, List.take_zero, List.drop_succ_cons, List.drop_zero, List.flatten_cons, List.flatten_nil, List.append_nil, List.cons_append, List.nil_append]
  after_results
theorem k2_arg1 (U : Valuation τ sig (Elt Ideal)) : StableHlo.after L2 U (Proc.devRef .tc main_arg1) = U (Proc.devRef .tc main_arg1) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_v5 (U : Valuation τ sig (Elt Ideal)) : StableHlo.after L3 U (Proc.devRef .tc main_v5) = U (Proc.devRef .tc main_v5) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_v6 (U : Valuation τ sig (Elt Ideal)) : StableHlo.after L3 U (Proc.devRef .tc main_v6) = U (Proc.devRef .tc main_v6) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_v7 (U : Valuation τ sig (Elt Ideal)) : StableHlo.after L3 U (Proc.devRef .tc main_v7) = U (Proc.devRef .tc main_v7) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_arg2 (U : Valuation τ sig (Elt Ideal)) : StableHlo.after L3 U (Proc.devRef .tc main_arg2) = U (Proc.devRef .tc main_arg2) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_arg0 (U : Valuation τ sig (Elt Ideal)) : StableHlo.after L3 U (Proc.devRef .tc main_arg0) = U (Proc.devRef .tc main_arg0) := by
  simp only [L0, L01, L1, L2, L3, L4, L5, hostOps0_2, List.take_succ_cons, List.take_zero, List.drop_succ_cons, List.drop_zero, List.flatten_cons, List.flatten_nil, List.append_nil, List.cons_append, List.nil_append]
  after_results
theorem k3_arg1 (U : Valuation τ sig (Elt Ideal)) : StableHlo.after L3 U (Proc.devRef .tc main_arg1) = U (Proc.devRef .tc main_arg1) := by
  simp only [L0, L01, L1, L2, L3, L4, L5, hostOps0_2, List.take_succ_cons, List.take_zero, List.drop_succ_cons, List.drop_zero, List.flatten_cons, List.flatten_nil, List.append_nil, List.cons_append, List.nil_append]
  after_results
theorem k4_v5 (U : Valuation τ sig (Elt Ideal)) : StableHlo.after L4 U (Proc.devRef .tc main_v5) = U (Proc.devRef .tc main_v5) := by
  simp only [L0, L01, L1, L2, L3, L4, L5, hostOps0_2, List.take_succ_cons, List.take_zero, List.drop_succ_cons, List.drop_zero, List.flatten_cons, List.flatten_nil, List.append_nil, List.cons_append, List.nil_append]
  after_results
theorem k4_v56 (U : Valuation τ sig (Elt Ideal)) : StableHlo.after L4 U (Proc.devRef .tc main_v56) = U (Proc.devRef .tc main_v56) := by
  simp only [L0, L01, L1, L2, L3, L4, L5, hostOps0_2, List.take_succ_cons, List.take_zero, List.drop_succ_cons, List.drop_zero, List.flatten_cons, List.flatten_nil, List.append_nil, List.cons_append, List.nil_append]
  after_results
theorem k4_arg2 (U : Valuation τ sig (Elt Ideal)) : StableHlo.after L4 U (Proc.devRef .tc main_arg2) = U (Proc.devRef .tc main_arg2) := by
  simp only [L0, L01, L1, L2, L3, L4, L5, hostOps0_2, List.take_succ_cons, List.take_zero, List.drop_succ_cons, List.drop_zero, List.flatten_cons, List.flatten_nil, List.append_nil, List.cons_append, List.nil_append]
  after_results
theorem k4_arg0 (U : Valuation τ sig (Elt Ideal)) : StableHlo.after L4 U (Proc.devRef .tc main_arg0) = U (Proc.devRef .tc main_arg0) := by
  simp only [L0, L01, L1, L2, L3, L4, L5, hostOps0_2, List.take_succ_cons, List.take_zero, List.drop_succ_cons, List.drop_zero, List.flatten_cons, List.flatten_nil, List.append_nil, List.cons_append, List.nil_append]
  after_results
theorem k4_arg1 (U : Valuation τ sig (Elt Ideal)) : StableHlo.after L4 U (Proc.devRef .tc main_arg1) = U (Proc.devRef .tc main_arg1) := by
  simp only [L0, L01, L1, L2, L3, L4, L5, hostOps0_2, List.take_succ_cons, List.take_zero, List.drop_succ_cons, List.drop_zero, List.flatten_cons, List.flatten_nil, List.append_nil, List.cons_append, List.nil_append]
  after_results
theorem k5_v5 (U : Valuation τ sig (Elt Ideal)) : StableHlo.after L5 U (Proc.devRef .tc main_v5) = U (Proc.devRef .tc main_v5) := by
  simp only [L0, L01, L1, L2, L3, L4, L5, hostOps0_2, List.take_succ_cons, List.take_zero, List.drop_succ_cons, List.drop_zero, List.flatten_cons, List.flatten_nil, List.append_nil, List.cons_append, List.nil_append]
  after_results
theorem k5_v56 (U : Valuation τ sig (Elt Ideal)) : StableHlo.after L5 U (Proc.devRef .tc main_v56) = U (Proc.devRef .tc main_v56) := by
  simp only [L0, L01, L1, L2, L3, L4, L5, hostOps0_2, List.take_succ_cons, List.take_zero, List.drop_succ_cons, List.drop_zero, List.flatten_cons, List.flatten_nil, List.append_nil, List.cons_append, List.nil_append]
  after_results
theorem k5_arg0 (U : Valuation τ sig (Elt Ideal)) : StableHlo.after L5 U (Proc.devRef .tc main_arg0) = U (Proc.devRef .tc main_arg0) := by
  simp only [L0, L01, L1, L2, L3, L4, L5, hostOps0_2, List.take_succ_cons, List.take_zero, List.drop_succ_cons, List.drop_zero, List.flatten_cons, List.flatten_nil, List.append_nil, List.cons_append, List.nil_append]
  after_results
theorem k5_arg1 (U : Valuation τ sig (Elt Ideal)) : StableHlo.after L5 U (Proc.devRef .tc main_arg1) = U (Proc.devRef .tc main_arg1) := by
  simp only [L0, L01, L1, L2, L3, L4, L5, hostOps0_2, List.take_succ_cons, List.take_zero, List.drop_succ_cons, List.drop_zero, List.flatten_cons, List.flatten_nil, List.append_nil, List.cons_append, List.nil_append]
  after_results
theorem k1_arg0 (U : Valuation τ sig (Elt Ideal)) : StableHlo.after L1 U (Proc.devRef .tc main_arg0) = U (Proc.devRef .tc main_arg0) := by
  simp only [L0, L01, L1, L2, L3, L4, L5, hostOps0_2, List.take_succ_cons, List.take_zero, List.drop_succ_cons, List.drop_zero, List.flatten_cons, List.flatten_nil, List.append_nil, List.cons_append, List.nil_append]
  after_results
theorem k1_arg1 (U : Valuation τ sig (Elt Ideal)) : StableHlo.after L1 U (Proc.devRef .tc main_arg1) = U (Proc.devRef .tc main_arg1) := by
  simp only [L0, L01, L1, L2, L3, L4, L5, hostOps0_2, List.take_succ_cons, List.take_zero, List.drop_succ_cons, List.drop_zero, List.flatten_cons, List.flatten_nil, List.append_nil, List.cons_append, List.nil_append]
  after_results
theorem g1_5 (U : Valuation τ sig (Elt Ideal)) (k : Fin 2048) : StableHlo.after L5 U (Proc.devRef .tc main_v84) (ix3 0 0 k) = U (Proc.devRef .tc main_arg2) (ix1 k) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_arg2 (c : Dev nD) : U1 m c (Proc.devRef .tc main_arg2) = m ((c : Thread nD τ).loc main_arg2) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
theorem u1_v6 (c : Dev nD) (l : Fin 512) : U1 m c (Proc.devRef .tc main_v6) (ix1 l) = one := by
  unfold U1 one
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v7 (c : Dev nD) (l : Fin 512) : U1 m c (Proc.devRef .tc main_v7) (ix1 l) = (0 : EReal) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
def U0 (c : Dev nD) : Valuation τ sig (Elt Ideal) := StableHlo.after L0 (fun b => m (c, b))
theorem U1_split (c : Dev nD) : U1 m c = StableHlo.after L01 (U0 m c) := by
  unfold U1 U0
  rfl
theorem u01_v5 (U : Valuation τ sig (Elt Ideal)) (k : Fin 2048) (l : Fin 11776) : StableHlo.after L01 U (Proc.devRef .tc main_v5) (ix2 k l) =
    if h : l.val < 7168 then U (Proc.devRef .tc main_v0) (ix2 k (⟨l.val, h⟩ : Fin 7168)) else
    if h1 : l.val - 7168 < 512 then U (Proc.devRef .tc main_v2) (ix2 k (⟨l.val - 7168, h1⟩ : Fin 512)) else
    U (Proc.devRef .tc main_v3) (ix2 k (⟨l.val - 7168 - 512, by omega⟩ : Fin 4096)) := by
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u0_v0 (c : Dev nD) (k : Fin 2048) (l : Fin 7168) : U0 m c (Proc.devRef .tc main_v0) (ix2 k l) = m ((c : Thread nD τ).loc main_arg3) (ix2 k (⟨l.val, by omega⟩ : Fin 11312)) := by
  unfold U0
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u0_v3 (c : Dev nD) (k : Fin 2048) (l : Fin 4096) : U0 m c (Proc.devRef .tc main_v3) (ix2 k l) = m ((c : Thread nD τ).loc main_arg3) (ix2 k (⟨7216 + l.val, by omega⟩ : Fin 11312)) := by
  unfold U0
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u0_v2 (c : Dev nD) (k : Fin 2048) (l : Fin 512) (h : l.val < 48) : U0 m c (Proc.devRef .tc main_v2) (ix2 k l) = m ((c : Thread nD τ).loc main_arg3) (ix2 k (⟨7168 + l.val, by omega⟩ : Fin 11312)) := by
  unfold U0
  simp only [L0, L01, L1, L2, L3, L4, L5, hostOps0_2, List.take_succ_cons, List.take_zero, List.drop_succ_cons, List.drop_zero, List.flatten_cons, List.flatten_nil, List.append_nil, List.cons_append, List.nil_append]
  after_results
  show (pad S2048x512 ![0, 0] ![0, 464] ![0, 0] (extractStridedSlice S2048x48 ![0, 7168] (m (c, Proc.devRef .tc main_arg3)) slices_S2048x11312_S2048x48_0_7168)
    (sitofp (F := Ideal) .f32 (constantI S_ 32 0#32)) pads_S2048x48_S2048x512_000_04640 h_S_ : FVec Ideal S2048x512 .f32) (ix2 k l) = _
  pointwise
  exact dif_pos h
theorem u1_v10 (c : Dev nD) (l : Fin 512) : U1 m c (Proc.devRef .tc main_v10) (ix1 l) = m ((c : Thread nD τ).loc main_arg4) (ix1 (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v13 (c : Dev nD) (l : Fin 512) : U1 m c (Proc.devRef .tc main_v13) (ix1 l) = m ((c : Thread nD τ).loc main_arg4) (ix1 (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v16 (c : Dev nD) (l : Fin 512) : U1 m c (Proc.devRef .tc main_v16) (ix1 l) = m ((c : Thread nD τ).loc main_arg4) (ix1 (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v19 (c : Dev nD) (l : Fin 512) : U1 m c (Proc.devRef .tc main_v19) (ix1 l) = m ((c : Thread nD τ).loc main_arg4) (ix1 (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v24 (c : Dev nD) (l : Fin 512) : U1 m c (Proc.devRef .tc main_v24) (ix1 l) = m ((c : Thread nD τ).loc main_arg5) (ix2 (1 : Fin 3) (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
theorem u1_v29 (c : Dev nD) (l : Fin 512) : U1 m c (Proc.devRef .tc main_v29) (ix1 l) = m ((c : Thread nD τ).loc main_arg5) (ix2 (2 : Fin 3) (⟨l.val % 128, by omega⟩ : Fin 128)) := by
  unfold U1
  simp only [L0, L01, L1, L2, L3, L4, L5, hostOps0_2, List.take_succ_cons, List.take_zero, List.drop_succ_cons, List.drop_zero, List.flatten_cons, List.flatten_nil, List.append_nil, List.cons_append, List.nil_append]
  after_results
  pointwise
end Cert.SmpKernelIdeal.Smp
-- ==== Proof.SmpV.lean ====
module
public import proofs.«01_k».proof.Proof.SmpHost
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

variable (m : (ℓ : Loc nD τ sig) → Buf (Elt Ideal) ℓ)

/-- The columns of the weight as the call takes them: the padded tile's own columns stay, the columns after it lie 464 further on. -/
def col (l : Fin 11776) : Fin 11312 := if h : l.val < 7216 then ⟨l.val, by omega⟩ else ⟨l.val - 464, by omega⟩

theorem V_w (c : Dev nD) (k : Fin 2048) (l : Fin 11776) (hl : l.val < 7216 ∨ 7680 ≤ l.val) : V m c main_v5 (ix2 k l) = m ((c : Thread nD τ).loc main_arg3) (ix2 k (col l)) := by
  show V0 m c (Proc.devRef .tc main_v5) (ix2 k l) = _
  rw [V_split, k5_v5]
  unfold U4 U3 U2
  rw [k4_v5, k3_v5, k2_v5, U1_split, u01_v5]
  unfold col
  by_cases h : l.val < 7168
  · rw [dif_pos h, u0_v0, dif_pos (by omega)]
  · rw [dif_neg h]
    by_cases h1 : l.val - 7168 < 512
    · rw [dif_pos h1, u0_v2 _ _ _ _ (by show l.val - 7168 < 48; omega), dif_pos (by omega)]
      exact congrArg _ (congrArg (ix2 k) (Fin.ext (by show 7168 + (l.val - 7168) = l.val; omega)))
    · rw [dif_neg h1, u0_v3, dif_neg (by omega)]
      exact congrArg _ (congrArg (ix2 k) (Fin.ext (by show 7216 + (l.val - 7168 - 512) = l.val - 464; omega)))

theorem V_g1 (c : Dev nD) (k : Fin 2048) : V m c main_v84 (ix3 0 0 k) = m ((c : Thread nD τ).loc main_arg2) (ix1 k) := by
  show V0 m c (Proc.devRef .tc main_v84) (ix3 0 0 k) = _
  rw [V_split, g1_5]
  unfold U4 U3 U2
  rw [k4_arg2, k3_arg2, k2_arg2, u1_arg2]

theorem V_gain_4 (c : Dev nD) (l : Fin 512) : V m c main_v56 (ix3 (4 : Fin 23) 0 l) = m ((c : Thread nD τ).loc main_arg4) (ix1 (⟨l.val % 128, by omega⟩ : Fin 128)) := by
  show V0 m c (Proc.devRef .tc main_v56) (ix3 (4 : Fin 23) 0 l) = _
  rw [V_split, k5_v56]
  unfold U4 U3 U2
  rw [k4_v56, g3_4, g2_4, u1_v10]
theorem V_flag_4 (c : Dev nD) (l : Fin 512) : V m c main_v83 (ix3 (4 : Fin 23) 0 l) = one := by
  show V0 m c (Proc.devRef .tc main_v83) (ix3 (4 : Fin 23) 0 l) = _
  rw [V_split, f5_4]
  unfold U4 U3 U2
  rw [f4_4, k3_v6, k2_v6, u1_v6]
theorem V_gain_5 (c : Dev nD) (l : Fin 512) : V m c main_v56 (ix3 (5 : Fin 23) 0 l) = m ((c : Thread nD τ).loc main_arg4) (ix1 (⟨l.val % 128, by omega⟩ : Fin 128)) := by
  show V0 m c (Proc.devRef .tc main_v56) (ix3 (5 : Fin 23) 0 l) = _
  rw [V_split, k5_v56]
  unfold U4 U3 U2
  rw [k4_v56, g3_5, g2_5, u1_v13]
theorem V_flag_5 (c : Dev nD) (l : Fin 512) : V m c main_v83 (ix3 (5 : Fin 23) 0 l) = one := by
  show V0 m c (Proc.devRef .tc main_v83) (ix3 (5 : Fin 23) 0 l) = _
  rw [V_split, f5_5]
  unfold U4 U3 U2
  rw [f4_5, k3_v6, k2_v6, u1_v6]
theorem V_gain_6 (c : Dev nD) (l : Fin 512) : V m c main_v56 (ix3 (6 : Fin 23) 0 l) = m ((c : Thread nD τ).loc main_arg4) (ix1 (⟨l.val % 128, by omega⟩ : Fin 128)) := by
  show V0 m c (Proc.devRef .tc main_v56) (ix3 (6 : Fin 23) 0 l) = _
  rw [V_split, k5_v56]
  unfold U4 U3 U2
  rw [k4_v56, g3_6, g2_6, u1_v16]
theorem V_flag_6 (c : Dev nD) (l : Fin 512) : V m c main_v83 (ix3 (6 : Fin 23) 0 l) = one := by
  show V0 m c (Proc.devRef .tc main_v83) (ix3 (6 : Fin 23) 0 l) = _
  rw [V_split, f5_6]
  unfold U4 U3 U2
  rw [f4_6, k3_v6, k2_v6, u1_v6]
theorem V_gain_7 (c : Dev nD) (l : Fin 512) : V m c main_v56 (ix3 (7 : Fin 23) 0 l) = m ((c : Thread nD τ).loc main_arg4) (ix1 (⟨l.val % 128, by omega⟩ : Fin 128)) := by
  show V0 m c (Proc.devRef .tc main_v56) (ix3 (7 : Fin 23) 0 l) = _
  rw [V_split, k5_v56]
  unfold U4 U3 U2
  rw [k4_v56, g3_7, g2_7, u1_v19]
theorem V_flag_7 (c : Dev nD) (l : Fin 512) : V m c main_v83 (ix3 (7 : Fin 23) 0 l) = one := by
  show V0 m c (Proc.devRef .tc main_v83) (ix3 (7 : Fin 23) 0 l) = _
  rw [V_split, f5_7]
  unfold U4 U3 U2
  rw [f4_7, k3_v6, k2_v6, u1_v6]
theorem V_flag_8 (c : Dev nD) (l : Fin 512) : V m c main_v83 (ix3 (8 : Fin 23) 0 l) = (0 : EReal) := by
  show V0 m c (Proc.devRef .tc main_v83) (ix3 (8 : Fin 23) 0 l) = _
  rw [V_split, f5_8]
  unfold U4 U3 U2
  rw [f4_8, k3_v7, k2_v7, u1_v7]
theorem V_flag_9 (c : Dev nD) (l : Fin 512) : V m c main_v83 (ix3 (9 : Fin 23) 0 l) = (0 : EReal) := by
  show V0 m c (Proc.devRef .tc main_v83) (ix3 (9 : Fin 23) 0 l) = _
  rw [V_split, f5_9]
  unfold U4 U3 U2
  rw [f4_9, k3_v7, k2_v7, u1_v7]
theorem V_gain_10 (c : Dev nD) (l : Fin 512) : V m c main_v56 (ix3 (10 : Fin 23) 0 l) = m ((c : Thread nD τ).loc main_arg5) (ix2 (1 : Fin 3) (⟨l.val % 128, by omega⟩ : Fin 128)) := by
  show V0 m c (Proc.devRef .tc main_v56) (ix3 (10 : Fin 23) 0 l) = _
  rw [V_split, k5_v56]
  unfold U4 U3 U2
  rw [k4_v56, g3_10, g2_10, u1_v24]
theorem V_flag_10 (c : Dev nD) (l : Fin 512) : V m c main_v83 (ix3 (10 : Fin 23) 0 l) = one := by
  show V0 m c (Proc.devRef .tc main_v83) (ix3 (10 : Fin 23) 0 l) = _
  rw [V_split, f5_10]
  unfold U4 U3 U2
  rw [f4_10, k3_v6, k2_v6, u1_v6]
theorem V_flag_11 (c : Dev nD) (l : Fin 512) : V m c main_v83 (ix3 (11 : Fin 23) 0 l) = (0 : EReal) := by
  show V0 m c (Proc.devRef .tc main_v83) (ix3 (11 : Fin 23) 0 l) = _
  rw [V_split, f5_11]
  unfold U4 U3 U2
  rw [f4_11, k3_v7, k2_v7, u1_v7]
theorem V_gain_12 (c : Dev nD) (l : Fin 512) : V m c main_v56 (ix3 (12 : Fin 23) 0 l) = m ((c : Thread nD τ).loc main_arg5) (ix2 (2 : Fin 3) (⟨l.val % 128, by omega⟩ : Fin 128)) := by
  show V0 m c (Proc.devRef .tc main_v56) (ix3 (12 : Fin 23) 0 l) = _
  rw [V_split, k5_v56]
  unfold U4 U3 U2
  rw [k4_v56, g3_12, g2_12, u1_v29]
theorem V_flag_12 (c : Dev nD) (l : Fin 512) : V m c main_v83 (ix3 (12 : Fin 23) 0 l) = one := by
  show V0 m c (Proc.devRef .tc main_v83) (ix3 (12 : Fin 23) 0 l) = _
  rw [V_split, f5_12]
  unfold U4 U3 U2
  rw [f4_12, k3_v6, k2_v6, u1_v6]
theorem V_flag_13 (c : Dev nD) (l : Fin 512) : V m c main_v83 (ix3 (13 : Fin 23) 0 l) = (0 : EReal) := by
  show V0 m c (Proc.devRef .tc main_v83) (ix3 (13 : Fin 23) 0 l) = _
  rw [V_split, f5_13]
  unfold U4 U3 U2
  rw [f4_13, k3_v7, k2_v7, u1_v7]

end Cert.SmpKernelIdeal.Smp
-- ==== Proof.SmpState.lean ====
module
public import proofs.«01_k».proof.Proof.SmpV
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

/-- The modulated norm of the input at a batch row, a position and a column. -/
def HR (x : FVec Ideal S128x8x2048 .f32) (mo : FVec Ideal S128x6x1x2048 .f32) (g : FVec Ideal S2048 .f32) (b : Fin 128) (r : Fin 8) (k : Fin 2048) : EReal :=
  ((x (ix3 b r k) : EReal) * Ideal.rsqrt (Ideal.div (∑ k' : Fin 2048, x (ix3 b r k') * x (ix3 b r k')) (Ideal.ofBits .f32 0x45000000#32) + eps) * g (ix1 k)) * (one + mo (ix4 b 1 0 k)) + mo (ix4 b 0 0 k)

/-- The modulated norm of the input at a row and a column. -/
def HN (x : FVec Ideal S128x8x2048 .f32) (mo : FVec Ideal S128x6x1x2048 .f32) (g : FVec Ideal S2048 .f32) (n : Fin 1024) (k : Fin 2048) : EReal :=
  HR x mo g ⟨n.val / 8, by omega⟩ ⟨n.val % 8, by omega⟩ k

/-- The projection at a row and a column of the weight. -/
def YN (x : FVec Ideal S128x8x2048 .f32) (mo : FVec Ideal S128x6x1x2048 .f32) (g : FVec Ideal S2048 .f32) (w : FVec Ideal S2048x11312 .f32) (n : Fin 1024) (l : Fin 11312) : EReal :=
  ∑ k : Fin 2048, HN x mo g n k * w (ix2 k l)

variable (m : (ℓ : Loc nD τ sig) → Buf (Elt Ideal) ℓ)

/-- The modulated norm of the launch's input. -/
def hn (c : Dev nD) (n : Fin 1024) (k : Fin 2048) : EReal :=
  HN (m ((c : Thread nD τ).loc main_arg0)) (m ((c : Thread nD τ).loc main_arg1)) (m ((c : Thread nD τ).loc main_arg2)) n k

/-- The projection of the launch's input. -/
def yn (c : Dev nD) (n : Fin 1024) (l : Fin 11312) : EReal :=
  YN (m ((c : Thread nD τ).loc main_arg0)) (m ((c : Thread nD τ).loc main_arg1)) (m ((c : Thread nD τ).loc main_arg2)) (m ((c : Thread nD τ).loc main_arg3)) n l

/-- The windows' block indices at a grid point. -/
theorem idx : ∀ t : Fin cfg0.N, (win0_0.index t = ![0, 0, 0] ∧ win0_1.index t = ![0, 1, 0, 0] ∧ win0_2.index t = ![0, 0, 0, 0]
    ∧ win0_3.index t = ![0, 0, 0] ∧ win0_4.index t = ![0, t.val % 23] ∧ win0_5.index t = ![t.val % 23, 0, 0]
    ∧ win0_6.index t = ![t.val % 23, 0, 0] ∧ win0_7.index t = ![t.val % 23, 0, 0]) :=
  (by decide +kernel : ∀ t : Fin grid0.N, _)

theorem lt23 (t : Fin cfg0.N) : t.val < 23 := t.isLt

theorem V_arg0 (c : Dev nD) : V m c main_arg0 = m ((c : Thread nD τ).loc main_arg0) := by
  show V0 m c (Proc.devRef .tc main_arg0) = _
  rw [V_split, k5_arg0]
  unfold U4 U3 U2 U1
  rw [k4_arg0, k3_arg0, k2_arg0, k1_arg0]
theorem V_arg1 (c : Dev nD) : V m c main_arg1 = m ((c : Thread nD τ).loc main_arg1) := by
  show V0 m c (Proc.devRef .tc main_arg1) = _
  rw [V_split, k5_arg1]
  unfold U4 U3 U2 U1
  rw [k4_arg1, k3_arg1, k2_arg1, k1_arg1]

theorem blk0 (c : Dev nD) (t : Fin cfg0.N) (i : Fin 128) (j : Fin 8) (k : Fin 2048) : iblk m c 0 t (ix3 i j k) = m ((c : Thread nD τ).loc main_arg0) (ix3 i j k) := by
  rw [← V_arg0 m c]
  blk_ext [iblk, idx t]
theorem blk1 (c : Dev nD) (t : Fin cfg0.N) (i : Fin 128) (k : Fin 2048) : iblk m c 1 t (ix4 i 0 0 k) = m ((c : Thread nD τ).loc main_arg1) (ix4 i 1 0 k) := by
  rw [← V_arg1 m c]
  blk_ext [iblk, idx t]
theorem blk2 (c : Dev nD) (t : Fin cfg0.N) (i : Fin 128) (k : Fin 2048) : iblk m c 2 t (ix4 i 0 0 k) = m ((c : Thread nD τ).loc main_arg1) (ix4 i 0 0 k) := by
  rw [← V_arg1 m c]
  blk_ext [iblk, idx t]
theorem blk3 (c : Dev nD) (t : Fin cfg0.N) (k : Fin 2048) : iblk m c 3 t (ix3 0 0 k) = m ((c : Thread nD τ).loc main_arg2) (ix1 k) := by
  rw [← V_g1 m c]
  blk_ext [iblk, idx t]
theorem blk4 (c : Dev nD) (t : Fin cfg0.N) (j : Fin 2048) (k : Fin 512) : iblk m c 4 t (ix2 j k) = V m c main_v5 (ix2 j (⟨t.val % 23 * 512 + k, by omega⟩ : Fin 11776)) := by
  blk_ext [iblk, idx t]
theorem blk5 (c : Dev nD) (t : Fin cfg0.N) (k : Fin 512) : iblk m c 5 t (ix3 0 0 k) = V m c main_v56 (ix3 (⟨t.val % 23, by omega⟩ : Fin 23) 0 k) := by
  blk_ext [iblk, idx t]
theorem blk6 (c : Dev nD) (t : Fin cfg0.N) (k : Fin 512) : iblk m c 6 t (ix3 0 0 k) = V m c main_v83 (ix3 (⟨t.val % 23, by omega⟩ : Fin 23) 0 k) := by
  blk_ext [iblk, idx t]

/-- The rows of the modulated norm. -/
def HS (c : Dev nD) : FVec Ideal S1024x2048 .bf16 := fun y => hn m c (y 0) (y 1)

theorem HB_at (x : FVec Ideal S128x8x2048 .f32) (g : FVec Ideal S1x1x2048 .f32) (sc sh : FVec Ideal S128x1x1x2048 .f32) (a : Fin 1024) (k : Fin 2048) : HB x g sc sh (ix2 a k) =
    ((x (ix3 ⟨a.val / 8, by omega⟩ ⟨a.val % 8, by omega⟩ k) : EReal) * Ideal.rsqrt (Ideal.div (∑ k' : Fin 2048, x (ix3 ⟨a.val / 8, by omega⟩ ⟨a.val % 8, by omega⟩ k') * x (ix3 ⟨a.val / 8, by omega⟩ ⟨a.val % 8, by omega⟩ k')) (Ideal.ofBits .f32 0x45000000#32) + eps) * g (ix3 0 0 k)) * (one + sc (ix4 ⟨a.val / 8, by omega⟩ 0 0 k)) + sh (ix4 ⟨a.val / 8, by omega⟩ 0 0 k) := rfl

theorem HB_eq (c : Dev nD) (t : Fin cfg0.N) : HB (iblk m c 0 t) (iblk m c 3 t) (iblk m c 1 t) (iblk m c 2 t) = HS m c := by
  funext y
  idx_vars y
  show _ = HR (m ((c : Thread nD τ).loc main_arg0)) (m ((c : Thread nD τ).loc main_arg1)) (m ((c : Thread nD τ).loc main_arg2)) ⟨y0.val / 8, by omega⟩ ⟨y0.val % 8, by omega⟩ y1
  rw [HB_at]
  unfold HR
  simp only [blk0, blk1, blk2, blk3]

theorem st_A (c : Dev nD) (t : Fin cfg0.N) (h0 : t.val % 23 = 0) : (outsAt0 m c t.val t.isLt).2 = HS m c := by
  have ht := lt23 t
  rw [outsAt0_A m c t h0 (by omega) (by omega) (by omega)]
  frame_open
  frame_out
  rw [pay1, HB_eq]

/-- What the point before left in the scratch. -/
abbrev prev (c : Dev nD) (t : Fin cfg0.N) : FVec Ideal S1024x2048 .bf16 := (outsAt0 m c (t.val - 1) (Nat.lt_of_le_of_lt (Nat.sub_le _ _) t.isLt)).2

theorem st_BCD (c : Dev nD) (t : Fin cfg0.N) (h0 : ¬ t.val % 23 = 0) : (outsAt0 m c t.val t.isLt).2 = prev m c t := by
  have ht := lt23 t
  by_cases h1 : t.val % 23 ≤ 3
  · rw [outsAt0_B m c t h0 (by omega) (by omega) (by omega)]
    rfl
  · by_cases h2 : t.val % 23 ≤ 13
    · rw [outsAt0_C m c t h0 (by omega) (by omega) (by omega)]
      rfl
    · rw [outsAt0_D m c t h0 (by omega) (by omega) (by omega)]
      rfl

/-- The scratch holds the modulated norm of the tile of rows at work. -/
theorem st (c : Dev nD) : ∀ (n : ℕ) (hn : n < cfg0.N), (outsAt0 m c n hn).2 = HS m c := by
  intro n
  induction n with
  | zero => intro hn; exact st_A m c ⟨0, hn⟩ rfl
  | succ n ih =>
    intro hn
    by_cases h0 : (n + 1) % 23 = 0
    · exact st_A m c ⟨n + 1, hn⟩ h0
    · exact (st_BCD m c ⟨n + 1, hn⟩ h0).trans (ih (Nat.lt_of_succ_lt hn))

theorem prev_eq (c : Dev nD) (t : Fin cfg0.N) (h0 : ¬ t.val % 23 = 0) : prev m c t = HS m c :=
  (st_BCD m c t h0).symm.trans (st m c t.val t.isLt)

theorem out_A (c : Dev nD) (t : Fin cfg0.N) (h0 : t.val % 23 = 0) : (outsAt0 m c t.val t.isLt).1 = k0_pay3 (HS m c) (iblk m c 4 t) := by
  have ht := lt23 t
  rw [outsAt0_A m c t h0 (by omega) (by omega) (by omega)]
  frame_open
  frame_out
  rw [pay1, HB_eq]

theorem out_B (c : Dev nD) (t : Fin cfg0.N) (h0 : ¬ t.val % 23 = 0) (h1 : t.val % 23 ≤ 3) : (outsAt0 m c t.val t.isLt).1 = k0_pay3 (HS m c) (iblk m c 4 t) := by
  have ht := lt23 t
  rw [← prev_eq m c t h0, outsAt0_B m c t h0 (by omega) (by omega) (by omega)]
  frame_open
  frame_out
  simp -proj only [read_unread_whole]

theorem out_C (c : Dev nD) (t : Fin cfg0.N) (h1 : 4 ≤ t.val % 23) (h2 : t.val % 23 ≤ 13) : (outsAt0 m c t.val t.isLt).1 =
    k0_pay4 (HS m c) (iblk m c 4 t) (k0_pay6 (k0_pay2 (HS m c) (iblk m c 4 t))) (iblk m c 5 t) (iblk m c 6 t) := by
  have ht := lt23 t
  rw [← prev_eq m c t (by omega), outsAt0_C m c t (by omega) (by omega) ⟨h1, h2⟩ (by omega)]
  frame_open
  frame_out
  simp -proj only [read_unread_whole]

theorem out_D (c : Dev nD) (t : Fin cfg0.N) (h1 : 14 ≤ t.val % 23) : (outsAt0 m c t.val t.isLt).1 = k0_pay5 (HS m c) (iblk m c 4 t) := by
  have ht := lt23 t
  rw [← prev_eq m c t (by omega), outsAt0_D m c t (by omega) (by omega) (by omega) (by omega)]
  frame_open
  frame_out
  simp -proj only [read_unread_whole]

end Cert.SmpKernelIdeal.Smp
-- ==== Proof.SmpArr.lean ====
module
public import proofs.«01_k».proof.Proof.SmpState
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

variable (m : (ℓ : Loc nD τ sig) → Buf (Elt Ideal) ℓ)

/-- The weight, the gains and the flags as the call takes them. -/
def wv (c : Dev nD) : FVec Ideal S2048x11776 .bf16 := V m c main_v5
def gv (c : Dev nD) : FVec Ideal S23x1x512 .f32 := V m c main_v56
def fv (c : Dev nD) : FVec Ideal S23x1x512 .f32 := V m c main_v83

/-- The projection at a row and a column of the padded weight. -/
def yv (c : Dev nD) (n : Fin 1024) (l : Fin 11776) : EReal := ∑ k : Fin 2048, hn m c n k * wv m c (ix2 k l)

/-- The projection divided by the root of its group's mean square. -/
def rv (c : Dev nD) (n : Fin 1024) (j : Fin 23) (l : Fin 512) : EReal :=
  yv m c n ⟨j.val * 512 + l.val, by omega⟩ * Ideal.rsqrt (Ideal.div (∑ k : Fin 128, yv m c n ⟨j.val * 512 + (l.val / 128 * 128 + k.val), by omega⟩ * yv m c n ⟨j.val * 512 + (l.val / 128 * 128 + k.val), by omega⟩) (Ideal.ofBits .f32 0x43000000#32) + eps)

/-- The call's output at a tile, a row and a column. -/
def GP (c : Dev nD) (j : Fin 23) (n : Fin 1024) (l : Fin 512) : EReal :=
  if j.val ≤ 3 then geK (yv m c n ⟨j.val * 512 + l.val, by omega⟩)
  else if j.val ≤ 13 then (if (Ideal.ofBits .f32 0x3F000000#32 : EReal) < fv m c (ix3 j 0 l) then rv m c n j l * gv m c (ix3 j 0 l) else yv m c n ⟨j.val * 512 + l.val, by omega⟩)
  else sgK (yv m c n ⟨j.val * 512 + l.val, by omega⟩)

/-- The call's output. -/
def GA (c : Dev nD) : FVec Ideal S23x1024x512 .f32 := fun y => GP m c (y 0) (y 1) (y 2)

/-- The tile of columns and the row of an entry of a grid point's block. -/
abbrev jt (t : Fin cfg0.N) : Fin 23 := ⟨t.val % 23, Nat.mod_lt _ (by decide)⟩
abbrev nt (t : Fin cfg0.N) (a : Fin 1024) : Fin 1024 := a

theorem YB_at (c : Dev nD) (t : Fin cfg0.N) (a : Fin 1024) (l : Fin 512) :
    (YB (HS m c) (iblk m c 4 t) (ix2 a l) : EReal) = yv m c (nt t a) ⟨(jt t).val * 512 + l.val, by omega⟩ := by
  unfold YB yv
  refine Finset.sum_congr rfl fun k _ => ?_
  exact congrArg₂ (fun p q : EReal => p * q) rfl (blk4 m c t k l)

theorem RB_at (c : Dev nD) (t : Fin cfg0.N) (a : Fin 1024) (l : Fin 512) :
    (RB (YB (HS m c) (iblk m c 4 t)) (ix2 a l) : EReal) = rv m c (nt t a) (jt t) l := by
  unfold RB rv
  refine congrArg₂ (fun p q : EReal => p * Ideal.rsqrt (Ideal.div q _ + eps)) (YB_at m c t a l) ?_
  refine Finset.sum_congr rfl fun k _ => ?_
  exact congrArg₂ (fun p q : EReal => p * q) (YB_at m c t a _) (YB_at m c t a _)

theorem block_at (c : Dev nD) (t : Fin cfg0.N) (a : Fin 1024) (l : Fin 512) : ((outsAt0 m c t.val t.isLt).1 (ix3 0 a l) : EReal) = GP m c (jt t) (nt t a) l := by
  unfold GP
  by_cases h0 : t.val % 23 = 0
  · rw [if_pos (by show t.val % 23 ≤ 3; omega), out_A m c t h0, pay3]
    exact congrArg geK (YB_at m c t a l)
  · by_cases h1 : t.val % 23 ≤ 3
    · rw [if_pos h1, out_B m c t h0 h1, pay3]
      exact congrArg geK (YB_at m c t a l)
    · rw [if_neg h1]
      by_cases h2 : t.val % 23 ≤ 13
      · rw [if_pos h2, out_C m c t (by omega) h2, pay2, pay6, pay4]
        have e6 : (iblk m c 6 t (ix3 0 0 l)) = fv m c (ix3 (jt t) 0 l) := blk6 m c t l
        have e5 : (iblk m c 5 t (ix3 0 0 l)) = gv m c (ix3 (jt t) 0 l) := blk5 m c t l
        show (if (Ideal.ofBits .f32 0x3F000000#32 : EReal) < iblk m c 6 t (ix3 0 0 l) then _ else _) = _
        rw [e6]
        refine if_congr Iff.rfl ?_ (YB_at m c t a l)
        exact congrArg₂ (fun p q : EReal => p * q) (RB_at m c t a l) e5
      · rw [if_neg h2, out_D m c t (by omega), pay5]
        exact congrArg sgK (YB_at m c t a l)

/-- The result array of the call: every block written back is the part of it that `GA` states. -/
theorem arr (c : Dev nD) : (dats m 0 c).arrAt 7 cfg0.N = GA m c := by
  refine (dats m 0 c).arrAt_eq_of_covers 7 (GA m c) (by decide +kernel) fun t hf y => ?_
  blk_simp
  rw [after0_7]
  have hy : y = ix3 (n0 := 1) (n1 := 1024) (n2 := 512) 0 (y 1) (y 2) := by funext a; fin_cases a; exact Fin.ext (by have : (y 0 : Fin 1).val < 1 := (y 0 : Fin 1).isLt; show (y 0 : Fin 1).val = 0; omega); rfl; rfl
  have hx : ∀ x : S23x1024x512.Idx, x = ix3 (n0 := 23) (n1 := 1024) (n2 := 512) (x 0) (x 1) (x 2) := fun x => by funext a; fin_cases a <;> rfl
  rw [hy]
  refine (block_at m c t _ _).trans ?_
  unfold GA
  have e0 : jt t = ((win0_7.blk t).view.emb (ix3 (n0 := 1) (n1 := 1024) (n2 := 512) 0 (y 1) (y 2)) : S23x1024x512.Idx) 0 := by
    apply Fin.ext
    blk_simp [idx t]
    rfl
  have e1 : nt t (y 1) = ((win0_7.blk t).view.emb (ix3 (n0 := 1) (n1 := 1024) (n2 := 512) 0 (y 1) (y 2)) : S23x1024x512.Idx) 1 := by
    apply Fin.ext
    blk_simp [idx t]
  have e2 : (y 2 : Fin 512) = ((win0_7.blk t).view.emb (ix3 (n0 := 1) (n1 := 1024) (n2 := 512) 0 (y 1) (y 2)) : S23x1024x512.Idx) 2 := by
    apply Fin.ext
    blk_simp [idx t]
  exact (congrFun (congrFun (congrArg (GP m c) e0) _) _).trans ((congrFun (congrArg (GP m c _) e1) _).trans (congrArg (GP m c _ _) e2))
end Cert.SmpKernelIdeal.Smp
-- ==== Proof.SmpTail.lean ====
module
public import proofs.«01_k».proof.Proof.SmpArr
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

variable (m : (ℓ : Loc nD τ sig) → Buf (Elt Ideal) ℓ)

theorem t_88 (U : Valuation τ sig (Elt Ideal)) (b : Fin 128) (r : Fin 8) (h : Fin 4) (d : Fin 128) : StableHlo.after hostOps1 U (Proc.devRef .tc main_v88) (ix4 b r h d) = U (Proc.devRef .tc main_v85) (ix3 (8 : Fin 23) (⟨b.val * 8 + r.val, by omega⟩ : Fin 1024) (⟨h.val * 128 + d.val, by omega⟩ : Fin 512)) := by
  after_results
  pointwise
theorem t_91 (U : Valuation τ sig (Elt Ideal)) (b : Fin 128) (r : Fin 8) (h : Fin 4) (d : Fin 128) : StableHlo.after hostOps1 U (Proc.devRef .tc main_v91) (ix4 b r h d) = U (Proc.devRef .tc main_v85) (ix3 (9 : Fin 23) (⟨b.val * 8 + r.val, by omega⟩ : Fin 1024) (⟨h.val * 128 + d.val, by omega⟩ : Fin 512)) := by
  after_results
  pointwise
theorem t_94 (U : Valuation τ sig (Elt Ideal)) (b : Fin 128) (r : Fin 8) (h : Fin 4) (d : Fin 128) : StableHlo.after hostOps1 U (Proc.devRef .tc main_v94) (ix4 b r h d) = U (Proc.devRef .tc main_v85) (ix3 (10 : Fin 23) (⟨b.val * 8 + r.val, by omega⟩ : Fin 1024) (⟨h.val * 128 + d.val, by omega⟩ : Fin 512)) := by
  after_results
  pointwise
theorem t_97 (U : Valuation τ sig (Elt Ideal)) (b : Fin 128) (r : Fin 8) (h : Fin 4) (d : Fin 128) : StableHlo.after hostOps1 U (Proc.devRef .tc main_v97) (ix4 b r h d) = U (Proc.devRef .tc main_v85) (ix3 (11 : Fin 23) (⟨b.val * 8 + r.val, by omega⟩ : Fin 1024) (⟨h.val * 128 + d.val, by omega⟩ : Fin 512)) := by
  after_results
  pointwise
theorem t_100 (U : Valuation τ sig (Elt Ideal)) (b : Fin 128) (r : Fin 8) (h : Fin 4) (d : Fin 128) : StableHlo.after hostOps1 U (Proc.devRef .tc main_v100) (ix4 b r h d) = U (Proc.devRef .tc main_v85) (ix3 (12 : Fin 23) (⟨b.val * 8 + r.val, by omega⟩ : Fin 1024) (⟨h.val * 128 + d.val, by omega⟩ : Fin 512)) := by
  after_results
  pointwise
theorem t_103 (U : Valuation τ sig (Elt Ideal)) (b : Fin 128) (r : Fin 8) (h : Fin 4) (d : Fin 128) : StableHlo.after hostOps1 U (Proc.devRef .tc main_v103) (ix4 b r h d) = U (Proc.devRef .tc main_v85) (ix3 (13 : Fin 23) (⟨b.val * 8 + r.val, by omega⟩ : Fin 1024) (⟨h.val * 128 + d.val, by omega⟩ : Fin 512)) := by
  after_results
  pointwise
theorem t_104 (U : Valuation τ sig (Elt Ideal)) (j : Fin 4) (r : Fin 1024) (l : Fin 512) : StableHlo.after hostOps1 U (Proc.devRef .tc main_v104) (ix3 j r l) = U (Proc.devRef .tc main_v85) (ix3 (⟨0 + j.val, by omega⟩ : Fin 23) r l) := by
  after_results
  pointwise
theorem t_105 (U : Valuation τ sig (Elt Ideal)) (j : Fin 4) (r : Fin 1024) (l : Fin 512) : StableHlo.after hostOps1 U (Proc.devRef .tc main_v105) (ix3 j r l) = U (Proc.devRef .tc main_v85) (ix3 (⟨4 + j.val, by omega⟩ : Fin 23) r l) := by
  after_results
  pointwise
theorem t_109 (U : Valuation τ sig (Elt Ideal)) (j : Fin 8) (r : Fin 1024) (l : Fin 512) : StableHlo.after hostOps1 U (Proc.devRef .tc main_v109) (ix3 j r l) = U (Proc.devRef .tc main_v85) (ix3 (⟨15 + j.val, by omega⟩ : Fin 23) r l) := by
  after_results
  pointwise
theorem t_108 (U : Valuation τ sig (Elt Ideal)) (r : Fin 1024) (l : Fin 48) : StableHlo.after hostOps1 U (Proc.devRef .tc main_v108) (ix2 r l) = U (Proc.devRef .tc main_v85) (ix3 (14 : Fin 23) r (⟨l.val, by omega⟩ : Fin 512)) := by
  after_results
  pointwise

/-- What the lines after the call find in its output. -/
theorem tail_arr (c : Dev nD) : Pipeline.withArrays (cfgs 0).spec c (V0 m c) (fun w => (dats m 0 c).arrAt w (cfgs 0).N) (Proc.devRef .tc main_v85) = GA m c :=
  ((dats m 0 c).withArrays_arrAt sharedIn0 (V0 m c) (A_eq m c) 7).trans (arr m c)

end Cert.SmpKernelIdeal.Smp
-- ==== Proof.SmpVal.lean ====
module
public import proofs.«01_k».proof.Proof.SmpTail
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem
open Idealize.ShloMosaic.Pipeline (Dat)
open Cert.InKernelIdeal.In (eps one geK sgK YB RB)

/-! ## The results as functions of the launch's arrays -/
section
variable (x : FVec Ideal S128x8x2048 .f32) (mo : FVec Ideal S128x6x1x2048 .f32) (g : FVec Ideal S2048 .f32) (w : FVec Ideal S2048x11312 .f32)

/-- The projection at a row and a column given as numbers. -/
def YT (n l : ℕ) : EReal := if h : n < 1024 ∧ l < 11312 then YN x mo g w ⟨n, h.1⟩ ⟨l, h.2⟩ else 0
/-- An entry of a group of 128 columns, divided by the root of the group's mean square. -/
def NT (n b d : ℕ) : EReal :=
  YT x mo g w n (b + d) * Ideal.rsqrt (Ideal.div (∑ k : Fin 128, YT x mo g w n (b + k.val) * YT x mo g w n (b + k.val)) (Ideal.ofBits .f32 0x43000000#32) + eps)

/-- Four heads of columns. -/
def KC (o : ℕ) : FVec Ideal S128x8x4x128 .f32 := fun y => YT x mo g w ((y 0).val * 8 + (y 1).val) (o + ((y 2).val * 128 + (y 3).val))
/-- Four heads of columns, each normalised and scaled. -/
def KN (o : ℕ) (i : Fin 3) (gk : FVec Ideal S3x128 .f32) : FVec Ideal S128x8x4x128 .f32 := fun y =>
  NT x mo g w ((y 0).val * 8 + (y 1).val) (o + (y 2).val * 128) (y 3).val * gk (ix2 i (y 3))
/-- The first four tiles, through the gate. -/
def TA : FVec Ideal S4x1024x512 .f32 := fun y => geK (YT x mo g w (y 1).val ((y 0).val * 512 + (y 2).val))
/-- The queries' four tiles, normalised by heads and scaled. -/
def TQ (gq : FVec Ideal S128 .f32) : FVec Ideal S4x1024x512 .f32 := fun y =>
  NT x mo g w (y 1).val (2048 + (y 0).val * 512 + (y 2).val / 128 * 128) ((y 2).val % 128) * gq (ix1 ⟨(y 2).val % 128, by omega⟩)
/-- The 48 gates. -/
def TG : FVec Ideal S1024x48 .f32 := fun y => sgK (YT x mo g w (y 0).val (7168 + (y 1).val))
/-- The last eight tiles, through the sigmoid. -/
def TM : FVec Ideal S8x1024x512 .f32 := fun y => sgK (YT x mo g w (y 1).val (7216 + ((y 0).val * 512 + (y 2).val)))
end

variable (m : (ℓ : Loc nD τ sig) → Buf (Elt Ideal) ℓ)

/-- The launch's projection. -/
def yt (c : Dev nD) : ℕ → ℕ → EReal :=
  YT (m ((c : Thread nD τ).loc main_arg0)) (m ((c : Thread nD τ).loc main_arg1)) (m ((c : Thread nD τ).loc main_arg2)) (m ((c : Thread nD τ).loc main_arg3))
def ntt (c : Dev nD) : ℕ → ℕ → ℕ → EReal :=
  NT (m ((c : Thread nD τ).loc main_arg0)) (m ((c : Thread nD τ).loc main_arg1)) (m ((c : Thread nD τ).loc main_arg2)) (m ((c : Thread nD τ).loc main_arg3))

theorem wv_at (c : Dev nD) (k : Fin 2048) (l : Fin 11776) (hl : l.val < 7216 ∨ 7680 ≤ l.val) : wv m c (ix2 k l) = m ((c : Thread nD τ).loc main_arg3) (ix2 k (col l)) := V_w m c k l hl

theorem yv_at (c : Dev nD) (n : Fin 1024) (l : Fin 11776) (L : ℕ) (h : (l.val < 7216 ∧ L = l.val) ∨ (7680 ≤ l.val ∧ L + 464 = l.val)) : yv m c n l = yt m c n.val L := by
  have hL : L < 11312 := by omega
  have e : (⟨L, hL⟩ : Fin 11312) = col l := by
    unfold col
    rcases h with h | h
    · rw [dif_pos h.1]; exact Fin.ext h.2
    · rw [dif_neg (by omega)]; exact Fin.ext (by show L = l.val - 464; omega)
  unfold yt YT
  rw [dif_pos ⟨n.isLt, hL⟩]
  unfold yv YN
  refine Finset.sum_congr rfl fun k _ => ?_
  refine congrArg₂ (fun p q : EReal => p * q) rfl ((wv_at m c k l (by omega)).trans ?_)
  exact congrArg (fun q : Fin 11312 => m ((c : Thread nD τ).loc main_arg3) (ix2 k q)) e.symm

theorem rv_at (c : Dev nD) (n : Fin 1024) (j : Fin 23) (l : Fin 512) (hj : j.val ≤ 13) : rv m c n j l = ntt m c n.val (j.val * 512 + l.val / 128 * 128) (l.val % 128) := by
  unfold rv ntt NT
  refine congrArg₂ (fun p q : EReal => p * Ideal.rsqrt (Ideal.div q _ + eps)) ((yv_at m c n _ _ (Or.inl ⟨by show j.val * 512 + l.val < 7216; omega, ?_⟩))) ?_
  · show j.val * 512 + l.val / 128 * 128 + l.val % 128 = j.val * 512 + l.val
    omega
  · refine Finset.sum_congr rfl fun k _ => ?_
    have h := yv_at m c n ⟨j.val * 512 + (l.val / 128 * 128 + k.val), by omega⟩ (j.val * 512 + l.val / 128 * 128 + k.val) (Or.inl ⟨by show j.val * 512 + (l.val / 128 * 128 + k.val) < 7216; omega, by show _ = j.val * 512 + (l.val / 128 * 128 + k.val); omega⟩)
    exact congrArg₂ (fun p q : EReal => p * q) h h

theorem half_lt_one : (Ideal.ofBits .f32 0x3F000000#32 : EReal) < one := by
  have h1 : (Ideal.ofBits .f32 0x3F000000#32 : EReal) = ((1/2 : ℝ) : EReal) := by
    simp [Ideal.ofBits, Ideal.ieee]; try (rw [← EReal.coe_mul]; congr 1; norm_num)
  have h2 : one = ((1 : ℝ) : EReal) := by
    unfold one; simp [Ideal.ofBits, Ideal.ieee]; try (rw [← EReal.coe_mul]; norm_num)
  rw [h1, h2]; exact EReal.coe_lt_coe_iff.mpr (by norm_num)
theorem half_not_lt_zero : ¬ (Ideal.ofBits .f32 0x3F000000#32 : EReal) < 0 := by
  have h1 : (Ideal.ofBits .f32 0x3F000000#32 : EReal) = ((1/2 : ℝ) : EReal) := by
    simp [Ideal.ofBits, Ideal.ieee]; try (rw [← EReal.coe_mul]; congr 1; norm_num)
  rw [h1, ← EReal.coe_zero]; intro h; have := EReal.coe_lt_coe_iff.mp h; norm_num at this

theorem GP_a (c : Dev nD) (j : Fin 23) (n : Fin 1024) (l : Fin 512) (hj : j.val ≤ 3) : GP m c j n l = geK (yt m c n.val (j.val * 512 + l.val)) := by
  unfold GP
  rw [if_pos hj]
  exact congrArg geK (yv_at m c n _ _ (Or.inl ⟨by show j.val * 512 + l.val < 7216; omega, rfl⟩))
theorem GP_n (c : Dev nD) (j : Fin 23) (n : Fin 1024) (l : Fin 512) (hj : 4 ≤ j.val) (hj' : j.val ≤ 13) (hf : fv m c (ix3 j 0 l) = one) :
    GP m c j n l = ntt m c n.val (j.val * 512 + l.val / 128 * 128) (l.val % 128) * gv m c (ix3 j 0 l) := by
  unfold GP
  rw [if_neg (by omega), if_pos hj', if_pos (lt_of_lt_of_eq half_lt_one hf.symm)]
  exact congrArg (fun p : EReal => p * gv m c (ix3 j 0 l)) (rv_at m c n j l hj')
theorem GP_p (c : Dev nD) (j : Fin 23) (n : Fin 1024) (l : Fin 512) (hj : 4 ≤ j.val) (hj' : j.val ≤ 13) (hf : fv m c (ix3 j 0 l) = (0 : EReal)) :
    GP m c j n l = yt m c n.val (j.val * 512 + l.val) := by
  unfold GP
  rw [if_neg (by omega), if_pos hj', if_neg (fun h => half_not_lt_zero (lt_of_lt_of_eq h hf))]
  exact yv_at m c n _ _ (Or.inl ⟨by show j.val * 512 + l.val < 7216; omega, rfl⟩)
theorem GP_g (c : Dev nD) (n : Fin 1024) (l : Fin 512) (hl : l.val < 48) : GP m c (14 : Fin 23) n l = sgK (yt m c n.val (7168 + l.val)) := by
  unfold GP
  rw [if_neg (by decide), if_neg (by decide)]
  exact congrArg sgK (yv_at m c n _ _ (Or.inl ⟨by show 14 * 512 + l.val < 7216; omega, by show 7168 + l.val = 14 * 512 + l.val; omega⟩))
theorem GP_m (c : Dev nD) (j : Fin 8) (n : Fin 1024) (l : Fin 512) : GP m c (⟨15 + j.val, by omega⟩ : Fin 23) n l = sgK (yt m c n.val (7216 + (j.val * 512 + l.val))) := by
  unfold GP
  rw [if_neg (by show ¬ (15 + j.val ≤ 3); omega), if_neg (by show ¬ (15 + j.val ≤ 13); omega)]
  exact congrArg sgK (yv_at m c n _ _ (Or.inr ⟨by show 7680 ≤ (15 + j.val) * 512 + l.val; omega, by show _ = (15 + j.val) * 512 + l.val; omega⟩))

/-! ## The results -/

/-- What the lines after the call leave. -/
abbrev WA (c : Dev nD) : Valuation τ sig (Elt Ideal) := Pipeline.withArrays (cfgs 0).spec c (V0 m c) (fun w => (dats m 0 c).arrAt w (cfgs 0).N)

theorem WA_at (c : Dev nD) (j : Fin 23) (n : Fin 1024) (l : Fin 512) : WA m c (Proc.devRef .tc main_v85) (ix3 j n l) = GP m c j n l :=
  congrFun (tail_arr m c) (ix3 j n l)

theorem res_kc (c : Dev nD) : StableHlo.after hostOps1 (WA m c) (Proc.devRef .tc main_v88) = KC (m ((c : Thread nD τ).loc main_arg0)) (m ((c : Thread nD τ).loc main_arg1)) (m ((c : Thread nD τ).loc main_arg2)) (m ((c : Thread nD τ).loc main_arg3)) 4096 := by
  funext y; idx_vars y
  refine (t_88 (WA m c) y0 y1 y2 y3).trans ((WA_at m c _ _ _).trans ((GP_p m c _ _ _ (by decide) (by decide) (V_flag_8 m c _)).trans ?_))
  rfl
theorem res_vc (c : Dev nD) : StableHlo.after hostOps1 (WA m c) (Proc.devRef .tc main_v91) = KC (m ((c : Thread nD τ).loc main_arg0)) (m ((c : Thread nD τ).loc main_arg1)) (m ((c : Thread nD τ).loc main_arg2)) (m ((c : Thread nD τ).loc main_arg3)) 4608 := by
  funext y; idx_vars y
  refine (t_91 (WA m c) y0 y1 y2 y3).trans ((WA_at m c _ _ _).trans ((GP_p m c _ _ _ (by decide) (by decide) (V_flag_9 m c _)).trans ?_))
  rfl
theorem res_vs (c : Dev nD) : StableHlo.after hostOps1 (WA m c) (Proc.devRef .tc main_v97) = KC (m ((c : Thread nD τ).loc main_arg0)) (m ((c : Thread nD τ).loc main_arg1)) (m ((c : Thread nD τ).loc main_arg2)) (m ((c : Thread nD τ).loc main_arg3)) 5632 := by
  funext y; idx_vars y
  refine (t_97 (WA m c) y0 y1 y2 y3).trans ((WA_at m c _ _ _).trans ((GP_p m c _ _ _ (by decide) (by decide) (V_flag_11 m c _)).trans ?_))
  rfl
theorem res_vw (c : Dev nD) : StableHlo.after hostOps1 (WA m c) (Proc.devRef .tc main_v103) = KC (m ((c : Thread nD τ).loc main_arg0)) (m ((c : Thread nD τ).loc main_arg1)) (m ((c : Thread nD τ).loc main_arg2)) (m ((c : Thread nD τ).loc main_arg3)) 6656 := by
  funext y; idx_vars y
  refine (t_103 (WA m c) y0 y1 y2 y3).trans ((WA_at m c _ _ _).trans ((GP_p m c _ _ _ (by decide) (by decide) (V_flag_13 m c _)).trans ?_))
  rfl
theorem gv_at10 (c : Dev nD) (l : Fin 512) : gv m c (ix3 (10 : Fin 23) 0 l) = m ((c : Thread nD τ).loc main_arg5) (ix2 (1 : Fin 3) (⟨l.val % 128, by omega⟩ : Fin 128)) := V_gain_10 m c l
theorem gv_at12 (c : Dev nD) (l : Fin 512) : gv m c (ix3 (12 : Fin 23) 0 l) = m ((c : Thread nD τ).loc main_arg5) (ix2 (2 : Fin 3) (⟨l.val % 128, by omega⟩ : Fin 128)) := V_gain_12 m c l
theorem gv_atq (c : Dev nD) (j : Fin 4) (l : Fin 512) : gv m c (ix3 (⟨4 + j.val, by omega⟩ : Fin 23) 0 l) = m ((c : Thread nD τ).loc main_arg4) (ix1 (⟨l.val % 128, by omega⟩ : Fin 128)) := by
  fin_cases j
  · exact V_gain_4 m c l
  · exact V_gain_5 m c l
  · exact V_gain_6 m c l
  · exact V_gain_7 m c l
theorem fv_atq (c : Dev nD) (j : Fin 4) (l : Fin 512) : fv m c (ix3 (⟨4 + j.val, by omega⟩ : Fin 23) 0 l) = one := by
  fin_cases j
  · exact V_flag_4 m c l
  · exact V_flag_5 m c l
  · exact V_flag_6 m c l
  · exact V_flag_7 m c l

theorem ntt_congr (c : Dev nD) {n b b' d d' : ℕ} (hb : b = b') (hd : d = d') : ntt m c n b d = ntt m c n b' d' := by rw [hb, hd]

theorem res_ks (c : Dev nD) : StableHlo.after hostOps1 (WA m c) (Proc.devRef .tc main_v94) = KN (m ((c : Thread nD τ).loc main_arg0)) (m ((c : Thread nD τ).loc main_arg1)) (m ((c : Thread nD τ).loc main_arg2)) (m ((c : Thread nD τ).loc main_arg3)) 5120 1 (m ((c : Thread nD τ).loc main_arg5)) := by
  funext y; idx_vars y
  refine (t_94 (WA m c) y0 y1 y2 y3).trans ((WA_at m c _ _ _).trans ((GP_n m c _ _ _ (by decide) (by decide) (V_flag_10 m c _)).trans ?_))
  refine (congrArg₂ (fun p q : EReal => p * q) (ntt_congr m c (b' := 5120 + y2.val * 128) (d' := y3.val) ?_ ?_) ((gv_at10 m c _).trans (congrArg (fun d : Fin 128 => m ((c : Thread nD τ).loc main_arg5) (ix2 (1 : Fin 3) d)) (Fin.ext (b := y3) ?_)))).trans rfl
  · show 10 * 512 + (y2.val * 128 + y3.val) / 128 * 128 = _; omega
  · show (y2.val * 128 + y3.val) % 128 = _; omega
  · show (y2.val * 128 + y3.val) % 128 = _; omega
theorem res_kw (c : Dev nD) : StableHlo.after hostOps1 (WA m c) (Proc.devRef .tc main_v100) = KN (m ((c : Thread nD τ).loc main_arg0)) (m ((c : Thread nD τ).loc main_arg1)) (m ((c : Thread nD τ).loc main_arg2)) (m ((c : Thread nD τ).loc main_arg3)) 6144 2 (m ((c : Thread nD τ).loc main_arg5)) := by
  funext y; idx_vars y
  refine (t_100 (WA m c) y0 y1 y2 y3).trans ((WA_at m c _ _ _).trans ((GP_n m c _ _ _ (by decide) (by decide) (V_flag_12 m c _)).trans ?_))
  refine (congrArg₂ (fun p q : EReal => p * q) (ntt_congr m c (b' := 6144 + y2.val * 128) (d' := y3.val) ?_ ?_) ((gv_at12 m c _).trans (congrArg (fun d : Fin 128 => m ((c : Thread nD τ).loc main_arg5) (ix2 (2 : Fin 3) d)) (Fin.ext (b := y3) ?_)))).trans rfl
  · show 12 * 512 + (y2.val * 128 + y3.val) / 128 * 128 = _; omega
  · show (y2.val * 128 + y3.val) % 128 = _; omega
  · show (y2.val * 128 + y3.val) % 128 = _; omega
theorem res_a (c : Dev nD) : StableHlo.after hostOps1 (WA m c) (Proc.devRef .tc main_v104) = TA (m ((c : Thread nD τ).loc main_arg0)) (m ((c : Thread nD τ).loc main_arg1)) (m ((c : Thread nD τ).loc main_arg2)) (m ((c : Thread nD τ).loc main_arg3)) := by
  funext y; idx_vars y
  refine (t_104 (WA m c) y0 y1 y2).trans ((WA_at m c _ _ _).trans ((GP_a m c _ _ _ (by show 0 + y0.val ≤ 3; omega)).trans ?_))
  refine (congrArg (fun q : ℕ => geK (yt m c y1.val q)) ?_).trans rfl
  show (0 + y0.val) * 512 + y2.val = y0.val * 512 + y2.val; omega
theorem res_q (c : Dev nD) : StableHlo.after hostOps1 (WA m c) (Proc.devRef .tc main_v105) = TQ (m ((c : Thread nD τ).loc main_arg0)) (m ((c : Thread nD τ).loc main_arg1)) (m ((c : Thread nD τ).loc main_arg2)) (m ((c : Thread nD τ).loc main_arg3)) (m ((c : Thread nD τ).loc main_arg4)) := by
  funext y; idx_vars y
  refine (t_105 (WA m c) y0 y1 y2).trans ((WA_at m c _ _ _).trans ((GP_n m c _ _ _ (by show 4 ≤ 4 + y0.val; omega) (by show 4 + y0.val ≤ 13; omega) (fv_atq m c y0 y2)).trans ?_))
  refine (congrArg₂ (fun p q : EReal => p * q) (ntt_congr m c (b' := 2048 + y0.val * 512 + y2.val / 128 * 128) (d' := y2.val % 128) ?_ rfl) (gv_atq m c y0 y2)).trans rfl
  show (4 + y0.val) * 512 + y2.val / 128 * 128 = _; omega
theorem res_g (c : Dev nD) : StableHlo.after hostOps1 (WA m c) (Proc.devRef .tc main_v108) = TG (m ((c : Thread nD τ).loc main_arg0)) (m ((c : Thread nD τ).loc main_arg1)) (m ((c : Thread nD τ).loc main_arg2)) (m ((c : Thread nD τ).loc main_arg3)) := by
  funext y; idx_vars y
  exact (t_108 (WA m c) y0 y1).trans ((WA_at m c _ _ _).trans ((GP_g m c _ _ y1.isLt).trans rfl))
theorem res_m (c : Dev nD) : StableHlo.after hostOps1 (WA m c) (Proc.devRef .tc main_v109) = TM (m ((c : Thread nD τ).loc main_arg0)) (m ((c : Thread nD τ).loc main_arg1)) (m ((c : Thread nD τ).loc main_arg2)) (m ((c : Thread nD τ).loc main_arg3)) := by
  funext y; idx_vars y
  exact (t_109 (WA m c) y0 y1 y2).trans ((WA_at m c _ _ _).trans ((GP_m m c _ _ _).trans rfl))

end Cert.SmpKernelIdeal.Smp
-- ==== Proof.SmpRef.lean ====
module
public import proofs.«01_k».proof.Proof.SmpVal
public import proofs.«01_k».proof.Proof.InGelu
public import proofs.«01_k».proof.Proof.Gen.SmpReferenceIdeal.Run
@[expose] public section
set_option maxRecDepth 16384
noncomputable section
namespace Cert.SmpReferenceIdeal.Smp
open Cert.SmpReferenceIdeal Cert.SmpReferenceIdeal.Gen Idealize.ShloMosaic Idealize.ShloMosaic.TcCoe Idealize.SL.Sem
open Cert.SmpKernelIdeal.Smp (HR HN YN YT NT KC KN TA TQ TG TM)
open Cert.InKernelIdeal.In (geK sgK geR ge_eq sg_eq eps one)

variable (x : FVec Ideal S128x8x2048 .f32) (mo : FVec Ideal S128x6x1x2048 .f32) (g : FVec Ideal S2048 .f32) (w : FVec Ideal S2048x11312 .f32) (gq : FVec Ideal S128 .f32) (gk : FVec Ideal S3x128 .f32) (Yv : FVec Ideal S128x8x11312 .f32)

/-- The reference's modulated norm. -/
def Hr : FVec Ideal S128x8x2048 .f32 := addf (mulf (mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 g))) (broadcastInDim S128x8x2048 ![0, 1, 2] bcast_S128x1x2048_S128x8x2048_0_1_2 (addf (broadcastInDim S128x1x2048 ![] bcast_S_S128x1x2048 (constant S_ .f32 0x3F800000#32)) (shapeCast _ (extractStridedSlice S128x1x1x2048 ![0, 1, 0, 0] mo slices_S128x6x1x2048_S128x1x1x2048_0_1_0_0) shapeCasts_S128x1x1x2048_S128x1x2048)))) (broadcastInDim S128x8x2048 ![0, 1, 2] bcast_S128x1x2048_S128x8x2048_0_1_2 (shapeCast _ (extractStridedSlice S128x1x1x2048 ![0, 0, 0, 0] mo slices_S128x6x1x2048_S128x1x1x2048_0_0_0_0) shapeCasts_S128x1x1x2048_S128x1x2048))
/-- The reference's projection. -/
def Yr : FVec Ideal S128x8x11312 .f32 := Host.dotGeneral dot_S128x8x2048_S2048x11312_S128x8x11312_2_0_01_1_n_n none (Hr x mo g) w

theorem one_eq : one = 1 := by
  unfold one; simp [Ideal.ofBits, Ideal.ieee]; try (rw [← EReal.coe_mul]; norm_num)

theorem Hr_at (b : Fin 128) (r : Fin 8) (k : Fin 2048) : Hr x mo g (ix3 b r k) = HR x mo g b r k := by
  unfold Hr HR
  rw [one_eq]
  pointwise
  rfl

theorem Yr_sum (b : Fin 128) (r : Fin 8) (l : Fin 11312) : Yr x mo g w (ix3 b r l) = ∑ k : Fin 2048, Hr x mo g (ix3 b r k) * w (ix2 k l) := by
  unfold Yr
  pointwise

theorem Yr_at (b : Fin 128) (r : Fin 8) (l : Fin 11312) : Yr x mo g w (ix3 b r l) = YT x mo g w (b.val * 8 + r.val) l.val := by
  rw [Yr_sum]
  unfold YT
  rw [dif_pos ⟨by omega, l.isLt⟩]
  unfold YN
  refine Finset.sum_congr rfl fun k _ => ?_
  refine congrArg₂ (fun p q : EReal => p * q) ((Hr_at x mo g b r k).trans ?_) rfl
  unfold HN
  exact congrArg₂ (fun (p : Fin 128) (q : Fin 8) => HR x mo g p q k) (Fin.ext (by show b.val = (b.val * 8 + r.val) / 8; omega)) (Fin.ext (by show r.val = (b.val * 8 + r.val) % 8; omega))

/-- The reference's result, of its projection. -/
def Rks (Yv : FVec Ideal S128x8x11312 .f32) (gk : FVec Ideal S3x128 .f32) : FVec Ideal S128x8x4x128 .f32 := mulf (mulf (shapeCast _ (extractStridedSlice S128x8x512 ![0, 0, 5120] Yv slices_S128x8x11312_S128x8x512_0_0_5120) shapeCasts_S128x8x512_S128x8x4x128) (broadcastInDim S128x8x4x128 ![0, 1, 2, 3] bcast_S128x8x4x1_S128x8x4x128_0_1_2_3 (Host.rsqrt (addf (Host.divf (broadcastInDim S128x8x4x1 ![0, 1, 2] bcast_S128x8x4_S128x8x4x1_0_1_2 (Host.reduceAdd (mulf (shapeCast _ (extractStridedSlice S128x8x512 ![0, 0, 5120] Yv slices_S128x8x11312_S128x8x512_0_0_5120) shapeCasts_S128x8x512_S128x8x4x128) (shapeCast _ (extractStridedSlice S128x8x512 ![0, 0, 5120] Yv slices_S128x8x11312_S128x8x512_0_0_5120) shapeCasts_S128x8x512_S128x8x4x128)) (constant S_ .f32 0x00000000#32) reducesTo_S128x8x4x128_S128x8x4_d3 h_S_)) (broadcastInDim S128x8x4x1 ![] bcast_S_S128x8x4x1 (constant S_ .f32 0x43000000#32))) (broadcastInDim S128x8x4x1 ![] bcast_S_S128x8x4x1 (constant S_ .f32 0x358637BD#32)))))) (broadcastInDim S128x8x4x128 ![0, 1, 2, 3] bcast_S1x1x1x128_S128x8x4x128_0_1_2_3 (broadcastInDim S1x1x1x128 ![3] bcast_S128_S1x1x1x128_3 (shapeCast _ (extractStridedSlice S1x128 ![1, 0] gk slices_S3x128_S1x128_1_0) shapeCasts_S1x128_S128)))
/-- The reference's result, of its projection. -/
def Rkw (Yv : FVec Ideal S128x8x11312 .f32) (gk : FVec Ideal S3x128 .f32) : FVec Ideal S128x8x4x128 .f32 := mulf (mulf (shapeCast _ (extractStridedSlice S128x8x512 ![0, 0, 6144] Yv slices_S128x8x11312_S128x8x512_0_0_6144) shapeCasts_S128x8x512_S128x8x4x128) (broadcastInDim S128x8x4x128 ![0, 1, 2, 3] bcast_S128x8x4x1_S128x8x4x128_0_1_2_3 (Host.rsqrt (addf (Host.divf (broadcastInDim S128x8x4x1 ![0, 1, 2] bcast_S128x8x4_S128x8x4x1_0_1_2 (Host.reduceAdd (mulf (shapeCast _ (extractStridedSlice S128x8x512 ![0, 0, 6144] Yv slices_S128x8x11312_S128x8x512_0_0_6144) shapeCasts_S128x8x512_S128x8x4x128) (shapeCast _ (extractStridedSlice S128x8x512 ![0, 0, 6144] Yv slices_S128x8x11312_S128x8x512_0_0_6144) shapeCasts_S128x8x512_S128x8x4x128)) (constant S_ .f32 0x00000000#32) reducesTo_S128x8x4x128_S128x8x4_d3 h_S_)) (broadcastInDim S128x8x4x1 ![] bcast_S_S128x8x4x1 (constant S_ .f32 0x43000000#32))) (broadcastInDim S128x8x4x1 ![] bcast_S_S128x8x4x1 (constant S_ .f32 0x358637BD#32)))))) (broadcastInDim S128x8x4x128 ![0, 1, 2, 3] bcast_S1x1x1x128_S128x8x4x128_0_1_2_3 (broadcastInDim S1x1x1x128 ![3] bcast_S128_S1x1x1x128_3 (shapeCast _ (extractStridedSlice S1x128 ![2, 0] gk slices_S3x128_S1x128_2_0) shapeCasts_S1x128_S128)))
/-- The reference's result, of its projection. -/
def Ra (Yv : FVec Ideal S128x8x11312 .f32) : FVec Ideal S4x1024x512 .f32 := transpose S4x1024x512 [1, 0, 2] (shapeCast _ (mulf (extractStridedSlice S128x8x2048 ![0, 0, 0] Yv slices_S128x8x11312_S128x8x2048_0_0_0) (mulf (broadcastInDim S128x8x2048 ![] bcast_S_S128x8x2048 (constant S_ .f32 0x3F000000#32)) (addf (broadcastInDim S128x8x2048 ![] bcast_S_S128x8x2048 (constant S_ .f32 0x3F800000#32)) (Host.tanh (mulf (broadcastInDim S128x8x2048 ![] bcast_S_S128x8x2048 (constant S_ .f32 0x3F4C422A#32)) (addf (extractStridedSlice S128x8x2048 ![0, 0, 0] Yv slices_S128x8x11312_S128x8x2048_0_0_0) (mulf (broadcastInDim S128x8x2048 ![] bcast_S_S128x8x2048 (constant S_ .f32 0x3D372713#32)) (mulf (mulf (extractStridedSlice S128x8x2048 ![0, 0, 0] Yv slices_S128x8x11312_S128x8x2048_0_0_0) (extractStridedSlice S128x8x2048 ![0, 0, 0] Yv slices_S128x8x11312_S128x8x2048_0_0_0)) (extractStridedSlice S128x8x2048 ![0, 0, 0] Yv slices_S128x8x11312_S128x8x2048_0_0_0))))))))) shapeCasts_S128x8x2048_S1024x4x512) transposes_S1024x4x512_S4x1024x512_1_0_2
/-- The reference's result, of its projection. -/
def Rq (Yv : FVec Ideal S128x8x11312 .f32) (gq : FVec Ideal S128 .f32) : FVec Ideal S4x1024x512 .f32 := transpose S4x1024x512 [1, 0, 2] (shapeCast _ (mulf (mulf (shapeCast _ (extractStridedSlice S128x8x2048 ![0, 0, 2048] Yv slices_S128x8x11312_S128x8x2048_0_0_2048) shapeCasts_S128x8x2048_S128x8x4x4x128) (broadcastInDim S128x8x4x4x128 ![0, 1, 2, 3, 4] bcast_S128x8x4x4x1_S128x8x4x4x128_0_1_2_3_4 (Host.rsqrt (addf (Host.divf (broadcastInDim S128x8x4x4x1 ![0, 1, 2, 3] bcast_S128x8x4x4_S128x8x4x4x1_0_1_2_3 (Host.reduceAdd (mulf (shapeCast _ (extractStridedSlice S128x8x2048 ![0, 0, 2048] Yv slices_S128x8x11312_S128x8x2048_0_0_2048) shapeCasts_S128x8x2048_S128x8x4x4x128) (shapeCast _ (extractStridedSlice S128x8x2048 ![0, 0, 2048] Yv slices_S128x8x11312_S128x8x2048_0_0_2048) shapeCasts_S128x8x2048_S128x8x4x4x128)) (constant S_ .f32 0x00000000#32) reducesTo_S128x8x4x4x128_S128x8x4x4_d4 h_S_)) (broadcastInDim S128x8x4x4x1 ![] bcast_S_S128x8x4x4x1 (constant S_ .f32 0x43000000#32))) (broadcastInDim S128x8x4x4x1 ![] bcast_S_S128x8x4x4x1 (constant S_ .f32 0x358637BD#32)))))) (broadcastInDim S128x8x4x4x128 ![0, 1, 2, 3, 4] bcast_S1x1x1x1x128_S128x8x4x4x128_0_1_2_3_4 (broadcastInDim S1x1x1x1x128 ![4] bcast_S128_S1x1x1x1x128_4 gq))) shapeCasts_S128x8x4x4x128_S1024x4x512) transposes_S1024x4x512_S4x1024x512_1_0_2
/-- The reference's result, of its projection. -/
def Rkc (Yv : FVec Ideal S128x8x11312 .f32) : FVec Ideal S128x8x4x128 .f32 := shapeCast _ (extractStridedSlice S128x8x512 ![0, 0, 4096] Yv slices_S128x8x11312_S128x8x512_0_0_4096) shapeCasts_S128x8x512_S128x8x4x128
/-- The reference's result, of its projection. -/
def Rvc (Yv : FVec Ideal S128x8x11312 .f32) : FVec Ideal S128x8x4x128 .f32 := shapeCast _ (extractStridedSlice S128x8x512 ![0, 0, 4608] Yv slices_S128x8x11312_S128x8x512_0_0_4608) shapeCasts_S128x8x512_S128x8x4x128
/-- The reference's result, of its projection. -/
def Rvs (Yv : FVec Ideal S128x8x11312 .f32) : FVec Ideal S128x8x4x128 .f32 := shapeCast _ (extractStridedSlice S128x8x512 ![0, 0, 5632] Yv slices_S128x8x11312_S128x8x512_0_0_5632) shapeCasts_S128x8x512_S128x8x4x128
/-- The reference's result, of its projection. -/
def Rvw (Yv : FVec Ideal S128x8x11312 .f32) : FVec Ideal S128x8x4x128 .f32 := shapeCast _ (extractStridedSlice S128x8x512 ![0, 0, 6656] Yv slices_S128x8x11312_S128x8x512_0_0_6656) shapeCasts_S128x8x512_S128x8x4x128
/-- The reference's result, of its projection. -/
def Rg (Yv : FVec Ideal S128x8x11312 .f32) : FVec Ideal S1024x48 .f32 := shapeCast _ (Host.divf (broadcastInDim S128x8x48 ![] bcast_S_S128x8x48 (constant S_ .f32 0x3F800000#32)) (addf (broadcastInDim S128x8x48 ![] bcast_S_S128x8x48 (constant S_ .f32 0x3F800000#32)) (Host.exp (Host.negf (extractStridedSlice S128x8x48 ![0, 0, 7168] Yv slices_S128x8x11312_S128x8x48_0_0_7168))))) shapeCasts_S128x8x48_S1024x48
/-- The reference's result, of its projection. -/
def Rm (Yv : FVec Ideal S128x8x11312 .f32) : FVec Ideal S8x1024x512 .f32 := transpose S8x1024x512 [1, 0, 2] (shapeCast _ (Host.divf (broadcastInDim S128x8x4096 ![] bcast_S_S128x8x4096 (constant S_ .f32 0x3F800000#32)) (addf (broadcastInDim S128x8x4096 ![] bcast_S_S128x8x4096 (constant S_ .f32 0x3F800000#32)) (Host.exp (Host.negf (extractStridedSlice S128x8x4096 ![0, 0, 7216] Yv slices_S128x8x11312_S128x8x4096_0_0_7216))))) shapeCasts_S128x8x4096_S1024x8x512) transposes_S1024x8x512_S8x1024x512_1_0_2
theorem Rkc_at (b : Fin 128) (r : Fin 8) (h : Fin 4) (d : Fin 128) : Rkc Yv (ix4 b r h d) = Yv (ix3 b r (⟨4096 + (h.val * 128 + d.val), by omega⟩ : Fin 11312)) := by
  unfold Rkc
  pointwise
theorem Rvc_at (b : Fin 128) (r : Fin 8) (h : Fin 4) (d : Fin 128) : Rvc Yv (ix4 b r h d) = Yv (ix3 b r (⟨4608 + (h.val * 128 + d.val), by omega⟩ : Fin 11312)) := by
  unfold Rvc
  pointwise
theorem Rvs_at (b : Fin 128) (r : Fin 8) (h : Fin 4) (d : Fin 128) : Rvs Yv (ix4 b r h d) = Yv (ix3 b r (⟨5632 + (h.val * 128 + d.val), by omega⟩ : Fin 11312)) := by
  unfold Rvs
  pointwise
theorem Rvw_at (b : Fin 128) (r : Fin 8) (h : Fin 4) (d : Fin 128) : Rvw Yv (ix4 b r h d) = Yv (ix3 b r (⟨6656 + (h.val * 128 + d.val), by omega⟩ : Fin 11312)) := by
  unfold Rvw
  pointwise
theorem Rks_at (b : Fin 128) (r : Fin 8) (h : Fin 4) (d : Fin 128) : Rks Yv gk (ix4 b r h d) = (Yv (ix3 b r (⟨5120 + (h.val * 128 + d.val), by omega⟩ : Fin 11312)) : EReal) * Ideal.rsqrt (Ideal.div (∑ k : Fin 128, Yv (ix3 b r (⟨5120 + (h.val * 128 + k.val), by omega⟩ : Fin 11312)) * Yv (ix3 b r (⟨5120 + (h.val * 128 + k.val), by omega⟩ : Fin 11312))) (Ideal.ofBits .f32 0x43000000#32) + eps) * gk (ix2 1 d) := by
  unfold Rks
  pointwise
  rfl
theorem Rkw_at (b : Fin 128) (r : Fin 8) (h : Fin 4) (d : Fin 128) : Rkw Yv gk (ix4 b r h d) = (Yv (ix3 b r (⟨6144 + (h.val * 128 + d.val), by omega⟩ : Fin 11312)) : EReal) * Ideal.rsqrt (Ideal.div (∑ k : Fin 128, Yv (ix3 b r (⟨6144 + (h.val * 128 + k.val), by omega⟩ : Fin 11312)) * Yv (ix3 b r (⟨6144 + (h.val * 128 + k.val), by omega⟩ : Fin 11312))) (Ideal.ofBits .f32 0x43000000#32) + eps) * gk (ix2 2 d) := by
  unfold Rkw
  pointwise
  rfl
theorem Ra_at (j : Fin 4) (n : Fin 1024) (l : Fin 512) : Ra Yv (ix3 j n l) = geR (Yv (ix3 (⟨n.val / 8, by omega⟩ : Fin 128) (⟨n.val % 8, by omega⟩ : Fin 8) (⟨j.val * 512 + l.val, by omega⟩ : Fin 11312))) := by
  unfold Ra
  pointwise
  rfl
theorem Rq_at (j : Fin 4) (n : Fin 1024) (l : Fin 512) : Rq Yv gq (ix3 j n l) = (Yv (ix3 (⟨n.val / 8, by omega⟩ : Fin 128) (⟨n.val % 8, by omega⟩ : Fin 8) (⟨2048 + (j.val * 512 + l.val / 128 * 128 + l.val % 128), by omega⟩ : Fin 11312)) : EReal) * Ideal.rsqrt (Ideal.div (∑ k : Fin 128, Yv (ix3 (⟨n.val / 8, by omega⟩ : Fin 128) (⟨n.val % 8, by omega⟩ : Fin 8) (⟨2048 + (j.val * 512 + l.val / 128 * 128 + k.val), by omega⟩ : Fin 11312)) * Yv (ix3 (⟨n.val / 8, by omega⟩ : Fin 128) (⟨n.val % 8, by omega⟩ : Fin 8) (⟨2048 + (j.val * 512 + l.val / 128 * 128 + k.val), by omega⟩ : Fin 11312))) (Ideal.ofBits .f32 0x43000000#32) + eps) * gq (ix1 (⟨l.val % 128, by omega⟩ : Fin 128)) := by
  unfold Rq
  pointwise
  rfl
theorem Rg_at (n : Fin 1024) (l : Fin 48) : Rg Yv (ix2 n l) = Ideal.div 1 (1 + Ideal.exp (-(Yv (ix3 (⟨n.val / 8, by omega⟩ : Fin 128) (⟨n.val % 8, by omega⟩ : Fin 8) (⟨7168 + l.val, by omega⟩ : Fin 11312)) : EReal))) := by
  unfold Rg
  pointwise
theorem Rm_at (j : Fin 8) (n : Fin 1024) (l : Fin 512) : Rm Yv (ix3 j n l) = Ideal.div 1 (1 + Ideal.exp (-(Yv (ix3 (⟨n.val / 8, by omega⟩ : Fin 128) (⟨n.val % 8, by omega⟩ : Fin 8) (⟨7216 + (j.val * 512 + l.val), by omega⟩ : Fin 11312)) : EReal))) := by
  unfold Rm
  pointwise

/-- The row of a stacked row's batch and place, put together again. -/
theorem row_eq (n : ℕ) : n / 8 * 8 + n % 8 = n := by omega

theorem YT_congr {n n' l l' : ℕ} (hn : n = n') (hl : l = l') : YT x mo g w n l = YT x mo g w n' l' := by rw [hn, hl]

theorem norm_congr (n : ℕ) {b d L : ℕ} (p : EReal) (s t : Fin 128 → EReal) (hp : p = YT x mo g w n L) (hL : L = b + d)
    (hs : ∀ k, s k = YT x mo g w n (b + k.val)) (ht : ∀ k, t k = YT x mo g w n (b + k.val)) :
    p * Ideal.rsqrt (Ideal.div (∑ k : Fin 128, s k * t k) (Ideal.ofBits .f32 0x43000000#32) + eps) = NT x mo g w n b d := by
  unfold NT
  rw [hp, hL]
  refine congrArg (fun q : EReal => YT x mo g w n (b + d) * Ideal.rsqrt (Ideal.div q _ + eps)) (Finset.sum_congr rfl fun k _ => ?_)
  rw [hs k, ht k]

theorem ref_kc : Rkc (Yr x mo g w) = KC x mo g w 4096 := by
  funext y; idx_vars y
  exact (Rkc_at _ y0 y1 y2 y3).trans ((Yr_at x mo g w _ _ _).trans rfl)
theorem ref_vc : Rvc (Yr x mo g w) = KC x mo g w 4608 := by
  funext y; idx_vars y
  exact (Rvc_at _ y0 y1 y2 y3).trans ((Yr_at x mo g w _ _ _).trans rfl)
theorem ref_vs : Rvs (Yr x mo g w) = KC x mo g w 5632 := by
  funext y; idx_vars y
  exact (Rvs_at _ y0 y1 y2 y3).trans ((Yr_at x mo g w _ _ _).trans rfl)
theorem ref_vw : Rvw (Yr x mo g w) = KC x mo g w 6656 := by
  funext y; idx_vars y
  exact (Rvw_at _ y0 y1 y2 y3).trans ((Yr_at x mo g w _ _ _).trans rfl)
theorem ref_ks : Rks (Yr x mo g w) gk = KN x mo g w 5120 1 gk := by
  funext y; idx_vars y
  refine (Rks_at gk _ y0 y1 y2 y3).trans (congrArg (fun p : EReal => p * gk (ix2 1 y3)) ?_)
  exact norm_congr x mo g w (y0.val * 8 + y1.val) (b := 5120 + y2.val * 128) (d := y3.val) _ _ _ (Yr_at x mo g w _ _ _) (by dsimp only; omega) (fun k => (Yr_at x mo g w _ _ _).trans (YT_congr x mo g w rfl (by dsimp only; omega))) (fun k => (Yr_at x mo g w _ _ _).trans (YT_congr x mo g w rfl (by dsimp only; omega)))
theorem ref_kw : Rkw (Yr x mo g w) gk = KN x mo g w 6144 2 gk := by
  funext y; idx_vars y
  refine (Rkw_at gk _ y0 y1 y2 y3).trans (congrArg (fun p : EReal => p * gk (ix2 2 y3)) ?_)
  exact norm_congr x mo g w (y0.val * 8 + y1.val) (b := 6144 + y2.val * 128) (d := y3.val) _ _ _ (Yr_at x mo g w _ _ _) (by dsimp only; omega) (fun k => (Yr_at x mo g w _ _ _).trans (YT_congr x mo g w rfl (by dsimp only; omega))) (fun k => (Yr_at x mo g w _ _ _).trans (YT_congr x mo g w rfl (by dsimp only; omega)))
theorem ref_a : Ra (Yr x mo g w) = TA x mo g w := by
  funext y; idx_vars y
  refine (Ra_at _ y0 y1 y2).trans ((ge_eq _).symm.trans (congrArg geK ((Yr_at x mo g w _ _ _).trans (YT_congr x mo g w (row_eq y1.val) rfl))))
theorem ref_q : Rq (Yr x mo g w) gq = TQ x mo g w gq := by
  funext y; idx_vars y
  refine (Rq_at gq _ y0 y1 y2).trans (congrArg (fun p : EReal => p * gq (ix1 ⟨y2.val % 128, by omega⟩)) ?_)
  exact norm_congr x mo g w y1.val (b := 2048 + y0.val * 512 + y2.val / 128 * 128) (d := y2.val % 128) _ _ _ ((Yr_at x mo g w _ _ _).trans (YT_congr x mo g w (row_eq y1.val) rfl)) (by dsimp only; omega) (fun k => (Yr_at x mo g w _ _ _).trans (YT_congr x mo g w (row_eq y1.val) (by dsimp only; omega))) (fun k => (Yr_at x mo g w _ _ _).trans (YT_congr x mo g w (row_eq y1.val) (by dsimp only; omega)))
theorem ref_g : Rg (Yr x mo g w) = TG x mo g w := by
  funext y; idx_vars y
  exact (Rg_at _ y0 y1).trans ((sg_eq _).symm.trans (congrArg sgK ((Yr_at x mo g w _ _ _).trans (YT_congr x mo g w (row_eq y0.val) rfl))))
theorem ref_m : Rm (Yr x mo g w) = TM x mo g w := by
  funext y; idx_vars y
  exact (Rm_at _ y0 y1 y2).trans ((sg_eq _).symm.trans (congrArg sgK ((Yr_at x mo g w _ _ _).trans (YT_congr x mo g w (row_eq y1.val) rfl))))

end Cert.SmpReferenceIdeal.Smp
-- ==== Proof.SmpClaim.lean ====
module
public import proofs.«01_k».proof.Defs
public import proofs.«01_k».proof.Proof.SmpRef
public import Idealize.ShloMosaic.Adequacy
public import Idealize.ShloMosaic.Init
@[expose] public section
set_option maxRecDepth 16384
noncomputable section
namespace Cert.SmpKernelIdeal.Smp
open Cert.SmpKernelIdeal Cert.SmpKernelIdeal.Gen Idealize.ShloMosaic Idealize.ShloMosaic.TcCoe Idealize.SL.Sem

variable (m : (ℓ : Loc nD τ sig) → Buf (Elt Ideal) ℓ)

abbrev x0 (c : Dev nD) : FVec Ideal S128x8x2048 .f32 := m ((c.tc : Thread nD τ).loc main_arg0)
abbrev x1 (c : Dev nD) : FVec Ideal S128x6x1x2048 .f32 := m ((c.tc : Thread nD τ).loc main_arg1)
abbrev x2 (c : Dev nD) : FVec Ideal S2048 .f32 := m ((c.tc : Thread nD τ).loc main_arg2)
abbrev x3 (c : Dev nD) : FVec Ideal S2048x11312 .f32 := m ((c.tc : Thread nD τ).loc main_arg3)
abbrev x4 (c : Dev nD) : FVec Ideal S128 .f32 := m ((c.tc : Thread nD τ).loc main_arg4)
abbrev x5 (c : Dev nD) : FVec Ideal S3x128 .f32 := m ((c.tc : Thread nD τ).loc main_arg5)

/-- A run of the kernel's call and its host code ends with the ten results. -/
theorem run_in (ρ : Dev nD → PrngReg) : θ_run (defs (F := Ideal)) (onTc (τ := τ) (main (F := Ideal))) ⟨m, fun _ => 0, ρ⟩ (fun r => ∀ c : Dev nD,
      r.2.mem ((c.tc : Thread nD τ).loc main_v88) = KC (x0 m c) (x1 m c) (x2 m c) (x3 m c) 4096
      ∧ r.2.mem ((c.tc : Thread nD τ).loc main_v91) = KC (x0 m c) (x1 m c) (x2 m c) (x3 m c) 4608
      ∧ r.2.mem ((c.tc : Thread nD τ).loc main_v94) = KN (x0 m c) (x1 m c) (x2 m c) (x3 m c) 5120 1 (x5 m c)
      ∧ r.2.mem ((c.tc : Thread nD τ).loc main_v97) = KC (x0 m c) (x1 m c) (x2 m c) (x3 m c) 5632
      ∧ r.2.mem ((c.tc : Thread nD τ).loc main_v100) = KN (x0 m c) (x1 m c) (x2 m c) (x3 m c) 6144 2 (x5 m c)
      ∧ r.2.mem ((c.tc : Thread nD τ).loc main_v103) = KC (x0 m c) (x1 m c) (x2 m c) (x3 m c) 6656
      ∧ r.2.mem ((c.tc : Thread nD τ).loc main_v104) = TA (x0 m c) (x1 m c) (x2 m c) (x3 m c)
      ∧ r.2.mem ((c.tc : Thread nD τ).loc main_v105) = TQ (x0 m c) (x1 m c) (x2 m c) (x3 m c) (x4 m c)
      ∧ r.2.mem ((c.tc : Thread nD τ).loc main_v108) = TG (x0 m c) (x1 m c) (x2 m c) (x3 m c)
      ∧ r.2.mem ((c.tc : Thread nD τ).loc main_v109) = TM (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨
      ((h.1 c).2 main_v88 (Pipeline.mem_restRefs_of main_v88 (by decide) (by decide))).trans (res_kc m c),
      ((h.1 c).2 main_v91 (Pipeline.mem_restRefs_of main_v91 (by decide) (by decide))).trans (res_vc m c),
      ((h.1 c).2 main_v94 (Pipeline.mem_restRefs_of main_v94 (by decide) (by decide))).trans (res_ks m c),
      ((h.1 c).2 main_v97 (Pipeline.mem_restRefs_of main_v97 (by decide) (by decide))).trans (res_vs m c),
      ((h.1 c).2 main_v100 (Pipeline.mem_restRefs_of main_v100 (by decide) (by decide))).trans (res_kw m c),
      ((h.1 c).2 main_v103 (Pipeline.mem_restRefs_of main_v103 (by decide) (by decide))).trans (res_vw m c),
      ((h.1 c).2 main_v104 (Pipeline.mem_restRefs_of main_v104 (by decide) (by decide))).trans (res_a m c),
      ((h.1 c).2 main_v105 (Pipeline.mem_restRefs_of main_v105 (by decide) (by decide))).trans (res_q m c),
      ((h.1 c).2 main_v108 (Pipeline.mem_restRefs_of main_v108 (by decide) (by decide))).trans (res_g m c),
      ((h.1 c).2 main_v109 (Pipeline.mem_restRefs_of main_v109 (by decide) (by decide))).trans (res_m m c),
      h.2 c⟩) (θ_run_and (Cert.SmpKernelIdeal.Gen.run_main m ρ) (Cert.SmpKernelIdeal.Gen.unchanged m ρ))

end Cert.SmpKernelIdeal.Smp

namespace Cert.SmpReferenceIdeal.Smp
open Cert.SmpReferenceIdeal Cert.SmpReferenceIdeal.Gen Idealize.ShloMosaic Idealize.ShloMosaic.TcCoe Idealize.SL.Sem

variable (m : (ℓ : Loc nD τ sig) → Buf (Elt Ideal) ℓ)

abbrev y0 (c : Dev nD) : FVec Ideal S128x8x2048 .f32 := m ((c.tc : Thread nD τ).loc main_arg0)
abbrev y1 (c : Dev nD) : FVec Ideal S128x6x1x2048 .f32 := m ((c.tc : Thread nD τ).loc main_arg1)
abbrev y2 (c : Dev nD) : FVec Ideal S2048 .f32 := m ((c.tc : Thread nD τ).loc main_arg2)
abbrev y3 (c : Dev nD) : FVec Ideal S2048x11312 .f32 := m ((c.tc : Thread nD τ).loc main_arg3)
abbrev y4 (c : Dev nD) : FVec Ideal S128 .f32 := m ((c.tc : Thread nD τ).loc main_arg4)
abbrev y5 (c : Dev nD) : FVec Ideal S3x128 .f32 := m ((c.tc : Thread nD τ).loc main_arg5)

/-- The reference ends with its arguments as they were; it declares no semaphore. -/
theorem frame : Cert.quiescent_SmpReferenceIdeal := by
  intro m ρ _
  exact (θ_run _ _ _).mono (fun r h => ⟨fun c => (h c).2.2.2.2.2.2.2.2.2.2, sem_eq_zero_of_no_sems (by decide) r.2⟩) (Cert.SmpReferenceIdeal.Value.run m ρ)

/-- The kernel's input projection and the reference's end with the same arrays. -/
theorem value : Cert.algebraic_SmpKernelIdeal_SmpReferenceIdeal := by
  intro m g m' g' _ hargs
  refine ⟨fun c => Cert.SmpKernelIdeal.Smp.KC (Cert.SmpKernelIdeal.Smp.x0 m c) (Cert.SmpKernelIdeal.Smp.x1 m c) (Cert.SmpKernelIdeal.Smp.x2 m c) (Cert.SmpKernelIdeal.Smp.x3 m c) 4096,
    fun c => Cert.SmpKernelIdeal.Smp.KC (Cert.SmpKernelIdeal.Smp.x0 m c) (Cert.SmpKernelIdeal.Smp.x1 m c) (Cert.SmpKernelIdeal.Smp.x2 m c) (Cert.SmpKernelIdeal.Smp.x3 m c) 4608,
    fun c => Cert.SmpKernelIdeal.Smp.KN (Cert.SmpKernelIdeal.Smp.x0 m c) (Cert.SmpKernelIdeal.Smp.x1 m c) (Cert.SmpKernelIdeal.Smp.x2 m c) (Cert.SmpKernelIdeal.Smp.x3 m c) 5120 1 (Cert.SmpKernelIdeal.Smp.x5 m c),
    fun c => Cert.SmpKernelIdeal.Smp.KC (Cert.SmpKernelIdeal.Smp.x0 m c) (Cert.SmpKernelIdeal.Smp.x1 m c) (Cert.SmpKernelIdeal.Smp.x2 m c) (Cert.SmpKernelIdeal.Smp.x3 m c) 5632,
    fun c => Cert.SmpKernelIdeal.Smp.KN (Cert.SmpKernelIdeal.Smp.x0 m c) (Cert.SmpKernelIdeal.Smp.x1 m c) (Cert.SmpKernelIdeal.Smp.x2 m c) (Cert.SmpKernelIdeal.Smp.x3 m c) 6144 2 (Cert.SmpKernelIdeal.Smp.x5 m c),
    fun c => Cert.SmpKernelIdeal.Smp.KC (Cert.SmpKernelIdeal.Smp.x0 m c) (Cert.SmpKernelIdeal.Smp.x1 m c) (Cert.SmpKernelIdeal.Smp.x2 m c) (Cert.SmpKernelIdeal.Smp.x3 m c) 6656,
    fun c => Cert.SmpKernelIdeal.Smp.TA (Cert.SmpKernelIdeal.Smp.x0 m c) (Cert.SmpKernelIdeal.Smp.x1 m c) (Cert.SmpKernelIdeal.Smp.x2 m c) (Cert.SmpKernelIdeal.Smp.x3 m c),
    fun c => Cert.SmpKernelIdeal.Smp.TQ (Cert.SmpKernelIdeal.Smp.x0 m c) (Cert.SmpKernelIdeal.Smp.x1 m c) (Cert.SmpKernelIdeal.Smp.x2 m c) (Cert.SmpKernelIdeal.Smp.x3 m c) (Cert.SmpKernelIdeal.Smp.x4 m c),
    fun c => Cert.SmpKernelIdeal.Smp.TG (Cert.SmpKernelIdeal.Smp.x0 m c) (Cert.SmpKernelIdeal.Smp.x1 m c) (Cert.SmpKernelIdeal.Smp.x2 m c) (Cert.SmpKernelIdeal.Smp.x3 m c),
    fun c => Cert.SmpKernelIdeal.Smp.TM (Cert.SmpKernelIdeal.Smp.x0 m c) (Cert.SmpKernelIdeal.Smp.x1 m c) (Cert.SmpKernelIdeal.Smp.x2 m c) (Cert.SmpKernelIdeal.Smp.x3 m c),
    Cert.SmpKernelIdeal.Smp.run_in m g, ?_⟩
  refine (θ_run _ _ _).mono (fun r h c => ?_) (Cert.SmpReferenceIdeal.Value.run m' g')
  have e := hargs c
  have a0 : y0 m' c = Cert.SmpKernelIdeal.Smp.x0 m c := e.1
  have a1 : y1 m' c = Cert.SmpKernelIdeal.Smp.x1 m c := e.2.1
  have a2 : y2 m' c = Cert.SmpKernelIdeal.Smp.x2 m c := e.2.2.1
  have a3 : y3 m' c = Cert.SmpKernelIdeal.Smp.x3 m c := e.2.2.2.1
  have a4 : y4 m' c = Cert.SmpKernelIdeal.Smp.x4 m c := e.2.2.2.2.1
  have a5 : y5 m' c = Cert.SmpKernelIdeal.Smp.x5 m c := e.2.2.2.2.2
  obtain ⟨h0, h1, h2, h3, h4, h5, h6, h7, h8, h9, hr⟩ := h c
  refine ⟨h0.trans ((ref_kc (y0 m' c) (y1 m' c) (y2 m' c) (y3 m' c)).trans ?_), h1.trans ((ref_vc (y0 m' c) (y1 m' c) (y2 m' c) (y3 m' c)).trans ?_), h2.trans ((ref_ks (y0 m' c) (y1 m' c) (y2 m' c) (y3 m' c) (y5 m' c)).trans ?_), h3.trans ((ref_vs (y0 m' c) (y1 m' c) (y2 m' c) (y3 m' c)).trans ?_),
    h4.trans ((ref_kw (y0 m' c) (y1 m' c) (y2 m' c) (y3 m' c) (y5 m' c)).trans ?_), h5.trans ((ref_vw (y0 m' c) (y1 m' c) (y2 m' c) (y3 m' c)).trans ?_), h6.trans ((ref_a (y0 m' c) (y1 m' c) (y2 m' c) (y3 m' c)).trans ?_), h7.trans ((ref_q (y0 m' c) (y1 m' c) (y2 m' c) (y3 m' c) (y4 m' c)).trans ?_),
    h8.trans ((ref_g (y0 m' c) (y1 m' c) (y2 m' c) (y3 m' c)).trans ?_), h9.trans ((ref_m (y0 m' c) (y1 m' c) (y2 m' c) (y3 m' c)).trans ?_), hr⟩
  all_goals (first | rw [a0, a1, a2, a3, a4] | rw [a0, a1, a2, a3, a5] | rw [a0, a1, a2, a3])

end Cert.SmpReferenceIdeal.Smp
-- ==== Proof.MixVal.lean ====
module
public import proofs.«01_k».proof.Proof.Gen.MixKernelIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.MixKernelIdeal.Mix
open Cert.MixKernelIdeal Cert.MixKernelIdeal.Gen Idealize.ShloMosaic Idealize.ShloMosaic.TcCoe Idealize.SL.Sem
open Idealize.ShloMosaic.Pipeline (Dat)

/-- The mean of a row. -/
def mean (r : Fin 1024 → EReal) : EReal := Ideal.div (∑ k : Fin 1024, r k) (Ideal.ofBits .f32 0x44800000#32)

/-- A row less its mean, over the root of its variance, with a gain and an offset. -/
def LN (r g b : Fin 1024 → EReal) (q : Fin 1024) : EReal :=
  (r q - mean r) * Ideal.rsqrt (mean (fun k => (r k - mean r) * (r k - mean r)) + Ideal.ofBits .f32 0x358637BD#32) * g q + b q

/-- A row of two tiles of 512 columns. -/
def CB (a b : FVec Ideal S1x128x512 .f32) (n : Fin 128) (q : Fin 1024) : EReal :=
  if h : q.val < 512 then a (ix3 0 n ⟨q.val, h⟩) else b (ix3 0 n ⟨q.val - 512, by omega⟩)

/-- Two tiles of 512 columns side by side. -/
def cv (a b : FVec Ideal S128x512 .f32) (n : Fin 128) (q : Fin 1024) : EReal :=
  if h : q.val < 512 then a (ix2 n ⟨q.val, h⟩) else b (ix2 n ⟨q.val - 512, by omega⟩)

theorem cat_eq (a b : FVec Ideal S128x512 .f32) : concatenate S128x1024 1 [⟨S128x512, a⟩, ⟨S128x512, b⟩] concatenates_S128x512_S128x512_S128x1024_d1
    = (fun y => cv a b (y 0) (y 1) : FVec Ideal S128x1024 .f32) := by
  funext y; idx_vars y
  show _ = cv a b y0 y1
  unfold cv
  pointwise

theorem cv_at (a b : FVec Ideal S1x128x512 .f32) (n : Fin 128) (q : Fin 1024) : cv (shapeCast S128x512 a shapeCasts_S1x128x512_S128x512) (shapeCast S128x512 b shapeCasts_S1x128x512_S128x512) n q = CB a b n q := by
  unfold cv CB
  split
  · pointwise
  · pointwise

theorem pay6 (a b : FVec Ideal S1x128x512 .f32) : (k0_pay6 (F := Ideal) (k0_pay5 a) b) = (fun y => CB a b (y 0) (y 1) : FVec Ideal S128x1024 .f32) := by
  unfold k0_pay6 k0_pay5
  dsimp only
  rw [cat_eq]
  funext y
  exact cv_at a b _ _

/-- The normed rows of a block. -/
def LB (a b : FVec Ideal S1x128x512 .f32) (g o : FVec Ideal S1x1024 .f32) (n : Fin 128) (q : Fin 1024) : EReal :=
  LN (CB a b n) (fun k => g (ix2 0 k)) (fun k => o (ix2 0 k)) q

theorem pay4 (a b : FVec Ideal S1x128x512 .f32) (g o : FVec Ideal S1x1024 .f32) : (k0_pay4 (F := Ideal) a b g o) = (fun y => LB a b g o (y 0) (y 1) : FVec Ideal S128x1024 .f32) := by
  unfold k0_pay4
  dsimp only
  rw [cat_eq]
  have e : (fun y => cv (shapeCast S128x512 a shapeCasts_S1x128x512_S128x512) (shapeCast S128x512 b shapeCasts_S1x128x512_S128x512) (y 0) (y 1) : FVec Ideal S128x1024 .f32) = (fun y => CB a b (y 0) (y 1)) := funext fun y => cv_at a b _ _
  rw [e]
  unfold LB
  generalize CB a b = r
  funext y; idx_vars y
  show _ = LN (r y0) (fun k => g (ix2 0 k)) (fun k => o (ix2 0 k)) y1
  unfold LN mean
  pointwise

/-- An entry of the mixed block: the row's mix with the group's weights, offset, times the first half. -/
def GB (u v : Fin 128 → Fin 1024 → EReal) (w : FVec Ideal S8x128x128 .bf16) (o : FVec Ideal S8x128x128 .f32) (n : Fin 128) (q : Fin 1024) : EReal :=
  u n q * ((∑ k : Fin 128, w (ix3 ⟨q.val / 128, by omega⟩ n k) * v k q) + o (ix3 ⟨q.val / 128, by omega⟩ n ⟨q.val % 128, by omega⟩))

/-- The first half, the normed half and its copy in half precision, as the body names them. -/
def UV (a b : FVec Ideal S1x128x512 .f32) : FVec Ideal S128x1024 .f32 := fun y => CB a b (y 0) (y 1)
def VV (a b : FVec Ideal S1x128x512 .f32) (g o : FVec Ideal S1x1024 .f32) : FVec Ideal S128x1024 .f32 := fun y => LB a b g o (y 0) (y 1)
def VH (a b : FVec Ideal S1x128x512 .f32) (g o : FVec Ideal S1x1024 .f32) : FVec Ideal S128x1024 .bf16 := fun y => LB a b g o (y 0) (y 1)

theorem pay7 (v : FVec Ideal S128x1024 .f32) : k0_pay7 (F := Ideal) v = (fun y => v y : FVec Ideal S128x1024 .bf16) := by
  funext y; idx_vars y
  pointwise [k0_pay7]

theorem g3 (u : FVec Ideal S128x1024 .f32) (v : FVec Ideal S128x1024 .bf16) (w : FVec Ideal S1x128x128 .bf16) (o : FVec Ideal S1x128x128 .f32) (n l : Fin 128) :
    (k0_pay13 (F := Ideal) u v w o (ix2 n l) : EReal) = u (ix2 n ⟨384 + l.val, by omega⟩) * ((∑ k : Fin 128, w (ix3 0 n k) * v (ix2 k ⟨384 + l.val, by omega⟩)) + o (ix3 0 n l)) := by
  pointwise [k0_pay13]

theorem g4 (u : FVec Ideal S128x1024 .f32) (v : FVec Ideal S128x1024 .bf16) (w : FVec Ideal S1x128x128 .bf16) (o : FVec Ideal S1x128x128 .f32) (n l : Fin 128) :
    (k0_pay14 (F := Ideal) u v w o (ix2 n l) : EReal) = u (ix2 n ⟨512 + l.val, by omega⟩) * ((∑ k : Fin 128, w (ix3 0 n k) * v (ix2 k ⟨512 + l.val, by omega⟩)) + o (ix3 0 n l)) := by
  pointwise [k0_pay14]

theorem g5 (u : FVec Ideal S128x1024 .f32) (v : FVec Ideal S128x1024 .bf16) (w : FVec Ideal S1x128x128 .bf16) (o : FVec Ideal S1x128x128 .f32) (n l : Fin 128) :
    (k0_pay1 (F := Ideal) u (k0_pay15 v w) o (ix2 n l) : EReal) = u (ix2 n ⟨640 + l.val, by omega⟩) * ((∑ k : Fin 128, w (ix3 0 n k) * v (ix2 k ⟨640 + l.val, by omega⟩)) + o (ix3 0 n l)) := by
  pointwise [k0_pay1, k0_pay15]

theorem g6 (u : FVec Ideal S128x1024 .f32) (v : FVec Ideal S128x1024 .bf16) (w : FVec Ideal S1x128x128 .bf16) (o : FVec Ideal S1x128x128 .f32) (n l : Fin 128) :
    (k0_pay2 (F := Ideal) u v w o (ix2 n l) : EReal) = u (ix2 n ⟨768 + l.val, by omega⟩) * ((∑ k : Fin 128, w (ix3 0 n k) * v (ix2 k ⟨768 + l.val, by omega⟩)) + o (ix3 0 n l)) := by
  pointwise [k0_pay2]

theorem g7 (u : FVec Ideal S128x1024 .f32) (v : FVec Ideal S128x1024 .bf16) (w : FVec Ideal S1x128x128 .bf16) (o : FVec Ideal S1x128x128 .f32) (n l : Fin 128) :
    (k0_pay3 (F := Ideal) u v w o (ix2 n l) : EReal) = u (ix2 n ⟨896 + l.val, by omega⟩) * ((∑ k : Fin 128, w (ix3 0 n k) * v (ix2 k ⟨896 + l.val, by omega⟩)) + o (ix3 0 n l)) := by
  pointwise [k0_pay3]

theorem g0 (v : FVec Ideal S128x1024 .f32) (a : FVec Ideal S128x512 .f32) (b : FVec Ideal S1x128x512 .f32) (w : FVec Ideal S1x128x128 .bf16) (o : FVec Ideal S1x128x128 .f32) (n l : Fin 128) :
    (k0_pay8 (F := Ideal) v a b w o (ix2 n l) : EReal) = k0_pay6 a b (ix2 n ⟨0 + l.val, by omega⟩) * ((∑ k : Fin 128, w (ix3 0 n k) * k0_pay7 v (ix2 k ⟨0 + l.val, by omega⟩)) + o (ix3 0 n l)) := by
  unfold k0_pay8
  generalize k0_pay6 (F := Ideal) a b = u
  generalize k0_pay7 (F := Ideal) v = x
  pointwise

theorem g1 (v : FVec Ideal S128x1024 .f32) (a : FVec Ideal S128x512 .f32) (b : FVec Ideal S1x128x512 .f32) (w : FVec Ideal S1x128x128 .bf16) (o : FVec Ideal S1x128x128 .f32) (n l : Fin 128) :
    (k0_pay9 (F := Ideal) v a b w o (ix2 n l) : EReal) = k0_pay6 a b (ix2 n ⟨128 + l.val, by omega⟩) * ((∑ k : Fin 128, w (ix3 0 n k) * k0_pay7 v (ix2 k ⟨128 + l.val, by omega⟩)) + o (ix3 0 n l)) := by
  unfold k0_pay9
  generalize k0_pay6 (F := Ideal) a b = u
  generalize k0_pay7 (F := Ideal) v = x
  pointwise

theorem g2 (v : FVec Ideal S128x1024 .f32) (a : FVec Ideal S128x512 .f32) (b : FVec Ideal S1x128x512 .f32) (w : FVec Ideal S1x128x128 .bf16) (o : FVec Ideal S1x128x128 .f32) (n l : Fin 128) :
    (k0_pay12 (F := Ideal) (k0_pay10 v w o) (k0_pay11 a b) (ix2 n l) : EReal) = k0_pay6 a b (ix2 n ⟨256 + l.val, by omega⟩) * ((∑ k : Fin 128, w (ix3 0 n k) * k0_pay7 v (ix2 k ⟨256 + l.val, by omega⟩)) + o (ix3 0 n l)) := by
  unfold k0_pay12 k0_pay10 k0_pay11
  generalize k0_pay6 (F := Ideal) a b = u
  generalize k0_pay7 (F := Ideal) v = x
  pointwise

theorem lw0 (x : FVec Ideal S8x128x128 .bf16) (n k : Fin 128) : (View.ld (Val := Elt Ideal) (e' := .bf16) x r0_3 (ix3 0 n k) : EReal) = x (ix3 0 n k) := by
  pointwise
theorem lo0 (x : FVec Ideal S8x128x128 .f32) (n k : Fin 128) : (View.ld (Val := Elt Ideal) (e' := .f32) x r0_3 (ix3 0 n k) : EReal) = x (ix3 0 n k) := by
  pointwise
theorem lw1 (x : FVec Ideal S8x128x128 .bf16) (n k : Fin 128) : (View.ld (Val := Elt Ideal) (e' := .bf16) x r0_5 (ix3 0 n k) : EReal) = x (ix3 1 n k) := by
  pointwise
theorem lo1 (x : FVec Ideal S8x128x128 .f32) (n k : Fin 128) : (View.ld (Val := Elt Ideal) (e' := .f32) x r0_5 (ix3 0 n k) : EReal) = x (ix3 1 n k) := by
  pointwise
theorem lw2 (x : FVec Ideal S8x128x128 .bf16) (n k : Fin 128) : (View.ld (Val := Elt Ideal) (e' := .bf16) x r0_7 (ix3 0 n k) : EReal) = x (ix3 2 n k) := by
  pointwise
theorem lo2 (x : FVec Ideal S8x128x128 .f32) (n k : Fin 128) : (View.ld (Val := Elt Ideal) (e' := .f32) x r0_7 (ix3 0 n k) : EReal) = x (ix3 2 n k) := by
  pointwise
theorem lw3 (x : FVec Ideal S8x128x128 .bf16) (n k : Fin 128) : (View.ld (Val := Elt Ideal) (e' := .bf16) x r0_9 (ix3 0 n k) : EReal) = x (ix3 3 n k) := by
  pointwise
theorem lo3 (x : FVec Ideal S8x128x128 .f32) (n k : Fin 128) : (View.ld (Val := Elt Ideal) (e' := .f32) x r0_9 (ix3 0 n k) : EReal) = x (ix3 3 n k) := by
  pointwise
theorem lw4 (x : FVec Ideal S8x128x128 .bf16) (n k : Fin 128) : (View.ld (Val := Elt Ideal) (e' := .bf16) x r0_11 (ix3 0 n k) : EReal) = x (ix3 4 n k) := by
  pointwise
theorem lo4 (x : FVec Ideal S8x128x128 .f32) (n k : Fin 128) : (View.ld (Val := Elt Ideal) (e' := .f32) x r0_11 (ix3 0 n k) : EReal) = x (ix3 4 n k) := by
  pointwise
theorem lw5 (x : FVec Ideal S8x128x128 .bf16) (n k : Fin 128) : (View.ld (Val := Elt Ideal) (e' := .bf16) x r0_13 (ix3 0 n k) : EReal) = x (ix3 5 n k) := by
  pointwise
theorem lo5 (x : FVec Ideal S8x128x128 .f32) (n k : Fin 128) : (View.ld (Val := Elt Ideal) (e' := .f32) x r0_13 (ix3 0 n k) : EReal) = x (ix3 5 n k) := by
  pointwise
theorem lw6 (x : FVec Ideal S8x128x128 .bf16) (n k : Fin 128) : (View.ld (Val := Elt Ideal) (e' := .bf16) x r0_15 (ix3 0 n k) : EReal) = x (ix3 6 n k) := by
  pointwise
theorem lo6 (x : FVec Ideal S8x128x128 .f32) (n k : Fin 128) : (View.ld (Val := Elt Ideal) (e' := .f32) x r0_15 (ix3 0 n k) : EReal) = x (ix3 6 n k) := by
  pointwise
theorem lw7 (x : FVec Ideal S8x128x128 .bf16) (n k : Fin 128) : (View.ld (Val := Elt Ideal) (e' := .bf16) x r0_17 (ix3 0 n k) : EReal) = x (ix3 7 n k) := by
  pointwise
theorem lo7 (x : FVec Ideal S8x128x128 .f32) (n k : Fin 128) : (View.ld (Val := Elt Ideal) (e' := .f32) x r0_17 (ix3 0 n k) : EReal) = x (ix3 7 n k) := by
  pointwise
theorem ld0 (x : FVec Ideal S1x128x512 .f32) : View.ld (Val := Elt Ideal) (e' := .f32) x r0_0 = x := by
  funext y; idx_vars y
  pointwise
  rw [Subsingleton.elim y0 0]
theorem ld1 (x : FVec Ideal S1x1024 .f32) : View.ld (Val := Elt Ideal) (e' := .f32) x r0_1 = x := by
  funext y; idx_vars y
  pointwise
  rw [Subsingleton.elim y0 0]

section
variable (x0 x1 x2 x3 : FVec Ideal S1x128x512 .f32) (x4 x5 : FVec Ideal S1x1024 .f32) (x6 : FVec Ideal S8x128x128 .bf16) (x7 : FVec Ideal S8x128x128 .f32)

theorem pay16 : k0_pay16 (F := Ideal) x0 x1 x2 x3 x4 x5 x6 x7 = VV x2 x3 x4 x5 := by
  unfold k0_pay16
  rw [ld0, ld0, ld1, ld1, pay4]
  rfl
theorem pay18 : k0_pay18 (F := Ideal) x0 x1 x2 x3 x4 x5 x6 x7 = UV x0 x1 := by
  unfold k0_pay18 k0_pay17
  rw [ld0, ld0, pay6]
  rfl
theorem pay19 : k0_pay19 (F := Ideal) x0 x1 x2 x3 x4 x5 x6 x7 = VH x2 x3 x4 x5 := by
  unfold k0_pay19
  rw [pay16, pay7]
  rfl
theorem pay617 : k0_pay6 (F := Ideal) (k0_pay17 x0 x1 x2 x3 x4 x5 x6 x7) (View.ld x1 r0_0) = UV x0 x1 := by
  unfold k0_pay17
  rw [ld0, ld0, pay6]
  rfl

/-- The block of mixed rows. -/
def G8 : FVec Ideal S128x1024 .bf16 := fun y => GB (CB x0 x1) (LB x2 x3 x4 x5) x6 x7 (y 0) (y 1)

/-- A piece of a group's 128 columns is the group's part of the block. -/
theorem piece (g : Fin 8) (n l : Fin 128) (w : FVec Ideal S1x128x128 .bf16) (o : FVec Ideal S1x128x128 .f32) (hw : ∀ k, (w (ix3 0 n k) : EReal) = x6 (ix3 g n k)) (ho : (o (ix3 0 n l) : EReal) = x7 (ix3 g n l))
    (e : ℕ) (he : e = 128 * g.val) (hl : e + l.val < 1024) :
    (UV x0 x1 (ix2 n ⟨e + l.val, hl⟩) : EReal) * ((∑ k : Fin 128, w (ix3 0 n k) * VH x2 x3 x4 x5 (ix2 k ⟨e + l.val, hl⟩)) + o (ix3 0 n l)) = GB (CB x0 x1) (LB x2 x3 x4 x5) x6 x7 n ⟨e + l.val, hl⟩ := by
  subst he
  have hg : (⟨(128 * g.val + l.val) / 128, by omega⟩ : Fin 8) = g := Fin.ext (by dsimp only; omega)
  have hm : (⟨(128 * g.val + l.val) % 128, by omega⟩ : Fin 128) = l := Fin.ext (by dsimp only; omega)
  unfold GB
  simp only [hg, hm]
  rw [ho]
  refine congrArg (fun q : EReal => _ * (q + _)) (Finset.sum_congr rfl fun k _ => ?_)
  rw [hw k]
  rfl

theorem p0 (z : S128x128.Idx) : (k0_pay8 (F := Ideal) (k0_pay16 x0 x1 x2 x3 x4 x5 x6 x7) (k0_pay17 x0 x1 x2 x3 x4 x5 x6 x7) (View.ld x1 r0_0) (View.ld x6 r0_3) (View.ld x7 r0_3) z : EReal) = G8 x0 x1 x2 x3 x4 x5 x6 x7 (r0_4.idx z) := by
  idx_vars z
  have hx : r0_4.idx (ix2 z0 z1) = ix2 z0 (⟨0 + z1.val, by omega⟩ : Fin 1024) := by
    funext a; apply Fin.ext; fin_cases a
    · show 0 + 1 * z0.val = z0.val; omega
    · show 0 + 1 * z1.val = 0 + z1.val; omega
  rw [hx, g0, pay617, pay16, pay7]
  exact piece x0 x1 x2 x3 x4 x5 x6 x7 0 z0 z1 _ _ (fun k => lw0 x6 _ k) (lo0 x7 _ _) 0 rfl _
theorem p1 (z : S128x128.Idx) : (k0_pay9 (F := Ideal) (k0_pay16 x0 x1 x2 x3 x4 x5 x6 x7) (k0_pay17 x0 x1 x2 x3 x4 x5 x6 x7) (View.ld x1 r0_0) (View.ld x6 r0_5) (View.ld x7 r0_5) z : EReal) = G8 x0 x1 x2 x3 x4 x5 x6 x7 (r0_6.idx z) := by
  idx_vars z
  have hx : r0_6.idx (ix2 z0 z1) = ix2 z0 (⟨128 + z1.val, by omega⟩ : Fin 1024) := by
    funext a; apply Fin.ext; fin_cases a
    · show 0 + 1 * z0.val = z0.val; omega
    · show 128 + 1 * z1.val = 128 + z1.val; omega
  rw [hx, g1, pay617, pay16, pay7]
  exact piece x0 x1 x2 x3 x4 x5 x6 x7 1 z0 z1 _ _ (fun k => lw1 x6 _ k) (lo1 x7 _ _) 128 rfl _
theorem p2 (z : S128x128.Idx) : (k0_pay12 (F := Ideal) (k0_pay10 (k0_pay16 x0 x1 x2 x3 x4 x5 x6 x7) (View.ld x6 r0_7) (View.ld x7 r0_7)) (k0_pay11 (k0_pay17 x0 x1 x2 x3 x4 x5 x6 x7) (View.ld x1 r0_0)) z : EReal) = G8 x0 x1 x2 x3 x4 x5 x6 x7 (r0_8.idx z) := by
  idx_vars z
  have hx : r0_8.idx (ix2 z0 z1) = ix2 z0 (⟨256 + z1.val, by omega⟩ : Fin 1024) := by
    funext a; apply Fin.ext; fin_cases a
    · show 0 + 1 * z0.val = z0.val; omega
    · show 256 + 1 * z1.val = 256 + z1.val; omega
  rw [hx, g2, pay617, pay16, pay7]
  exact piece x0 x1 x2 x3 x4 x5 x6 x7 2 z0 z1 _ _ (fun k => lw2 x6 _ k) (lo2 x7 _ _) 256 rfl _
theorem p3 (z : S128x128.Idx) : (k0_pay13 (F := Ideal) (k0_pay18 x0 x1 x2 x3 x4 x5 x6 x7) (k0_pay19 x0 x1 x2 x3 x4 x5 x6 x7) (View.ld x6 r0_9) (View.ld x7 r0_9) z : EReal) = G8 x0 x1 x2 x3 x4 x5 x6 x7 (r0_10.idx z) := by
  idx_vars z
  have hx : r0_10.idx (ix2 z0 z1) = ix2 z0 (⟨384 + z1.val, by omega⟩ : Fin 1024) := by
    funext a; apply Fin.ext; fin_cases a
    · show 0 + 1 * z0.val = z0.val; omega
    · show 384 + 1 * z1.val = 384 + z1.val; omega
  rw [hx, g3, pay18, pay19]
  exact piece x0 x1 x2 x3 x4 x5 x6 x7 3 z0 z1 _ _ (fun k => lw3 x6 _ k) (lo3 x7 _ _) 384 rfl _
theorem p4 (z : S128x128.Idx) : (k0_pay14 (F := Ideal) (k0_pay18 x0 x1 x2 x3 x4 x5 x6 x7) (k0_pay19 x0 x1 x2 x3 x4 x5 x6 x7) (View.ld x6 r0_11) (View.ld x7 r0_11) z : EReal) = G8 x0 x1 x2 x3 x4 x5 x6 x7 (r0_12.idx z) := by
  idx_vars z
  have hx : r0_12.idx (ix2 z0 z1) = ix2 z0 (⟨512 + z1.val, by omega⟩ : Fin 1024) := by
    funext a; apply Fin.ext; fin_cases a
    · show 0 + 1 * z0.val = z0.val; omega
    · show 512 + 1 * z1.val = 512 + z1.val; omega
  rw [hx, g4, pay18, pay19]
  exact piece x0 x1 x2 x3 x4 x5 x6 x7 4 z0 z1 _ _ (fun k => lw4 x6 _ k) (lo4 x7 _ _) 512 rfl _
theorem p5 (z : S128x128.Idx) : (k0_pay1 (F := Ideal) (k0_pay18 x0 x1 x2 x3 x4 x5 x6 x7) (k0_pay15 (k0_pay19 x0 x1 x2 x3 x4 x5 x6 x7) (View.ld x6 r0_13)) (View.ld x7 r0_13) z : EReal) = G8 x0 x1 x2 x3 x4 x5 x6 x7 (r0_14.idx z) := by
  idx_vars z
  have hx : r0_14.idx (ix2 z0 z1) = ix2 z0 (⟨640 + z1.val, by omega⟩ : Fin 1024) := by
    funext a; apply Fin.ext; fin_cases a
    · show 0 + 1 * z0.val = z0.val; omega
    · show 640 + 1 * z1.val = 640 + z1.val; omega
  rw [hx, g5, pay18, pay19]
  exact piece x0 x1 x2 x3 x4 x5 x6 x7 5 z0 z1 _ _ (fun k => lw5 x6 _ k) (lo5 x7 _ _) 640 rfl _
theorem p6 (z : S128x128.Idx) : (k0_pay2 (F := Ideal) (k0_pay18 x0 x1 x2 x3 x4 x5 x6 x7) (k0_pay19 x0 x1 x2 x3 x4 x5 x6 x7) (View.ld x6 r0_15) (View.ld x7 r0_15) z : EReal) = G8 x0 x1 x2 x3 x4 x5 x6 x7 (r0_16.idx z) := by
  idx_vars z
  have hx : r0_16.idx (ix2 z0 z1) = ix2 z0 (⟨768 + z1.val, by omega⟩ : Fin 1024) := by
    funext a; apply Fin.ext; fin_cases a
    · show 0 + 1 * z0.val = z0.val; omega
    · show 768 + 1 * z1.val = 768 + z1.val; omega
  rw [hx, g6, pay18, pay19]
  exact piece x0 x1 x2 x3 x4 x5 x6 x7 6 z0 z1 _ _ (fun k => lw6 x6 _ k) (lo6 x7 _ _) 768 rfl _
theorem p7 (z : S128x128.Idx) : (k0_pay3 (F := Ideal) (k0_pay18 x0 x1 x2 x3 x4 x5 x6 x7) (k0_pay19 x0 x1 x2 x3 x4 x5 x6 x7) (View.ld x6 r0_17) (View.ld x7 r0_17) z : EReal) = G8 x0 x1 x2 x3 x4 x5 x6 x7 (r0_18.idx z) := by
  idx_vars z
  have hx : r0_18.idx (ix2 z0 z1) = ix2 z0 (⟨896 + z1.val, by omega⟩ : Fin 1024) := by
    funext a; apply Fin.ext; fin_cases a
    · show 0 + 1 * z0.val = z0.val; omega
    · show 896 + 1 * z1.val = 896 + z1.val; omega
  rw [hx, g7, pay18, pay19]
  exact piece x0 x1 x2 x3 x4 x5 x6 x7 7 z0 z1 _ _ (fun k => lw7 x6 _ k) (lo7 x7 _ _) 896 rfl _

theorem out8 : out0_8 (F := Ideal) x0 x1 x2 x3 x4 x5 x6 x7 = G8 x0 x1 x2 x3 x4 x5 x6 x7 := by
  funext y
  unfold out0_8
  refine View.canon_apply_of_pieces (Val := Elt Ideal) (G8 x0 x1 x2 x3 x4 x5 x6 x7) _ ?_ y (cover0_8 _ _ _ _ _ _ _ _ y)
  intro pc hpc
  rcases List.mem_cons.mp hpc with rfl | hpc
  · exact fun z => p7 x0 x1 x2 x3 x4 x5 x6 x7 z
  rcases List.mem_cons.mp hpc with rfl | hpc
  · exact fun z => p6 x0 x1 x2 x3 x4 x5 x6 x7 z
  rcases List.mem_cons.mp hpc with rfl | hpc
  · exact fun z => p5 x0 x1 x2 x3 x4 x5 x6 x7 z
  rcases List.mem_cons.mp hpc with rfl | hpc
  · exact fun z => p4 x0 x1 x2 x3 x4 x5 x6 x7 z
  rcases List.mem_cons.mp hpc with rfl | hpc
  · exact fun z => p3 x0 x1 x2 x3 x4 x5 x6 x7 z
  rcases List.mem_cons.mp hpc with rfl | hpc
  · exact fun z => p2 x0 x1 x2 x3 x4 x5 x6 x7 z
  rcases List.mem_cons.mp hpc with rfl | hpc
  · exact fun z => p1 x0 x1 x2 x3 x4 x5 x6 x7 z
  rcases List.mem_cons.mp hpc with rfl | hpc
  · exact fun z => p0 x0 x1 x2 x3 x4 x5 x6 x7 z
  nomatch hpc

theorem out9 : out0_9 (F := Ideal) x0 x1 x2 x3 x4 x5 x6 x7 = VV x2 x3 x4 x5 := by
  funext y
  unfold out0_9
  refine View.canon_apply_of_pieces (Val := Elt Ideal) (VV x2 x3 x4 x5) _ ?_ y (cover0_9 _ y)
  intro pc hpc
  rcases List.mem_cons.mp hpc with rfl | hpc
  · intro z
    idx_vars z
    have hx : r0_2.idx (ix2 z0 z1) = ix2 z0 z1 := by
      funext a; apply Fin.ext; fin_cases a
      · show 0 + 1 * z0.val = z0.val; omega
      · show 0 + 1 * z1.val = z1.val; omega
    show k0_pay4 _ _ _ _ (ix2 z0 z1) = VV x2 x3 x4 x5 (r0_2.idx (ix2 z0 z1))
    rw [hx, ld0, ld0, ld1, ld1, pay4]
    rfl
  nomatch hpc
end
end Cert.MixKernelIdeal.Mix
-- ==== Proof.MixArr.lean ====
module
public import proofs.«01_k».proof.Proof.MixVal
@[expose] public section
set_option maxRecDepth 16384
noncomputable section
namespace Cert.MixKernelIdeal.Mix
open Cert.MixKernelIdeal Cert.MixKernelIdeal.Gen Idealize.ShloMosaic Idealize.ShloMosaic.TcCoe Idealize.SL.Sem
open Idealize.ShloMosaic.Pipeline (Dat)

/-- The lower triangle of each group's weights. -/
def TR (w : FVec Ideal S8x128x128 .f32) : FVec Ideal S8x128x128 .f32 :=
  select (broadcastInDim S8x128x128 ![1, 2] bcast_S128x128_S8x128x128_1_2 (cmpi .sge (addi (iotaInDim S128x128 32 0) (broadcastInDim S128x128 ![] bcast_S_S128x128 (constantI S_ 32 0#32))) (iotaInDim S128x128 32 1))) w (broadcastInDim S8x128x128 ![] bcast_S_S8x128x128 (constant S_ .f32 0x00000000#32))

section
variable (p : FVec Ideal S23x8192x512 .f32) (g b : FVec Ideal S1024 .f32) (w : FVec Ideal S8x128x128 .f32) (o : FVec Ideal S8x128 .f32)

/-- Two tiles of the projection, from tile `j`, side by side. -/
def PR (j : Fin 22) (n : Fin 8192) (q : Fin 1024) : EReal := p (ix3 ⟨j.val + q.val / 512, by omega⟩ n ⟨q.val % 512, by omega⟩)

/-- The normed second half at a row and a column. -/
def VN (n : Fin 8192) (q : Fin 1024) : EReal := LN (PR p 2 n) (fun k => g (ix1 k)) (fun k => b (ix1 k)) q

/-- The mixed rows at a row and a column. -/
def YM (n : Fin 8192) (q : Fin 1024) : EReal :=
  PR p 0 n q * ((∑ k : Fin 128, TR w (ix3 ⟨q.val / 128, by omega⟩ ⟨n.val % 128, by omega⟩ k) * VN p g b ⟨n.val / 128 * 128 + k.val, by omega⟩ q) + o (ix2 ⟨q.val / 128, by omega⟩ ⟨n.val % 128, by omega⟩))

/-- The mixed rows, and the last chunk of the normed half of each sequence. -/
def YA : FVec Ideal S8192x1024 .bf16 := fun y => YM p g b w o (y 0) (y 1)
def VC : FVec Ideal S256x1024 .f32 := fun y => VN p g b ⟨(y 0 : Fin 256).val / 128 * 4096 + 3968 + (y 0 : Fin 256).val % 128, by have : (y 0 : Fin 256).val < 256 := (y 0 : Fin 256).isLt; omega⟩ (y 1)
end

variable (m : (ℓ : Loc nD τ sig) → Buf (Elt Ideal) ℓ)

abbrev x0 (c : Dev nD) : FVec Ideal S23x8192x512 .f32 := m ((c.tc : Thread nD τ).loc main_arg0)
abbrev x1 (c : Dev nD) : FVec Ideal S1024 .f32 := m ((c.tc : Thread nD τ).loc main_arg1)
abbrev x2 (c : Dev nD) : FVec Ideal S1024 .f32 := m ((c.tc : Thread nD τ).loc main_arg2)
abbrev x3 (c : Dev nD) : FVec Ideal S8x128x128 .f32 := m ((c.tc : Thread nD τ).loc main_arg3)
abbrev x4 (c : Dev nD) : FVec Ideal S8x128 .f32 := m ((c.tc : Thread nD τ).loc main_arg4)

/-- The windows' block indices at a grid point. -/
theorem idx : ∀ t : Fin cfg0.N, (win0_0.index t = ![0, t.val, 0] ∧ win0_1.index t = ![1, t.val, 0] ∧ win0_2.index t = ![2, t.val, 0] ∧ win0_3.index t = ![3, t.val, 0]
    ∧ win0_4.index t = ![0, 0] ∧ win0_5.index t = ![0, 0] ∧ win0_6.index t = ![0, 0, 0] ∧ win0_7.index t = ![0, 0, 0]
    ∧ win0_8.index t = ![t.val, 0] ∧ win0_9.index t = ![t.val / 32, 0]) :=
  (by decide +kernel : ∀ t : Fin grid0.N, _)

theorem lt64 (t : Fin cfg0.N) : t.val < 64 := t.isLt

/-- The row of an entry of a grid point's block. -/
abbrev nt (t : Fin cfg0.N) (a : Fin 128) : Fin 8192 := ⟨t.val * 128 + a.val, by have := lt64 t; omega⟩

theorem V_v1 (c : Dev nD) : V m c main_v1 = (fun y => TR (x3 m c) y : FVec Ideal S8x128x128 .bf16) := by
  show StableHlo.after (hostOps0_1 (F := Ideal)) (StableHlo.after (hostOps0 (F := Ideal)) _) (Proc.devRef .tc main_v1) = _
  simp only [hostOps0, hostOps0_1, StableHlo.TRef.binary, StableHlo.TRef.nullary, StableHlo.TRef.ternary, StableHlo.TRef.unary, StableHlo.TRef.toBuf, StableHlo.TRef.ofBuf, cast_eq]
  after_results
  rfl
theorem V_v3 (c : Dev nD) (g : Fin 8) (n l : Fin 128) : V m c main_v3 (ix3 g n l) = x4 m c (ix2 g n) := by
  show StableHlo.after (hostOps0_1 (F := Ideal)) (StableHlo.after (hostOps0 (F := Ideal)) _) (Proc.devRef .tc main_v3) _ = _
  simp only [hostOps0, hostOps0_1, StableHlo.TRef.binary, StableHlo.TRef.nullary, StableHlo.TRef.ternary, StableHlo.TRef.unary, StableHlo.TRef.toBuf, StableHlo.TRef.ofBuf, cast_eq]
  after_results
  pointwise
theorem V_v4 (c : Dev nD) (l : Fin 1024) : V m c main_v4 (ix2 0 l) = x1 m c (ix1 l) := by
  show StableHlo.after (hostOps0_1 (F := Ideal)) (StableHlo.after (hostOps0 (F := Ideal)) _) (Proc.devRef .tc main_v4) _ = _
  simp only [hostOps0, hostOps0_1, StableHlo.TRef.binary, StableHlo.TRef.nullary, StableHlo.TRef.ternary, StableHlo.TRef.unary, StableHlo.TRef.toBuf, StableHlo.TRef.ofBuf, cast_eq]
  after_results
  pointwise
theorem V_v5 (c : Dev nD) (l : Fin 1024) : V m c main_v5 (ix2 0 l) = x2 m c (ix1 l) := by
  show StableHlo.after (hostOps0_1 (F := Ideal)) (StableHlo.after (hostOps0 (F := Ideal)) _) (Proc.devRef .tc main_v5) _ = _
  simp only [hostOps0, hostOps0_1, StableHlo.TRef.binary, StableHlo.TRef.nullary, StableHlo.TRef.ternary, StableHlo.TRef.unary, StableHlo.TRef.toBuf, StableHlo.TRef.ofBuf, cast_eq]
  after_results
  pointwise

theorem blk0 (c : Dev nD) (t : Fin cfg0.N) (n : Fin 128) (l : Fin 512) : iblk m c 0 t (ix3 0 n l) = x0 m c (ix3 0 (nt t n) l) := by
  have ht := lt64 t
  unfold x0
  rw [← V_main_arg0 m c]
  blk_ext [iblk, idx t]
theorem blk1 (c : Dev nD) (t : Fin cfg0.N) (n : Fin 128) (l : Fin 512) : iblk m c 1 t (ix3 0 n l) = x0 m c (ix3 1 (nt t n) l) := by
  have ht := lt64 t
  unfold x0
  rw [← V_main_arg0 m c]
  blk_ext [iblk, idx t]
theorem blk2 (c : Dev nD) (t : Fin cfg0.N) (n : Fin 128) (l : Fin 512) : iblk m c 2 t (ix3 0 n l) = x0 m c (ix3 2 (nt t n) l) := by
  have ht := lt64 t
  unfold x0
  rw [← V_main_arg0 m c]
  blk_ext [iblk, idx t]
theorem blk3 (c : Dev nD) (t : Fin cfg0.N) (n : Fin 128) (l : Fin 512) : iblk m c 3 t (ix3 0 n l) = x0 m c (ix3 3 (nt t n) l) := by
  have ht := lt64 t
  unfold x0
  rw [← V_main_arg0 m c]
  blk_ext [iblk, idx t]
theorem blk4 (c : Dev nD) (t : Fin cfg0.N) (l : Fin 1024) : iblk m c 4 t (ix2 0 l) = x1 m c (ix1 l) := by
  rw [← V_v4 m c]
  blk_ext [iblk, idx t]
theorem blk5 (c : Dev nD) (t : Fin cfg0.N) (l : Fin 1024) : iblk m c 5 t (ix2 0 l) = x2 m c (ix1 l) := by
  rw [← V_v5 m c]
  blk_ext [iblk, idx t]
theorem blk6 (c : Dev nD) (t : Fin cfg0.N) (g : Fin 8) (n k : Fin 128) : (iblk m c 6 t (ix3 g n k) : EReal) = TR (x3 m c) (ix3 g n k) := by
  refine Eq.trans ?_ (congrFun (V_v1 m c) (ix3 g n k))
  blk_ext [iblk, idx t]
theorem blk7 (c : Dev nD) (t : Fin cfg0.N) (g : Fin 8) (n l : Fin 128) : iblk m c 7 t (ix3 g n l) = x4 m c (ix2 g n) := by
  rw [← V_v3 m c g n l]
  blk_ext [iblk, idx t]

theorem CB0 (c : Dev nD) (t : Fin cfg0.N) (n : Fin 128) (q : Fin 1024) : CB (iblk m c 0 t) (iblk m c 1 t) n q = PR (x0 m c) 0 (nt t n) q := by
  unfold CB PR
  split
  · next h =>
    refine (blk0 m c t n _).trans (congrArg (x0 m c) ?_)
    congr 1 <;> (apply Fin.ext; dsimp only; omega)
  · next h =>
    refine (blk1 m c t n _).trans (congrArg (x0 m c) ?_)
    congr 1 <;> (apply Fin.ext; dsimp only; omega)
theorem CB2 (c : Dev nD) (t : Fin cfg0.N) (n : Fin 128) (q : Fin 1024) : CB (iblk m c 2 t) (iblk m c 3 t) n q = PR (x0 m c) 2 (nt t n) q := by
  unfold CB PR
  split
  · next h =>
    refine (blk2 m c t n _).trans (congrArg (x0 m c) ?_)
    congr 1 <;> (apply Fin.ext; dsimp only; omega)
  · next h =>
    refine (blk3 m c t n _).trans (congrArg (x0 m c) ?_)
    congr 1 <;> (apply Fin.ext; dsimp only; omega)

theorem LB_eq (c : Dev nD) (t : Fin cfg0.N) (n : Fin 128) (q : Fin 1024) : LB (iblk m c 2 t) (iblk m c 3 t) (iblk m c 4 t) (iblk m c 5 t) n q = VN (x0 m c) (x1 m c) (x2 m c) (nt t n) q := by
  unfold LB VN
  have e1 : CB (iblk m c 2 t) (iblk m c 3 t) n = PR (x0 m c) 2 (nt t n) := funext fun q => CB2 m c t n q
  have e2 : (fun k => iblk m c 4 t (ix2 0 k) : Fin 1024 → EReal) = fun k => x1 m c (ix1 k) := funext fun k => blk4 m c t k
  have e3 : (fun k => iblk m c 5 t (ix2 0 k) : Fin 1024 → EReal) = fun k => x2 m c (ix1 k) := funext fun k => blk5 m c t k
  rw [e1, e2, e3]

theorem block8 (c : Dev nD) (t : Fin cfg0.N) (n : Fin 128) (q : Fin 1024) : (G8 (iblk m c 0 t) (iblk m c 1 t) (iblk m c 2 t) (iblk m c 3 t) (iblk m c 4 t) (iblk m c 5 t) (iblk m c 6 t) (iblk m c 7 t) (ix2 n q) : EReal)
    = YM (x0 m c) (x1 m c) (x2 m c) (x3 m c) (x4 m c) (nt t n) q := by
  show GB _ _ _ _ n q = _
  have hn : (⟨(nt t n).val % 128, by omega⟩ : Fin 128) = n := Fin.ext (by show (t.val * 128 + n.val) % 128 = n.val; omega)
  have hk : ∀ k : Fin 128, (⟨(nt t n).val / 128 * 128 + k.val, by have := (nt t n).isLt; omega⟩ : Fin 8192) = nt t k := fun k => Fin.ext (by show (t.val * 128 + n.val) / 128 * 128 + k.val = t.val * 128 + k.val; omega)
  unfold GB YM
  simp only [hn, hk]
  refine congrArg₂ (fun p q : EReal => p * q) (CB0 m c t n q) (congrArg₂ (fun p q : EReal => p + q) (Finset.sum_congr rfl fun k _ => ?_) (blk7 m c t _ n _))
  exact congrArg₂ (fun p q : EReal => p * q) (blk6 m c t _ n k) (LB_eq m c t k q)

/-- The first result: every block written back is the part of it that `YA` states. -/
theorem arr8 (c : Dev nD) : (dats m 0 c).arrAt 8 cfg0.N = YA (x0 m c) (x1 m c) (x2 m c) (x3 m c) (x4 m c) := by
  refine (dats m 0 c).arrAt_eq_of_covers 8 (YA (x0 m c) (x1 m c) (x2 m c) (x3 m c) (x4 m c)) (by decide +kernel) fun t hf y => ?_
  blk_simp
  rw [after0_8, out8]
  have hy : y = ix2 (n0 := 128) (n1 := 1024) (y 0) (y 1) := by funext a; fin_cases a <;> rfl
  rw [hy]
  refine (block8 m c t _ _).trans ?_
  unfold YA
  have e0 : nt t (y 0) = ((win0_8.blk t).view.emb (ix2 (n0 := 128) (n1 := 1024) (y 0) (y 1)) : S8192x1024.Idx) 0 := by
    apply Fin.ext
    blk_simp [idx t]
  have e1 : (y 1 : Fin 1024) = ((win0_8.blk t).view.emb (ix2 (n0 := 128) (n1 := 1024) (y 0) (y 1)) : S8192x1024.Idx) 1 := by
    apply Fin.ext
    blk_simp [idx t]
  exact (congrFun (congrArg (YM (x0 m c) (x1 m c) (x2 m c) (x3 m c) (x4 m c)) e0) _).trans (congrArg (YM (x0 m c) (x1 m c) (x2 m c) (x3 m c) (x4 m c) _) e1)

/-- The second result: what the last chunk of each sequence writes back is the part of it that `VC` states. -/
theorem arr9 (c : Dev nD) : (dats m 0 c).arrAt 9 cfg0.N = VC (x0 m c) (x1 m c) (x2 m c) := by
  refine (dats m 0 c).arrAt_eq_of_covers 9 (VC (x0 m c) (x1 m c) (x2 m c)) (by decide +kernel) fun t hf y => ?_
  have hl : t.val % 32 = 31 := (flush0_9 t).mp hf
  blk_simp
  rw [after0_9, out9]
  have hy : y = ix2 (n0 := 128) (n1 := 1024) (y 0) (y 1) := by funext a; fin_cases a <;> rfl
  rw [hy]
  refine (LB_eq m c t _ _).trans ?_
  unfold VC
  have h0 : (y 0 : Fin 128).val < 128 := (y 0 : Fin 128).isLt
  have e : (((win0_9.blk t).view.emb (ix2 (n0 := 128) (n1 := 1024) (y 0) (y 1)) : S256x1024.Idx) 0 : Fin 256).val = t.val / 32 * 128 + (y 0 : Fin 128).val := by
    blk_simp [idx t]
  have e0 : nt t (y 0) = ⟨(((win0_9.blk t).view.emb (ix2 (n0 := 128) (n1 := 1024) (y 0) (y 1)) : S256x1024.Idx) 0 : Fin 256).val / 128 * 4096 + 3968 + (((win0_9.blk t).view.emb (ix2 (n0 := 128) (n1 := 1024) (y 0) (y 1)) : S256x1024.Idx) 0 : Fin 256).val % 128, by rw [e]; have := lt64 t; omega⟩ := by
    apply Fin.ext
    dsimp only
    rw [e]
    omega
  have e1 : (y 1 : Fin 1024) = ((win0_9.blk t).view.emb (ix2 (n0 := 128) (n1 := 1024) (y 0) (y 1)) : S256x1024.Idx) 1 := by
    apply Fin.ext
    blk_simp [idx t]
  exact (congrFun (congrArg (VN (x0 m c) (x1 m c) (x2 m c)) e0) _).trans (congrArg (VN (x0 m c) (x1 m c) (x2 m c) _) e1)
end Cert.MixKernelIdeal.Mix
-- ==== Proof.MixClaim.lean ====
module
public import proofs.«01_k».proof.Defs
public import proofs.«01_k».proof.Proof.MixArr
public import proofs.«01_k».proof.Proof.Gen.MixReferenceIdeal.Run
public import Idealize.ShloMosaic.Adequacy
public import Idealize.ShloMosaic.Init
@[expose] public section
set_option maxRecDepth 16384
noncomputable section
namespace Cert.MixReferenceIdeal.Mix
open Cert.MixReferenceIdeal Cert.MixReferenceIdeal.Gen Idealize.ShloMosaic Idealize.ShloMosaic.TcCoe Idealize.SL.Sem
open Cert.MixKernelIdeal.Mix (PR LN mean VN YM YA VC TR)

/-! ## The reference's results, part by part -/

section
variable (p : FVec Ideal S23x8192x512 .f32) (g b : FVec Ideal S1024 .f32) (w : FVec Ideal S8x128x128 .f32) (o : FVec Ideal S8x128 .f32)

/-- The two halves of the gelu branch. -/
def XU : FVec Ideal S2x4096x1024 .f32 := shapeCast _ (transpose S8192x2x512 [1, 0, 2] (extractStridedSlice S2x8192x512 ![0, 0, 0] p slices_S23x8192x512_S2x8192x512_0_0_0) transposes_S2x8192x512_S8192x2x512_1_0_2) shapeCasts_S8192x2x512_S2x4096x1024
def XV : FVec Ideal S2x4096x1024 .f32 := shapeCast _ (transpose S8192x2x512 [1, 0, 2] (extractStridedSlice S2x8192x512 ![2, 0, 0] p slices_S23x8192x512_S2x8192x512_2_0_0) transposes_S2x8192x512_S8192x2x512_1_0_2) shapeCasts_S8192x2x512_S2x4096x1024
section
variable (x v u : FVec Ideal S2x4096x1024 .f32)
/-- A row's mean, its distance from the mean, its norm. -/
def MU : FVec Ideal S2x4096x1 .f32 := Host.divf (broadcastInDim S2x4096x1 ![0, 1] bcast_S2x4096_S2x4096x1_0_1 (Host.reduceAdd x (constant S_ .f32 0x00000000#32) reducesTo_S2x4096x1024_S2x4096_d2 h_S_)) (broadcastInDim S2x4096x1 ![] bcast_S_S2x4096x1 (constant S_ .f32 0x44800000#32))
def CX : FVec Ideal S2x4096x1024 .f32 := subf x (broadcastInDim S2x4096x1024 ![0, 1, 2] bcast_S2x4096x1_S2x4096x1024_0_1_2 (MU x))
def LR : FVec Ideal S2x4096x1024 .f32 := addf (mulf (mulf (CX x) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (CX x) (CX x)) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 g))) (broadcastInDim S2x4096x1024 ![0, 1, 2] bcast_S1x1x1024_S2x4096x1024_0_1_2 (broadcastInDim S1x1x1024 ![2] bcast_S1024_S1x1x1024_2 b))
/-- The mixed rows and the last chunk. -/
def PV : FVec Ideal S2x32x128x8x128 .f32 := shapeCast _ (pad S2x4096x1024 ![0, 0, 0] ![0, 0, 0] ![0, 0, 0] v (sitofp .f32 (constantI S_ 32 0#32)) pads_S2x4096x1024_S2x4096x1024_000_000_000 h_S_) shapeCasts_S2x4096x1024_S2x32x128x8x128
def DT (pv : FVec Ideal S2x32x128x8x128 .f32) : FVec Ideal S8x2x32x128x128 .f32 := Host.dotGeneral dot_S2x32x128x8x128_S8x128x128_S8x2x32x128x128_2_2_014_1_3_0 none pv w
def RS (dt : FVec Ideal S8x2x32x128x128 .f32) : FVec Ideal S2x4096x1024 .f32 := shapeCast _ (addf (transpose S2x32x128x8x128 [1, 2, 4, 0, 3] dt transposes_S8x2x32x128x128_S2x32x128x8x128_1_2_4_0_3) (broadcastInDim S2x32x128x8x128 ![0, 1, 2, 3, 4] bcast_S1x1x128x8x1_S2x32x128x8x128_0_1_2_3_4 (broadcastInDim S1x1x128x8x1 ![2, 3] bcast_S128x8_S1x1x128x8x1_2_3 (transpose S128x8 [1, 0] o transposes_S8x128_S128x8_1_0)))) shapeCasts_S2x32x128x8x128_S2x4096x1024
def RF (t : FVec Ideal S2x4096x1024 .f32) : FVec Ideal S8192x1024 .bf16 := truncf .bf16 (shapeCast _ (mulf u t) shapeCasts_S2x4096x1024_S8192x1024) bitsLt_bf16_f32
def RY : FVec Ideal S8192x1024 .bf16 := RF u (RS o (DT w (PV v)))
def RC : FVec Ideal S256x1024 .f32 := shapeCast _ (extractStridedSlice S2x128x1024 ![0, 3968, 0] v slices_S2x4096x1024_S2x128x1024_0_3968_0) shapeCasts_S2x128x1024_S256x1024
end

theorem XU_at (i : Fin 2) (n : Fin 4096) (q : Fin 1024) : XU p (ix3 i n q) = PR p 0 ⟨i.val * 4096 + n.val, by omega⟩ q := by
  unfold XU PR
  pointwise
theorem XV_at (i : Fin 2) (n : Fin 4096) (q : Fin 1024) : XV p (ix3 i n q) = PR p 2 ⟨i.val * 4096 + n.val, by omega⟩ q := by
  unfold XV PR
  pointwise

section
variable (x v u : FVec Ideal S2x4096x1024 .f32)
theorem MU_at (i : Fin 2) (n : Fin 4096) : MU x (ix3 i n 0) = mean fun k => x (ix3 i n k) := by
  unfold MU mean
  pointwise
theorem CX_at (i : Fin 2) (n : Fin 4096) (q : Fin 1024) : CX x (ix3 i n q) = x (ix3 i n q) - mean fun k => x (ix3 i n k) := by
  unfold CX
  pointwise
  exact congrArg (fun z : EReal => x (ix3 i n q) - z) (MU_at x i n)
theorem LR_at (i : Fin 2) (n : Fin 4096) (q : Fin 1024) : LR g b x (ix3 i n q) = LN (fun k => x (ix3 i n k)) (fun k => g (ix1 k)) (fun k => b (ix1 k)) q := by
  unfold LR LN
  pointwise
  simp only [CX_at]
  rfl
theorem PV_at (i : Fin 2) (j : Fin 32) (n : Fin 128) (c : Fin 8) (l : Fin 128) : PV v (ix5 i j n c l) = v (ix3 i ⟨j.val * 128 + n.val, by omega⟩ ⟨c.val * 128 + l.val, by omega⟩) := by
  unfold PV
  pointwise
  exact dif_pos (by omega)
theorem DT_at (pv : FVec Ideal S2x32x128x8x128 .f32) (c : Fin 8) (i : Fin 2) (j : Fin 32) (l n : Fin 128) : DT w pv (ix5 c i j l n) = ∑ k : Fin 128, pv (ix5 i j k c l) * w (ix3 c n k) := by
  unfold DT
  pointwise
theorem RS_at (dt : FVec Ideal S8x2x32x128x128 .f32) (i : Fin 2) (n : Fin 4096) (q : Fin 1024) : RS o dt (ix3 i n q) = dt (ix5 ⟨q.val / 128, by omega⟩ i ⟨n.val / 128, by omega⟩ ⟨q.val % 128, by omega⟩ ⟨n.val % 128, by omega⟩) + o (ix2 ⟨q.val / 128, by omega⟩ ⟨n.val % 128, by omega⟩) := by
  unfold RS
  pointwise
theorem RF_at (t : FVec Ideal S2x4096x1024 .f32) (n : Fin 8192) (q : Fin 1024) : (RF u t (ix2 n q) : EReal) = u (ix3 ⟨n.val / 4096, by omega⟩ ⟨n.val % 4096, by omega⟩ q) * t (ix3 ⟨n.val / 4096, by omega⟩ ⟨n.val % 4096, by omega⟩ q) := by
  unfold RF
  pointwise
theorem RY_at (n : Fin 8192) (q : Fin 1024) : (RY w o v u (ix2 n q) : EReal) = u (ix3 ⟨n.val / 4096, by omega⟩ ⟨n.val % 4096, by omega⟩ q) * ((∑ k : Fin 128, v (ix3 ⟨n.val / 4096, by omega⟩ ⟨n.val % 4096 / 128 * 128 + k.val, by omega⟩ q) * w (ix3 ⟨q.val / 128, by omega⟩ ⟨n.val % 128, by omega⟩ k)) + o (ix2 ⟨q.val / 128, by omega⟩ ⟨n.val % 128, by omega⟩)) := by
  have hm : n.val % 4096 % 128 = n.val % 128 := by omega
  have hq : (⟨q.val / 128 * 128 + q.val % 128, by omega⟩ : Fin 1024) = q := Fin.ext (by dsimp only; omega)
  unfold RY
  rw [RF_at, RS_at, DT_at]
  simp only [PV_at, hm, hq]
theorem RC_at (n : Fin 256) (q : Fin 1024) : RC v (ix2 n q) = v (ix3 ⟨n.val / 128, by omega⟩ ⟨3968 + n.val % 128, by omega⟩ q) := by
  unfold RC
  pointwise
end

theorem row (i : Fin 2) (n : Fin 4096) (q : Fin 1024) : LR g b (XV p) (ix3 i n q) = VN p g b ⟨i.val * 4096 + n.val, by omega⟩ q := by
  rw [LR_at]
  unfold VN
  exact congrFun (congrArg (fun r : Fin 1024 → EReal => LN r (fun k => g (ix1 k)) (fun k => b (ix1 k))) (funext fun k => XV_at p i n k)) q

theorem RY_eq : RY (TR w) o (LR g b (XV p)) (XU p) = YA p g b w o := by
  funext y; idx_vars y
  rw [RY_at]
  show _ = YM p g b w o y0 y1
  unfold YM
  refine congrArg₂ (fun p q : EReal => p * q) ((XU_at p _ _ _).trans (congrFun (congrArg (PR p 0) (Fin.ext (by dsimp only; omega))) _)) (congrArg (fun z : EReal => z + o _) (Finset.sum_congr rfl fun k _ => ?_))
  rw [mul_comm]
  exact congrArg (fun z : EReal => TR w _ * z) ((row p g b _ _ _).trans (congrFun (congrArg (VN p g b) (Fin.ext (by dsimp only; omega))) _))

theorem RC_eq : RC (LR g b (XV p)) = VC p g b := by
  funext y; idx_vars y
  rw [RC_at]
  show _ = VN p g b _ y1
  exact (row p g b _ _ _).trans (congrFun (congrArg (VN p g b) (Fin.ext (by dsimp only [ix2]; omega))) _)
end

variable (m : (ℓ : Loc nD τ sig) → Buf (Elt Ideal) ℓ)

abbrev y0 (c : Dev nD) : FVec Ideal S23x8192x512 .f32 := m ((c.tc : Thread nD τ).loc main_arg0)
abbrev y1 (c : Dev nD) : FVec Ideal S1024 .f32 := m ((c.tc : Thread nD τ).loc main_arg1)
abbrev y2 (c : Dev nD) : FVec Ideal S1024 .f32 := m ((c.tc : Thread nD τ).loc main_arg2)
abbrev y3 (c : Dev nD) : FVec Ideal S8x128x128 .f32 := m ((c.tc : Thread nD τ).loc main_arg3)
abbrev y4 (c : Dev nD) : FVec Ideal S8x128 .f32 := m ((c.tc : Thread nD τ).loc main_arg4)

theorem out0 (c : Dev nD) : Cert.MixReferenceIdeal.Value.res_main_v42 m c = YA (y0 m c) (y1 m c) (y2 m c) (y3 m c) (y4 m c) := by
  refine Eq.trans ?_ (RY_eq (y0 m c) (y1 m c) (y2 m c) (y3 m c) (y4 m c))
  unfold Cert.MixReferenceIdeal.Value.res_main_v42
  rfl

/-- The reference ends with its arguments as they were; it declares no semaphore. -/
theorem frame : Cert.quiescent_MixReferenceIdeal := by
  intro m ρ _
  exact (θ_run _ _ _).mono (fun r h => ⟨fun c => (h c).2.2, sem_eq_zero_of_no_sems (by decide) r.2⟩) (Cert.MixReferenceIdeal.Value.run m ρ)

/-- The kernel's mixer and the reference's end with the same arrays. -/
theorem value : Cert.algebraic_MixKernelIdeal_MixReferenceIdeal := by
  intro m g m' g' _ hargs
  refine ⟨fun c => YA (Cert.MixKernelIdeal.Mix.x0 m c) (Cert.MixKernelIdeal.Mix.x1 m c) (Cert.MixKernelIdeal.Mix.x2 m c) (Cert.MixKernelIdeal.Mix.x3 m c) (Cert.MixKernelIdeal.Mix.x4 m c),
    fun c => VC (Cert.MixKernelIdeal.Mix.x0 m c) (Cert.MixKernelIdeal.Mix.x1 m c) (Cert.MixKernelIdeal.Mix.x2 m c),
    (θ_run _ _ _).mono (fun r h c => ⟨(h c).1.trans (Cert.MixKernelIdeal.Mix.arr8 m c), (h c).2.1.trans (Cert.MixKernelIdeal.Mix.arr9 m c), (h c).2.2⟩) (Cert.MixKernelIdeal.Value.run_blocks m g), ?_⟩
  have q : ∀ c : Dev nD, YA (y0 m' c) (y1 m' c) (y2 m' c) (y3 m' c) (y4 m' c) = YA (Cert.MixKernelIdeal.Mix.x0 m c) (Cert.MixKernelIdeal.Mix.x1 m c) (Cert.MixKernelIdeal.Mix.x2 m c) (Cert.MixKernelIdeal.Mix.x3 m c) (Cert.MixKernelIdeal.Mix.x4 m c)
      ∧ VC (y0 m' c) (y1 m' c) (y2 m' c) = VC (Cert.MixKernelIdeal.Mix.x0 m c) (Cert.MixKernelIdeal.Mix.x1 m c) (Cert.MixKernelIdeal.Mix.x2 m c) := fun c => by
    have e := hargs c
    have a0 : y0 m' c = Cert.MixKernelIdeal.Mix.x0 m c := e.1
    have a1 : y1 m' c = Cert.MixKernelIdeal.Mix.x1 m c := e.2.1
    have a2 : y2 m' c = Cert.MixKernelIdeal.Mix.x2 m c := e.2.2.1
    have a3 : y3 m' c = Cert.MixKernelIdeal.Mix.x3 m c := e.2.2.2.1
    have a4 : y4 m' c = Cert.MixKernelIdeal.Mix.x4 m c := e.2.2.2.2
    rw [a0, a1, a2, a3, a4]
    exact ⟨rfl, rfl⟩
  exact (θ_run _ _ _).mono (fun r h c => ⟨(h c).1.trans ((out0 m' c).trans (q c).1), (h c).2.1.trans ((RC_eq (y0 m' c) (y1 m' c) (y2 m' c)).trans (q c).2), (h c).2.2⟩) (Cert.MixReferenceIdeal.Value.run m' g')

end Cert.MixReferenceIdeal.Mix
-- ==== Proof.MrgVal.lean ====
module
public import proofs.«01_k».proof.Proof.Gen.MrgKernelIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.MrgKernelIdeal.Mrg
open Cert.MrgKernelIdeal Cert.MrgKernelIdeal.Gen Idealize.ShloMosaic Idealize.ShloMosaic.TcCoe Idealize.SL.Sem
open Idealize.ShloMosaic.Pipeline (Dat)

/-- The merged rows at a row and a column: each branch's projection times its gate, added. -/
def MR (p : FVec Ideal S23x8192x512 .f32) (a : FVec Ideal S8192x1024 .bf16) (b : FVec Ideal S8192x2048 .f32) (wa : FVec Ideal S1024x2048 .f32) (wb : FVec Ideal S2048x2048 .f32) (n : Fin 8192) (q : Fin 2048) : EReal :=
  p (ix3 ⟨15 + q.val / 512, by omega⟩ n ⟨q.val % 512, by omega⟩) * (∑ k : Fin 1024, a (ix2 n k) * wa (ix2 k q))
    + p (ix3 ⟨19 + q.val / 512, by omega⟩ n ⟨q.val % 512, by omega⟩) * (∑ k : Fin 2048, b (ix2 n k) * wb (ix2 k q))

/-- The merged rows. -/
def MA (p : FVec Ideal S23x8192x512 .f32) (a : FVec Ideal S8192x1024 .bf16) (b : FVec Ideal S8192x2048 .f32) (wa : FVec Ideal S1024x2048 .f32) (wb : FVec Ideal S2048x2048 .f32) : FVec Ideal S8192x2048 .bf16 := fun y => MR p a b wa wb (y 0) (y 1)

theorem pay1 (v : FVec Ideal S1024x2048 .f32) : k0_pay1 (F := Ideal) v = (fun y => v y : FVec Ideal S1024x2048 .bf16) := by
  funext y; idx_vars y
  pointwise [k0_pay1]

theorem pay2 (a : FVec Ideal S1024x1024 .bf16) (wa : FVec Ideal S1024x512 .bf16) (b : FVec Ideal S1024x2048 .bf16) (wb : FVec Ideal S2048x512 .bf16) (ga gb : FVec Ideal S1x1024x512 .f32) (n : Fin 1024) (l : Fin 512) :
    (k0_pay2 (F := Ideal) a wa b wb ga gb (ix2 n l) : EReal) = ga (ix3 0 n l) * (∑ k : Fin 1024, a (ix2 n k) * wa (ix2 k l)) + gb (ix3 0 n l) * (∑ k : Fin 2048, b (ix2 n k) * wb (ix2 k l)) := by
  pointwise [k0_pay2]

variable (m : (ℓ : Loc nD τ sig) → Buf (Elt Ideal) ℓ)

abbrev x0 (c : Dev nD) : FVec Ideal S23x8192x512 .f32 := m ((c.tc : Thread nD τ).loc main_arg0)
abbrev x1 (c : Dev nD) : FVec Ideal S8192x1024 .bf16 := m ((c.tc : Thread nD τ).loc main_arg1)
abbrev x2 (c : Dev nD) : FVec Ideal S8192x2048 .f32 := m ((c.tc : Thread nD τ).loc main_arg2)
abbrev x3 (c : Dev nD) : FVec Ideal S1024x2048 .f32 := m ((c.tc : Thread nD τ).loc main_arg3)
abbrev x4 (c : Dev nD) : FVec Ideal S2048x2048 .f32 := m ((c.tc : Thread nD τ).loc main_arg4)

/-- The windows' block indices at a grid point. -/
theorem idx : ∀ t : Fin cfg0.N, (win0_0.index t = ![t.val / 4, 0] ∧ win0_1.index t = ![t.val / 4, 0] ∧ win0_2.index t = ![0, t.val % 4]
    ∧ win0_3.index t = ![0, t.val % 4] ∧ win0_4.index t = ![15 + t.val % 4, t.val / 4, 0] ∧ win0_5.index t = ![19 + t.val % 4, t.val / 4, 0]
    ∧ win0_6.index t = ![t.val / 4, t.val % 4]) :=
  (by decide +kernel : ∀ t : Fin grid0.N, _)

theorem lt32 (t : Fin cfg0.N) : t.val < 32 := t.isLt

/-- The row and the column tile of a grid point. -/
abbrev nt (t : Fin cfg0.N) (a : Fin 1024) : Fin 8192 := ⟨t.val / 4 * 1024 + a.val, by have := lt32 t; omega⟩

theorem V_v0 (c : Dev nD) : V m c main_v0 = fun y => (x3 m c y : EReal) := by
  show StableHlo.after hostOps0 _ (Proc.devRef .tc main_v0) = _
  simp only [hostOps0]
  after_results
  funext y; idx_vars y
  pointwise
theorem V_v1 (c : Dev nD) : V m c main_v1 = fun y => (x4 m c y : EReal) := by
  show StableHlo.after hostOps0 _ (Proc.devRef .tc main_v1) = _
  simp only [hostOps0]
  after_results
  funext y; idx_vars y
  pointwise

theorem blk0 (c : Dev nD) (t : Fin cfg0.N) (n : Fin 1024) (k : Fin 1024) : iblk m c 0 t (ix2 n k) = x1 m c (ix2 (nt t n) k) := by
  have ht := lt32 t
  unfold x1
  rw [← V_main_arg1 m c]
  blk_ext [iblk, idx t]
theorem blk1 (c : Dev nD) (t : Fin cfg0.N) (n : Fin 1024) (k : Fin 2048) : iblk m c 1 t (ix2 n k) = x2 m c (ix2 (nt t n) k) := by
  have ht := lt32 t
  unfold x2
  rw [← V_main_arg2 m c]
  blk_ext [iblk, idx t]
theorem blk2 (c : Dev nD) (t : Fin cfg0.N) (k : Fin 1024) (l : Fin 512) : iblk m c 2 t (ix2 k l) = V m c main_v0 (ix2 k (⟨t.val % 4 * 512 + l.val, by omega⟩ : Fin 2048)) := by
  blk_ext [iblk, idx t]
theorem blk3 (c : Dev nD) (t : Fin cfg0.N) (k : Fin 2048) (l : Fin 512) : iblk m c 3 t (ix2 k l) = V m c main_v1 (ix2 k (⟨t.val % 4 * 512 + l.val, by omega⟩ : Fin 2048)) := by
  blk_ext [iblk, idx t]
theorem blk4 (c : Dev nD) (t : Fin cfg0.N) (n : Fin 1024) (l : Fin 512) : iblk m c 4 t (ix3 0 n l) = x0 m c (ix3 (⟨15 + t.val % 4, by omega⟩ : Fin 23) (nt t n) l) := by
  have ht := lt32 t
  unfold x0
  rw [← V_main_arg0 m c]
  blk_ext [iblk, idx t]
theorem blk5 (c : Dev nD) (t : Fin cfg0.N) (n : Fin 1024) (l : Fin 512) : iblk m c 5 t (ix3 0 n l) = x0 m c (ix3 (⟨19 + t.val % 4, by omega⟩ : Fin 23) (nt t n) l) := by
  have ht := lt32 t
  unfold x0
  rw [← V_main_arg0 m c]
  blk_ext [iblk, idx t]

/-- The column of an entry of a grid point's block. -/
abbrev qt (t : Fin cfg0.N) (l : Fin 512) : Fin 2048 := ⟨t.val % 4 * 512 + l.val, by omega⟩

theorem x0_congr (c : Dev nD) {i i' : Fin 23} (n : Fin 8192) {l l' : Fin 512} (hi : i = i') (hl : l = l') : x0 m c (ix3 i n l) = x0 m c (ix3 i' n l') := by rw [hi, hl]

/-- The second branch's rows of the tile at work. -/
def BS (c : Dev nD) (i : ℕ) : FVec Ideal S1024x2048 .bf16 := fun y => if h : i * 1024 + (y 0 : Fin 1024).val < 8192 then x2 m c (ix2 (⟨i * 1024 + (y 0 : Fin 1024).val, h⟩ : Fin 8192) (y 1 : Fin 2048)) else (0 : EReal)

theorem BS_at (c : Dev nD) (t : Fin cfg0.N) (n : Fin 1024) (k : Fin 2048) : (BS m c (t.val / 4) (ix2 n k) : EReal) = x2 m c (ix2 (nt t n) k) := by
  have ht := lt32 t
  exact dif_pos (by show t.val / 4 * 1024 + n.val < 8192; omega)

theorem st_A (c : Dev nD) (t : Fin cfg0.N) (h0 : t.val % 4 = 0) : (outsAt0 m c t.val t.isLt).2 = BS m c (t.val / 4) := by
  rw [outsAt0_A m c t h0]
  frame_open
  frame_out
  rw [pay1]
  funext y
  idx_vars y
  exact (blk1 m c t y0 y1).trans (BS_at m c t y0 y1).symm

/-- What the point before left in the scratch. -/
abbrev prev (c : Dev nD) (t : Fin cfg0.N) : FVec Ideal S1024x2048 .bf16 := (outsAt0 m c (t.val - 1) (Nat.lt_of_le_of_lt (Nat.sub_le _ _) t.isLt)).2

theorem st_B (c : Dev nD) (t : Fin cfg0.N) (h0 : ¬ t.val % 4 = 0) : (outsAt0 m c t.val t.isLt).2 = prev m c t := by
  rw [outsAt0_B m c t h0]
  rfl

/-- The scratch holds the rows of the tile at work. -/
theorem st (c : Dev nD) : ∀ (n : ℕ) (hn : n < cfg0.N), (outsAt0 m c n hn).2 = BS m c (n / 4) := by
  intro n
  induction n with
  | zero => intro hn; exact st_A m c ⟨0, hn⟩ rfl
  | succ n ih =>
    intro hn
    by_cases h0 : (n + 1) % 4 = 0
    · exact st_A m c ⟨n + 1, hn⟩ h0
    · refine (st_B m c ⟨n + 1, hn⟩ h0).trans ((ih (Nat.lt_of_succ_lt hn)).trans (congrArg (BS m c) ?_))
      omega

theorem prev_eq (c : Dev nD) (t : Fin cfg0.N) (h0 : ¬ t.val % 4 = 0) : prev m c t = BS m c (t.val / 4) :=
  (st_B m c t h0).symm.trans (st m c t.val t.isLt)

theorem out (c : Dev nD) (t : Fin cfg0.N) : (outsAt0 m c t.val t.isLt).1 = k0_pay2 (iblk m c 0 t) (iblk m c 2 t) (BS m c (t.val / 4)) (iblk m c 3 t) (iblk m c 4 t) (iblk m c 5 t) := by
  by_cases h0 : t.val % 4 = 0
  · rw [← st_A m c t h0, outsAt0_A m c t h0]
    frame_open
    frame_out
  · rw [← prev_eq m c t h0, outsAt0_B m c t h0]
    frame_open
    frame_out
    simp -proj only [read_unread_whole]

theorem block_at (c : Dev nD) (t : Fin cfg0.N) (n : Fin 1024) (l : Fin 512) : ((outsAt0 m c t.val t.isLt).1 (ix2 n l) : EReal) = MR (x0 m c) (x1 m c) (x2 m c) (x3 m c) (x4 m c) (nt t n) (qt t l) := by
  rw [out m c t, pay2]
  have hq : (qt t l).val / 512 = t.val % 4 := by show (t.val % 4 * 512 + l.val) / 512 = _; omega
  have hr : (qt t l).val % 512 = l.val := by show (t.val % 4 * 512 + l.val) % 512 = _; omega
  unfold MR
  refine congrArg₂ (fun p q : EReal => p + q) (congrArg₂ (fun p q : EReal => p * q) ((blk4 m c t n l).trans (x0_congr m c _ (Fin.ext (by show 15 + _ = 15 + _; rw [hq])) (Fin.ext hr.symm))) (Finset.sum_congr rfl fun k _ => congrArg₂ (fun p q : EReal => p * q) (blk0 m c t n k) ?_))
    (congrArg₂ (fun p q : EReal => p * q) ((blk5 m c t n l).trans (x0_congr m c _ (Fin.ext (by show 19 + _ = 19 + _; rw [hq])) (Fin.ext hr.symm))) (Finset.sum_congr rfl fun k _ => congrArg₂ (fun p q : EReal => p * q) (BS_at m c t n k) ?_))
  · exact (blk2 m c t k l).trans (congrFun (V_v0 m c) _)
  · exact (blk3 m c t k l).trans (congrFun (V_v1 m c) _)

/-- The result array of the call: every block written back is the part of it that `MA` states. -/
theorem arr (c : Dev nD) : (dats m 0 c).arrAt 6 cfg0.N = MA (x0 m c) (x1 m c) (x2 m c) (x3 m c) (x4 m c) := by
  refine (dats m 0 c).arrAt_eq_of_covers 6 (MA (x0 m c) (x1 m c) (x2 m c) (x3 m c) (x4 m c)) (by decide +kernel) fun t hf y => ?_
  blk_simp
  rw [after0_6]
  have hy : y = ix2 (n0 := 1024) (n1 := 512) (y 0) (y 1) := by funext a; fin_cases a <;> rfl
  rw [hy]
  refine (block_at m c t _ _).trans ?_
  unfold MA
  have e0 : nt t (y 0) = ((win0_6.blk t).view.emb (ix2 (n0 := 1024) (n1 := 512) (y 0) (y 1)) : S8192x2048.Idx) 0 := by
    apply Fin.ext
    blk_simp [idx t]
  have e1 : qt t (y 1) = ((win0_6.blk t).view.emb (ix2 (n0 := 1024) (n1 := 512) (y 0) (y 1)) : S8192x2048.Idx) 1 := by
    apply Fin.ext
    blk_simp [idx t]
  exact (congrFun (congrArg (MR (x0 m c) (x1 m c) (x2 m c) (x3 m c) (x4 m c)) e0) _).trans (congrArg (MR (x0 m c) (x1 m c) (x2 m c) (x3 m c) (x4 m c) _) e1)
end Cert.MrgKernelIdeal.Mrg
-- ==== Proof.MrgClaim.lean ====
module
public import proofs.«01_k».proof.Defs
public import proofs.«01_k».proof.Proof.MrgVal
public import proofs.«01_k».proof.Proof.Gen.MrgReferenceIdeal.Run
public import Idealize.ShloMosaic.Adequacy
public import Idealize.ShloMosaic.Init
@[expose] public section
set_option maxRecDepth 16384
noncomputable section
namespace Cert.MrgReferenceIdeal.Mrg
open Cert.MrgReferenceIdeal Cert.MrgReferenceIdeal.Gen Idealize.ShloMosaic Idealize.ShloMosaic.TcCoe Idealize.SL.Sem

section
variable (p : FVec Ideal S23x8192x512 .f32) (a : FVec Ideal S8192x1024 .bf16) (b : FVec Ideal S8192x2048 .f32) (wa : FVec Ideal S1024x2048 .f32) (wb : FVec Ideal S2048x2048 .f32)

/-- The reference's result as a function of its arguments. -/
def RM : FVec Ideal S8192x2048 .bf16 :=
  truncf .bf16 (addf (mulf (shapeCast _ (transpose S8192x4x512 [1, 0, 2] (extractStridedSlice S4x8192x512 ![15, 0, 0] p slices_S23x8192x512_S4x8192x512_15_0_0) transposes_S4x8192x512_S8192x4x512_1_0_2) shapeCasts_S8192x4x512_S8192x2048) (Host.dotGeneral dot_S8192x1024_S1024x2048_S8192x2048_1_0_0_1_n_n none (extf .f32 a bitsLt_bf16_f32) wa)) (mulf (shapeCast _ (transpose S8192x4x512 [1, 0, 2] (extractStridedSlice S4x8192x512 ![19, 0, 0] p slices_S23x8192x512_S4x8192x512_19_0_0) transposes_S4x8192x512_S8192x4x512_1_0_2) shapeCasts_S8192x4x512_S8192x2048) (Host.dotGeneral dot_S8192x2048_S2048x2048_S8192x2048_1_0_0_1_n_n none b wb))) bitsLt_bf16_f32

theorem RM_eq : RM p a b wa wb = Cert.MrgKernelIdeal.Mrg.MA p a b wa wb := by
  funext y; idx_vars y
  show _ = Cert.MrgKernelIdeal.Mrg.MR p a b wa wb y0 y1
  unfold Cert.MrgKernelIdeal.Mrg.MR
  unfold RM
  pointwise
end

variable (m : (ℓ : Loc nD τ sig) → Buf (Elt Ideal) ℓ)

abbrev y0 (c : Dev nD) : FVec Ideal S23x8192x512 .f32 := m ((c.tc : Thread nD τ).loc main_arg0)
abbrev y1 (c : Dev nD) : FVec Ideal S8192x1024 .bf16 := m ((c.tc : Thread nD τ).loc main_arg1)
abbrev y2 (c : Dev nD) : FVec Ideal S8192x2048 .f32 := m ((c.tc : Thread nD τ).loc main_arg2)
abbrev y3 (c : Dev nD) : FVec Ideal S1024x2048 .f32 := m ((c.tc : Thread nD τ).loc main_arg3)
abbrev y4 (c : Dev nD) : FVec Ideal S2048x2048 .f32 := m ((c.tc : Thread nD τ).loc main_arg4)

/-- The reference ends with its arguments as they were; it declares no semaphore. -/
theorem frame : Cert.quiescent_MrgReferenceIdeal := by
  intro m ρ _
  exact (θ_run _ _ _).mono (fun r h => ⟨fun c => (h c).2, sem_eq_zero_of_no_sems (by decide) r.2⟩) (Cert.MrgReferenceIdeal.Value.run m ρ)

/-- The kernel's merge and the reference's end with the same array. -/
theorem value : Cert.algebraic_MrgKernelIdeal_MrgReferenceIdeal := by
  intro m g m' g' _ hargs
  refine ⟨fun c => Cert.MrgKernelIdeal.Mrg.MA (Cert.MrgKernelIdeal.Mrg.x0 m c) (Cert.MrgKernelIdeal.Mrg.x1 m c) (Cert.MrgKernelIdeal.Mrg.x2 m c) (Cert.MrgKernelIdeal.Mrg.x3 m c) (Cert.MrgKernelIdeal.Mrg.x4 m c),
    (θ_run _ _ _).mono (fun r h c => ⟨(h c).1.trans (Cert.MrgKernelIdeal.Mrg.arr m c), (h c).2⟩) (Cert.MrgKernelIdeal.Value.run_blocks m g), ?_⟩
  refine (θ_run _ _ _).mono (fun r h c => ⟨(h c).1.trans ((RM_eq (y0 m' c) (y1 m' c) (y2 m' c) (y3 m' c) (y4 m' c)).trans ?_), (h c).2⟩) (Cert.MrgReferenceIdeal.Value.run m' g')
  have e := hargs c
  have a0 : y0 m' c = Cert.MrgKernelIdeal.Mrg.x0 m c := e.1
  have a1 : y1 m' c = Cert.MrgKernelIdeal.Mrg.x1 m c := e.2.1
  have a2 : y2 m' c = Cert.MrgKernelIdeal.Mrg.x2 m c := e.2.2.1
  have a3 : y3 m' c = Cert.MrgKernelIdeal.Mrg.x3 m c := e.2.2.2.1
  have a4 : y4 m' c = Cert.MrgKernelIdeal.Mrg.x4 m c := e.2.2.2.2
  rw [a0, a1, a2, a3, a4]

end Cert.MrgReferenceIdeal.Mrg
-- ==== Proof.FinClaim.lean ====
module
public import proofs.«01_k».proof.Defs
public import proofs.«01_k».proof.Proof.Gen.FinKernelIdeal.Value
public import proofs.«01_k».proof.Proof.Gen.FinReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.FinKernelIdeal.Fin
open Cert.FinKernelIdeal Cert.FinKernelIdeal.Gen Idealize.ShloMosaic Idealize.ShloMosaic.TcCoe Idealize.SL.Sem
open Idealize.ShloMosaic.Pipeline (Dat)

/-- The rows with the experts' sum, gated, added at a sequence, a place and a column. -/
def FR (x : FVec Ideal S2x4096x2048 .f32) (p : FVec Ideal S9216x2048 .f32) (d : FVec Ideal S2x6x1x2048 .f32) (i : Fin 2) (n : Fin 4096) (q : Fin 2048) : EReal := x (ix3 i n q) + d (ix4 i 5 0 q) * p (ix2 ⟨i.val * 4096 + n.val, by omega⟩ q)
/-- The rows with the experts' sum, gated, added. -/
def FA (x : FVec Ideal S2x4096x2048 .f32) (p : FVec Ideal S9216x2048 .f32) (d : FVec Ideal S2x6x1x2048 .f32) : FVec Ideal S2x4096x2048 .f32 := fun y => FR x p d (y 0) (y 1) (y 2)

section
variable (a : FVec Ideal S1x512x2048 .f32) (b : FVec Ideal S512x2048 .f32) (g : FVec Ideal S1x1x1x2048 .f32)
/-- The block's result at an entry. -/
def GR (i : Fin 1) (n : Fin 512) (q : Fin 2048) : EReal := a (ix3 i n q) + g (ix4 i 0 0 q) * b (ix2 ⟨n.val, by omega⟩ q)
def GA : FVec Ideal S1x512x2048 .f32 := fun y => GR a b g (y 0) (y 1) (y 2)

theorem pay (i : Fin 1) (n : Fin 512) (q : Fin 2048) : k0_pay1 (F := Ideal) (View.ld (Val := Elt Ideal) (e' := .f32) a r0_0) (View.ld (Val := Elt Ideal) (e' := .f32) g r0_1) (View.ld (Val := Elt Ideal) (e' := .f32) b r0_2) (ix3 i n q) = GR a b g i n q := by
  unfold GR
  obtain rfl : i = 0 := Subsingleton.elim _ _
  pointwise [k0_pay1]

theorem out : out0_3 (F := Ideal) a b g = GA a b g := by
  funext y
  unfold out0_3
  refine View.canon_apply_of_pieces (Val := Elt Ideal) (GA a b g) _ ?_ y (cover0_3 _ y)
  intro pc hpc
  rcases List.mem_cons.mp hpc with rfl | hpc
  · intro z
    idx_vars z
    have hx : r0_0.idx (ix3 z0 z1 z2) = ix3 z0 z1 z2 := by
      funext a; apply Fin.ext; fin_cases a
      · show 0 + 1 * z0.val = z0.val; omega
      · show 0 + 1 * z1.val = z1.val; omega
      · show 0 + 1 * z2.val = z2.val; omega
    show k0_pay1 (F := Ideal) (View.ld (Val := Elt Ideal) (e' := .f32) a r0_0) (View.ld (Val := Elt Ideal) (e' := .f32) g r0_1) (View.ld (Val := Elt Ideal) (e' := .f32) b r0_2) (ix3 z0 z1 z2) = GA a b g (r0_0.idx (ix3 z0 z1 z2))
    rw [hx, pay]
    rfl
  · cases hpc
end

variable (m : (ℓ : Loc nD τ sig) → Buf (Elt Ideal) ℓ)

abbrev x0 (c : Dev nD) : FVec Ideal S2x4096x2048 .f32 := m ((c.tc : Thread nD τ).loc main_arg0)
abbrev x1 (c : Dev nD) : FVec Ideal S9216x2048 .f32 := m ((c.tc : Thread nD τ).loc main_arg1)
abbrev x2 (c : Dev nD) : FVec Ideal S2x6x1x2048 .f32 := m ((c.tc : Thread nD τ).loc main_arg2)

/-- The windows' block indices at a grid point. -/
theorem idx : ∀ t : Fin cfg0.N, (win0_0.index t = ![t.val / 8, t.val % 8, 0] ∧ win0_1.index t = ![t.val, 0] ∧ win0_2.index t = ![t.val / 8, 5, 0, 0] ∧ win0_3.index t = ![t.val / 8, t.val % 8, 0]) :=
  (by decide +kernel : ∀ t : Fin grid0.N, _)

theorem ltN (t : Fin cfg0.N) : t.val < 16 := t.isLt

/-- The sequence and the place of an entry of a grid point's block. -/
abbrev it (t : Fin cfg0.N) (a : Fin 1) : Fin 2 := ⟨t.val / 8 + a.val, by have := ltN t; omega⟩
abbrev nt (t : Fin cfg0.N) (a : Fin 512) : Fin 4096 := ⟨t.val % 8 * 512 + a.val, by have := ltN t; omega⟩

theorem blk0 (c : Dev nD) (t : Fin cfg0.N) (i : Fin 1) (n : Fin 512) (q : Fin 2048) : iblk m c 0 t (ix3 i n q) = x0 m c (ix3 (it t i) (nt t n) q) := by
  have ht := ltN t
  unfold x0
  rw [← V_main_arg0 m c]
  blk_ext [iblk, idx t]
theorem blk1 (c : Dev nD) (t : Fin cfg0.N) (i : Fin 1) (n : Fin 512) (q : Fin 2048) : iblk m c 1 t (ix2 (⟨n.val, by omega⟩ : Fin 512) q) = x1 m c (ix2 (⟨(it t i).val * 4096 + (nt t n).val, by have := (it t i).isLt; have := (nt t n).isLt; omega⟩ : Fin 9216) q) := by
  have ht := ltN t
  unfold x1
  rw [← V_main_arg1 m c]
  blk_ext [iblk, idx t]
theorem blk2 (c : Dev nD) (t : Fin cfg0.N) (i : Fin 1) (q : Fin 2048) : iblk m c 2 t (ix4 i 0 0 q) = x2 m c (ix4 (it t i) 5 0 q) := by
  have ht := ltN t
  unfold x2
  rw [← V_main_arg2 m c]
  blk_ext [iblk, idx t]

theorem block_at (c : Dev nD) (t : Fin cfg0.N) (i : Fin 1) (n : Fin 512) (q : Fin 2048) : GR (iblk m c 0 t) (iblk m c 1 t) (iblk m c 2 t) i n q = FR (x0 m c) (x1 m c) (x2 m c) (it t i) (nt t n) q := by
  unfold GR FR
  exact congrArg₂ (fun p q : EReal => p + q) (blk0 m c t i n q) (congrArg₂ (fun p q : EReal => p * q) (blk2 m c t i q) (blk1 m c t i n q))

/-- The result array: every block written back is the part of it that `FA` states. -/
theorem arr (c : Dev nD) : (dats m 0 c).arrAt 3 cfg0.N = FA (x0 m c) (x1 m c) (x2 m c) := by
  refine (dats m 0 c).arrAt_eq_of_covers 3 (FA (x0 m c) (x1 m c) (x2 m c)) (by decide +kernel) fun t hf y => ?_
  blk_simp
  rw [after0_3, out]
  have hy : y = ix3 (n0 := 1) (n1 := 512) (n2 := 2048) (y 0) (y 1) (y 2) := by funext a; fin_cases a <;> rfl
  rw [hy]
  refine (block_at m c t _ _ _).trans ?_
  unfold FA
  have e0 : it t (y 0) = ((win0_3.blk t).view.emb (ix3 (n0 := 1) (n1 := 512) (n2 := 2048) (y 0) (y 1) (y 2)) : S2x4096x2048.Idx) 0 := by
    apply Fin.ext
    blk_simp [idx t]
    have h0 : (y 0 : Fin 1).val < 1 := (y 0 : Fin 1).isLt
    show t.val / 8 + (y 0 : Fin 1).val = t.val / 8
    omega
  have e1 : nt t (y 1) = ((win0_3.blk t).view.emb (ix3 (n0 := 1) (n1 := 512) (n2 := 2048) (y 0) (y 1) (y 2)) : S2x4096x2048.Idx) 1 := by
    apply Fin.ext
    blk_simp [idx t]
  have e2 : (y 2 : Fin 2048) = ((win0_3.blk t).view.emb (ix3 (n0 := 1) (n1 := 512) (n2 := 2048) (y 0) (y 1) (y 2)) : S2x4096x2048.Idx) 2 := by
    apply Fin.ext
    blk_simp [idx t]
  rw [← e0, ← e1, ← e2]
  rfl
end Cert.FinKernelIdeal.Fin

namespace Cert.FinReferenceIdeal.Fin
open Cert.FinReferenceIdeal Cert.FinReferenceIdeal.Gen Idealize.ShloMosaic Idealize.ShloMosaic.TcCoe Idealize.SL.Sem
open Cert.FinKernelIdeal.Fin (FA FR)

section
variable (x : FVec Ideal S2x4096x2048 .f32) (p : FVec Ideal S9216x2048 .f32) (d : FVec Ideal S2x6x1x2048 .f32)
/-- The reference's result as a function of its arguments. -/
def RM : FVec Ideal S2x4096x2048 .f32 := addf x (mulf (broadcastInDim S2x4096x2048 ![0, 1, 2] bcast_S2x1x2048_S2x4096x2048_0_1_2 (shapeCast _ (extractStridedSlice S2x1x1x2048 ![0, 5, 0, 0] d slices_S2x6x1x2048_S2x1x1x2048_0_5_0_0) shapeCasts_S2x1x1x2048_S2x1x2048)) (shapeCast _ (extractStridedSlice S8192x2048 ![0, 0] p slices_S9216x2048_S8192x2048_0_0) shapeCasts_S8192x2048_S2x4096x2048))

theorem RM_eq : RM x p d = FA x p d := by
  funext y; idx_vars y
  show _ = FR x p d y0 y1 y2
  unfold FR RM
  pointwise
end

variable (m : (ℓ : Loc nD τ sig) → Buf (Elt Ideal) ℓ)

/-- The reference ends with its arguments as they were; it declares no semaphore. -/
theorem frame : Cert.quiescent_FinReferenceIdeal := by
  intro m ρ _
  exact (θ_run _ _ _).mono (fun r h => ⟨fun c => (h c).2, sem_eq_zero_of_no_sems (by decide) r.2⟩) (Cert.FinReferenceIdeal.Value.run m ρ)

/-- The kernel's call and the reference end with the same array. -/
theorem value : Cert.algebraic_FinKernelIdeal_FinReferenceIdeal := by
  intro m g m' g' _ hargs
  refine ⟨fun c => FA (Cert.FinKernelIdeal.Fin.x0 m c) (Cert.FinKernelIdeal.Fin.x1 m c) (Cert.FinKernelIdeal.Fin.x2 m c),
    (θ_run _ _ _).mono (fun r h c => ⟨(h c).1.trans (Cert.FinKernelIdeal.Fin.arr m c), (h c).2⟩) (Cert.FinKernelIdeal.Value.run_blocks m g), ?_⟩
  refine (θ_run _ _ _).mono (fun r h c => ⟨(h c).1.trans (Eq.trans (b := RM (m' ((c.tc : Thread nD τ).loc main_arg0)) (m' ((c.tc : Thread nD τ).loc main_arg1)) (m' ((c.tc : Thread nD τ).loc main_arg2))) rfl ((RM_eq (m' ((c.tc : Thread nD τ).loc main_arg0)) (m' ((c.tc : Thread nD τ).loc main_arg1)) (m' ((c.tc : Thread nD τ).loc main_arg2))).trans ?_)), (h c).2⟩) (Cert.FinReferenceIdeal.Value.run m' g')
  have e := hargs c
  have a0 : (m' ((c.tc : Thread nD τ).loc main_arg0) : FVec Ideal S2x4096x2048 .f32) = Cert.FinKernelIdeal.Fin.x0 m c := e.1
  have a1 : (m' ((c.tc : Thread nD τ).loc main_arg1) : FVec Ideal S9216x2048 .f32) = Cert.FinKernelIdeal.Fin.x1 m c := e.2.1
  have a2 : (m' ((c.tc : Thread nD τ).loc main_arg2) : FVec Ideal S2x6x1x2048 .f32) = Cert.FinKernelIdeal.Fin.x2 m c := e.2.2
  rw [a0, a1, a2]
end Cert.FinReferenceIdeal.Fin
-- ==== Proof.FisClaim.lean ====
module
public import proofs.«01_k».proof.Defs
public import proofs.«01_k».proof.Proof.Gen.FisKernelIdeal.Frame
public import proofs.«01_k».proof.Proof.Gen.FisReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.FisKernelIdeal.Fis
open Cert.FisKernelIdeal Cert.FisKernelIdeal.Gen Idealize.ShloMosaic Idealize.ShloMosaic.TcCoe Idealize.SL.Sem
open Idealize.ShloMosaic.Pipeline (Dat)

/-- The rows with the experts' sum, gated, added at a sequence, a place and a column. -/
def FR (x : FVec Ideal S128x8x2048 .f32) (p : FVec Ideal S9216x2048 .f32) (d : FVec Ideal S128x6x1x2048 .f32) (i : Fin 128) (n : Fin 8) (q : Fin 2048) : EReal := x (ix3 i n q) + d (ix4 i 5 0 q) * p (ix2 ⟨8192 + i.val * 8 + n.val, by omega⟩ q)
/-- The rows with the experts' sum, gated, added. -/
def FA (x : FVec Ideal S128x8x2048 .f32) (p : FVec Ideal S9216x2048 .f32) (d : FVec Ideal S128x6x1x2048 .f32) : FVec Ideal S128x8x2048 .f32 := fun y => FR x p d (y 0) (y 1) (y 2)

section
variable (a : FVec Ideal S64x8x2048 .f32) (b : FVec Ideal S512x2048 .f32) (g : FVec Ideal S64x1x1x2048 .f32)
/-- The block's result at an entry. -/
def GR (i : Fin 64) (n : Fin 8) (q : Fin 2048) : EReal := a (ix3 i n q) + g (ix4 i 0 0 q) * b (ix2 ⟨i.val * 8 + n.val, by omega⟩ q)
def GA : FVec Ideal S64x8x2048 .f32 := fun y => GR a b g (y 0) (y 1) (y 2)

theorem pay (i : Fin 64) (n : Fin 8) (q : Fin 2048) : k0_pay1 (F := Ideal) (View.ld (Val := Elt Ideal) (e' := .f32) a r0_0) (View.ld (Val := Elt Ideal) (e' := .f32) g r0_1) (View.ld (Val := Elt Ideal) (e' := .f32) b r0_2) (ix3 i n q) = GR a b g i n q := by
  unfold GR
  skip
  pointwise [k0_pay1]

theorem out : out0_3 (F := Ideal) a b g = GA a b g := by
  funext y
  unfold out0_3
  refine View.canon_apply_of_pieces (Val := Elt Ideal) (GA a b g) _ ?_ y (cover0_3 _ y)
  intro pc hpc
  rcases List.mem_cons.mp hpc with rfl | hpc
  · intro z
    idx_vars z
    have hx : r0_0.idx (ix3 z0 z1 z2) = ix3 z0 z1 z2 := by
      funext a; apply Fin.ext; fin_cases a
      · show 0 + 1 * z0.val = z0.val; omega
      · show 0 + 1 * z1.val = z1.val; omega
      · show 0 + 1 * z2.val = z2.val; omega
    show k0_pay1 (F := Ideal) (View.ld (Val := Elt Ideal) (e' := .f32) a r0_0) (View.ld (Val := Elt Ideal) (e' := .f32) g r0_1) (View.ld (Val := Elt Ideal) (e' := .f32) b r0_2) (ix3 z0 z1 z2) = GA a b g (r0_0.idx (ix3 z0 z1 z2))
    rw [hx, pay]
    rfl
  · cases hpc
end

variable (m : (ℓ : Loc nD τ sig) → Buf (Elt Ideal) ℓ)

abbrev x0 (c : Dev nD) : FVec Ideal S128x8x2048 .f32 := m ((c.tc : Thread nD τ).loc main_arg0)
abbrev x1 (c : Dev nD) : FVec Ideal S9216x2048 .f32 := m ((c.tc : Thread nD τ).loc main_arg1)
abbrev x2 (c : Dev nD) : FVec Ideal S128x6x1x2048 .f32 := m ((c.tc : Thread nD τ).loc main_arg2)

/-- The windows' block indices at a grid point. -/
theorem idx : ∀ t : Fin cfg0.N, (win0_0.index t = ![t.val, 0, 0] ∧ win0_1.index t = ![16 + t.val, 0] ∧ win0_2.index t = ![t.val, 5, 0, 0] ∧ win0_3.index t = ![t.val, 0, 0]) :=
  (by decide +kernel : ∀ t : Fin grid0.N, _)

theorem ltN (t : Fin cfg0.N) : t.val < 2 := t.isLt

/-- The sequence and the place of an entry of a grid point's block. -/
abbrev it (t : Fin cfg0.N) (a : Fin 64) : Fin 128 := ⟨t.val * 64 + a.val, by have := ltN t; omega⟩
abbrev nt (t : Fin cfg0.N) (a : Fin 8) : Fin 8 := ⟨a.val, by have := ltN t; omega⟩

theorem blk0 (c : Dev nD) (t : Fin cfg0.N) (i : Fin 64) (n : Fin 8) (q : Fin 2048) : iblk m c 0 t (ix3 i n q) = x0 m c (ix3 (it t i) (nt t n) q) := by
  have ht := ltN t
  unfold x0
  rw [← V_main_arg0 m c]
  blk_ext [iblk, idx t]
theorem blk1 (c : Dev nD) (t : Fin cfg0.N) (i : Fin 64) (n : Fin 8) (q : Fin 2048) : iblk m c 1 t (ix2 (⟨i.val * 8 + n.val, by omega⟩ : Fin 512) q) = x1 m c (ix2 (⟨8192 + (it t i).val * 8 + (nt t n).val, by have := (it t i).isLt; have := (nt t n).isLt; omega⟩ : Fin 9216) q) := by
  have ht := ltN t
  unfold x1
  rw [← V_main_arg1 m c]
  blk_ext [iblk, idx t]
theorem blk2 (c : Dev nD) (t : Fin cfg0.N) (i : Fin 64) (q : Fin 2048) : iblk m c 2 t (ix4 i 0 0 q) = x2 m c (ix4 (it t i) 5 0 q) := by
  have ht := ltN t
  unfold x2
  rw [← V_main_arg2 m c]
  blk_ext [iblk, idx t]

theorem block_at (c : Dev nD) (t : Fin cfg0.N) (i : Fin 64) (n : Fin 8) (q : Fin 2048) : GR (iblk m c 0 t) (iblk m c 1 t) (iblk m c 2 t) i n q = FR (x0 m c) (x1 m c) (x2 m c) (it t i) (nt t n) q := by
  unfold GR FR
  exact congrArg₂ (fun p q : EReal => p + q) (blk0 m c t i n q) (congrArg₂ (fun p q : EReal => p * q) (blk2 m c t i q) (blk1 m c t i n q))

/-- The result array: every block written back is the part of it that `FA` states. -/
theorem arr (c : Dev nD) : (dats m 0 c).arrAt 3 cfg0.N = FA (x0 m c) (x1 m c) (x2 m c) := by
  refine (dats m 0 c).arrAt_eq_of_covers 3 (FA (x0 m c) (x1 m c) (x2 m c)) (by decide +kernel) fun t hf y => ?_
  blk_simp
  rw [after0_3, out]
  have hy : y = ix3 (n0 := 64) (n1 := 8) (n2 := 2048) (y 0) (y 1) (y 2) := by funext a; fin_cases a <;> rfl
  rw [hy]
  refine (block_at m c t _ _ _).trans ?_
  unfold FA
  have e0 : it t (y 0) = ((win0_3.blk t).view.emb (ix3 (n0 := 64) (n1 := 8) (n2 := 2048) (y 0) (y 1) (y 2)) : S128x8x2048.Idx) 0 := by
    apply Fin.ext
    blk_simp [idx t]
  have e1 : nt t (y 1) = ((win0_3.blk t).view.emb (ix3 (n0 := 64) (n1 := 8) (n2 := 2048) (y 0) (y 1) (y 2)) : S128x8x2048.Idx) 1 := by
    apply Fin.ext
    blk_simp [idx t]
  have e2 : (y 2 : Fin 2048) = ((win0_3.blk t).view.emb (ix3 (n0 := 64) (n1 := 8) (n2 := 2048) (y 0) (y 1) (y 2)) : S128x8x2048.Idx) 2 := by
    apply Fin.ext
    blk_simp [idx t]
  rw [← e0, ← e1, ← e2]
  rfl

/-- An argument that a window reads is as launched. -/
theorem kept0 (r : PUnit × MemSt nD τ sig (Elt Ideal)) (h : Pipeline.FramePost cfgs (dats m) 0 (V m) r) (c : Dev nD) : r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) : r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) : r.2.mem ((c : Thread nD τ).loc main_arg2) = m ((c : Thread nD τ).loc main_arg2) :=
  ((h c).1 2).trans (((dats m 0 c).arrAt_in 2 rfl _).trans ((A_eq m c 2).trans (V_main_arg2 m c)))

/-- The run ends with the result array as the blocks left it and the arguments as launched. -/
theorem run_arr (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, kept0 m r h c, kept1 m r h c, kept2 m r h c⟩) (run_main m ρ)
end Cert.FisKernelIdeal.Fis

namespace Cert.FisReferenceIdeal.Fis
open Cert.FisReferenceIdeal Cert.FisReferenceIdeal.Gen Idealize.ShloMosaic Idealize.ShloMosaic.TcCoe Idealize.SL.Sem
open Cert.FisKernelIdeal.Fis (FA FR)

section
variable (x : FVec Ideal S128x8x2048 .f32) (p : FVec Ideal S9216x2048 .f32) (d : FVec Ideal S128x6x1x2048 .f32)
/-- The reference's result as a function of its arguments. -/
def RM : FVec Ideal S128x8x2048 .f32 := addf x (mulf (broadcastInDim S128x8x2048 ![0, 1, 2] bcast_S128x1x2048_S128x8x2048_0_1_2 (shapeCast _ (extractStridedSlice S128x1x1x2048 ![0, 5, 0, 0] d slices_S128x6x1x2048_S128x1x1x2048_0_5_0_0) shapeCasts_S128x1x1x2048_S128x1x2048)) (shapeCast _ (extractStridedSlice S1024x2048 ![8192, 0] p slices_S9216x2048_S1024x2048_8192_0) shapeCasts_S1024x2048_S128x8x2048))

theorem RM_eq : RM x p d = FA x p d := by
  funext y; idx_vars y
  show _ = FR x p d y0 y1 y2
  unfold FR RM
  pointwise
  simp only [Nat.add_assoc]
end

variable (m : (ℓ : Loc nD τ sig) → Buf (Elt Ideal) ℓ)

/-- The reference ends with its arguments as they were; it declares no semaphore. -/
theorem frame : Cert.quiescent_FisReferenceIdeal := by
  intro m ρ _
  exact (θ_run _ _ _).mono (fun r h => ⟨fun c => (h c).2, sem_eq_zero_of_no_sems (by decide) r.2⟩) (Cert.FisReferenceIdeal.Value.run m ρ)

/-- The kernel's call and the reference end with the same array. -/
theorem value : Cert.algebraic_FisKernelIdeal_FisReferenceIdeal := by
  intro m g m' g' _ hargs
  refine ⟨fun c => FA (Cert.FisKernelIdeal.Fis.x0 m c) (Cert.FisKernelIdeal.Fis.x1 m c) (Cert.FisKernelIdeal.Fis.x2 m c),
    (θ_run _ _ _).mono (fun r h c => ⟨(h c).1.trans (Cert.FisKernelIdeal.Fis.arr m c), (h c).2⟩) (Cert.FisKernelIdeal.Fis.run_arr m g), ?_⟩
  refine (θ_run _ _ _).mono (fun r h c => ⟨(h c).1.trans (Eq.trans (b := RM (m' ((c.tc : Thread nD τ).loc main_arg0)) (m' ((c.tc : Thread nD τ).loc main_arg1)) (m' ((c.tc : Thread nD τ).loc main_arg2))) rfl ((RM_eq (m' ((c.tc : Thread nD τ).loc main_arg0)) (m' ((c.tc : Thread nD τ).loc main_arg1)) (m' ((c.tc : Thread nD τ).loc main_arg2))).trans ?_)), (h c).2⟩) (Cert.FisReferenceIdeal.Value.run m' g')
  have e := hargs c
  have a0 : (m' ((c.tc : Thread nD τ).loc main_arg0) : FVec Ideal S128x8x2048 .f32) = Cert.FisKernelIdeal.Fis.x0 m c := e.1
  have a1 : (m' ((c.tc : Thread nD τ).loc main_arg1) : FVec Ideal S9216x2048 .f32) = Cert.FisKernelIdeal.Fis.x1 m c := e.2.1
  have a2 : (m' ((c.tc : Thread nD τ).loc main_arg2) : FVec Ideal S128x6x1x2048 .f32) = Cert.FisKernelIdeal.Fis.x2 m c := e.2.2
  rw [a0, a1, a2]
end Cert.FisReferenceIdeal.Fis
-- ==== Proof.OutClaim.lean ====
module
public import proofs.«01_k».proof.Defs
public import proofs.«01_k».proof.Proof.Gen.OutKernelIdeal.Value
public import proofs.«01_k».proof.Proof.Gen.OutReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.OutKernelIdeal.Out
open Cert.OutKernelIdeal Cert.OutKernelIdeal.Gen Idealize.ShloMosaic Idealize.ShloMosaic.TcCoe Idealize.SL.Sem
open Idealize.ShloMosaic.Pipeline (Dat)

/-- The rows with their projection, gated, added at a sequence, a place and a column. -/
def FR (t : FVec Ideal S8192x2048 .bf16) (x : FVec Ideal S2x4096x2048 .f32) (d : FVec Ideal S2x6x1x2048 .f32) (w : FVec Ideal S2048x2048 .f32) (i : Fin 2) (n : Fin 4096) (q : Fin 2048) : EReal := x (ix3 i n q) + d (ix4 i 2 0 q) * (∑ k : Fin 2048, t (ix2 ⟨i.val * 4096 + n.val, by omega⟩ k) * w (ix2 k q))
/-- The rows with their projection, gated, added. -/
def FA (t : FVec Ideal S8192x2048 .bf16) (x : FVec Ideal S2x4096x2048 .f32) (d : FVec Ideal S2x6x1x2048 .f32) (w : FVec Ideal S2048x2048 .f32) : FVec Ideal S2x4096x2048 .f32 := fun y => FR t x d w (y 0) (y 1) (y 2)

section
variable (t : FVec Ideal S256x2048 .bf16) (a : FVec Ideal S1x256x2048 .f32) (g g3 g4 : FVec Ideal S1x1x1x2048 .f32) (gn : FVec Ideal S1x1x2048 .f32) (w : FVec Ideal S2048x2048 .bf16)
/-- The block's result at an entry. -/
def GR (i : Fin 1) (n : Fin 256) (q : Fin 2048) : EReal := a (ix3 i n q) + g (ix4 i 0 0 q) * (∑ k : Fin 2048, t (ix2 n k) * w (ix2 k q))
def GA : FVec Ideal S1x256x2048 .f32 := fun y => GR t a g w (y 0) (y 1) (y 2)

theorem pay (i : Fin 1) (n : Fin 256) (q : Fin 2048) : k0_pay2 (F := Ideal) (View.ld (Val := Elt Ideal) (e' := .bf16) t r0_0) (View.ld (Val := Elt Ideal) (e' := .bf16) w r0_1) (View.ld (Val := Elt Ideal) (e' := .f32) a r0_2) (View.ld (Val := Elt Ideal) (e' := .f32) g r0_3) (ix3 i n q) = GR t a g w i n q := by
  unfold GR
  obtain rfl : i = 0 := Subsingleton.elim _ _
  pointwise [k0_pay2]

theorem out : out0_7 (F := Ideal) t a g g3 g4 gn w = GA t a g w := by
  funext y
  unfold out0_7
  refine View.canon_apply_of_pieces (Val := Elt Ideal) (GA t a g w) _ ?_ y (cover0_7 _ y)
  intro pc hpc
  rcases List.mem_cons.mp hpc with rfl | hpc
  · intro z
    idx_vars z
    have hx : r0_2.idx (ix3 z0 z1 z2) = ix3 z0 z1 z2 := by
      funext a; apply Fin.ext; fin_cases a
      · show 0 + 1 * z0.val = z0.val; omega
      · show 0 + 1 * z1.val = z1.val; omega
      · show 0 + 1 * z2.val = z2.val; omega
    show k0_pay2 (F := Ideal) (View.ld (Val := Elt Ideal) (e' := .bf16) t r0_0) (View.ld (Val := Elt Ideal) (e' := .bf16) w r0_1) (View.ld (Val := Elt Ideal) (e' := .f32) a r0_2) (View.ld (Val := Elt Ideal) (e' := .f32) g r0_3) (ix3 z0 z1 z2) = GA t a g w (r0_2.idx (ix3 z0 z1 z2))
    rw [hx, pay]
    rfl
  · cases hpc
end

variable (m : (ℓ : Loc nD τ sig) → Buf (Elt Ideal) ℓ)

abbrev x0 (c : Dev nD) : FVec Ideal S8192x2048 .bf16 := m ((c.tc : Thread nD τ).loc main_arg0)
abbrev x1 (c : Dev nD) : FVec Ideal S2x4096x2048 .f32 := m ((c.tc : Thread nD τ).loc main_arg1)
abbrev x2 (c : Dev nD) : FVec Ideal S2x6x1x2048 .f32 := m ((c.tc : Thread nD τ).loc main_arg2)
abbrev x4 (c : Dev nD) : FVec Ideal S2048x2048 .f32 := m ((c.tc : Thread nD τ).loc main_arg4)

/-- The windows' block indices at a grid point. -/
theorem idx : ∀ t : Fin cfg0.N, (win0_0.index t = ![t.val, 0] ∧ win0_1.index t = ![t.val / 16, t.val % 16, 0] ∧ win0_2.index t = ![t.val / 16, 2, 0, 0] ∧ win0_6.index t = ![0, 0] ∧ win0_7.index t = ![t.val / 16, t.val % 16, 0]) :=
  (by decide +kernel : ∀ t : Fin grid0.N, _)

theorem ltN (t : Fin cfg0.N) : t.val < 32 := t.isLt

/-- The sequence and the place of an entry of a grid point's block. -/
abbrev it (t : Fin cfg0.N) (a : Fin 1) : Fin 2 := ⟨t.val / 16 + a.val, by have := ltN t; omega⟩
abbrev nt (t : Fin cfg0.N) (a : Fin 256) : Fin 4096 := ⟨t.val % 16 * 256 + a.val, by have := ltN t; omega⟩

theorem V_v0 (c : Dev nD) : V m c main_v0 = fun y => (x4 m c y : EReal) := by
  show StableHlo.after hostOps0 _ (Proc.devRef .tc main_v0) = _
  simp only [hostOps0]
  after_results
  funext y; idx_vars y
  pointwise
theorem blk0 (c : Dev nD) (t : Fin cfg0.N) (i : Fin 1) (n : Fin 256) (k : Fin 2048) : iblk m c 0 t (ix2 n k) = x0 m c (ix2 (⟨(it t i).val * 4096 + (nt t n).val, by have := (it t i).isLt; have := (nt t n).isLt; omega⟩ : Fin 8192) k) := by
  have ht := ltN t
  unfold x0
  rw [← V_main_arg0 m c]
  blk_ext [iblk, idx t]
theorem blk1 (c : Dev nD) (t : Fin cfg0.N) (i : Fin 1) (n : Fin 256) (q : Fin 2048) : iblk m c 1 t (ix3 i n q) = x1 m c (ix3 (it t i) (nt t n) q) := by
  have ht := ltN t
  unfold x1
  rw [← V_main_arg1 m c]
  blk_ext [iblk, idx t]
theorem blk2 (c : Dev nD) (t : Fin cfg0.N) (i : Fin 1) (q : Fin 2048) : iblk m c 2 t (ix4 i 0 0 q) = x2 m c (ix4 (it t i) 2 0 q) := by
  have ht := ltN t
  unfold x2
  rw [← V_main_arg2 m c]
  blk_ext [iblk, idx t]
theorem blk6 (c : Dev nD) (t : Fin cfg0.N) (k q : Fin 2048) : (iblk m c 6 t (ix2 k q) : EReal) = x4 m c (ix2 k q) := by
  refine Eq.trans ?_ (congrFun (V_v0 m c) (ix2 k q))
  blk_ext [iblk, idx t]

theorem block_at (c : Dev nD) (t : Fin cfg0.N) (i : Fin 1) (n : Fin 256) (q : Fin 2048) : GR (iblk m c 0 t) (iblk m c 1 t) (iblk m c 2 t) (iblk m c 6 t) i n q = FR (x0 m c) (x1 m c) (x2 m c) (x4 m c) (it t i) (nt t n) q := by
  unfold GR FR
  exact congrArg₂ (fun p q : EReal => p + q) (blk1 m c t i n q) (congrArg₂ (fun p q : EReal => p * q) (blk2 m c t i q) (Finset.sum_congr rfl fun k _ => congrArg₂ (fun p q : EReal => p * q) (blk0 m c t i n k) (blk6 m c t k q)))

/-- The result array: every block written back is the part of it that `FA` states. -/
theorem arr (c : Dev nD) : (dats m 0 c).arrAt 7 cfg0.N = FA (x0 m c) (x1 m c) (x2 m c) (x4 m c) := by
  refine (dats m 0 c).arrAt_eq_of_covers 7 (FA (x0 m c) (x1 m c) (x2 m c) (x4 m c)) (by decide +kernel) fun t hf y => ?_
  blk_simp
  rw [after0_7, out]
  have hy : y = ix3 (n0 := 1) (n1 := 256) (n2 := 2048) (y 0) (y 1) (y 2) := by funext a; fin_cases a <;> rfl
  rw [hy]
  refine (block_at m c t _ _ _).trans ?_
  unfold FA
  have e0 : it t (y 0) = ((win0_7.blk t).view.emb (ix3 (n0 := 1) (n1 := 256) (n2 := 2048) (y 0) (y 1) (y 2)) : S2x4096x2048.Idx) 0 := by
    apply Fin.ext
    blk_simp [idx t]
    have h0 : (y 0 : Fin 1).val < 1 := (y 0 : Fin 1).isLt
    show t.val / 16 + (y 0 : Fin 1).val = t.val / 16
    omega
  have e1 : nt t (y 1) = ((win0_7.blk t).view.emb (ix3 (n0 := 1) (n1 := 256) (n2 := 2048) (y 0) (y 1) (y 2)) : S2x4096x2048.Idx) 1 := by
    apply Fin.ext
    blk_simp [idx t]
  have e2 : (y 2 : Fin 2048) = ((win0_7.blk t).view.emb (ix3 (n0 := 1) (n1 := 256) (n2 := 2048) (y 0) (y 1) (y 2)) : S2x4096x2048.Idx) 2 := by
    apply Fin.ext
    blk_simp [idx t]
  rw [← e0, ← e1, ← e2]
  rfl
end Cert.OutKernelIdeal.Out

namespace Cert.OutReferenceIdeal.Out
open Cert.OutReferenceIdeal Cert.OutReferenceIdeal.Gen Idealize.ShloMosaic Idealize.ShloMosaic.TcCoe Idealize.SL.Sem
open Cert.OutKernelIdeal.Out (FA FR)

section
variable (t : FVec Ideal S8192x2048 .bf16) (x : FVec Ideal S2x4096x2048 .f32) (d : FVec Ideal S2x6x1x2048 .f32) (w : FVec Ideal S2048x2048 .f32)
/-- The reference's result as a function of its arguments. -/
def RM : FVec Ideal S2x4096x2048 .f32 := addf x (mulf (broadcastInDim S2x4096x2048 ![0, 1, 2] bcast_S2x1x2048_S2x4096x2048_0_1_2 (shapeCast _ (extractStridedSlice S2x1x1x2048 ![0, 2, 0, 0] d slices_S2x6x1x2048_S2x1x1x2048_0_2_0_0) shapeCasts_S2x1x1x2048_S2x1x2048)) (Host.dotGeneral dot_S2x4096x2048_S2048x2048_S2x4096x2048_2_0_01_1_n_n none (shapeCast _ (extf .f32 t bitsLt_bf16_f32) shapeCasts_S8192x2048_S2x4096x2048) w))

theorem RM_eq : RM t x d w = FA t x d w := by
  funext y; idx_vars y
  show _ = FR t x d w y0 y1 y2
  unfold FR RM
  pointwise
end

variable (m : (ℓ : Loc nD τ sig) → Buf (Elt Ideal) ℓ)

/-- The reference ends with its arguments as they were; it declares no semaphore. -/
theorem frame : Cert.quiescent_OutReferenceIdeal := by
  intro m ρ _
  exact (θ_run _ _ _).mono (fun r h => ⟨fun c => (h c).2, sem_eq_zero_of_no_sems (by decide) r.2⟩) (Cert.OutReferenceIdeal.Value.run m ρ)

/-- The kernel's call and the reference end with the same array. -/
theorem value : Cert.algebraic_OutKernelIdeal_OutReferenceIdeal := by
  intro m g m' g' _ hargs
  refine ⟨fun c => FA (Cert.OutKernelIdeal.Out.x0 m c) (Cert.OutKernelIdeal.Out.x1 m c) (Cert.OutKernelIdeal.Out.x2 m c) (Cert.OutKernelIdeal.Out.x4 m c),
    (θ_run _ _ _).mono (fun r h c => ⟨(h c).1.trans (Cert.OutKernelIdeal.Out.arr m c), (h c).2.2⟩) (Cert.OutKernelIdeal.Value.run_blocks m g), ?_⟩
  refine (θ_run _ _ _).mono (fun r h c => ⟨(h c).1.trans (Eq.trans (b := RM (m' ((c.tc : Thread nD τ).loc main_arg0)) (m' ((c.tc : Thread nD τ).loc main_arg1)) (m' ((c.tc : Thread nD τ).loc main_arg2)) (m' ((c.tc : Thread nD τ).loc main_arg4))) rfl ((RM_eq (m' ((c.tc : Thread nD τ).loc main_arg0)) (m' ((c.tc : Thread nD τ).loc main_arg1)) (m' ((c.tc : Thread nD τ).loc main_arg2)) (m' ((c.tc : Thread nD τ).loc main_arg4))).trans ?_)), (h c).2⟩) (Cert.OutReferenceIdeal.Value.run m' g')
  have e := hargs c
  have a0 : (m' ((c.tc : Thread nD τ).loc main_arg0) : FVec Ideal S8192x2048 .bf16) = Cert.OutKernelIdeal.Out.x0 m c := e.1
  have a1 : (m' ((c.tc : Thread nD τ).loc main_arg1) : FVec Ideal S2x4096x2048 .f32) = Cert.OutKernelIdeal.Out.x1 m c := e.2.1
  have a2 : (m' ((c.tc : Thread nD τ).loc main_arg2) : FVec Ideal S2x6x1x2048 .f32) = Cert.OutKernelIdeal.Out.x2 m c := e.2.2.1
  have a4 : (m' ((c.tc : Thread nD τ).loc main_arg4) : FVec Ideal S2048x2048 .f32) = Cert.OutKernelIdeal.Out.x4 m c := e.2.2.2.2
  rw [a0, a1, a2, a4]
end Cert.OutReferenceIdeal.Out
-- ==== Proof.ScrClaim.lean ====
module
public import proofs.«01_k».proof.Defs
public import proofs.«01_k».proof.Proof.Gen.ScrKernelIdeal.Value
public import proofs.«01_k».proof.Proof.Gen.ScrReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.ScrKernelIdeal.Scr
open Cert.ScrKernelIdeal Cert.ScrKernelIdeal.Gen Idealize.ShloMosaic Idealize.ShloMosaic.TcCoe Idealize.SL.Sem
open Idealize.ShloMosaic.Pipeline (Dat)

/-- A query half of a head, against a key, at a row: `o` is 0 for the first half and 1 for the second. -/
def SR (x : FVec Ideal S9216x2048 .bf16) (w : FVec Ideal S2048x2048 .f32) (s : FVec Ideal S128x128 .f32) (o : Fin 2) (h : Fin 8) (k : Fin 128) (n : Fin 9216) : EReal := ∑ d : Fin 128, s (ix2 k d) * (∑ e : Fin 2048, x (ix2 n e) * w (ix2 e ⟨h.val * 256 + o.val * 128 + d.val, by omega⟩))
/-- The scores of all heads, keys and rows. -/
def SA (x : FVec Ideal S9216x2048 .bf16) (w : FVec Ideal S2048x2048 .f32) (s : FVec Ideal S128x128 .f32) (o : Fin 2) : FVec Ideal S8x128x9216 .f32 := fun y => SR x w s o (y 0) (y 1) (y 2)

section
variable (x : FVec Ideal S512x2048 .bf16) (w : FVec Ideal S2048x2048 .bf16) (s s' : FVec Ideal S128x128 .bf16)
/-- The block's queries. -/
abbrev Q : FVec Ideal S512x2048 .f32 := k0_pay2 (F := Ideal) (View.ld (Val := Elt Ideal) (e' := .bf16) x r0_0) (View.ld (Val := Elt Ideal) (e' := .bf16) w r0_1)
theorem Q_at (n : Fin 512) (q : Fin 2048) : Q x w (ix2 n q) = ∑ e : Fin 2048, x (ix2 n e) * w (ix2 e q) := by
  pointwise [Q, k0_pay2]
theorem pay22 : k0_pay22 (F := Ideal) x w s s' = Q x w := rfl

/-- The block's scores from the queries `v`. -/
def BR (v : FVec Ideal S512x2048 .f32) (r : FVec Ideal S128x128 .bf16) (o : Fin 2) (h : Fin 8) (k : Fin 128) (n : Fin 512) : EReal := ∑ d : Fin 128, r (ix2 k d) * v (ix2 n ⟨h.val * 256 + o.val * 128 + d.val, by omega⟩)
def BA (v : FVec Ideal S512x2048 .f32) (r : FVec Ideal S128x128 .bf16) (o : Fin 2) : FVec Ideal S8x128x512 .f32 := fun y => BR v r o (y 0) (y 1) (y 2)
theorem hx0 (k : Fin 128) (n : Fin 512) : r0_3.idx (ix3 0 k n) = (ix3 0 k n : S8x128x512.Idx) := by
  funext a; apply Fin.ext; fin_cases a
  · rfl
  · show 0 + 1 * k.val = k.val; omega
  · show 0 + 1 * n.val = n.val; omega
theorem hx1 (k : Fin 128) (n : Fin 512) : r0_4.idx (ix3 0 k n) = (ix3 1 k n : S8x128x512.Idx) := by
  funext a; apply Fin.ext; fin_cases a
  · rfl
  · show 0 + 1 * k.val = k.val; omega
  · show 0 + 1 * n.val = n.val; omega
theorem hx2 (k : Fin 128) (n : Fin 512) : r0_5.idx (ix3 0 k n) = (ix3 2 k n : S8x128x512.Idx) := by
  funext a; apply Fin.ext; fin_cases a
  · rfl
  · show 0 + 1 * k.val = k.val; omega
  · show 0 + 1 * n.val = n.val; omega
theorem hx3 (k : Fin 128) (n : Fin 512) : r0_6.idx (ix3 0 k n) = (ix3 3 k n : S8x128x512.Idx) := by
  funext a; apply Fin.ext; fin_cases a
  · rfl
  · show 0 + 1 * k.val = k.val; omega
  · show 0 + 1 * n.val = n.val; omega
theorem hx4 (k : Fin 128) (n : Fin 512) : r0_7.idx (ix3 0 k n) = (ix3 4 k n : S8x128x512.Idx) := by
  funext a; apply Fin.ext; fin_cases a
  · rfl
  · show 0 + 1 * k.val = k.val; omega
  · show 0 + 1 * n.val = n.val; omega
theorem hx5 (k : Fin 128) (n : Fin 512) : r0_8.idx (ix3 0 k n) = (ix3 5 k n : S8x128x512.Idx) := by
  funext a; apply Fin.ext; fin_cases a
  · rfl
  · show 0 + 1 * k.val = k.val; omega
  · show 0 + 1 * n.val = n.val; omega
theorem hx6 (k : Fin 128) (n : Fin 512) : r0_9.idx (ix3 0 k n) = (ix3 6 k n : S8x128x512.Idx) := by
  funext a; apply Fin.ext; fin_cases a
  · rfl
  · show 0 + 1 * k.val = k.val; omega
  · show 0 + 1 * n.val = n.val; omega
theorem hx7 (k : Fin 128) (n : Fin 512) : r0_10.idx (ix3 0 k n) = (ix3 7 k n : S8x128x512.Idx) := by
  funext a; apply Fin.ext; fin_cases a
  · rfl
  · show 0 + 1 * k.val = k.val; omega
  · show 0 + 1 * n.val = n.val; omega
theorem a00 (k : Fin 128) (n : Fin 512) : k0_pay3 (F := Ideal) (View.ld (Val := Elt Ideal) (e' := .bf16) x r0_0) (View.ld (Val := Elt Ideal) (e' := .bf16) w r0_1) (View.ld (Val := Elt Ideal) (e' := .bf16) s r0_2) (ix3 0 k n) = BR (Q x w) s 0 0 k n := by
  unfold BR
  show k0_pay3 (F := Ideal) (View.ld (Val := Elt Ideal) (e' := .bf16) x r0_0) (View.ld (Val := Elt Ideal) (e' := .bf16) w r0_1) (View.ld (Val := Elt Ideal) (e' := .bf16) s r0_2) (ix3 0 k n) = ∑ d : Fin 128, s (ix2 k d) * k0_pay2 (F := Ideal) (View.ld (Val := Elt Ideal) (e' := .bf16) x r0_0) (View.ld (Val := Elt Ideal) (e' := .bf16) w r0_1) (ix2 n ⟨0 + d.val, by omega⟩)
  unfold k0_pay3
  generalize k0_pay2 (F := Ideal) (View.ld (Val := Elt Ideal) (e' := .bf16) x r0_0) (View.ld (Val := Elt Ideal) (e' := .bf16) w r0_1) = v
  pointwise
theorem a01 (k : Fin 128) (n : Fin 512) : k0_pay6 (F := Ideal) (View.ld (Val := Elt Ideal) (e' := .bf16) x r0_0) (View.ld (Val := Elt Ideal) (e' := .bf16) w r0_1) (View.ld (Val := Elt Ideal) (e' := .bf16) s r0_2) (ix3 0 k n) = BR (Q x w) s 0 1 k n := by
  unfold BR
  show k0_pay6 (F := Ideal) (View.ld (Val := Elt Ideal) (e' := .bf16) x r0_0) (View.ld (Val := Elt Ideal) (e' := .bf16) w r0_1) (View.ld (Val := Elt Ideal) (e' := .bf16) s r0_2) (ix3 0 k n) = ∑ d : Fin 128, s (ix2 k d) * k0_pay2 (F := Ideal) (View.ld (Val := Elt Ideal) (e' := .bf16) x r0_0) (View.ld (Val := Elt Ideal) (e' := .bf16) w r0_1) (ix2 n ⟨256 + d.val, by omega⟩)
  unfold k0_pay6
  generalize k0_pay2 (F := Ideal) (View.ld (Val := Elt Ideal) (e' := .bf16) x r0_0) (View.ld (Val := Elt Ideal) (e' := .bf16) w r0_1) = v
  pointwise
theorem a02 (v : FVec Ideal S512x2048 .f32) (k : Fin 128) (n : Fin 512) : k0_pay8 (F := Ideal) v (View.ld (Val := Elt Ideal) (e' := .bf16) s r0_2) (ix3 0 k n) = BR v s 0 2 k n := by
  unfold BR
  show k0_pay8 (F := Ideal) v (View.ld (Val := Elt Ideal) (e' := .bf16) s r0_2) (ix3 0 k n) = ∑ d : Fin 128, s (ix2 k d) * v (ix2 n ⟨512 + d.val, by omega⟩)
  pointwise [k0_pay8]
theorem a03 (v : FVec Ideal S512x2048 .f32) (k : Fin 128) (n : Fin 512) : k0_pay11 (F := Ideal) v (View.ld (Val := Elt Ideal) (e' := .bf16) s r0_2) (ix3 0 k n) = BR v s 0 3 k n := by
  unfold BR
  show k0_pay11 (F := Ideal) v (View.ld (Val := Elt Ideal) (e' := .bf16) s r0_2) (ix3 0 k n) = ∑ d : Fin 128, s (ix2 k d) * v (ix2 n ⟨768 + d.val, by omega⟩)
  pointwise [k0_pay11]
theorem a04 (v : FVec Ideal S512x2048 .f32) (k : Fin 128) (n : Fin 512) : k0_pay13 (F := Ideal) v (View.ld (Val := Elt Ideal) (e' := .bf16) s r0_2) (ix3 0 k n) = BR v s 0 4 k n := by
  unfold BR
  show k0_pay13 (F := Ideal) v (View.ld (Val := Elt Ideal) (e' := .bf16) s r0_2) (ix3 0 k n) = ∑ d : Fin 128, s (ix2 k d) * v (ix2 n ⟨1024 + d.val, by omega⟩)
  pointwise [k0_pay13]
theorem a05 (v : FVec Ideal S512x2048 .f32) (k : Fin 128) (n : Fin 512) : k0_pay16 (F := Ideal) v (View.ld (Val := Elt Ideal) (e' := .bf16) s r0_2) (ix3 0 k n) = BR v s 0 5 k n := by
  unfold BR
  show k0_pay16 (F := Ideal) v (View.ld (Val := Elt Ideal) (e' := .bf16) s r0_2) (ix3 0 k n) = ∑ d : Fin 128, s (ix2 k d) * v (ix2 n ⟨1280 + d.val, by omega⟩)
  pointwise [k0_pay16]
theorem a06 (v : FVec Ideal S512x2048 .f32) (k : Fin 128) (n : Fin 512) : k0_pay18 (F := Ideal) v (View.ld (Val := Elt Ideal) (e' := .bf16) s r0_2) (ix3 0 k n) = BR v s 0 6 k n := by
  unfold BR
  show k0_pay18 (F := Ideal) v (View.ld (Val := Elt Ideal) (e' := .bf16) s r0_2) (ix3 0 k n) = ∑ d : Fin 128, s (ix2 k d) * v (ix2 n ⟨1536 + d.val, by omega⟩)
  pointwise [k0_pay18]
theorem a07 (v : FVec Ideal S512x2048 .f32) (k : Fin 128) (n : Fin 512) : k0_pay21 (F := Ideal) v (View.ld (Val := Elt Ideal) (e' := .bf16) s r0_2) (ix3 0 k n) = BR v s 0 7 k n := by
  unfold BR
  show k0_pay21 (F := Ideal) v (View.ld (Val := Elt Ideal) (e' := .bf16) s r0_2) (ix3 0 k n) = ∑ d : Fin 128, s (ix2 k d) * v (ix2 n ⟨1792 + d.val, by omega⟩)
  pointwise [k0_pay21]
theorem a10 (k : Fin 128) (n : Fin 512) : k0_pay4 (F := Ideal) (View.ld (Val := Elt Ideal) (e' := .bf16) x r0_0) (View.ld (Val := Elt Ideal) (e' := .bf16) w r0_1) (View.ld (Val := Elt Ideal) (e' := .bf16) s' r0_2) (ix3 0 k n) = BR (Q x w) s' 1 0 k n := by
  unfold BR
  show k0_pay4 (F := Ideal) (View.ld (Val := Elt Ideal) (e' := .bf16) x r0_0) (View.ld (Val := Elt Ideal) (e' := .bf16) w r0_1) (View.ld (Val := Elt Ideal) (e' := .bf16) s' r0_2) (ix3 0 k n) = ∑ d : Fin 128, s' (ix2 k d) * k0_pay2 (F := Ideal) (View.ld (Val := Elt Ideal) (e' := .bf16) x r0_0) (View.ld (Val := Elt Ideal) (e' := .bf16) w r0_1) (ix2 n ⟨128 + d.val, by omega⟩)
  unfold k0_pay4
  generalize k0_pay2 (F := Ideal) (View.ld (Val := Elt Ideal) (e' := .bf16) x r0_0) (View.ld (Val := Elt Ideal) (e' := .bf16) w r0_1) = v
  pointwise
theorem a11 (k : Fin 128) (n : Fin 512) : k0_pay7 (F := Ideal) (k0_pay5 (F := Ideal) (View.ld (Val := Elt Ideal) (e' := .bf16) x r0_0) (View.ld (Val := Elt Ideal) (e' := .bf16) w r0_1)) (View.ld (Val := Elt Ideal) (e' := .bf16) s' r0_2) (ix3 0 k n) = BR (Q x w) s' 1 1 k n := by
  unfold BR
  show k0_pay7 (F := Ideal) (k0_pay5 (F := Ideal) (View.ld (Val := Elt Ideal) (e' := .bf16) x r0_0) (View.ld (Val := Elt Ideal) (e' := .bf16) w r0_1)) (View.ld (Val := Elt Ideal) (e' := .bf16) s' r0_2) (ix3 0 k n) = ∑ d : Fin 128, s' (ix2 k d) * k0_pay2 (F := Ideal) (View.ld (Val := Elt Ideal) (e' := .bf16) x r0_0) (View.ld (Val := Elt Ideal) (e' := .bf16) w r0_1) (ix2 n ⟨384 + d.val, by omega⟩)
  unfold k0_pay7 k0_pay5
  generalize k0_pay2 (F := Ideal) (View.ld (Val := Elt Ideal) (e' := .bf16) x r0_0) (View.ld (Val := Elt Ideal) (e' := .bf16) w r0_1) = v
  pointwise
theorem a12 (v : FVec Ideal S512x2048 .f32) (k : Fin 128) (n : Fin 512) : k0_pay9 (F := Ideal) v (View.ld (Val := Elt Ideal) (e' := .bf16) s' r0_2) (ix3 0 k n) = BR v s' 1 2 k n := by
  unfold BR
  show k0_pay9 (F := Ideal) v (View.ld (Val := Elt Ideal) (e' := .bf16) s' r0_2) (ix3 0 k n) = ∑ d : Fin 128, s' (ix2 k d) * v (ix2 n ⟨640 + d.val, by omega⟩)
  pointwise [k0_pay9]
theorem a13 (v : FVec Ideal S512x2048 .f32) (k : Fin 128) (n : Fin 512) : k0_pay12 (F := Ideal) (k0_pay10 (F := Ideal) v) (View.ld (Val := Elt Ideal) (e' := .bf16) s' r0_2) (ix3 0 k n) = BR v s' 1 3 k n := by
  unfold BR
  show k0_pay12 (F := Ideal) (k0_pay10 (F := Ideal) v) (View.ld (Val := Elt Ideal) (e' := .bf16) s' r0_2) (ix3 0 k n) = ∑ d : Fin 128, s' (ix2 k d) * v (ix2 n ⟨896 + d.val, by omega⟩)
  pointwise [k0_pay12, k0_pay10]
theorem a14 (v : FVec Ideal S512x2048 .f32) (k : Fin 128) (n : Fin 512) : k0_pay14 (F := Ideal) v (View.ld (Val := Elt Ideal) (e' := .bf16) s' r0_2) (ix3 0 k n) = BR v s' 1 4 k n := by
  unfold BR
  show k0_pay14 (F := Ideal) v (View.ld (Val := Elt Ideal) (e' := .bf16) s' r0_2) (ix3 0 k n) = ∑ d : Fin 128, s' (ix2 k d) * v (ix2 n ⟨1152 + d.val, by omega⟩)
  pointwise [k0_pay14]
theorem a15 (v : FVec Ideal S512x2048 .f32) (k : Fin 128) (n : Fin 512) : k0_pay17 (F := Ideal) (k0_pay15 (F := Ideal) v) (View.ld (Val := Elt Ideal) (e' := .bf16) s' r0_2) (ix3 0 k n) = BR v s' 1 5 k n := by
  unfold BR
  show k0_pay17 (F := Ideal) (k0_pay15 (F := Ideal) v) (View.ld (Val := Elt Ideal) (e' := .bf16) s' r0_2) (ix3 0 k n) = ∑ d : Fin 128, s' (ix2 k d) * v (ix2 n ⟨1408 + d.val, by omega⟩)
  pointwise [k0_pay17, k0_pay15]
theorem a16 (v : FVec Ideal S512x2048 .f32) (k : Fin 128) (n : Fin 512) : k0_pay19 (F := Ideal) v (View.ld (Val := Elt Ideal) (e' := .bf16) s' r0_2) (ix3 0 k n) = BR v s' 1 6 k n := by
  unfold BR
  show k0_pay19 (F := Ideal) v (View.ld (Val := Elt Ideal) (e' := .bf16) s' r0_2) (ix3 0 k n) = ∑ d : Fin 128, s' (ix2 k d) * v (ix2 n ⟨1664 + d.val, by omega⟩)
  pointwise [k0_pay19]
theorem a17 (v : FVec Ideal S512x2048 .f32) (k : Fin 128) (n : Fin 512) : k0_pay1 (F := Ideal) (k0_pay20 (F := Ideal) v) (View.ld (Val := Elt Ideal) (e' := .bf16) s' r0_2) (ix3 0 k n) = BR v s' 1 7 k n := by
  unfold BR
  show k0_pay1 (F := Ideal) (k0_pay20 (F := Ideal) v) (View.ld (Val := Elt Ideal) (e' := .bf16) s' r0_2) (ix3 0 k n) = ∑ d : Fin 128, s' (ix2 k d) * v (ix2 n ⟨1920 + d.val, by omega⟩)
  pointwise [k0_pay1, k0_pay20]

theorem out4 : out0_4 (F := Ideal) x w s s' = BA (Q x w) s 0 := by
  funext y
  unfold out0_4
  refine View.canon_apply_of_pieces (Val := Elt Ideal) (BA (Q x w) s 0) _ ?_ y (cover0_4 _ _ _ _ _ _ _ _ y)
  intro pc hpc
  rcases List.mem_cons.mp hpc with rfl | hpc
  · intro z
    idx_vars z
    obtain rfl : z0 = 0 := Subsingleton.elim _ _
    show k0_pay21 (F := Ideal) (k0_pay22 (F := Ideal) x w s s') (View.ld (Val := Elt Ideal) (e' := .bf16) s r0_2) (ix3 0 z1 z2) = BA (Q x w) s 0 (r0_10.idx (ix3 0 z1 z2))
    rw [hx7]
    exact a07 s (Q x w) z1 z2
  rcases List.mem_cons.mp hpc with rfl | hpc
  · intro z
    idx_vars z
    obtain rfl : z0 = 0 := Subsingleton.elim _ _
    show k0_pay18 (F := Ideal) (k0_pay22 (F := Ideal) x w s s') (View.ld (Val := Elt Ideal) (e' := .bf16) s r0_2) (ix3 0 z1 z2) = BA (Q x w) s 0 (r0_9.idx (ix3 0 z1 z2))
    rw [hx6]
    exact a06 s (Q x w) z1 z2
  rcases List.mem_cons.mp hpc with rfl | hpc
  · intro z
    idx_vars z
    obtain rfl : z0 = 0 := Subsingleton.elim _ _
    show k0_pay16 (F := Ideal) (k0_pay22 (F := Ideal) x w s s') (View.ld (Val := Elt Ideal) (e' := .bf16) s r0_2) (ix3 0 z1 z2) = BA (Q x w) s 0 (r0_8.idx (ix3 0 z1 z2))
    rw [hx5]
    exact a05 s (Q x w) z1 z2
  rcases List.mem_cons.mp hpc with rfl | hpc
  · intro z
    idx_vars z
    obtain rfl : z0 = 0 := Subsingleton.elim _ _
    show k0_pay13 (F := Ideal) (k0_pay22 (F := Ideal) x w s s') (View.ld (Val := Elt Ideal) (e' := .bf16) s r0_2) (ix3 0 z1 z2) = BA (Q x w) s 0 (r0_7.idx (ix3 0 z1 z2))
    rw [hx4]
    exact a04 s (Q x w) z1 z2
  rcases List.mem_cons.mp hpc with rfl | hpc
  · intro z
    idx_vars z
    obtain rfl : z0 = 0 := Subsingleton.elim _ _
    show k0_pay11 (F := Ideal) (k0_pay22 (F := Ideal) x w s s') (View.ld (Val := Elt Ideal) (e' := .bf16) s r0_2) (ix3 0 z1 z2) = BA (Q x w) s 0 (r0_6.idx (ix3 0 z1 z2))
    rw [hx3]
    exact a03 s (Q x w) z1 z2
  rcases List.mem_cons.mp hpc with rfl | hpc
  · intro z
    idx_vars z
    obtain rfl : z0 = 0 := Subsingleton.elim _ _
    show k0_pay8 (F := Ideal) (k0_pay22 (F := Ideal) x w s s') (View.ld (Val := Elt Ideal) (e' := .bf16) s r0_2) (ix3 0 z1 z2) = BA (Q x w) s 0 (r0_5.idx (ix3 0 z1 z2))
    rw [hx2]
    exact a02 s (Q x w) z1 z2
  rcases List.mem_cons.mp hpc with rfl | hpc
  · intro z
    idx_vars z
    obtain rfl : z0 = 0 := Subsingleton.elim _ _
    show k0_pay6 (F := Ideal) (View.ld (Val := Elt Ideal) (e' := .bf16) x r0_0) (View.ld (Val := Elt Ideal) (e' := .bf16) w r0_1) (View.ld (Val := Elt Ideal) (e' := .bf16) s r0_2) (ix3 0 z1 z2) = BA (Q x w) s 0 (r0_4.idx (ix3 0 z1 z2))
    rw [hx1]
    exact a01 x w s z1 z2
  rcases List.mem_cons.mp hpc with rfl | hpc
  · intro z
    idx_vars z
    obtain rfl : z0 = 0 := Subsingleton.elim _ _
    show k0_pay3 (F := Ideal) (View.ld (Val := Elt Ideal) (e' := .bf16) x r0_0) (View.ld (Val := Elt Ideal) (e' := .bf16) w r0_1) (View.ld (Val := Elt Ideal) (e' := .bf16) s r0_2) (ix3 0 z1 z2) = BA (Q x w) s 0 (r0_3.idx (ix3 0 z1 z2))
    rw [hx0]
    exact a00 x w s z1 z2
  nomatch hpc

theorem out5 : out0_5 (F := Ideal) x w s s' = BA (Q x w) s' 1 := by
  funext y
  unfold out0_5
  refine View.canon_apply_of_pieces (Val := Elt Ideal) (BA (Q x w) s' 1) _ ?_ y (cover0_5 _ _ _ _ _ _ _ _ y)
  intro pc hpc
  rcases List.mem_cons.mp hpc with rfl | hpc
  · intro z
    idx_vars z
    obtain rfl : z0 = 0 := Subsingleton.elim _ _
    show k0_pay1 (F := Ideal) (k0_pay20 (F := Ideal) (k0_pay22 (F := Ideal) x w s s')) (View.ld (Val := Elt Ideal) (e' := .bf16) s' r0_2) (ix3 0 z1 z2) = BA (Q x w) s' 1 (r0_10.idx (ix3 0 z1 z2))
    rw [hx7]
    exact a17 s' (Q x w) z1 z2
  rcases List.mem_cons.mp hpc with rfl | hpc
  · intro z
    idx_vars z
    obtain rfl : z0 = 0 := Subsingleton.elim _ _
    show k0_pay19 (F := Ideal) (k0_pay22 (F := Ideal) x w s s') (View.ld (Val := Elt Ideal) (e' := .bf16) s' r0_2) (ix3 0 z1 z2) = BA (Q x w) s' 1 (r0_9.idx (ix3 0 z1 z2))
    rw [hx6]
    exact a16 s' (Q x w) z1 z2
  rcases List.mem_cons.mp hpc with rfl | hpc
  · intro z
    idx_vars z
    obtain rfl : z0 = 0 := Subsingleton.elim _ _
    show k0_pay17 (F := Ideal) (k0_pay15 (F := Ideal) (k0_pay22 (F := Ideal) x w s s')) (View.ld (Val := Elt Ideal) (e' := .bf16) s' r0_2) (ix3 0 z1 z2) = BA (Q x w) s' 1 (r0_8.idx (ix3 0 z1 z2))
    rw [hx5]
    exact a15 s' (Q x w) z1 z2
  rcases List.mem_cons.mp hpc with rfl | hpc
  · intro z
    idx_vars z
    obtain rfl : z0 = 0 := Subsingleton.elim _ _
    show k0_pay14 (F := Ideal) (k0_pay22 (F := Ideal) x w s s') (View.ld (Val := Elt Ideal) (e' := .bf16) s' r0_2) (ix3 0 z1 z2) = BA (Q x w) s' 1 (r0_7.idx (ix3 0 z1 z2))
    rw [hx4]
    exact a14 s' (Q x w) z1 z2
  rcases List.mem_cons.mp hpc with rfl | hpc
  · intro z
    idx_vars z
    obtain rfl : z0 = 0 := Subsingleton.elim _ _
    show k0_pay12 (F := Ideal) (k0_pay10 (F := Ideal) (k0_pay22 (F := Ideal) x w s s')) (View.ld (Val := Elt Ideal) (e' := .bf16) s' r0_2) (ix3 0 z1 z2) = BA (Q x w) s' 1 (r0_6.idx (ix3 0 z1 z2))
    rw [hx3]
    exact a13 s' (Q x w) z1 z2
  rcases List.mem_cons.mp hpc with rfl | hpc
  · intro z
    idx_vars z
    obtain rfl : z0 = 0 := Subsingleton.elim _ _
    show k0_pay9 (F := Ideal) (k0_pay22 (F := Ideal) x w s s') (View.ld (Val := Elt Ideal) (e' := .bf16) s' r0_2) (ix3 0 z1 z2) = BA (Q x w) s' 1 (r0_5.idx (ix3 0 z1 z2))
    rw [hx2]
    exact a12 s' (Q x w) z1 z2
  rcases List.mem_cons.mp hpc with rfl | hpc
  · intro z
    idx_vars z
    obtain rfl : z0 = 0 := Subsingleton.elim _ _
    show k0_pay7 (F := Ideal) (k0_pay5 (F := Ideal) (View.ld (Val := Elt Ideal) (e' := .bf16) x r0_0) (View.ld (Val := Elt Ideal) (e' := .bf16) w r0_1)) (View.ld (Val := Elt Ideal) (e' := .bf16) s' r0_2) (ix3 0 z1 z2) = BA (Q x w) s' 1 (r0_4.idx (ix3 0 z1 z2))
    rw [hx1]
    exact a11 x w s' z1 z2
  rcases List.mem_cons.mp hpc with rfl | hpc
  · intro z
    idx_vars z
    obtain rfl : z0 = 0 := Subsingleton.elim _ _
    show k0_pay4 (F := Ideal) (View.ld (Val := Elt Ideal) (e' := .bf16) x r0_0) (View.ld (Val := Elt Ideal) (e' := .bf16) w r0_1) (View.ld (Val := Elt Ideal) (e' := .bf16) s' r0_2) (ix3 0 z1 z2) = BA (Q x w) s' 1 (r0_3.idx (ix3 0 z1 z2))
    rw [hx0]
    exact a10 x w s' z1 z2
  nomatch hpc
end

variable (m : (ℓ : Loc nD τ sig) → Buf (Elt Ideal) ℓ)

abbrev x0 (c : Dev nD) : FVec Ideal S9216x2048 .bf16 := m ((c.tc : Thread nD τ).loc main_arg0)
abbrev x1 (c : Dev nD) : FVec Ideal S2048x2048 .f32 := m ((c.tc : Thread nD τ).loc main_arg1)
abbrev x2 (c : Dev nD) : FVec Ideal S128x128 .f32 := m ((c.tc : Thread nD τ).loc main_arg2)
abbrev x3 (c : Dev nD) : FVec Ideal S128x128 .f32 := m ((c.tc : Thread nD τ).loc main_arg3)

/-- The windows' block indices at a grid point. -/
theorem idx : ∀ t : Fin cfg0.N, (win0_0.index t = ![t.val, 0] ∧ win0_1.index t = ![0, 0] ∧ win0_2.index t = ![0, 0] ∧ win0_3.index t = ![0, 0] ∧ win0_4.index t = ![0, 0, t.val] ∧ win0_5.index t = ![0, 0, t.val]) :=
  (by decide +kernel : ∀ t : Fin grid0.N, _)

theorem ltN (t : Fin cfg0.N) : t.val < 18 := t.isLt

/-- The row of an entry of a grid point's block. -/
abbrev nt (t : Fin cfg0.N) (a : Fin 512) : Fin 9216 := ⟨t.val * 512 + a.val, by have := ltN t; omega⟩

theorem V_v0 (c : Dev nD) : V m c main_v0 = fun y => (x1 m c y : EReal) := by
  show StableHlo.after hostOps0 _ (Proc.devRef .tc main_v0) = _
  simp only [hostOps0]
  after_results
  funext y; idx_vars y
  pointwise
theorem V_v1 (c : Dev nD) : V m c main_v1 = fun y => (x2 m c y : EReal) := by
  show StableHlo.after hostOps0 _ (Proc.devRef .tc main_v1) = _
  simp only [hostOps0]
  after_results
  funext y; idx_vars y
  pointwise
theorem V_v2 (c : Dev nD) : V m c main_v2 = fun y => (x3 m c y : EReal) := by
  show StableHlo.after hostOps0 _ (Proc.devRef .tc main_v2) = _
  simp only [hostOps0]
  after_results
  funext y; idx_vars y
  pointwise
theorem blk0 (c : Dev nD) (t : Fin cfg0.N) (n : Fin 512) (k : Fin 2048) : iblk m c 0 t (ix2 n k) = x0 m c (ix2 (nt t n) k) := by
  have ht := ltN t
  unfold x0
  rw [← V_main_arg0 m c]
  blk_ext [iblk, idx t]
theorem blk1 (c : Dev nD) (t : Fin cfg0.N) (k q : Fin 2048) : (iblk m c 1 t (ix2 k q) : EReal) = x1 m c (ix2 k q) := by
  refine Eq.trans ?_ (congrFun (V_v0 m c) (ix2 k q))
  blk_ext [iblk, idx t]
theorem blk2 (c : Dev nD) (t : Fin cfg0.N) (k q : Fin 128) : (iblk m c 2 t (ix2 k q) : EReal) = x2 m c (ix2 k q) := by
  refine Eq.trans ?_ (congrFun (V_v1 m c) (ix2 k q))
  blk_ext [iblk, idx t]
theorem blk3 (c : Dev nD) (t : Fin cfg0.N) (k q : Fin 128) : (iblk m c 3 t (ix2 k q) : EReal) = x3 m c (ix2 k q) := by
  refine Eq.trans ?_ (congrFun (V_v2 m c) (ix2 k q))
  blk_ext [iblk, idx t]

theorem block_at0 (c : Dev nD) (t : Fin cfg0.N) (h : Fin 8) (k : Fin 128) (n : Fin 512) : BR (Q (iblk m c 0 t) (iblk m c 1 t)) (iblk m c 2 t) 0 h k n = SR (x0 m c) (x1 m c) (x2 m c) 0 h k (nt t n) := by
  unfold BR SR
  exact Finset.sum_congr rfl fun d _ => congrArg₂ (fun p q : EReal => p * q) (blk2 m c t k d) ((Q_at (iblk m c 0 t) (iblk m c 1 t) n _).trans (Finset.sum_congr rfl fun e _ => congrArg₂ (fun p q : EReal => p * q) (blk0 m c t n e) (blk1 m c t e _)))

/-- The result array: every block written back is the part of it that `SA` states. -/
theorem arr4 (c : Dev nD) : (dats m 0 c).arrAt 4 cfg0.N = SA (x0 m c) (x1 m c) (x2 m c) 0 := by
  refine (dats m 0 c).arrAt_eq_of_covers 4 (SA (x0 m c) (x1 m c) (x2 m c) 0) (by decide +kernel) fun t hf y => ?_
  blk_simp
  rw [after0_4, out4]
  have hy : y = ix3 (n0 := 8) (n1 := 128) (n2 := 512) (y 0) (y 1) (y 2) := by funext a; fin_cases a <;> rfl
  rw [hy]
  refine (block_at0 m c t _ _ _).trans ?_
  unfold SA
  have e0 : (y 0 : Fin 8) = ((win0_4.blk t).view.emb (ix3 (n0 := 8) (n1 := 128) (n2 := 512) (y 0) (y 1) (y 2)) : S8x128x9216.Idx) 0 := by
    apply Fin.ext
    blk_simp [idx t]
  have e1 : (y 1 : Fin 128) = ((win0_4.blk t).view.emb (ix3 (n0 := 8) (n1 := 128) (n2 := 512) (y 0) (y 1) (y 2)) : S8x128x9216.Idx) 1 := by
    apply Fin.ext
    blk_simp [idx t]
  have e2 : nt t (y 2) = ((win0_4.blk t).view.emb (ix3 (n0 := 8) (n1 := 128) (n2 := 512) (y 0) (y 1) (y 2)) : S8x128x9216.Idx) 2 := by
    apply Fin.ext
    blk_simp [idx t]
  rw [← e0, ← e1, ← e2]
  rfl

theorem block_at1 (c : Dev nD) (t : Fin cfg0.N) (h : Fin 8) (k : Fin 128) (n : Fin 512) : BR (Q (iblk m c 0 t) (iblk m c 1 t)) (iblk m c 3 t) 1 h k n = SR (x0 m c) (x1 m c) (x3 m c) 1 h k (nt t n) := by
  unfold BR SR
  exact Finset.sum_congr rfl fun d _ => congrArg₂ (fun p q : EReal => p * q) (blk3 m c t k d) ((Q_at (iblk m c 0 t) (iblk m c 1 t) n _).trans (Finset.sum_congr rfl fun e _ => congrArg₂ (fun p q : EReal => p * q) (blk0 m c t n e) (blk1 m c t e _)))

/-- The result array: every block written back is the part of it that `SA` states. -/
theorem arr5 (c : Dev nD) : (dats m 0 c).arrAt 5 cfg0.N = SA (x0 m c) (x1 m c) (x3 m c) 1 := by
  refine (dats m 0 c).arrAt_eq_of_covers 5 (SA (x0 m c) (x1 m c) (x3 m c) 1) (by decide +kernel) fun t hf y => ?_
  blk_simp
  rw [after0_5, out5]
  have hy : y = ix3 (n0 := 8) (n1 := 128) (n2 := 512) (y 0) (y 1) (y 2) := by funext a; fin_cases a <;> rfl
  rw [hy]
  refine (block_at1 m c t _ _ _).trans ?_
  unfold SA
  have e0 : (y 0 : Fin 8) = ((win0_5.blk t).view.emb (ix3 (n0 := 8) (n1 := 128) (n2 := 512) (y 0) (y 1) (y 2)) : S8x128x9216.Idx) 0 := by
    apply Fin.ext
    blk_simp [idx t]
  have e1 : (y 1 : Fin 128) = ((win0_5.blk t).view.emb (ix3 (n0 := 8) (n1 := 128) (n2 := 512) (y 0) (y 1) (y 2)) : S8x128x9216.Idx) 1 := by
    apply Fin.ext
    blk_simp [idx t]
  have e2 : nt t (y 2) = ((win0_5.blk t).view.emb (ix3 (n0 := 8) (n1 := 128) (n2 := 512) (y 0) (y 1) (y 2)) : S8x128x9216.Idx) 2 := by
    apply Fin.ext
    blk_simp [idx t]
  rw [← e0, ← e1, ← e2]
  rfl
end Cert.ScrKernelIdeal.Scr

namespace Cert.ScrReferenceIdeal.Scr
open Cert.ScrReferenceIdeal Cert.ScrReferenceIdeal.Gen Idealize.ShloMosaic Idealize.ShloMosaic.TcCoe Idealize.SL.Sem
open Cert.ScrKernelIdeal.Scr (SA SR)

section
variable (x : FVec Ideal S9216x2048 .bf16) (w : FVec Ideal S2048x2048 .f32) (s : FVec Ideal S128x128 .f32)
/-- The reference's queries, by row, head, half and place. -/
def RQ : FVec Ideal S9216x8x2x128 .f32 := shapeCast _ (Host.dotGeneral dot_S9216x2048_S2048x2048_S9216x2048_1_0_0_1_n_n none (extf .f32 x bitsLt_bf16_f32) w) shapeCasts_S9216x2048_S9216x8x2x128
theorem RQ_at (n : Fin 9216) (h : Fin 8) (o : Fin 2) (d : Fin 128) : RQ x w (ix4 n h o d) = ∑ e : Fin 2048, x (ix2 n e) * w (ix2 e ⟨h.val * 256 + o.val * 128 + d.val, by omega⟩) := by
  unfold RQ
  pointwise

/-- The reference's scores as a function of its queries. -/
def R0 (v : FVec Ideal S9216x8x2x128 .f32) : FVec Ideal S8x128x9216 .f32 := transpose S8x128x9216 [1, 2, 0] (Host.dotGeneral dot_S9216x8x128_S128x128_S9216x8x128_2_1_01_0_n_n none (shapeCast _ (extractStridedSlice S9216x8x1x128 ![0, 0, 0, 0] v slices_S9216x8x2x128_S9216x8x1x128_0_0_0_0) shapeCasts_S9216x8x1x128_S9216x8x128) s) transposes_S9216x8x128_S8x128x9216_1_2_0
def R1 (v : FVec Ideal S9216x8x2x128 .f32) : FVec Ideal S8x128x9216 .f32 := transpose S8x128x9216 [1, 2, 0] (Host.dotGeneral dot_S9216x8x128_S128x128_S9216x8x128_2_1_01_0_n_n none (shapeCast _ (extractStridedSlice S9216x8x1x128 ![0, 0, 1, 0] v slices_S9216x8x2x128_S9216x8x1x128_0_0_1_0) shapeCasts_S9216x8x1x128_S9216x8x128) s) transposes_S9216x8x128_S8x128x9216_1_2_0

theorem R0_at (v : FVec Ideal S9216x8x2x128 .f32) (h : Fin 8) (k : Fin 128) (n : Fin 9216) : R0 s v (ix3 h k n) = ∑ d : Fin 128, v (ix4 n h 0 d) * s (ix2 k d) := by
  unfold R0
  pointwise
theorem R0_eq : R0 s (RQ x w) = SA x w s 0 := by
  funext y; idx_vars y
  refine (R0_at s _ y0 y1 y2).trans ?_
  show _ = SR x w s 0 y0 y1 y2
  unfold SR
  exact Finset.sum_congr rfl fun d _ => (mul_comm _ _).trans (congrArg (fun q : EReal => s (ix2 y1 d) * q) (RQ_at x w y2 y0 0 d))

theorem R1_at (v : FVec Ideal S9216x8x2x128 .f32) (h : Fin 8) (k : Fin 128) (n : Fin 9216) : R1 s v (ix3 h k n) = ∑ d : Fin 128, v (ix4 n h 1 d) * s (ix2 k d) := by
  unfold R1
  pointwise
theorem R1_eq : R1 s (RQ x w) = SA x w s 1 := by
  funext y; idx_vars y
  refine (R1_at s _ y0 y1 y2).trans ?_
  show _ = SR x w s 1 y0 y1 y2
  unfold SR
  exact Finset.sum_congr rfl fun d _ => (mul_comm _ _).trans (congrArg (fun q : EReal => s (ix2 y1 d) * q) (RQ_at x w y2 y0 1 d))
end

variable (m : (ℓ : Loc nD τ sig) → Buf (Elt Ideal) ℓ)

abbrev y0 (c : Dev nD) : FVec Ideal S9216x2048 .bf16 := m ((c.tc : Thread nD τ).loc main_arg0)
abbrev y1 (c : Dev nD) : FVec Ideal S2048x2048 .f32 := m ((c.tc : Thread nD τ).loc main_arg1)
abbrev y2 (c : Dev nD) : FVec Ideal S128x128 .f32 := m ((c.tc : Thread nD τ).loc main_arg2)
abbrev y3 (c : Dev nD) : FVec Ideal S128x128 .f32 := m ((c.tc : Thread nD τ).loc main_arg3)

/-- The reference ends with its arguments as they were; it declares no semaphore. -/
theorem frame : Cert.quiescent_ScrReferenceIdeal := by
  intro m ρ _
  exact (θ_run _ _ _).mono (fun r h => ⟨fun c => (h c).2.2, sem_eq_zero_of_no_sems (by decide) r.2⟩) (Cert.ScrReferenceIdeal.Value.run m ρ)

/-- The kernel's call and the reference end with the same arrays. -/
theorem value : Cert.algebraic_ScrKernelIdeal_ScrReferenceIdeal := by
  intro m g m' g' _ hargs
  refine ⟨fun c => SA (Cert.ScrKernelIdeal.Scr.x0 m c) (Cert.ScrKernelIdeal.Scr.x1 m c) (Cert.ScrKernelIdeal.Scr.x2 m c) 0,
    fun c => SA (Cert.ScrKernelIdeal.Scr.x0 m c) (Cert.ScrKernelIdeal.Scr.x1 m c) (Cert.ScrKernelIdeal.Scr.x3 m c) 1,
    (θ_run _ _ _).mono (fun r h c => ⟨(h c).1.trans (Cert.ScrKernelIdeal.Scr.arr4 m c), (h c).2.1.trans (Cert.ScrKernelIdeal.Scr.arr5 m c), (h c).2.2⟩) (Cert.ScrKernelIdeal.Value.run_blocks m g), ?_⟩
  have q : ∀ c : Dev nD, SA (y0 m' c) (y1 m' c) (y2 m' c) 0 = SA (Cert.ScrKernelIdeal.Scr.x0 m c) (Cert.ScrKernelIdeal.Scr.x1 m c) (Cert.ScrKernelIdeal.Scr.x2 m c) 0
      ∧ SA (y0 m' c) (y1 m' c) (y3 m' c) 1 = SA (Cert.ScrKernelIdeal.Scr.x0 m c) (Cert.ScrKernelIdeal.Scr.x1 m c) (Cert.ScrKernelIdeal.Scr.x3 m c) 1 := fun c => by
    have e := hargs c
    have a0 : y0 m' c = Cert.ScrKernelIdeal.Scr.x0 m c := e.1
    have a1 : y1 m' c = Cert.ScrKernelIdeal.Scr.x1 m c := e.2.1
    have a2 : y2 m' c = Cert.ScrKernelIdeal.Scr.x2 m c := e.2.2.1
    have a3 : y3 m' c = Cert.ScrKernelIdeal.Scr.x3 m c := e.2.2.2
    rw [a0, a1, a2, a3]
    exact ⟨rfl, rfl⟩
  exact (θ_run _ _ _).mono (fun r h c => ⟨(h c).1.trans ((R0_eq (y0 m' c) (y1 m' c) (y2 m' c)).trans (q c).1), (h c).2.1.trans ((R1_eq (y0 m' c) (y1 m' c) (y3 m' c)).trans (q c).2), (h c).2.2⟩) (Cert.ScrReferenceIdeal.Value.run m' g')

end Cert.ScrReferenceIdeal.Scr
-- ==== Proof.MxsClaim.lean ====
module
public import proofs.«01_k».proof.Defs
public import proofs.«01_k».proof.Proof.Gen.MxsKernelIdeal.Value
public import proofs.«01_k».proof.Proof.Gen.MxsReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.MxsKernelIdeal.Mxs
open Cert.MxsKernelIdeal Cert.MxsKernelIdeal.Gen Idealize.ShloMosaic Idealize.ShloMosaic.TcCoe Idealize.SL.Sem
open Idealize.ShloMosaic.Pipeline (Dat)

/-- The mean of a row. -/
def mean (r : Fin 1024 → EReal) : EReal := Ideal.div (∑ k : Fin 1024, r k) (Ideal.ofBits .f32 0x44800000#32)

/-- A row less its mean, over the root of its variance, with a gain and an offset. -/
def LN (r g b : Fin 1024 → EReal) (q : Fin 1024) : EReal :=
  (r q - mean r) * Ideal.rsqrt (mean (fun k => (r k - mean r) * (r k - mean r)) + Ideal.ofBits .f32 0x358637BD#32) * g q + b q

/-- A row of two tiles of 512 columns. -/
def CB (a b : FVec Ideal S1x128x512 .f32) (n : Fin 128) (q : Fin 1024) : EReal :=
  if h : q.val < 512 then a (ix3 0 n ⟨q.val, h⟩) else b (ix3 0 n ⟨q.val - 512, by omega⟩)

/-- Two tiles of 512 columns side by side. -/
def cv (a b : FVec Ideal S128x512 .f32) (n : Fin 128) (q : Fin 1024) : EReal :=
  if h : q.val < 512 then a (ix2 n ⟨q.val, h⟩) else b (ix2 n ⟨q.val - 512, by omega⟩)

theorem cat_eq (a b : FVec Ideal S128x512 .f32) : concatenate S128x1024 1 [⟨S128x512, a⟩, ⟨S128x512, b⟩] concatenates_S128x512_S128x512_S128x1024_d1
    = (fun y => cv a b (y 0) (y 1) : FVec Ideal S128x1024 .f32) := by
  funext y; idx_vars y
  show _ = cv a b y0 y1
  unfold cv
  pointwise

theorem cv_at (a b : FVec Ideal S1x128x512 .f32) (n : Fin 128) (q : Fin 1024) : cv (shapeCast S128x512 a shapeCasts_S1x128x512_S128x512) (shapeCast S128x512 b shapeCasts_S1x128x512_S128x512) n q = CB a b n q := by
  unfold cv CB
  split
  · pointwise
  · pointwise

/-- The normed rows of a block. -/
def LB (a b : FVec Ideal S1x128x512 .f32) (g o : FVec Ideal S1x1024 .f32) (n : Fin 128) (q : Fin 1024) : EReal :=
  LN (CB a b n) (fun k => g (ix2 0 k)) (fun k => o (ix2 0 k)) q

theorem pay4 (a b : FVec Ideal S1x128x512 .f32) (g o : FVec Ideal S1x1024 .f32) : (k0_pay4 (F := Ideal) a b g o) = (fun y => LB a b g o (y 0) (y 1) : FVec Ideal S128x1024 .f32) := by
  unfold k0_pay4
  dsimp only
  rw [cat_eq]
  have e : (fun y => cv (shapeCast S128x512 a shapeCasts_S1x128x512_S128x512) (shapeCast S128x512 b shapeCasts_S1x128x512_S128x512) (y 0) (y 1) : FVec Ideal S128x1024 .f32) = (fun y => CB a b (y 0) (y 1)) := funext fun y => cv_at a b _ _
  rw [e]
  unfold LB
  generalize CB a b = r
  funext y; idx_vars y
  show _ = LN (r y0) (fun k => g (ix2 0 k)) (fun k => o (ix2 0 k)) y1
  unfold LN mean
  pointwise

/-- The block's normed half. -/
def VV (a b : FVec Ideal S1x128x512 .f32) (g o : FVec Ideal S1x1024 .f32) : FVec Ideal S128x1024 .f32 := fun y => LB a b g o (y 0) (y 1)
theorem ld0 (x : FVec Ideal S1x128x512 .f32) : View.ld (Val := Elt Ideal) (e' := .f32) x r0_0 = x := by
  funext y; idx_vars y
  pointwise
  rw [Subsingleton.elim y0 0]
theorem ld1 (x : FVec Ideal S1x1024 .f32) : View.ld (Val := Elt Ideal) (e' := .f32) x r0_1 = x := by
  funext y; idx_vars y
  pointwise
  rw [Subsingleton.elim y0 0]

section
variable (x0 x1 x2 x3 : FVec Ideal S1x128x512 .f32) (x4 x5 : FVec Ideal S1x1024 .f32) (x6 : FVec Ideal S8x128x128 .bf16) (x7 : FVec Ideal S8x128x128 .f32)
theorem out9 : out0_9 (F := Ideal) x0 x1 x2 x3 x4 x5 x6 x7 = VV x2 x3 x4 x5 := by
  funext y
  unfold out0_9
  refine View.canon_apply_of_pieces (Val := Elt Ideal) (VV x2 x3 x4 x5) _ ?_ y (cover0_9 _ y)
  intro pc hpc
  rcases List.mem_cons.mp hpc with rfl | hpc
  · intro z
    idx_vars z
    have hx : r0_2.idx (ix2 z0 z1) = ix2 z0 z1 := by
      funext a; apply Fin.ext; fin_cases a
      · show 0 + 1 * z0.val = z0.val; omega
      · show 0 + 1 * z1.val = z1.val; omega
    show k0_pay4 _ _ _ _ (ix2 z0 z1) = VV x2 x3 x4 x5 (r0_2.idx (ix2 z0 z1))
    rw [hx, ld0, ld0, ld1, ld1, pay4]
    rfl
  nomatch hpc
end

section
variable (p : FVec Ideal S23x1024x512 .f32) (g b : FVec Ideal S1024 .f32)
/-- Two tiles of the projection, from tile `j`, side by side. -/
def PR (j : Fin 22) (n : Fin 1024) (q : Fin 1024) : EReal := p (ix3 ⟨j.val + q.val / 512, by omega⟩ n ⟨q.val % 512, by omega⟩)

/-- The normed second half at a row and a column. -/
def VN (n : Fin 1024) (q : Fin 1024) : EReal := LN (PR p 2 n) (fun k => g (ix1 k)) (fun k => b (ix1 k)) q

/-- The normed half. -/
def VC : FVec Ideal S1024x1024 .f32 := fun y => VN p g b (y 0) (y 1)
end

variable (m : (ℓ : Loc nD τ sig) → Buf (Elt Ideal) ℓ)

abbrev x0 (c : Dev nD) : FVec Ideal S23x1024x512 .f32 := m ((c.tc : Thread nD τ).loc main_arg0)
abbrev x1 (c : Dev nD) : FVec Ideal S1024 .f32 := m ((c.tc : Thread nD τ).loc main_arg1)
abbrev x2 (c : Dev nD) : FVec Ideal S1024 .f32 := m ((c.tc : Thread nD τ).loc main_arg2)

/-- The windows' block indices at a grid point. -/
theorem idx : ∀ t : Fin cfg0.N, (win0_2.index t = ![2, t.val, 0] ∧ win0_3.index t = ![3, t.val, 0]
    ∧ win0_4.index t = ![0, 0] ∧ win0_5.index t = ![0, 0] ∧ win0_9.index t = ![t.val, 0]) :=
  (by decide +kernel : ∀ t : Fin grid0.N, _)

theorem ltN (t : Fin cfg0.N) : t.val < 8 := t.isLt

/-- The row of an entry of a grid point's block. -/
abbrev nt (t : Fin cfg0.N) (a : Fin 128) : Fin 1024 := ⟨t.val * 128 + a.val, by have := ltN t; omega⟩

theorem V_v4 (c : Dev nD) (l : Fin 1024) : V m c main_v18 (ix2 0 l) = x1 m c (ix1 l) := by
  show StableHlo.after (hostOps0_3 (F := Ideal)) (StableHlo.after (hostOps0_2 (F := Ideal)) (StableHlo.after (hostOps0_1 (F := Ideal)) (StableHlo.after (hostOps0 (F := Ideal)) _))) (Proc.devRef .tc main_v18) _ = _
  simp only [hostOps0, hostOps0_1, hostOps0_2, hostOps0_3, StableHlo.TRef.binary, StableHlo.TRef.nullary, StableHlo.TRef.ternary, StableHlo.TRef.unary, StableHlo.TRef.toBuf, StableHlo.TRef.ofBuf, cast_eq]
  after_results
  pointwise
theorem V_v5 (c : Dev nD) (l : Fin 1024) : V m c main_v19 (ix2 0 l) = x2 m c (ix1 l) := by
  show StableHlo.after (hostOps0_3 (F := Ideal)) (StableHlo.after (hostOps0_2 (F := Ideal)) (StableHlo.after (hostOps0_1 (F := Ideal)) (StableHlo.after (hostOps0 (F := Ideal)) _))) (Proc.devRef .tc main_v19) _ = _
  simp only [hostOps0, hostOps0_1, hostOps0_2, hostOps0_3, StableHlo.TRef.binary, StableHlo.TRef.nullary, StableHlo.TRef.ternary, StableHlo.TRef.unary, StableHlo.TRef.toBuf, StableHlo.TRef.ofBuf, cast_eq]
  after_results
  pointwise

theorem blk2 (c : Dev nD) (t : Fin cfg0.N) (n : Fin 128) (l : Fin 512) : iblk m c 2 t (ix3 0 n l) = x0 m c (ix3 2 (nt t n) l) := by
  have ht := ltN t
  unfold x0
  rw [← V_main_arg0 m c]
  blk_ext [iblk, idx t]
theorem blk3 (c : Dev nD) (t : Fin cfg0.N) (n : Fin 128) (l : Fin 512) : iblk m c 3 t (ix3 0 n l) = x0 m c (ix3 3 (nt t n) l) := by
  have ht := ltN t
  unfold x0
  rw [← V_main_arg0 m c]
  blk_ext [iblk, idx t]
theorem blk4 (c : Dev nD) (t : Fin cfg0.N) (l : Fin 1024) : iblk m c 4 t (ix2 0 l) = x1 m c (ix1 l) := by
  rw [← V_v4 m c]
  blk_ext [iblk, idx t]
theorem blk5 (c : Dev nD) (t : Fin cfg0.N) (l : Fin 1024) : iblk m c 5 t (ix2 0 l) = x2 m c (ix1 l) := by
  rw [← V_v5 m c]
  blk_ext [iblk, idx t]
theorem CB2 (c : Dev nD) (t : Fin cfg0.N) (n : Fin 128) (q : Fin 1024) : CB (iblk m c 2 t) (iblk m c 3 t) n q = PR (x0 m c) 2 (nt t n) q := by
  unfold CB PR
  split
  · next h =>
    refine (blk2 m c t n _).trans (congrArg (x0 m c) ?_)
    congr 1 <;> (apply Fin.ext; dsimp only; omega)
  · next h =>
    refine (blk3 m c t n _).trans (congrArg (x0 m c) ?_)
    congr 1 <;> (apply Fin.ext; dsimp only; omega)

theorem LB_eq (c : Dev nD) (t : Fin cfg0.N) (n : Fin 128) (q : Fin 1024) : LB (iblk m c 2 t) (iblk m c 3 t) (iblk m c 4 t) (iblk m c 5 t) n q = VN (x0 m c) (x1 m c) (x2 m c) (nt t n) q := by
  unfold LB VN
  have e1 : CB (iblk m c 2 t) (iblk m c 3 t) n = PR (x0 m c) 2 (nt t n) := funext fun q => CB2 m c t n q
  have e2 : (fun k => iblk m c 4 t (ix2 0 k) : Fin 1024 → EReal) = fun k => x1 m c (ix1 k) := funext fun k => blk4 m c t k
  have e3 : (fun k => iblk m c 5 t (ix2 0 k) : Fin 1024 → EReal) = fun k => x2 m c (ix1 k) := funext fun k => blk5 m c t k
  rw [e1, e2, e3]

/-- The result: every block written back is the part of it that `VC` states. -/
theorem arr9 (c : Dev nD) : (dats m 0 c).arrAt 9 cfg0.N = VC (x0 m c) (x1 m c) (x2 m c) := by
  refine (dats m 0 c).arrAt_eq_of_covers 9 (VC (x0 m c) (x1 m c) (x2 m c)) (by decide +kernel) fun t hf y => ?_
  blk_simp
  rw [after0_9, out9]
  have hy : y = ix2 (n0 := 128) (n1 := 1024) (y 0) (y 1) := by funext a; fin_cases a <;> rfl
  rw [hy]
  refine (LB_eq m c t _ _).trans ?_
  unfold VC
  have e0 : nt t (y 0) = ((win0_9.blk t).view.emb (ix2 (n0 := 128) (n1 := 1024) (y 0) (y 1)) : S1024x1024.Idx) 0 := by
    apply Fin.ext
    blk_simp [idx t]
  have e1 : (y 1 : Fin 1024) = ((win0_9.blk t).view.emb (ix2 (n0 := 128) (n1 := 1024) (y 0) (y 1)) : S1024x1024.Idx) 1 := by
    apply Fin.ext
    blk_simp [idx t]
  exact (congrFun (congrArg (VN (x0 m c) (x1 m c) (x2 m c)) e0) _).trans (congrArg (VN (x0 m c) (x1 m c) (x2 m c) _) e1)

end Cert.MxsKernelIdeal.Mxs

namespace Cert.MxsReferenceIdeal.Mxs
open Cert.MxsReferenceIdeal Cert.MxsReferenceIdeal.Gen Idealize.ShloMosaic Idealize.ShloMosaic.TcCoe Idealize.SL.Sem
open Cert.MxsKernelIdeal.Mxs (PR LN mean VN VC)

section
variable (p : FVec Ideal S23x1024x512 .f32) (g b : FVec Ideal S1024 .f32)
/-- The second half of the gelu branch, by sequence and place. -/
def XV : FVec Ideal S128x8x1024 .f32 := shapeCast _ (transpose S1024x2x512 [1, 0, 2] (extractStridedSlice S2x1024x512 ![2, 0, 0] p slices_S23x1024x512_S2x1024x512_2_0_0) transposes_S2x1024x512_S1024x2x512_1_0_2) shapeCasts_S1024x2x512_S128x8x1024
section
variable (x : FVec Ideal S128x8x1024 .f32)
/-- A row's mean, its distance from the mean, its norm. -/
def MU : FVec Ideal S128x8x1 .f32 := Host.divf (broadcastInDim S128x8x1 ![0, 1] bcast_S128x8_S128x8x1_0_1 (Host.reduceAdd x (constant S_ .f32 0x00000000#32) reducesTo_S128x8x1024_S128x8_d2 h_S_)) (broadcastInDim S128x8x1 ![] bcast_S_S128x8x1 (constant S_ .f32 0x44800000#32))
def CX : FVec Ideal S128x8x1024 .f32 := subf x (broadcastInDim S128x8x1024 ![0, 1, 2] bcast_S128x8x1_S128x8x1024_0_1_2 (MU x))
def LR : FVec Ideal S128x8x1024 .f32 := addf (mulf (mulf (CX x) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (CX x) (CX x)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))) (broadcastInDim S128x8x1024 ![0, 1, 2] bcast_S1x1x1024_S128x8x1024_0_1_2 (broadcastInDim S1x1x1024 ![2] bcast_S1024_S1x1x1024_2 b))
/-- The normed half as rows. -/
def RC : FVec Ideal S1024x1024 .f32 := shapeCast _ x shapeCasts_S128x8x1024_S1024x1024
end

theorem XV_at (i : Fin 128) (n : Fin 8) (q : Fin 1024) : XV p (ix3 i n q) = PR p 2 ⟨i.val * 8 + n.val, by omega⟩ q := by
  unfold XV PR
  pointwise

section
variable (x : FVec Ideal S128x8x1024 .f32)
theorem MU_at (i : Fin 128) (n : Fin 8) : MU x (ix3 i n 0) = mean fun k => x (ix3 i n k) := by
  unfold MU mean
  pointwise
theorem CX_at (i : Fin 128) (n : Fin 8) (q : Fin 1024) : CX x (ix3 i n q) = x (ix3 i n q) - mean fun k => x (ix3 i n k) := by
  unfold CX
  pointwise
  exact congrArg (fun z : EReal => x (ix3 i n q) - z) (MU_at x i n)
theorem LR_at (i : Fin 128) (n : Fin 8) (q : Fin 1024) : LR g b x (ix3 i n q) = LN (fun k => x (ix3 i n k)) (fun k => g (ix1 k)) (fun k => b (ix1 k)) q := by
  unfold LR LN
  pointwise
  simp only [CX_at]
  rfl
theorem RC_at (n : Fin 1024) (q : Fin 1024) : RC x (ix2 n q) = x (ix3 ⟨n.val / 8, by omega⟩ ⟨n.val % 8, by omega⟩ q) := by
  unfold RC
  pointwise
end

theorem row (i : Fin 128) (n : Fin 8) (q : Fin 1024) : LR g b (XV p) (ix3 i n q) = VN p g b ⟨i.val * 8 + n.val, by omega⟩ q := by
  rw [LR_at]
  unfold VN
  exact congrFun (congrArg (fun r : Fin 1024 → EReal => LN r (fun k => g (ix1 k)) (fun k => b (ix1 k))) (funext fun k => XV_at p i n k)) q

theorem RC_eq : RC (LR g b (XV p)) = VC p g b := by
  funext y; idx_vars y
  rw [RC_at]
  show _ = VN p g b _ y1
  exact (row p g b _ _ _).trans (congrFun (congrArg (VN p g b) (Fin.ext (by dsimp only [ix2]; omega))) _)
end

variable (m : (ℓ : Loc nD τ sig) → Buf (Elt Ideal) ℓ)

/-- The reference ends with its arguments as they were; it declares no semaphore. -/
theorem frame : Cert.quiescent_MxsReferenceIdeal := by
  intro m ρ _
  exact (θ_run _ _ _).mono (fun r h => ⟨fun c => (h c).2, sem_eq_zero_of_no_sems (by decide) r.2⟩) (Cert.MxsReferenceIdeal.Value.run m ρ)

/-- The kernel's mixer and the reference end with the same normed half. -/
theorem value : Cert.algebraic_MxsKernelIdeal_MxsReferenceIdeal := by
  intro m g m' g' _ hargs
  refine ⟨fun c => VC (Cert.MxsKernelIdeal.Mxs.x0 m c) (Cert.MxsKernelIdeal.Mxs.x1 m c) (Cert.MxsKernelIdeal.Mxs.x2 m c),
    (θ_run _ _ _).mono (fun r h c => ⟨(h c).2.1.trans (Cert.MxsKernelIdeal.Mxs.arr9 m c), (h c).2.2⟩) (Cert.MxsKernelIdeal.Value.run_blocks m g), ?_⟩
  refine (θ_run _ _ _).mono (fun r h c => ⟨(h c).1.trans (Eq.trans (b := RC (LR (m' ((c.tc : Thread nD τ).loc main_arg1)) (m' ((c.tc : Thread nD τ).loc main_arg2)) (XV (m' ((c.tc : Thread nD τ).loc main_arg0))))) rfl ((RC_eq (m' ((c.tc : Thread nD τ).loc main_arg0)) (m' ((c.tc : Thread nD τ).loc main_arg1)) (m' ((c.tc : Thread nD τ).loc main_arg2))).trans ?_)), (h c).2⟩) (Cert.MxsReferenceIdeal.Value.run m' g')
  have e := hargs c
  have a0 : (m' ((c.tc : Thread nD τ).loc main_arg0) : FVec Ideal S23x1024x512 .f32) = Cert.MxsKernelIdeal.Mxs.x0 m c := e.1
  have a1 : (m' ((c.tc : Thread nD τ).loc main_arg1) : FVec Ideal S1024 .f32) = Cert.MxsKernelIdeal.Mxs.x1 m c := e.2.1
  have a2 : (m' ((c.tc : Thread nD τ).loc main_arg2) : FVec Ideal S1024 .f32) = Cert.MxsKernelIdeal.Mxs.x2 m c := e.2.2.1
  rw [a0, a1, a2]
end Cert.MxsReferenceIdeal.Mxs
-- ==== Proof.AdaClaim.lean ====
module
public import proofs.«01_k».proof.Defs
public import proofs.«01_k».proof.Proof.InGelu
public import proofs.«01_k».proof.Proof.Gen.AdaKernelIdeal.Value
public import proofs.«01_k».proof.Proof.Gen.AdaReferenceIdeal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init
@[expose] public section
set_option maxRecDepth 16384
noncomputable section
namespace Cert.AdaKernelIdeal.Ada
open Cert.AdaKernelIdeal Cert.AdaKernelIdeal.Gen Idealize.ShloMosaic Idealize.ShloMosaic.TcCoe Idealize.SL.Sem
open Idealize.ShloMosaic.Pipeline (Dat)
open Cert.InKernelIdeal.In (sgK sg_eq one)

/-- The modulation of a condition at a column. -/
def FR (x : FVec Ideal S136x2048 .f32) (w : FVec Ideal S2048x12288 .f32) (b : FVec Ideal S12288 .f32) (n : Fin 136) (q : Fin 12288) : EReal := (∑ k : Fin 2048, (x (ix2 n k) * sgK (x (ix2 n k))) * w (ix2 k q)) + b (ix1 q)
/-- The modulations. -/
def FA (x : FVec Ideal S136x2048 .f32) (w : FVec Ideal S2048x12288 .f32) (b : FVec Ideal S12288 .f32) : FVec Ideal S136x12288 .f32 := fun y => FR x w b (y 0) (y 1)

section
variable (x : FVec Ideal S136x2048 .f32) (w : FVec Ideal S2048x1024 .f32) (b : FVec Ideal S1x1024 .f32)
/-- The block's result at an entry. -/
def GR (n : Fin 136) (q : Fin 1024) : EReal := (∑ k : Fin 2048, (x (ix2 n k) * sgK (x (ix2 n k))) * w (ix2 k q)) + b (ix2 0 q)
def GA : FVec Ideal S136x1024 .f32 := fun y => GR x w b (y 0) (y 1)

theorem pay (n : Fin 136) (q : Fin 1024) : k0_pay1 (F := Ideal) (View.ld (Val := Elt Ideal) (e' := .f32) x r0_0) (View.ld (Val := Elt Ideal) (e' := .f32) w r0_1) (View.ld (Val := Elt Ideal) (e' := .f32) b r0_2) (ix2 n q) = GR x w b n q := by
  unfold GR sgK one
  pointwise [k0_pay1]

theorem out : out0_3 (F := Ideal) x w b = GA x w b := by
  funext y
  unfold out0_3
  refine View.canon_apply_of_pieces (Val := Elt Ideal) (GA x w b) _ ?_ y (cover0_3 _ y)
  intro pc hpc
  rcases List.mem_cons.mp hpc with rfl | hpc
  · intro z
    idx_vars z
    have hx : r0_3.idx (ix2 z0 z1) = ix2 z0 z1 := by
      funext a; apply Fin.ext; fin_cases a
      · show 0 + 1 * z0.val = z0.val; omega
      · show 0 + 1 * z1.val = z1.val; omega
    show k0_pay1 (F := Ideal) (View.ld (Val := Elt Ideal) (e' := .f32) x r0_0) (View.ld (Val := Elt Ideal) (e' := .f32) w r0_1) (View.ld (Val := Elt Ideal) (e' := .f32) b r0_2) (ix2 z0 z1) = GA x w b (r0_3.idx (ix2 z0 z1))
    rw [hx, pay]
    rfl
  · cases hpc
end

variable (m : (ℓ : Loc nD τ sig) → Buf (Elt Ideal) ℓ)

abbrev x0 (c : Dev nD) : FVec Ideal S136x2048 .f32 := m ((c.tc : Thread nD τ).loc main_arg0)
abbrev x1 (c : Dev nD) : FVec Ideal S2048x12288 .f32 := m ((c.tc : Thread nD τ).loc main_arg1)
abbrev x2 (c : Dev nD) : FVec Ideal S12288 .f32 := m ((c.tc : Thread nD τ).loc main_arg2)

/-- The windows' block indices at a grid point. -/
theorem idx : ∀ t : Fin cfg0.N, (win0_0.index t = ![0, 0] ∧ win0_1.index t = ![0, t.val] ∧ win0_2.index t = ![0, t.val] ∧ win0_3.index t = ![0, t.val]) :=
  (by decide +kernel : ∀ t : Fin grid0.N, _)

theorem ltN (t : Fin cfg0.N) : t.val < 12 := t.isLt

/-- The column of an entry of a grid point's block. -/
abbrev qt (t : Fin cfg0.N) (a : Fin 1024) : Fin 12288 := ⟨t.val * 1024 + a.val, by have := ltN t; omega⟩

theorem V_v0 (c : Dev nD) (q : Fin 12288) : V m c main_v0 (ix2 0 q) = x2 m c (ix1 q) := by
  show StableHlo.after (hostOps0 (F := Ideal)) _ (Proc.devRef .tc main_v0) _ = _
  simp only [hostOps0]
  after_results
  pointwise
theorem blk0 (c : Dev nD) (t : Fin cfg0.N) (n : Fin 136) (k : Fin 2048) : iblk m c 0 t (ix2 n k) = x0 m c (ix2 n k) := by
  have ht := ltN t
  unfold x0
  rw [← V_main_arg0 m c]
  blk_ext [iblk, idx t]
theorem blk1 (c : Dev nD) (t : Fin cfg0.N) (k : Fin 2048) (q : Fin 1024) : iblk m c 1 t (ix2 k q) = x1 m c (ix2 k (qt t q)) := by
  have ht := ltN t
  unfold x1
  rw [← V_main_arg1 m c]
  blk_ext [iblk, idx t]
theorem blk2 (c : Dev nD) (t : Fin cfg0.N) (q : Fin 1024) : iblk m c 2 t (ix2 0 q) = x2 m c (ix1 (qt t q)) := by
  have ht := ltN t
  rw [← V_v0 m c (qt t q)]
  blk_ext [iblk, idx t]

theorem block_at (c : Dev nD) (t : Fin cfg0.N) (n : Fin 136) (q : Fin 1024) : GR (iblk m c 0 t) (iblk m c 1 t) (iblk m c 2 t) n q = FR (x0 m c) (x1 m c) (x2 m c) n (qt t q) := by
  unfold GR FR
  exact congrArg₂ (fun p q : EReal => p + q) (Finset.sum_congr rfl fun k _ => congrArg₂ (fun p q : EReal => (p * sgK p) * q) (blk0 m c t n k) (blk1 m c t k q)) (blk2 m c t q)

/-- The result array: every block written back is the part of it that `FA` states. -/
theorem arr (c : Dev nD) : (dats m 0 c).arrAt 3 cfg0.N = FA (x0 m c) (x1 m c) (x2 m c) := by
  refine (dats m 0 c).arrAt_eq_of_covers 3 (FA (x0 m c) (x1 m c) (x2 m c)) (by decide +kernel) fun t hf y => ?_
  blk_simp
  rw [after0_3, out]
  have hy : y = ix2 (n0 := 136) (n1 := 1024) (y 0) (y 1) := by funext a; fin_cases a <;> rfl
  rw [hy]
  refine (block_at m c t _ _).trans ?_
  unfold FA
  have e0 : (y 0 : Fin 136) = ((win0_3.blk t).view.emb (ix2 (n0 := 136) (n1 := 1024) (y 0) (y 1)) : S136x12288.Idx) 0 := by
    apply Fin.ext
    blk_simp [idx t]
  have e1 : qt t (y 1) = ((win0_3.blk t).view.emb (ix2 (n0 := 136) (n1 := 1024) (y 0) (y 1)) : S136x12288.Idx) 1 := by
    apply Fin.ext
    blk_simp [idx t]
  rw [← e0, ← e1]
  rfl
end Cert.AdaKernelIdeal.Ada

namespace Cert.AdaReferenceIdeal.Ada
open Cert.AdaReferenceIdeal Cert.AdaReferenceIdeal.Gen Idealize.ShloMosaic Idealize.ShloMosaic.TcCoe Idealize.SL.Sem
open Cert.AdaKernelIdeal.Ada (FA FR)
open Cert.InKernelIdeal.In (sgK sg_eq)

section
variable (x : FVec Ideal S136x2048 .f32) (w : FVec Ideal S2048x12288 .f32) (b : FVec Ideal S12288 .f32)
/-- The reference's result as a function of its arguments. -/
def RM : FVec Ideal S136x12288 .f32 := addf (Host.dotGeneral dot_S136x2048_S2048x12288_S136x12288_1_0_0_1_n_n none (mulf x (Host.divf (broadcastInDim S136x2048 ![] bcast_S_S136x2048 (constant S_ .f32 0x3F800000#32)) (addf (broadcastInDim S136x2048 ![] bcast_S_S136x2048 (constant S_ .f32 0x3F800000#32)) (Host.exp (Host.negf x))))) w) (broadcastInDim S136x12288 ![0, 1] bcast_S1x12288_S136x12288_0_1 (broadcastInDim S1x12288 ![1] bcast_S12288_S1x12288_1 b))

theorem RM_eq : RM x w b = FA x w b := by
  funext y; idx_vars y
  show _ = FR x w b y0 y1
  unfold FR RM
  simp only [sg_eq]
  have h : (Ideal.ofBits .f32 0x3F800000#32 : EReal) = 1 := Cert.InKernelIdeal.In.one_real.trans EReal.coe_one
  pointwise
  try simp only [h]
end

variable (m : (ℓ : Loc nD τ sig) → Buf (Elt Ideal) ℓ)

/-- The reference ends with its arguments as they were; it declares no semaphore. -/
theorem frame : Cert.quiescent_AdaReferenceIdeal := by
  intro m ρ _
  exact (θ_run _ _ _).mono (fun r h => ⟨fun c => (h c).2, sem_eq_zero_of_no_sems (by decide) r.2⟩) (Cert.AdaReferenceIdeal.Value.run m ρ)

/-- The kernel's call and the reference end with the same array. -/
theorem value : Cert.algebraic_AdaKernelIdeal_AdaReferenceIdeal := by
  intro m g m' g' _ hargs
  refine ⟨fun c => FA (Cert.AdaKernelIdeal.Ada.x0 m c) (Cert.AdaKernelIdeal.Ada.x1 m c) (Cert.AdaKernelIdeal.Ada.x2 m c),
    (θ_run _ _ _).mono (fun r h c => ⟨(h c).1.trans (Cert.AdaKernelIdeal.Ada.arr m c), (h c).2⟩) (Cert.AdaKernelIdeal.Value.run_blocks m g), ?_⟩
  refine (θ_run _ _ _).mono (fun r h c => ⟨(h c).1.trans (Eq.trans (b := RM (m' ((c.tc : Thread nD τ).loc main_arg0)) (m' ((c.tc : Thread nD τ).loc main_arg1)) (m' ((c.tc : Thread nD τ).loc main_arg2))) rfl ((RM_eq (m' ((c.tc : Thread nD τ).loc main_arg0)) (m' ((c.tc : Thread nD τ).loc main_arg1)) (m' ((c.tc : Thread nD τ).loc main_arg2))).trans ?_)), (h c).2⟩) (Cert.AdaReferenceIdeal.Value.run m' g')
  have e := hargs c
  have a0 : (m' ((c.tc : Thread nD τ).loc main_arg0) : FVec Ideal S136x2048 .f32) = Cert.AdaKernelIdeal.Ada.x0 m c := e.1
  have a1 : (m' ((c.tc : Thread nD τ).loc main_arg1) : FVec Ideal S2048x12288 .f32) = Cert.AdaKernelIdeal.Ada.x1 m c := e.2.1
  have a2 : (m' ((c.tc : Thread nD τ).loc main_arg2) : FVec Ideal S12288 .f32) = Cert.AdaKernelIdeal.Ada.x2 m c := e.2.2
  rw [a0, a1, a2]
end Cert.AdaReferenceIdeal.Ada
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.SmpKernel
public import proofs.«01_k».proof.Proof.Gen.SmpKernel.Skeleton
public import proofs.«01_k».proof.Proof.Gen.SmpKernel.Launch
public import proofs.«01_k».proof.Proof.Gen.SmpKernel.Points
public import proofs.«01_k».proof.Proof.Gen.SmpKernel.Frame
public import proofs.«01_k».proof.Proof.Gen.SmpKernelIdeal
public import proofs.«01_k».proof.Proof.Gen.SmpKernelIdeal.Skeleton
public import proofs.«01_k».proof.Proof.Gen.SmpKernelIdeal.Launch
public import proofs.«01_k».proof.Proof.Gen.SmpKernelIdeal.Points
public import proofs.«01_k».proof.Proof.Gen.SmpKernelIdeal.Frame
public import proofs.«01_k».proof.Proof.Gen.SmpReferenceIdeal
public import proofs.«01_k».proof.Proof.Gen.Pre_win_pre
public import proofs.«01_k».proof.Proof.Gen.KernelIdeal.Value
public import proofs.«01_k».proof.Proof.Gen.ReferenceIdeal.Run
public import proofs.«01_k».proof.Proof.Gen.InReferenceIdeal.Run
public import proofs.«01_k».proof.Proof.Gen.SmpReferenceIdeal.Run
public import proofs.«01_k».proof.Proof.PreBias
public import proofs.«01_k».proof.Proof.InClaim
public import proofs.«01_k».proof.Proof.SmpClaim
public import Idealize.ShloMosaic.Adequacy
public import Idealize.ShloMosaic.Init
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MrgKernel
public import proofs.«01_k».proof.Proof.Gen.MrgKernel.Skeleton
public import proofs.«01_k».proof.Proof.Gen.MrgKernel.Launch
public import proofs.«01_k».proof.Proof.Gen.MrgKernel.Points
public import proofs.«01_k».proof.Proof.Gen.MrgKernel.Frame
public import proofs.«01_k».proof.Proof.Gen.MrgKernelIdeal
public import proofs.«01_k».proof.Proof.Gen.MrgKernelIdeal.Skeleton
public import proofs.«01_k».proof.Proof.Gen.MrgKernelIdeal.Launch
public import proofs.«01_k».proof.Proof.Gen.MrgKernelIdeal.Points
public import proofs.«01_k».proof.Proof.Gen.MrgKernelIdeal.Frame
public import proofs.«01_k».proof.Proof.Gen.MrgReferenceIdeal
public import proofs.«01_k».proof.Proof.Gen.MixKernelIdeal.Value
public import proofs.«01_k».proof.Proof.Gen.MixReferenceIdeal.Run
public import proofs.«01_k».proof.Proof.Gen.MrgKernelIdeal.Value
public import proofs.«01_k».proof.Proof.Gen.MrgReferenceIdeal.Run
public import proofs.«01_k».proof.Proof.MixClaim
public import proofs.«01_k».proof.Proof.MrgClaim
public import proofs.«01_k».proof.Proof.Gen.FinKernel
public import proofs.«01_k».proof.Proof.Gen.FinKernel.Skeleton
public import proofs.«01_k».proof.Proof.Gen.FinKernel.Launch
public import proofs.«01_k».proof.Proof.Gen.FinKernel.Points
public import proofs.«01_k».proof.Proof.Gen.FinKernel.Frame
public import proofs.«01_k».proof.Proof.Gen.FinKernelIdeal
public import proofs.«01_k».proof.Proof.Gen.FinKernelIdeal.Skeleton
public import proofs.«01_k».proof.Proof.Gen.FinKernelIdeal.Launch
public import proofs.«01_k».proof.Proof.Gen.FinKernelIdeal.Points
public import proofs.«01_k».proof.Proof.Gen.FinKernelIdeal.Frame
public import proofs.«01_k».proof.Proof.Gen.FinReferenceIdeal
public import proofs.«01_k».proof.Proof.Gen.FisKernel
public import proofs.«01_k».proof.Proof.Gen.FisKernel.Skeleton
public import proofs.«01_k».proof.Proof.Gen.FisKernel.Launch
public import proofs.«01_k».proof.Proof.Gen.FisKernel.Points
public import proofs.«01_k».proof.Proof.Gen.FisKernel.Frame
public import proofs.«01_k».proof.Proof.Gen.FisKernelIdeal
public import proofs.«01_k».proof.Proof.Gen.FisKernelIdeal.Skeleton
public import proofs.«01_k».proof.Proof.Gen.FisKernelIdeal.Launch
public import proofs.«01_k».proof.Proof.Gen.FisKernelIdeal.Points
public import proofs.«01_k».proof.Proof.Gen.FisKernelIdeal.Frame
public import proofs.«01_k».proof.Proof.Gen.FisReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.FinKernelIdeal.Value
public import proofs.«01_k».proof.Proof.Gen.FinReferenceIdeal.Run
public import proofs.«01_k».proof.Proof.Gen.FisReferenceIdeal.Run
public import proofs.«01_k».proof.Proof.Gen.OutKernelIdeal.Value
public import proofs.«01_k».proof.Proof.Gen.OutReferenceIdeal.Run
public import proofs.«01_k».proof.Proof.FinClaim
public import proofs.«01_k».proof.Proof.FisClaim
public import proofs.«01_k».proof.Proof.OutClaim
public import proofs.«01_k».proof.Proof.Gen.ScrKernel
public import proofs.«01_k».proof.Proof.Gen.ScrKernel.Skeleton
public import proofs.«01_k».proof.Proof.Gen.ScrKernel.Launch
public import proofs.«01_k».proof.Proof.Gen.ScrKernel.Points
public import proofs.«01_k».proof.Proof.Gen.ScrKernel.Frame
public import proofs.«01_k».proof.Proof.Gen.ScrKernelIdeal
public import proofs.«01_k».proof.Proof.Gen.ScrKernelIdeal.Skeleton
public import proofs.«01_k».proof.Proof.Gen.ScrKernelIdeal.Launch
public import proofs.«01_k».proof.Proof.Gen.ScrKernelIdeal.Points
public import proofs.«01_k».proof.Proof.Gen.ScrKernelIdeal.Frame
public import proofs.«01_k».proof.Proof.Gen.ScrReferenceIdeal
public import proofs.«01_k».proof.Proof.Gen.MxsKernel
public import proofs.«01_k».proof.Proof.Gen.MxsKernel.Skeleton
public import proofs.«01_k».proof.Proof.Gen.MxsKernel.Launch
public import proofs.«01_k».proof.Proof.Gen.MxsKernel.Points
public import proofs.«01_k».proof.Proof.Gen.MxsKernel.Frame
public import proofs.«01_k».proof.Proof.Gen.MxsKernelIdeal
public import proofs.«01_k».proof.Proof.Gen.MxsKernelIdeal.Skeleton
public import proofs.«01_k».proof.Proof.Gen.MxsKernelIdeal.Launch
public import proofs.«01_k».proof.Proof.Gen.MxsKernelIdeal.Points
public import proofs.«01_k».proof.Proof.Gen.MxsKernelIdeal.Frame
public import proofs.«01_k».proof.Proof.Gen.MxsReferenceIdeal
public import proofs.«01_k».proof.Proof.Gen.ScrKernelIdeal.Value
public import proofs.«01_k».proof.Proof.Gen.ScrReferenceIdeal.Run
public import proofs.«01_k».proof.Proof.Gen.MxsKernelIdeal.Value
public import proofs.«01_k».proof.Proof.Gen.MxsReferenceIdeal.Run
public import proofs.«01_k».proof.Proof.ScrClaim
public import proofs.«01_k».proof.Proof.MxsClaim
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaKernelIdeal.Value
public import proofs.«01_k».proof.Proof.Gen.AdaReferenceIdeal.Run
public import proofs.«01_k».proof.Proof.AdaClaim

@[expose] public section

noncomputable section

namespace Cert.Proof

open Idealize.ShloMosaic Idealize.SL.Sem Cert.Kernel

/-- The kernel's windowed attention and the reference's end with the same array. -/
theorem win : Cert.algebraic_KernelIdeal_ReferenceIdeal_pre_win_pre := by
  intro m g m' g' hpre hargs
  refine ⟨fun c => Cert.KernelIdeal.Win.GA (Cert.KernelIdeal.Win.arg1 m c) (Cert.Win.biasOf (Cert.KernelIdeal.Win.arg0 m c)) (Cert.KernelIdeal.Win.arg3 m c), ?_, ?_⟩
  · refine (θ_run _ _ _).mono (fun r h c => ⟨(h c).1.trans (Cert.KernelIdeal.Win.arr m c ?_), (h c).2⟩) (Cert.KernelIdeal.Value.run_blocks m g)
    exact Cert.Pre_win_pre.Win.bias_of_pre _ _ _ _ (hpre c).1 (hpre c).2
  · refine (θ_run _ _ _).mono (fun r h c => ⟨(h c).1.trans ((Cert.ReferenceIdeal.Win.res_GA m' c).trans ?_), (h c).2⟩) (Cert.ReferenceIdeal.Value.run m' g')
    have e := hargs c
    have a0 : Cert.ReferenceIdeal.Win.arg0 m' c = Cert.KernelIdeal.Win.arg0 m c := e.1
    have a1 : Cert.ReferenceIdeal.Win.arg1 m' c = Cert.KernelIdeal.Win.arg1 m c := e.2.1
    have a3 : Cert.ReferenceIdeal.Win.arg3 m' c = Cert.KernelIdeal.Win.arg3 m c := e.2.2.2
    rw [a0, a1, a3]

/-- The reference ends with its arguments as they were; it declares no semaphore. -/
theorem ref_frame : Cert.quiescent_ReferenceIdeal := by
  intro m ρ _
  exact (θ_run _ _ _).mono (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.InKernel.Gen.facts, Cert.InKernelIdeal.Gen.facts, Cert.InReferenceIdeal.Gen.facts, Cert.SmpKernel.Gen.facts, Cert.SmpKernelIdeal.Gen.facts, Cert.SmpReferenceIdeal.Gen.facts, Cert.MixKernel.Gen.facts, Cert.MixKernelIdeal.Gen.facts, Cert.MixReferenceIdeal.Gen.facts, Cert.MrgKernel.Gen.facts, Cert.MrgKernelIdeal.Gen.facts, Cert.MrgReferenceIdeal.Gen.facts, Cert.FinKernel.Gen.facts, Cert.FinKernelIdeal.Gen.facts, Cert.FinReferenceIdeal.Gen.facts, Cert.FisKernel.Gen.facts, Cert.FisKernelIdeal.Gen.facts, Cert.FisReferenceIdeal.Gen.facts, Cert.OutKernel.Gen.facts, Cert.OutKernelIdeal.Gen.facts, Cert.OutReferenceIdeal.Gen.facts, Cert.ScrKernel.Gen.facts, Cert.ScrKernelIdeal.Gen.facts, Cert.ScrReferenceIdeal.Gen.facts, Cert.MxsKernel.Gen.facts, Cert.MxsKernelIdeal.Gen.facts, Cert.MxsReferenceIdeal.Gen.facts, Cert.AdaKernel.Gen.facts, Cert.AdaKernelIdeal.Gen.facts, Cert.AdaReferenceIdeal.Gen.facts, Cert.Pre_win_pre.Gen.facts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  fun m ρ _ => Cert.InKernel.Gen.frame m ρ,
  fun m ρ _ => Cert.InKernelIdeal.Gen.frame m ρ,
  Cert.InReferenceIdeal.In.frame,
  fun m ρ _ => Cert.SmpKernel.Gen.frame m ρ,
  fun m ρ _ => Cert.SmpKernelIdeal.Gen.frame m ρ,
  Cert.SmpReferenceIdeal.Smp.frame,
  fun m ρ _ => Cert.MixKernel.Gen.frame m ρ,
  fun m ρ _ => Cert.MixKernelIdeal.Gen.frame m ρ,
  Cert.MixReferenceIdeal.Mix.frame,
  fun m ρ _ => Cert.MrgKernel.Gen.frame m ρ,
  fun m ρ _ => Cert.MrgKernelIdeal.Gen.frame m ρ,
  Cert.MrgReferenceIdeal.Mrg.frame,
  fun m ρ _ => Cert.FinKernel.Gen.frame m ρ,
  fun m ρ _ => Cert.FinKernelIdeal.Gen.frame m ρ,
  Cert.FinReferenceIdeal.Fin.frame,
  fun m ρ _ => Cert.FisKernel.Gen.frame m ρ,
  fun m ρ _ => Cert.FisKernelIdeal.Gen.frame m ρ,
  Cert.FisReferenceIdeal.Fis.frame,
  fun m ρ _ => Cert.OutKernel.Gen.frame m ρ,
  fun m ρ _ => Cert.OutKernelIdeal.Gen.frame m ρ,
  Cert.OutReferenceIdeal.Out.frame,
  fun m ρ _ => Cert.ScrKernel.Gen.frame m ρ,
  fun m ρ _ => Cert.ScrKernelIdeal.Gen.frame m ρ,
  Cert.ScrReferenceIdeal.Scr.frame,
  fun m ρ _ => Cert.MxsKernel.Gen.frame m ρ,
  fun m ρ _ => Cert.MxsKernelIdeal.Gen.frame m ρ,
  Cert.MxsReferenceIdeal.Mxs.frame,
  fun m ρ _ => Cert.AdaKernel.Gen.frame m ρ,
  fun m ρ _ => Cert.AdaKernelIdeal.Gen.frame m ρ,
  Cert.AdaReferenceIdeal.Ada.frame,
  IdealRules.named_const.statement Cert.KernelIdeal.κ "mask" .f32 0xF149F2CA#32 ⊥ rfl,
  win,
  IdealRules.named_const.statement Cert.InKernelIdeal.κ "gelu" .f32 0xBD922279#32 ((-80338380498831 / 1125899906842624 : ℝ) : EReal) rfl,
  Cert.InReferenceIdeal.In.value,
  IdealRules.named_const.statement Cert.SmpKernelIdeal.κ "gelu" .f32 0xBD922279#32 ((-80338380498831 / 1125899906842624 : ℝ) : EReal) rfl,
  Cert.SmpReferenceIdeal.Smp.value,
  trivial,
  Cert.MixReferenceIdeal.Mix.value,
  trivial,
  Cert.MrgReferenceIdeal.Mrg.value,
  trivial,
  Cert.FinReferenceIdeal.Fin.value,
  trivial,
  Cert.FisReferenceIdeal.Fis.value,
  trivial,
  Cert.OutReferenceIdeal.Out.value,
  trivial,
  Cert.ScrReferenceIdeal.Scr.value,
  trivial,
  Cert.MxsReferenceIdeal.Mxs.value,
  trivial,
  Cert.AdaReferenceIdeal.Ada.value⟩

end Cert.Proof

end
